-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_MlpDwA (m : (ℓ : Loc Cert.MlpDwA.nD Cert.MlpDwA.τ Cert.MlpDwA.sig) → Buf (Elt Bits) ℓ) : Prop :=
  True

def Pre_MlpDwAIdeal (m : (ℓ : Loc Cert.MlpDwAIdeal.nD Cert.MlpDwAIdeal.τ Cert.MlpDwAIdeal.sig) → Buf (Elt Ideal) ℓ) : Prop :=
  True

def Pre_MlpDwARefIdeal (m : (ℓ : Loc Cert.MlpDwARefIdeal.nD Cert.MlpDwARefIdeal.τ Cert.MlpDwARefIdeal.sig) → Buf (Elt Ideal) ℓ) : Prop :=
  True

def Pre_MlpDwB (m : (ℓ : Loc Cert.MlpDwB.nD Cert.MlpDwB.τ Cert.MlpDwB.sig) → Buf (Elt Bits) ℓ) : Prop :=
  True

def Pre_MlpDwBIdeal (m : (ℓ : Loc Cert.MlpDwBIdeal.nD Cert.MlpDwBIdeal.τ Cert.MlpDwBIdeal.sig) → Buf (Elt Ideal) ℓ) : Prop :=
  True

def Pre_MlpDwBRefIdeal (m : (ℓ : Loc Cert.MlpDwBRefIdeal.nD Cert.MlpDwBRefIdeal.τ Cert.MlpDwBRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_MlpDwA [hMlpDwA : Cert.MlpDwA.Facts] : Prop :=
  ∀ (m : (ℓ : Loc Cert.MlpDwA.nD Cert.MlpDwA.τ Cert.MlpDwA.sig) → Buf (Elt Bits) ℓ) (g : Dev Cert.MlpDwA.nD → PrngReg), Pre_MlpDwA m →
    θ_run (Cert.MlpDwA.defs (F := Bits)) (onTc (τ := Cert.MlpDwA.τ) (Cert.MlpDwA.main (F := Bits))) ⟨m, fun _ => 0, g⟩ (fun r => (∀ c : Dev Cert.MlpDwA.nD,
      r.2.mem ((c.tc : Thread Cert.MlpDwA.nD Cert.MlpDwA.τ).loc Cert.MlpDwA.main_arg0) = m ((c.tc : Thread Cert.MlpDwA.nD Cert.MlpDwA.τ).loc Cert.MlpDwA.main_arg0)
      ∧ r.2.mem ((c.tc : Thread Cert.MlpDwA.nD Cert.MlpDwA.τ).loc Cert.MlpDwA.main_arg1) = m ((c.tc : Thread Cert.MlpDwA.nD Cert.MlpDwA.τ).loc Cert.MlpDwA.main_arg1)
      ∧ r.2.mem ((c.tc : Thread Cert.MlpDwA.nD Cert.MlpDwA.τ).loc Cert.MlpDwA.main_arg2) = m ((c.tc : Thread Cert.MlpDwA.nD Cert.MlpDwA.τ).loc Cert.MlpDwA.main_arg2)
      ∧ r.2.mem ((c.tc : Thread Cert.MlpDwA.nD Cert.MlpDwA.τ).loc Cert.MlpDwA.main_arg3) = m ((c.tc : Thread Cert.MlpDwA.nD Cert.MlpDwA.τ).loc Cert.MlpDwA.main_arg3)
      ∧ r.2.mem ((c.tc : Thread Cert.MlpDwA.nD Cert.MlpDwA.τ).loc Cert.MlpDwA.main_arg4) = m ((c.tc : Thread Cert.MlpDwA.nD Cert.MlpDwA.τ).loc Cert.MlpDwA.main_arg4))
      ∧ r.2.sem = fun _ => 0)

def quiescent_MlpDwAIdeal [hMlpDwAIdeal : Cert.MlpDwAIdeal.Facts] : Prop :=
  ∀ (m : (ℓ : Loc Cert.MlpDwAIdeal.nD Cert.MlpDwAIdeal.τ Cert.MlpDwAIdeal.sig) → Buf (Elt Ideal) ℓ) (g : Dev Cert.MlpDwAIdeal.nD → PrngReg), Pre_MlpDwAIdeal m →
    θ_run (Cert.MlpDwAIdeal.defs (F := Ideal)) (onTc (τ := Cert.MlpDwAIdeal.τ) (Cert.MlpDwAIdeal.main (F := Ideal))) ⟨m, fun _ => 0, g⟩ (fun r => (∀ c : Dev Cert.MlpDwAIdeal.nD,
      r.2.mem ((c.tc : Thread Cert.MlpDwAIdeal.nD Cert.MlpDwAIdeal.τ).loc Cert.MlpDwAIdeal.main_arg0) = m ((c.tc : Thread Cert.MlpDwAIdeal.nD Cert.MlpDwAIdeal.τ).loc Cert.MlpDwAIdeal.main_arg0)
      ∧ r.2.mem ((c.tc : Thread Cert.MlpDwAIdeal.nD Cert.MlpDwAIdeal.τ).loc Cert.MlpDwAIdeal.main_arg1) = m ((c.tc : Thread Cert.MlpDwAIdeal.nD Cert.MlpDwAIdeal.τ).loc Cert.MlpDwAIdeal.main_arg1)
      ∧ r.2.mem ((c.tc : Thread Cert.MlpDwAIdeal.nD Cert.MlpDwAIdeal.τ).loc Cert.MlpDwAIdeal.main_arg2) = m ((c.tc : Thread Cert.MlpDwAIdeal.nD Cert.MlpDwAIdeal.τ).loc Cert.MlpDwAIdeal.main_arg2)
      ∧ r.2.mem ((c.tc : Thread Cert.MlpDwAIdeal.nD Cert.MlpDwAIdeal.τ).loc Cert.MlpDwAIdeal.main_arg3) = m ((c.tc : Thread Cert.MlpDwAIdeal.nD Cert.MlpDwAIdeal.τ).loc Cert.MlpDwAIdeal.main_arg3)
      ∧ r.2.mem ((c.tc : Thread Cert.MlpDwAIdeal.nD Cert.MlpDwAIdeal.τ).loc Cert.MlpDwAIdeal.main_arg4) = m ((c.tc : Thread Cert.MlpDwAIdeal.nD Cert.MlpDwAIdeal.τ).loc Cert.MlpDwAIdeal.main_arg4))
      ∧ r.2.sem = fun _ => 0)

def quiescent_MlpDwARefIdeal [hMlpDwARefIdeal : Cert.MlpDwARefIdeal.Facts] : Prop :=
  ∀ (m : (ℓ : Loc Cert.MlpDwARefIdeal.nD Cert.MlpDwARefIdeal.τ Cert.MlpDwARefIdeal.sig) → Buf (Elt Ideal) ℓ) (g : Dev Cert.MlpDwARefIdeal.nD → PrngReg), Pre_MlpDwARefIdeal m →
    θ_run (Cert.MlpDwARefIdeal.defs (F := Ideal)) (onTc (τ := Cert.MlpDwARefIdeal.τ) (Cert.MlpDwARefIdeal.main (F := Ideal))) ⟨m, fun _ => 0, g⟩ (fun r => (∀ c : Dev Cert.MlpDwARefIdeal.nD,
      r.2.mem ((c.tc : Thread Cert.MlpDwARefIdeal.nD Cert.MlpDwARefIdeal.τ).loc Cert.MlpDwARefIdeal.main_arg0) = m ((c.tc : Thread Cert.MlpDwARefIdeal.nD Cert.MlpDwARefIdeal.τ).loc Cert.MlpDwARefIdeal.main_arg0)
      ∧ r.2.mem ((c.tc : Thread Cert.MlpDwARefIdeal.nD Cert.MlpDwARefIdeal.τ).loc Cert.MlpDwARefIdeal.main_arg1) = m ((c.tc : Thread Cert.MlpDwARefIdeal.nD Cert.MlpDwARefIdeal.τ).loc Cert.MlpDwARefIdeal.main_arg1)
      ∧ r.2.mem ((c.tc : Thread Cert.MlpDwARefIdeal.nD Cert.MlpDwARefIdeal.τ).loc Cert.MlpDwARefIdeal.main_arg2) = m ((c.tc : Thread Cert.MlpDwARefIdeal.nD Cert.MlpDwARefIdeal.τ).loc Cert.MlpDwARefIdeal.main_arg2)
      ∧ r.2.mem ((c.tc : Thread Cert.MlpDwARefIdeal.nD Cert.MlpDwARefIdeal.τ).loc Cert.MlpDwARefIdeal.main_arg3) = m ((c.tc : Thread Cert.MlpDwARefIdeal.nD Cert.MlpDwARefIdeal.τ).loc Cert.MlpDwARefIdeal.main_arg3)
      ∧ r.2.mem ((c.tc : Thread Cert.MlpDwARefIdeal.nD Cert.MlpDwARefIdeal.τ).loc Cert.MlpDwARefIdeal.main_arg4) = m ((c.tc : Thread Cert.MlpDwARefIdeal.nD Cert.MlpDwARefIdeal.τ).loc Cert.MlpDwARefIdeal.main_arg4))
      ∧ r.2.sem = fun _ => 0)

def quiescent_MlpDwB [hMlpDwB : Cert.MlpDwB.Facts] : Prop :=
  ∀ (m : (ℓ : Loc Cert.MlpDwB.nD Cert.MlpDwB.τ Cert.MlpDwB.sig) → Buf (Elt Bits) ℓ) (g : Dev Cert.MlpDwB.nD → PrngReg), Pre_MlpDwB m →
    θ_run (Cert.MlpDwB.defs (F := Bits)) (onTc (τ := Cert.MlpDwB.τ) (Cert.MlpDwB.main (F := Bits))) ⟨m, fun _ => 0, g⟩ (fun r => (∀ c : Dev Cert.MlpDwB.nD,
      r.2.mem ((c.tc : Thread Cert.MlpDwB.nD Cert.MlpDwB.τ).loc Cert.MlpDwB.main_arg0) = m ((c.tc : Thread Cert.MlpDwB.nD Cert.MlpDwB.τ).loc Cert.MlpDwB.main_arg0)
      ∧ r.2.mem ((c.tc : Thread Cert.MlpDwB.nD Cert.MlpDwB.τ).loc Cert.MlpDwB.main_arg1) = m ((c.tc : Thread Cert.MlpDwB.nD Cert.MlpDwB.τ).loc Cert.MlpDwB.main_arg1)
      ∧ r.2.mem ((c.tc : Thread Cert.MlpDwB.nD Cert.MlpDwB.τ).loc Cert.MlpDwB.main_arg2) = m ((c.tc : Thread Cert.MlpDwB.nD Cert.MlpDwB.τ).loc Cert.MlpDwB.main_arg2)
      ∧ r.2.mem ((c.tc : Thread Cert.MlpDwB.nD Cert.MlpDwB.τ).loc Cert.MlpDwB.main_arg3) = m ((c.tc : Thread Cert.MlpDwB.nD Cert.MlpDwB.τ).loc Cert.MlpDwB.main_arg3))
      ∧ r.2.sem = fun _ => 0)

def quiescent_MlpDwBIdeal [hMlpDwBIdeal : Cert.MlpDwBIdeal.Facts] : Prop :=
  ∀ (m : (ℓ : Loc Cert.MlpDwBIdeal.nD Cert.MlpDwBIdeal.τ Cert.MlpDwBIdeal.sig) → Buf (Elt Ideal) ℓ) (g : Dev Cert.MlpDwBIdeal.nD → PrngReg), Pre_MlpDwBIdeal m →
    θ_run (Cert.MlpDwBIdeal.defs (F := Ideal)) (onTc (τ := Cert.MlpDwBIdeal.τ) (Cert.MlpDwBIdeal.main (F := Ideal))) ⟨m, fun _ => 0, g⟩ (fun r => (∀ c : Dev Cert.MlpDwBIdeal.nD,
      r.2.mem ((c.tc : Thread Cert.MlpDwBIdeal.nD Cert.MlpDwBIdeal.τ).loc Cert.MlpDwBIdeal.main_arg0) = m ((c.tc : Thread Cert.MlpDwBIdeal.nD Cert.MlpDwBIdeal.τ).loc Cert.MlpDwBIdeal.main_arg0)
      ∧ r.2.mem ((c.tc : Thread Cert.MlpDwBIdeal.nD Cert.MlpDwBIdeal.τ).loc Cert.MlpDwBIdeal.main_arg1) = m ((c.tc : Thread Cert.MlpDwBIdeal.nD Cert.MlpDwBIdeal.τ).loc Cert.MlpDwBIdeal.main_arg1)
      ∧ r.2.mem ((c.tc : Thread Cert.MlpDwBIdeal.nD Cert.MlpDwBIdeal.τ).loc Cert.MlpDwBIdeal.main_arg2) = m ((c.tc : Thread Cert.MlpDwBIdeal.nD Cert.MlpDwBIdeal.τ).loc Cert.MlpDwBIdeal.main_arg2)
      ∧ r.2.mem ((c.tc : Thread Cert.MlpDwBIdeal.nD Cert.MlpDwBIdeal.τ).loc Cert.MlpDwBIdeal.main_arg3) = m ((c.tc : Thread Cert.MlpDwBIdeal.nD Cert.MlpDwBIdeal.τ).loc Cert.MlpDwBIdeal.main_arg3))
      ∧ r.2.sem = fun _ => 0)

def quiescent_MlpDwBRefIdeal [hMlpDwBRefIdeal : Cert.MlpDwBRefIdeal.Facts] : Prop :=
  ∀ (m : (ℓ : Loc Cert.MlpDwBRefIdeal.nD Cert.MlpDwBRefIdeal.τ Cert.MlpDwBRefIdeal.sig) → Buf (Elt Ideal) ℓ) (g : Dev Cert.MlpDwBRefIdeal.nD → PrngReg), Pre_MlpDwBRefIdeal m →
    θ_run (Cert.MlpDwBRefIdeal.defs (F := Ideal)) (onTc (τ := Cert.MlpDwBRefIdeal.τ) (Cert.MlpDwBRefIdeal.main (F := Ideal))) ⟨m, fun _ => 0, g⟩ (fun r => (∀ c : Dev Cert.MlpDwBRefIdeal.nD,
      r.2.mem ((c.tc : Thread Cert.MlpDwBRefIdeal.nD Cert.MlpDwBRefIdeal.τ).loc Cert.MlpDwBRefIdeal.main_arg0) = m ((c.tc : Thread Cert.MlpDwBRefIdeal.nD Cert.MlpDwBRefIdeal.τ).loc Cert.MlpDwBRefIdeal.main_arg0)
      ∧ r.2.mem ((c.tc : Thread Cert.MlpDwBRefIdeal.nD Cert.MlpDwBRefIdeal.τ).loc Cert.MlpDwBRefIdeal.main_arg1) = m ((c.tc : Thread Cert.MlpDwBRefIdeal.nD Cert.MlpDwBRefIdeal.τ).loc Cert.MlpDwBRefIdeal.main_arg1)
      ∧ r.2.mem ((c.tc : Thread Cert.MlpDwBRefIdeal.nD Cert.MlpDwBRefIdeal.τ).loc Cert.MlpDwBRefIdeal.main_arg2) = m ((c.tc : Thread Cert.MlpDwBRefIdeal.nD Cert.MlpDwBRefIdeal.τ).loc Cert.MlpDwBRefIdeal.main_arg2)
      ∧ r.2.mem ((c.tc : Thread Cert.MlpDwBRefIdeal.nD Cert.MlpDwBRefIdeal.τ).loc Cert.MlpDwBRefIdeal.main_arg3) = m ((c.tc : Thread Cert.MlpDwBRefIdeal.nD Cert.MlpDwBRefIdeal.τ).loc Cert.MlpDwBRefIdeal.main_arg3))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v134) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v21_0)) (v1 : (c : Dev Cert.MlpBwdIdeal.nD) → Buf (Elt Ideal) ((c.tc : Thread Cert.MlpBwdIdeal.nD Cert.MlpBwdIdeal.τ).loc Cert.MlpBwdIdeal.main_v21_1)) (v2 : (c : Dev Cert.MlpBwdIdeal.nD) → Buf (Elt Ideal) ((c.tc : Thread Cert.MlpBwdIdeal.nD Cert.MlpBwdIdeal.τ).loc Cert.MlpBwdIdeal.main_v21_2)) (v3 : (c : Dev Cert.MlpBwdIdeal.nD) → Buf (Elt Ideal) ((c.tc : Thread Cert.MlpBwdIdeal.nD Cert.MlpBwdIdeal.τ).loc Cert.MlpBwdIdeal.main_v21_3)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v21_0) = v0 c
          ∧ r.2.mem ((c.tc : Thread Cert.MlpBwdIdeal.nD Cert.MlpBwdIdeal.τ).loc Cert.MlpBwdIdeal.main_v21_1) = v1 c
          ∧ r.2.mem ((c.tc : Thread Cert.MlpBwdIdeal.nD Cert.MlpBwdIdeal.τ).loc Cert.MlpBwdIdeal.main_v21_2) = v2 c
          ∧ r.2.mem ((c.tc : Thread Cert.MlpBwdIdeal.nD Cert.MlpBwdIdeal.τ).loc Cert.MlpBwdIdeal.main_v21_3) = v3 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v69) = v0 c
          ∧ r.2.mem ((c.tc : Thread Cert.MlpBwdRefIdeal.nD Cert.MlpBwdRefIdeal.τ).loc Cert.MlpBwdRefIdeal.main_v83) = v1 c
          ∧ r.2.mem ((c.tc : Thread Cert.MlpBwdRefIdeal.nD Cert.MlpBwdRefIdeal.τ).loc Cert.MlpBwdRefIdeal.main_v84) = v2 c
          ∧ r.2.mem ((c.tc : Thread Cert.MlpBwdRefIdeal.nD Cert.MlpBwdRefIdeal.τ).loc Cert.MlpBwdRefIdeal.main_v85) = v3 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4))

def preserves_MlpDwA_MlpDwAIdeal : Prop :=
  True

def algebraic_MlpDwAIdeal_MlpDwARefIdeal [hMlpDwAIdeal : Cert.MlpDwAIdeal.Facts] [hMlpDwARefIdeal : Cert.MlpDwARefIdeal.Facts] : Prop :=
  ∀ (m : (ℓ : Loc Cert.MlpDwAIdeal.nD Cert.MlpDwAIdeal.τ Cert.MlpDwAIdeal.sig) → Buf (Elt Ideal) ℓ) (g : Dev Cert.MlpDwAIdeal.nD → PrngReg)
    (m' : (ℓ : Loc Cert.MlpDwARefIdeal.nD Cert.MlpDwARefIdeal.τ Cert.MlpDwARefIdeal.sig) → Buf (Elt Ideal) ℓ) (g' : Dev Cert.MlpDwARefIdeal.nD → PrngReg), Pre_MlpDwAIdeal m →
    (∀ c : Dev Cert.MlpDwAIdeal.nD,
      m' ((c.tc : Thread Cert.MlpDwARefIdeal.nD Cert.MlpDwARefIdeal.τ).loc Cert.MlpDwARefIdeal.main_arg0) = m ((c.tc : Thread Cert.MlpDwAIdeal.nD Cert.MlpDwAIdeal.τ).loc Cert.MlpDwAIdeal.main_arg0)
      ∧ m' ((c.tc : Thread Cert.MlpDwARefIdeal.nD Cert.MlpDwARefIdeal.τ).loc Cert.MlpDwARefIdeal.main_arg1) = m ((c.tc : Thread Cert.MlpDwAIdeal.nD Cert.MlpDwAIdeal.τ).loc Cert.MlpDwAIdeal.main_arg1)
      ∧ m' ((c.tc : Thread Cert.MlpDwARefIdeal.nD Cert.MlpDwARefIdeal.τ).loc Cert.MlpDwARefIdeal.main_arg2) = m ((c.tc : Thread Cert.MlpDwAIdeal.nD Cert.MlpDwAIdeal.τ).loc Cert.MlpDwAIdeal.main_arg2)
      ∧ m' ((c.tc : Thread Cert.MlpDwARefIdeal.nD Cert.MlpDwARefIdeal.τ).loc Cert.MlpDwARefIdeal.main_arg3) = m ((c.tc : Thread Cert.MlpDwAIdeal.nD Cert.MlpDwAIdeal.τ).loc Cert.MlpDwAIdeal.main_arg3)
      ∧ m' ((c.tc : Thread Cert.MlpDwARefIdeal.nD Cert.MlpDwARefIdeal.τ).loc Cert.MlpDwARefIdeal.main_arg4) = m ((c.tc : Thread Cert.MlpDwAIdeal.nD Cert.MlpDwAIdeal.τ).loc Cert.MlpDwAIdeal.main_arg4)) →
    ∃ (v0 : (c : Dev Cert.MlpDwAIdeal.nD) → Buf (Elt Ideal) ((c.tc : Thread Cert.MlpDwAIdeal.nD Cert.MlpDwAIdeal.τ).loc Cert.MlpDwAIdeal.main_v32)),
      θ_run (Cert.MlpDwAIdeal.defs (F := Ideal)) (onTc (τ := Cert.MlpDwAIdeal.τ) (Cert.MlpDwAIdeal.main (F := Ideal))) ⟨m, fun _ => 0, g⟩ (fun r => ∀ c : Dev Cert.MlpDwAIdeal.nD,
          r.2.mem ((c.tc : Thread Cert.MlpDwAIdeal.nD Cert.MlpDwAIdeal.τ).loc Cert.MlpDwAIdeal.main_v32) = v0 c
          ∧ r.2.mem ((c.tc : Thread Cert.MlpDwAIdeal.nD Cert.MlpDwAIdeal.τ).loc Cert.MlpDwAIdeal.main_arg0) = m ((c.tc : Thread Cert.MlpDwAIdeal.nD Cert.MlpDwAIdeal.τ).loc Cert.MlpDwAIdeal.main_arg0)
          ∧ r.2.mem ((c.tc : Thread Cert.MlpDwAIdeal.nD Cert.MlpDwAIdeal.τ).loc Cert.MlpDwAIdeal.main_arg1) = m ((c.tc : Thread Cert.MlpDwAIdeal.nD Cert.MlpDwAIdeal.τ).loc Cert.MlpDwAIdeal.main_arg1)
          ∧ r.2.mem ((c.tc : Thread Cert.MlpDwAIdeal.nD Cert.MlpDwAIdeal.τ).loc Cert.MlpDwAIdeal.main_arg2) = m ((c.tc : Thread Cert.MlpDwAIdeal.nD Cert.MlpDwAIdeal.τ).loc Cert.MlpDwAIdeal.main_arg2)
          ∧ r.2.mem ((c.tc : Thread Cert.MlpDwAIdeal.nD Cert.MlpDwAIdeal.τ).loc Cert.MlpDwAIdeal.main_arg3) = m ((c.tc : Thread Cert.MlpDwAIdeal.nD Cert.MlpDwAIdeal.τ).loc Cert.MlpDwAIdeal.main_arg3)
          ∧ r.2.mem ((c.tc : Thread Cert.MlpDwAIdeal.nD Cert.MlpDwAIdeal.τ).loc Cert.MlpDwAIdeal.main_arg4) = m ((c.tc : Thread Cert.MlpDwAIdeal.nD Cert.MlpDwAIdeal.τ).loc Cert.MlpDwAIdeal.main_arg4))
      ∧ θ_run (Cert.MlpDwARefIdeal.defs (F := Ideal)) (onTc (τ := Cert.MlpDwARefIdeal.τ) (Cert.MlpDwARefIdeal.main (F := Ideal))) ⟨m', fun _ => 0, g'⟩ (fun r => ∀ c : Dev Cert.MlpDwARefIdeal.nD,
          r.2.mem ((c.tc : Thread Cert.MlpDwARefIdeal.nD Cert.MlpDwARefIdeal.τ).loc Cert.MlpDwARefIdeal.main_v35) = v0 c
          ∧ r.2.mem ((c.tc : Thread Cert.MlpDwARefIdeal.nD Cert.MlpDwARefIdeal.τ).loc Cert.MlpDwARefIdeal.main_arg0) = m' ((c.tc : Thread Cert.MlpDwARefIdeal.nD Cert.MlpDwARefIdeal.τ).loc Cert.MlpDwARefIdeal.main_arg0)
          ∧ r.2.mem ((c.tc : Thread Cert.MlpDwARefIdeal.nD Cert.MlpDwARefIdeal.τ).loc Cert.MlpDwARefIdeal.main_arg1) = m' ((c.tc : Thread Cert.MlpDwARefIdeal.nD Cert.MlpDwARefIdeal.τ).loc Cert.MlpDwARefIdeal.main_arg1)
          ∧ r.2.mem ((c.tc : Thread Cert.MlpDwARefIdeal.nD Cert.MlpDwARefIdeal.τ).loc Cert.MlpDwARefIdeal.main_arg2) = m' ((c.tc : Thread Cert.MlpDwARefIdeal.nD Cert.MlpDwARefIdeal.τ).loc Cert.MlpDwARefIdeal.main_arg2)
          ∧ r.2.mem ((c.tc : Thread Cert.MlpDwARefIdeal.nD Cert.MlpDwARefIdeal.τ).loc Cert.MlpDwARefIdeal.main_arg3) = m' ((c.tc : Thread Cert.MlpDwARefIdeal.nD Cert.MlpDwARefIdeal.τ).loc Cert.MlpDwARefIdeal.main_arg3)
          ∧ r.2.mem ((c.tc : Thread Cert.MlpDwARefIdeal.nD Cert.MlpDwARefIdeal.τ).loc Cert.MlpDwARefIdeal.main_arg4) = m' ((c.tc : Thread Cert.MlpDwARefIdeal.nD Cert.MlpDwARefIdeal.τ).loc Cert.MlpDwARefIdeal.main_arg4))

def preserves_MlpDwB_MlpDwBIdeal : Prop :=
  True

def algebraic_MlpDwBIdeal_MlpDwBRefIdeal [hMlpDwBIdeal : Cert.MlpDwBIdeal.Facts] [hMlpDwBRefIdeal : Cert.MlpDwBRefIdeal.Facts] : Prop :=
  ∀ (m : (ℓ : Loc Cert.MlpDwBIdeal.nD Cert.MlpDwBIdeal.τ Cert.MlpDwBIdeal.sig) → Buf (Elt Ideal) ℓ) (g : Dev Cert.MlpDwBIdeal.nD → PrngReg)
    (m' : (ℓ : Loc Cert.MlpDwBRefIdeal.nD Cert.MlpDwBRefIdeal.τ Cert.MlpDwBRefIdeal.sig) → Buf (Elt Ideal) ℓ) (g' : Dev Cert.MlpDwBRefIdeal.nD → PrngReg), Pre_MlpDwBIdeal m →
    (∀ c : Dev Cert.MlpDwBIdeal.nD,
      m' ((c.tc : Thread Cert.MlpDwBRefIdeal.nD Cert.MlpDwBRefIdeal.τ).loc Cert.MlpDwBRefIdeal.main_arg0) = m ((c.tc : Thread Cert.MlpDwBIdeal.nD Cert.MlpDwBIdeal.τ).loc Cert.MlpDwBIdeal.main_arg0)
      ∧ m' ((c.tc : Thread Cert.MlpDwBRefIdeal.nD Cert.MlpDwBRefIdeal.τ).loc Cert.MlpDwBRefIdeal.main_arg1) = m ((c.tc : Thread Cert.MlpDwBIdeal.nD Cert.MlpDwBIdeal.τ).loc Cert.MlpDwBIdeal.main_arg1)
      ∧ m' ((c.tc : Thread Cert.MlpDwBRefIdeal.nD Cert.MlpDwBRefIdeal.τ).loc Cert.MlpDwBRefIdeal.main_arg2) = m ((c.tc : Thread Cert.MlpDwBIdeal.nD Cert.MlpDwBIdeal.τ).loc Cert.MlpDwBIdeal.main_arg2)
      ∧ m' ((c.tc : Thread Cert.MlpDwBRefIdeal.nD Cert.MlpDwBRefIdeal.τ).loc Cert.MlpDwBRefIdeal.main_arg3) = m ((c.tc : Thread Cert.MlpDwBIdeal.nD Cert.MlpDwBIdeal.τ).loc Cert.MlpDwBIdeal.main_arg3)) →
    ∃ (v0 : (c : Dev Cert.MlpDwBIdeal.nD) → Buf (Elt Ideal) ((c.tc : Thread Cert.MlpDwBIdeal.nD Cert.MlpDwBIdeal.τ).loc Cert.MlpDwBIdeal.main_v20)),
      θ_run (Cert.MlpDwBIdeal.defs (F := Ideal)) (onTc (τ := Cert.MlpDwBIdeal.τ) (Cert.MlpDwBIdeal.main (F := Ideal))) ⟨m, fun _ => 0, g⟩ (fun r => ∀ c : Dev Cert.MlpDwBIdeal.nD,
          r.2.mem ((c.tc : Thread Cert.MlpDwBIdeal.nD Cert.MlpDwBIdeal.τ).loc Cert.MlpDwBIdeal.main_v20) = v0 c
          ∧ r.2.mem ((c.tc : Thread Cert.MlpDwBIdeal.nD Cert.MlpDwBIdeal.τ).loc Cert.MlpDwBIdeal.main_arg0) = m ((c.tc : Thread Cert.MlpDwBIdeal.nD Cert.MlpDwBIdeal.τ).loc Cert.MlpDwBIdeal.main_arg0)
          ∧ r.2.mem ((c.tc : Thread Cert.MlpDwBIdeal.nD Cert.MlpDwBIdeal.τ).loc Cert.MlpDwBIdeal.main_arg1) = m ((c.tc : Thread Cert.MlpDwBIdeal.nD Cert.MlpDwBIdeal.τ).loc Cert.MlpDwBIdeal.main_arg1)
          ∧ r.2.mem ((c.tc : Thread Cert.MlpDwBIdeal.nD Cert.MlpDwBIdeal.τ).loc Cert.MlpDwBIdeal.main_arg2) = m ((c.tc : Thread Cert.MlpDwBIdeal.nD Cert.MlpDwBIdeal.τ).loc Cert.MlpDwBIdeal.main_arg2)
          ∧ r.2.mem ((c.tc : Thread Cert.MlpDwBIdeal.nD Cert.MlpDwBIdeal.τ).loc Cert.MlpDwBIdeal.main_arg3) = m ((c.tc : Thread Cert.MlpDwBIdeal.nD Cert.MlpDwBIdeal.τ).loc Cert.MlpDwBIdeal.main_arg3))
      ∧ θ_run (Cert.MlpDwBRefIdeal.defs (F := Ideal)) (onTc (τ := Cert.MlpDwBRefIdeal.τ) (Cert.MlpDwBRefIdeal.main (F := Ideal))) ⟨m', fun _ => 0, g'⟩ (fun r => ∀ c : Dev Cert.MlpDwBRefIdeal.nD,
          r.2.mem ((c.tc : Thread Cert.MlpDwBRefIdeal.nD Cert.MlpDwBRefIdeal.τ).loc Cert.MlpDwBRefIdeal.main_v24) = v0 c
          ∧ r.2.mem ((c.tc : Thread Cert.MlpDwBRefIdeal.nD Cert.MlpDwBRefIdeal.τ).loc Cert.MlpDwBRefIdeal.main_arg0) = m' ((c.tc : Thread Cert.MlpDwBRefIdeal.nD Cert.MlpDwBRefIdeal.τ).loc Cert.MlpDwBRefIdeal.main_arg0)
          ∧ r.2.mem ((c.tc : Thread Cert.MlpDwBRefIdeal.nD Cert.MlpDwBRefIdeal.τ).loc Cert.MlpDwBRefIdeal.main_arg1) = m' ((c.tc : Thread Cert.MlpDwBRefIdeal.nD Cert.MlpDwBRefIdeal.τ).loc Cert.MlpDwBRefIdeal.main_arg1)
          ∧ r.2.mem ((c.tc : Thread Cert.MlpDwBRefIdeal.nD Cert.MlpDwBRefIdeal.τ).loc Cert.MlpDwBRefIdeal.main_arg2) = m' ((c.tc : Thread Cert.MlpDwBRefIdeal.nD Cert.MlpDwBRefIdeal.τ).loc Cert.MlpDwBRefIdeal.main_arg2)
          ∧ r.2.mem ((c.tc : Thread Cert.MlpDwBRefIdeal.nD Cert.MlpDwBRefIdeal.τ).loc Cert.MlpDwBRefIdeal.main_arg3) = m' ((c.tc : Thread Cert.MlpDwBRefIdeal.nD Cert.MlpDwBRefIdeal.τ).loc Cert.MlpDwBRefIdeal.main_arg3))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v1_0)) (v1 : (c : Dev Cert.MlpFwdIdeal.nD) → Buf (Elt Ideal) ((c.tc : Thread Cert.MlpFwdIdeal.nD Cert.MlpFwdIdeal.τ).loc Cert.MlpFwdIdeal.main_v1_1)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v1_0) = v0 c
          ∧ r.2.mem ((c.tc : Thread Cert.MlpFwdIdeal.nD Cert.MlpFwdIdeal.τ).loc Cert.MlpFwdIdeal.main_v1_1) = v1 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v21) = v0 c
          ∧ r.2.mem ((c.tc : Thread Cert.MlpFwdRefIdeal.nD Cert.MlpFwdRefIdeal.τ).loc Cert.MlpFwdRefIdeal.main_v22) = v1 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v1) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v14) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)) →
    ∃ (v0 : (c : Dev Cert.InBwdIdeal.nD) → Buf (Elt Ideal) ((c.tc : Thread Cert.InBwdIdeal.nD Cert.InBwdIdeal.τ).loc Cert.InBwdIdeal.main_v1_0)) (v1 : (c : Dev Cert.InBwdIdeal.nD) → Buf (Elt Ideal) ((c.tc : Thread Cert.InBwdIdeal.nD Cert.InBwdIdeal.τ).loc Cert.InBwdIdeal.main_v1_1)) (v2 : (c : Dev Cert.InBwdIdeal.nD) → Buf (Elt Ideal) ((c.tc : Thread Cert.InBwdIdeal.nD Cert.InBwdIdeal.τ).loc Cert.InBwdIdeal.main_v1_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v1_0) = v0 c
          ∧ r.2.mem ((c.tc : Thread Cert.InBwdIdeal.nD Cert.InBwdIdeal.τ).loc Cert.InBwdIdeal.main_v1_1) = v1 c
          ∧ r.2.mem ((c.tc : Thread Cert.InBwdIdeal.nD Cert.InBwdIdeal.τ).loc Cert.InBwdIdeal.main_v1_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v57) = v0 c
          ∧ r.2.mem ((c.tc : Thread Cert.InBwdRefIdeal.nD Cert.InBwdRefIdeal.τ).loc Cert.InBwdRefIdeal.main_v60) = v1 c
          ∧ r.2.mem ((c.tc : Thread Cert.InBwdRefIdeal.nD Cert.InBwdRefIdeal.τ).loc Cert.InBwdRefIdeal.main_v61) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v1) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v45) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v1_0)) (v1 : (c : Dev Cert.MergeBwdIdeal.nD) → Buf (Elt Ideal) ((c.tc : Thread Cert.MergeBwdIdeal.nD Cert.MergeBwdIdeal.τ).loc Cert.MergeBwdIdeal.main_v1_1)) (v2 : (c : Dev Cert.MergeBwdIdeal.nD) → Buf (Elt Ideal) ((c.tc : Thread Cert.MergeBwdIdeal.nD Cert.MergeBwdIdeal.τ).loc Cert.MergeBwdIdeal.main_v1_2)) (v3 : (c : Dev Cert.MergeBwdIdeal.nD) → Buf (Elt Ideal) ((c.tc : Thread Cert.MergeBwdIdeal.nD Cert.MergeBwdIdeal.τ).loc Cert.MergeBwdIdeal.main_v1_3)) (v4 : (c : Dev Cert.MergeBwdIdeal.nD) → Buf (Elt Ideal) ((c.tc : Thread Cert.MergeBwdIdeal.nD Cert.MergeBwdIdeal.τ).loc Cert.MergeBwdIdeal.main_v1_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v1_0) = v0 c
          ∧ r.2.mem ((c.tc : Thread Cert.MergeBwdIdeal.nD Cert.MergeBwdIdeal.τ).loc Cert.MergeBwdIdeal.main_v1_1) = v1 c
          ∧ r.2.mem ((c.tc : Thread Cert.MergeBwdIdeal.nD Cert.MergeBwdIdeal.τ).loc Cert.MergeBwdIdeal.main_v1_2) = v2 c
          ∧ r.2.mem ((c.tc : Thread Cert.MergeBwdIdeal.nD Cert.MergeBwdIdeal.τ).loc Cert.MergeBwdIdeal.main_v1_3) = v3 c
          ∧ r.2.mem ((c.tc : Thread Cert.MergeBwdIdeal.nD Cert.MergeBwdIdeal.τ).loc Cert.MergeBwdIdeal.main_v1_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v120) = v0 c
          ∧ r.2.mem ((c.tc : Thread Cert.MergeBwdRefIdeal.nD Cert.MergeBwdRefIdeal.τ).loc Cert.MergeBwdRefIdeal.main_v98) = v1 c
          ∧ r.2.mem ((c.tc : Thread Cert.MergeBwdRefIdeal.nD Cert.MergeBwdRefIdeal.τ).loc Cert.MergeBwdRefIdeal.main_v77) = v2 c
          ∧ r.2.mem ((c.tc : Thread Cert.MergeBwdRefIdeal.nD Cert.MergeBwdRefIdeal.τ).loc Cert.MergeBwdRefIdeal.main_v170) = v3 c
          ∧ r.2.mem ((c.tc : Thread Cert.MergeBwdRefIdeal.nD Cert.MergeBwdRefIdeal.τ).loc Cert.MergeBwdRefIdeal.main_v171) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def Claim : Prop :=
  ∃ (hKernel : Cert.Kernel.Facts) (hKernelIdeal : Cert.KernelIdeal.Facts) (hReferenceIdeal : Cert.ReferenceIdeal.Facts) (hMlpBwd : Cert.MlpBwd.Facts) (hMlpBwdIdeal : Cert.MlpBwdIdeal.Facts) (hMlpBwdRefIdeal : Cert.MlpBwdRefIdeal.Facts) (hMlpDwA : Cert.MlpDwA.Facts) (hMlpDwAIdeal : Cert.MlpDwAIdeal.Facts) (hMlpDwARefIdeal : Cert.MlpDwARefIdeal.Facts) (hMlpDwB : Cert.MlpDwB.Facts) (hMlpDwBIdeal : Cert.MlpDwBIdeal.Facts) (hMlpDwBRefIdeal : Cert.MlpDwBRefIdeal.Facts) (hMlpFwd : Cert.MlpFwd.Facts) (hMlpFwdIdeal : Cert.MlpFwdIdeal.Facts) (hMlpFwdRefIdeal : Cert.MlpFwdRefIdeal.Facts) (hInFwd : Cert.InFwd.Facts) (hInFwdIdeal : Cert.InFwdIdeal.Facts) (hInFwdRefIdeal : Cert.InFwdRefIdeal.Facts) (hInBwd : Cert.InBwd.Facts) (hInBwdIdeal : Cert.InBwdIdeal.Facts) (hInBwdRefIdeal : Cert.InBwdRefIdeal.Facts) (hMergeFwd : Cert.MergeFwd.Facts) (hMergeFwdIdeal : Cert.MergeFwdIdeal.Facts) (hMergeFwdRefIdeal : Cert.MergeFwdRefIdeal.Facts) (hMergeBwd : Cert.MergeBwd.Facts) (hMergeBwdIdeal : Cert.MergeBwdIdeal.Facts) (hMergeBwdRefIdeal : Cert.MergeBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_MlpDwA (hMlpDwA := hMlpDwA)
    ∧ quiescent_MlpDwAIdeal (hMlpDwAIdeal := hMlpDwAIdeal)
    ∧ quiescent_MlpDwARefIdeal (hMlpDwARefIdeal := hMlpDwARefIdeal)
    ∧ quiescent_MlpDwB (hMlpDwB := hMlpDwB)
    ∧ quiescent_MlpDwBIdeal (hMlpDwBIdeal := hMlpDwBIdeal)
    ∧ quiescent_MlpDwBRefIdeal (hMlpDwBRefIdeal := hMlpDwBRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_MlpDwA_MlpDwAIdeal
    ∧ algebraic_MlpDwAIdeal_MlpDwARefIdeal (hMlpDwAIdeal := hMlpDwAIdeal) (hMlpDwARefIdeal := hMlpDwARefIdeal)
    ∧ preserves_MlpDwB_MlpDwBIdeal
    ∧ algebraic_MlpDwBIdeal_MlpDwBRefIdeal (hMlpDwBIdeal := hMlpDwBIdeal) (hMlpDwBRefIdeal := hMlpDwBRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_InFwd_InFwdIdeal
    ∧ algebraic_InFwdIdeal_InFwdRefIdeal (hInFwdIdeal := hInFwdIdeal) (hInFwdRefIdeal := hInFwdRefIdeal)
    ∧ preserves_InBwd_InBwdIdeal
    ∧ algebraic_InBwdIdeal_InBwdRefIdeal (hInBwdIdeal := hInBwdIdeal) (hInBwdRefIdeal := hInBwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
-- ==== Pre_finite.lean ====
abbrev S8192x1536 : Shape := ⟨2, ![8192, 1536]⟩
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S8192x512 : Shape := ⟨2, ![8192, 512]⟩
abbrev S_ : Shape := ⟨0, ![]⟩

class Facts : Prop where
  slices_S8192x1536_S8192x512_0_0 : S8192x1536.Slices ![0, 0] S8192x512
  bcast_S_S8192x512 : S_.BroadcastsInDim S8192x512 (![] : Fin 0 → Fin S8192x512.rank)
  bcast_S_S8192x256 : S_.BroadcastsInDim S8192x256 (![] : Fin 0 → Fin S8192x256.rank)
  bcast_S_S4x64 : S_.BroadcastsInDim S4x64 (![] : Fin 0 → Fin S4x64.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn_part1 {F : FTy → Type} [FloatOps F] (main_v3 : IVec S8192x512 1) (main_v6 : IVec S8192x256 1) (main_v9 : IVec S4x64 1) (main_v12 : IVec S4x64 1) (main_v15 : IVec S4x128x128 1) (main_v16 : FVec F S4x128 .f32) (main_v17 : FVec F S4x128 .f32) : IVec S8192x512 1 × IVec S8192x256 1 × IVec S4x64 1 × IVec S4x64 1 × IVec S4x128x128 1 × IVec S4x128 1 :=
  let main_v18 : IVec S4x128 1 := cmpf .olt main_v16 main_v17
  (main_v3, main_v6, main_v9, main_v12, main_v15, main_v18)

def fn {F : FTy → Type} [FloatOps F] (main_arg0 : FVec F S8192x1536 .f32) (main_arg1 : FVec F S8192x256 .f32) (main_arg2 : FVec F S4x64 .f32) (main_arg3 : FVec F S4x64 .f32) (main_arg4 : FVec F S4x128x128 .f32) (main_arg5 : FVec F S4x128 .f32) : IVec S8192x512 1 × IVec S8192x256 1 × IVec S4x64 1 × IVec S4x64 1 × IVec S4x128x128 1 × IVec S4x128 1 :=
  let main_v0 : FVec F S8192x512 .f32 := (extractStridedSlice S8192x512 ![0, 0] · slices_S8192x1536_S8192x512_0_0) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_v7 : FVec F S4x64 .f32 := Host.absf main_arg2
  let main_cst_1 : FVec F S_ .f32 := constant S_ .f32 0x7F800000#32
  let main_v8 : FVec F S4x64 .f32 := broadcastInDim S4x64 ![] bcast_S_S4x64 main_cst_1
  let main_v9 : IVec S4x64 1 := cmpf .olt main_v7 main_v8
  let main_v10 : FVec F S4x64 .f32 := Host.absf main_arg3
  let main_cst_2 : FVec F S_ .f32 := constant S_ .f32 0x7F800000#32
  let main_v11 : FVec F S4x64 .f32 := broadcastInDim S4x64 ![] bcast_S_S4x64 main_cst_2
  let main_v12 : IVec S4x64 1 := cmpf .olt main_v10 main_v11
  let main_v13 : FVec F S4x128x128 .f32 := Host.absf main_arg4
  let main_cst_3 : FVec F S_ .f32 := constant S_ .f32 0x7F800000#32
  let main_v14 : FVec F S4x128x128 .f32 := broadcastInDim S4x128x128 ![] bcast_S_S4x128x128 main_cst_3
  let main_v15 : IVec S4x128x128 1 := cmpf .olt main_v13 main_v14
  let main_v16 : FVec F S4x128 .f32 := Host.absf main_arg5
  let main_cst_4 : FVec F S_ .f32 := constant S_ .f32 0x7F800000#32
  let main_v17 : FVec F S4x128 .f32 := broadcastInDim S4x128 ![] bcast_S_S4x128 main_cst_4
  fn_part1 (F := F) main_v3 main_v6 main_v9 main_v12 main_v15 main_v16 main_v17
-- ==== Kernel.lean ====
abbrev S8192x1536 : Shape := ⟨2, ![8192, 1536]⟩
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S_ : Shape := ⟨0, ![]⟩
abbrev S4x1x64 : Shape := ⟨3, ![4, 1, 64]⟩
abbrev S4x2x64 : Shape := ⟨3, ![4, 2, 64]⟩
abbrev S1x512 : Shape := ⟨2, ![1, 512]⟩
abbrev S4x128x1 : Shape := ⟨3, ![4, 128, 1]⟩
abbrev S8192x512 : Shape := ⟨2, ![8192, 512]⟩
abbrev S512x512 : Shape := ⟨2, ![512, 512]⟩
abbrev S512x256 : Shape := ⟨2, ![512, 256]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 23
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S8192x256, .f32⟩
  | .hbm, ⟨2, _⟩ => ⟨S4x64, .f32⟩
  | .hbm, ⟨3, _⟩ => ⟨S4x64, .f32⟩
  | .hbm, ⟨4, _⟩ => ⟨S4x128x128, .f32⟩
  | .hbm, ⟨5, _⟩ => ⟨S4x128, .f32⟩
  | .hbm, ⟨6, _⟩ => ⟨S_, .f32⟩
  | .hbm, ⟨7, _⟩ => ⟨S4x64, .f32⟩
  | .hbm, ⟨8, _⟩ => ⟨S4x1x64, .f32⟩
  | .hbm, ⟨9, _⟩ => ⟨S4x1x64, .f32⟩
  | .hbm, ⟨10, _⟩ => ⟨S4x2x64, .f32⟩
  | .hbm, ⟨11, _⟩ => ⟨S1x512, .f32⟩
  | .hbm, ⟨12, _⟩ => ⟨S4x1x64, .f32⟩
  | .hbm, ⟨13, _⟩ => ⟨S4x1x64, .f32⟩
  | .hbm, ⟨14, _⟩ => ⟨S4x2x64, .f32⟩
  | .hbm, ⟨15, _⟩ => ⟨S1x512, .f32⟩
  | .hbm, ⟨16, _⟩ => ⟨S4x128x1, .f32⟩
  | .hbm, ⟨17, _⟩ => ⟨S4x128x128, .f32⟩
  | .hbm, ⟨18, _⟩ => ⟨S8192x512, .f32⟩
  | .hbm, ⟨19, _⟩ => ⟨S4x128x128, .f32⟩
  | .hbm, ⟨20, _⟩ => ⟨S4x128x128, .f32⟩
  | .hbm, ⟨21, _⟩ => ⟨S1x512, .f32⟩
  | .hbm, ⟨22, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x128, .f32⟩
  | .local _ .vmem, ⟨8, _⟩ => ⟨S512x512, .f32⟩
  | .local _ .vmem, ⟨9, _⟩ => ⟨S512x512, .f32⟩
  | .local _ .vmem, ⟨10, _⟩ => ⟨S4x128x128, .f32⟩
  | .local _ .vmem, ⟨11, _⟩ => ⟨S4x128x128, .f32⟩
  | .local _ .vmem, ⟨12, _⟩ => ⟨S1x512, .f32⟩
  | .local _ .vmem, ⟨13, _⟩ => ⟨S1x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== ReferenceIdeal.lean ====
abbrev S8192x1536 : Shape := ⟨2, ![8192, 1536]⟩
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S8192x512 : Shape := ⟨2, ![8192, 512]⟩
abbrev S1x8192x512 : Shape := ⟨3, ![1, 8192, 512]⟩
abbrev S_ : Shape := ⟨0, ![]⟩
abbrev S1x64x128x4x128 : Shape := ⟨5, ![1, 64, 128, 4, 128]⟩
abbrev S1x64x128x4x64 : Shape := ⟨5, ![1, 64, 128, 4, 64]⟩
abbrev S1x64x128x4 : Shape := ⟨4, ![1, 64, 128, 4]⟩
abbrev S1x64x128x4x1 : Shape := ⟨5, ![1, 64, 128, 4, 1]⟩
abbrev S1x1x1x4x64 : Shape := ⟨5, ![1, 1, 1, 4, 64]⟩
abbrev S128x128 : Shape := ⟨2, ![128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩
abbrev S1x8192x256 : Shape := ⟨3, ![1, 8192, 256]⟩
abbrev S1x128x4 : Shape := ⟨3, ![1, 128, 4]⟩
abbrev S1x4x64 : Shape := ⟨3, ![1, 4, 64]⟩
abbrev S64x128x4 : Shape := ⟨3, ![64, 128, 4]⟩
abbrev S4x128x1 : Shape := ⟨3, ![4, 128, 1]⟩
abbrev S4x1x64 : Shape := ⟨3, ![4, 1, 64]⟩
abbrev S4x2x64 : Shape := ⟨3, ![4, 2, 64]⟩
abbrev S1x512 : Shape := ⟨2, ![1, 512]⟩

abbrev nBuf : Space → Nat
  | .hbm => 187
  | .vmem => 0
  | .smem => 0
  | _ => 0

abbrev hbmTy0_0 (i : Nat) : BufTy := match i % 128 with
  | 0 => ⟨S8192x1536, .f32⟩
  | 1 => ⟨S8192x256, .f32⟩
  | 2 => ⟨S4x64, .f32⟩
  | 3 => ⟨S4x64, .f32⟩
  | 4 => ⟨S4x128x128, .f32⟩
  | 5 => ⟨S4x128, .f32⟩
  | 6 => ⟨S8192x512, .f32⟩
  | 7 => ⟨S1x8192x512, .f32⟩
  | 8 => ⟨S_, .f32⟩
  | 9 => ⟨S_, .f32⟩
  | 10 => ⟨S_, .f32⟩
  | 11 => ⟨S1x8192x512, .f32⟩
  | 12 => ⟨S1x8192x512, .f32⟩
  | 13 => ⟨S1x8192x512, .f32⟩
  | 14 => ⟨S_, .f32⟩
  | 15 => ⟨S1x8192x512, .f32⟩
  | 16 => ⟨S1x8192x512, .f32⟩
  | 17 => ⟨S1x8192x512, .f32⟩
  | 18 => ⟨S1x8192x512, .f32⟩
  | 19 => ⟨S1x8192x512, .f32⟩
  | 20 => ⟨S_, .f32⟩
  | 21 => ⟨S1x8192x512, .f32⟩
  | 22 => ⟨S1x8192x512, .f32⟩
  | 23 => ⟨S1x8192x512, .f32⟩
  | 24 => ⟨S_, .f32⟩
  | 25 => ⟨S1x8192x512, .f32⟩
  | 26 => ⟨S1x8192x512, .f32⟩
  | 27 => ⟨S_, .f32⟩
  | 28 => ⟨S1x8192x512, .f32⟩
  | 29 => ⟨S1x8192x512, .f32⟩
  | 30 => ⟨S1x8192x512, .f32⟩
  | 31 => ⟨S_, .f32⟩
  | 32 => ⟨S1x8192x512, .f32⟩
  | 33 => ⟨S1x8192x512, .f32⟩
  | 34 => ⟨S_, .f32⟩
  | 35 => ⟨S1x8192x512, .f32⟩
  | 36 => ⟨S1x8192x512, .f32⟩
  | 37 => ⟨S1x8192x512, .f32⟩
  | 38 => ⟨S1x64x128x4x128, .f32⟩
  | 39 => ⟨S1x64x128x4x64, .f32⟩
  | 40 => ⟨S1x64x128x4x64, .f32⟩
  | 41 => ⟨S_, .f32⟩
  | 42 => ⟨S1x64x128x4, .f32⟩
  | 43 => ⟨S1x64x128x4x1, .f32⟩
  | 44 => ⟨S_, .f32⟩
  | 45 => ⟨S1x64x128x4x1, .f32⟩
  | 46 => ⟨S1x64x128x4x1, .f32⟩
  | 47 => ⟨S1x64x128x4x64, .f32⟩
  | 48 => ⟨S1x64x128x4x64, .f32⟩
  | 49 => ⟨S1x64x128x4x64, .f32⟩
  | 50 => ⟨S_, .f32⟩
  | 51 => ⟨S1x64x128x4, .f32⟩
  | 52 => ⟨S1x64x128x4x1, .f32⟩
  | 53 => ⟨S_, .f32⟩
  | 54 => ⟨S1x64x128x4x1, .f32⟩
  | 55 => ⟨S1x64x128x4x1, .f32⟩
  | 56 => ⟨S_, .f32⟩
  | 57 => ⟨S1x64x128x4x1, .f32⟩
  | 58 => ⟨S1x64x128x4x1, .f32⟩
  | 59 => ⟨S1x64x128x4x1, .f32⟩
  | 60 => ⟨S1x64x128x4x1, .f32⟩
  | 61 => ⟨S_, .f32⟩
  | 62 => ⟨S1x64x128x4x1, .f32⟩
  | 63 => ⟨S1x64x128x4x1, .f32⟩
  | 64 => ⟨S1x64x128x4x64, .f32⟩
  | 65 => ⟨S1x64x128x4x64, .f32⟩
  | 66 => ⟨S1x1x1x4x64, .f32⟩
  | 67 => ⟨S1x64x128x4x64, .f32⟩
  | 68 => ⟨S1x64x128x4x64, .f32⟩
  | 69 => ⟨S1x1x1x4x64, .f32⟩
  | 70 => ⟨S1x64x128x4x64, .f32⟩
  | 71 => ⟨S1x64x128x4x64, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S_, .f32⟩
  | 84 => ⟨S_, .f32⟩
  | 85 => ⟨S4x128x128, .i1⟩
  | 86 => ⟨S4x128x128, .f32⟩
  | 87 => ⟨S4x128x128, .f32⟩
  | 88 => ⟨S_, .f32⟩
  | 89 => ⟨S4x128x128, .f32⟩
  | 90 => ⟨S4x1x64x64x128, .f32⟩
  | 91 => ⟨S1x64x128x4x64, .f32⟩
  | 92 => ⟨S128x4, .f32⟩
  | 93 => ⟨S1x1x128x4x1, .f32⟩
  | 94 => ⟨S1x64x128x4x64, .f32⟩
  | 95 => ⟨S1x64x128x4x64, .f32⟩
  | 96 => ⟨S1x64x128x4x64, .f32⟩
  | 97 => ⟨S1x8192x256, .f32⟩
  | 98 => ⟨S1x8192x256, .f32⟩
  | 99 => ⟨S1x64x128x4x64, .f32⟩
  | 100 => ⟨S1x64x128x4x64, .f32⟩
  | 101 => ⟨S1x64x128x4x64, .f32⟩
  | 102 => ⟨S_, .f32⟩
  | 103 => ⟨S1x128x4, .f32⟩
  | 104 => ⟨S1x1x128x4x1, .f32⟩
  | 105 => ⟨S_, .f32⟩
  | 106 => ⟨S128x4, .f32⟩
  | 107 => ⟨S4x128, .f32⟩
  | 108 => ⟨S4x1x64x64x128, .f32⟩
  | 109 => ⟨S4x128x128, .f32⟩
  | 110 => ⟨S4x1x64x64x128, .f32⟩
  | 111 => ⟨S1x64x128x4x64, .f32⟩
  | 112 => ⟨S_, .f32⟩
  | 113 => ⟨S4x128x128, .f32⟩
  | 114 => ⟨S4x128x128, .f32⟩
  | 115 => ⟨S_, .f32⟩
  | 116 => ⟨S1x4x64, .f32⟩
  | 117 => ⟨S1x1x1x4x64, .f32⟩
  | 118 => ⟨S_, .f32⟩
  | 119 => ⟨S4x64, .f32⟩
  | 120 => ⟨S1x64x128x4x64, .f32⟩
  | 121 => ⟨S_, .f32⟩
  | 122 => ⟨S1x4x64, .f32⟩
  | 123 => ⟨S1x1x1x4x64, .f32⟩
  | 124 => ⟨S1x64x128x4x64, .f32⟩
  | 125 => ⟨S1x64x128x4x64, .f32⟩
  | 126 => ⟨S_, .f32⟩
  | 127 => ⟨S4x64, .f32⟩
  | _ => ⟨S8192x1536, .f32⟩

abbrev hbmTy0_1 (i : Nat) : BufTy := match i % 128 with
  | 0 => ⟨S1x64x128x4x64, .f32⟩
  | 1 => ⟨S_, .f32⟩
  | 2 => ⟨S1x64x128x4, .f32⟩
  | 3 => ⟨S1x64x128x4x1, .f32⟩
  | 4 => ⟨S1x64x128x4x64, .f32⟩
  | 5 => ⟨S1x64x128x4x64, .f32⟩
  | 6 => ⟨S1x64x128x4x1, .f32⟩
  | 7 => ⟨S_, .f32⟩
  | 8 => ⟨S1x64x128x4x1, .f32⟩
  | 9 => ⟨S1x64x128x4x1, .f32⟩
  | 10 => ⟨S_, .f32⟩
  | 11 => ⟨S64x128x4, .f32⟩
  | 12 => ⟨S1x64x128x4, .f32⟩
  | 13 => ⟨S1x64x128x4x64, .f32⟩
  | 14 => ⟨S1x64x128x4x64, .f32⟩
  | 15 => ⟨S1x64x128x4x64, .f32⟩
  | 16 => ⟨S1x64x128x4x64, .f32⟩
  | 17 => ⟨S1x64x128x4x64, .f32⟩
  | 18 => ⟨S1x64x128x4x64, .f32⟩
  | 19 => ⟨S_, .f32⟩
  | 20 => ⟨S1x64x128x4, .f32⟩
  | 21 => ⟨S1x64x128x4x1, .f32⟩
  | 22 => ⟨S_, .f32⟩
  | 23 => ⟨S1x64x128x4x1, .f32⟩
  | 24 => ⟨S1x64x128x4x1, .f32⟩
  | 25 => ⟨S_, .f32⟩
  | 26 => ⟨S64x128x4, .f32⟩
  | 27 => ⟨S1x64x128x4, .f32⟩
  | 28 => ⟨S1x64x128x4x64, .f32⟩
  | 29 => ⟨S1x64x128x4x64, .f32⟩
  | 30 => ⟨S1x64x128x4x128, .f32⟩
  | 31 => ⟨S1x8192x512, .f32⟩
  | 32 => ⟨S1x8192x512, .f32⟩
  | 33 => ⟨S1x8192x512, .f32⟩
  | 34 => ⟨S_, .f32⟩
  | 35 => ⟨S1x8192x512, .f32⟩
  | 36 => ⟨S1x8192x512, .f32⟩
  | 37 => ⟨S1x8192x512, .f32⟩
  | 38 => ⟨S_, .f32⟩
  | 39 => ⟨S1x8192x512, .f32⟩
  | 40 => ⟨S1x8192x512, .f32⟩
  | 41 => ⟨S1x8192x512, .f32⟩
  | 42 => ⟨S1x8192x512, .f32⟩
  | 43 => ⟨S1x8192x512, .f32⟩
  | 44 => ⟨S1x8192x512, .f32⟩
  | 45 => ⟨S1x8192x512, .f32⟩
  | 46 => ⟨S_, .f32⟩
  | 47 => ⟨S4x64, .f32⟩
  | 48 => ⟨S8192x512, .f32⟩
  | 49 => ⟨S4x128x1, .f32⟩
  | 50 => ⟨S4x128x128, .f32⟩
  | 51 => ⟨S4x1x64, .f32⟩
  | 52 => ⟨S4x1x64, .f32⟩
  | 53 => ⟨S4x2x64, .f32⟩
  | 54 => ⟨S1x512, .f32⟩
  | 55 => ⟨S4x1x64, .f32⟩
  | 56 => ⟨S4x1x64, .f32⟩
  | 57 => ⟨S4x2x64, .f32⟩
  | 58 => ⟨S1x512, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_v52 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v53 : Ref sig .tc := ⟨.hbm, 82, rfl⟩
abbrev main_cst_13 : Ref sig .tc := ⟨.hbm, 83, rfl⟩
abbrev main_call1_v0 : Ref sig .tc := ⟨.hbm, 84, rfl⟩
abbrev main_v54_1 : Ref sig .tc := ⟨.hbm, 85, rfl⟩
abbrev main_call1_v2 : Ref sig .tc := ⟨.hbm, 86, rfl⟩
abbrev main_v54_0 : Ref sig .tc := ⟨.hbm, 87, rfl⟩
abbrev main_call1_cst : Ref sig .tc := ⟨.hbm, 88, rfl⟩
abbrev main_v54_2 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_cst_15 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call2_cst : Ref sig .tc := ⟨.hbm, 112, rfl⟩
abbrev main_call2_v0 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_v77 : Ref sig .tc := ⟨.hbm, 117, rfl⟩
abbrev main_cst_17 : Ref sig .tc := ⟨.hbm, 118, rfl⟩
abbrev main_v78 : Ref sig .tc := ⟨.hbm, 119, rfl⟩
abbrev main_v79 : Ref sig .tc := ⟨.hbm, 120, rfl⟩
abbrev main_cst_18 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_19 : Ref sig .tc := ⟨.hbm, 126, rfl⟩
abbrev main_v84 : Ref sig .tc := ⟨.hbm, 127, rfl⟩
abbrev main_v85 : Ref sig .tc := ⟨.hbm, 128, rfl⟩
abbrev main_cst_20 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_cst_22 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_23 : Ref sig .tc := ⟨.hbm, 147, rfl⟩
abbrev main_v101 : Ref sig .tc := ⟨.hbm, 148, rfl⟩
abbrev main_v102 : Ref sig .tc := ⟨.hbm, 149, rfl⟩
abbrev main_cst_24 : Ref sig .tc := ⟨.hbm, 150, rfl⟩
abbrev main_v103 : Ref sig .tc := ⟨.hbm, 151, rfl⟩
abbrev main_v104 : Ref sig .tc := ⟨.hbm, 152, rfl⟩
abbrev main_cst_25 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_27 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_28 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩

abbrev nD : Nat := 1
abbrev τ : Topo := Topo.v7x

variable {F : FTy → Type} [FloatOps F]
-- ==== MlpBwd.lean ====
abbrev S8192x1024 : Shape := ⟨2, ![8192, 1024]⟩
abbrev S1024 : Shape := ⟨1, ![1024]⟩
abbrev S8x1024x512 : Shape := ⟨3, ![8, 1024, 512]⟩
abbrev S4096x1024 : Shape := ⟨2, ![4096, 1024]⟩
abbrev S1024x8x512 : Shape := ⟨3, ![1024, 8, 512]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S9 : Shape := ⟨1, ![9]⟩
abbrev S1 : Shape := ⟨1, ![1]⟩
abbrev S1024x512 : Shape := ⟨2, ![1024, 512]⟩
abbrev S1x1024x512 : Shape := ⟨3, ![1, 1024, 512]⟩
abbrev S1024x1024 : Shape := ⟨2, ![1024, 1024]⟩
abbrev S512 : Shape := ⟨1, ![512]⟩
abbrev S512x1 : Shape := ⟨2, ![512, 1]⟩

abbrev nBuf : Space → Nat
  | .hbm => 35
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8x1024x512, .bf16⟩
  | .hbm, ⟨4, _⟩ => ⟨S4096x1024, .bf16⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .bf16⟩
  | .hbm, ⟨30, _⟩ => ⟨S1x1024, .f32⟩
  | .hbm, ⟨31, _⟩ => ⟨S8192x1024, .f32⟩
  | .hbm, ⟨32, _⟩ => ⟨S8192x1024, .bf16⟩
  | .hbm, ⟨33, _⟩ => ⟨S8192x4096, .bf16⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpBwdRefIdeal.lean ====
abbrev S8192x1024 : Shape := ⟨2, ![8192, 1024]⟩
abbrev S1024 : Shape := ⟨1, ![1024]⟩
abbrev S8x1024x512 : Shape := ⟨3, ![8, 1024, 512]⟩
abbrev S4096x1024 : Shape := ⟨2, ![4096, 1024]⟩
abbrev S1024x8x512 : Shape := ⟨3, ![1024, 8, 512]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8x1024x512, .bf16⟩
  | .hbm, ⟨4, _⟩ => ⟨S4096x1024, .bf16⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S4096x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .i1⟩
  | .hbm, ⟨52, _⟩ => ⟨S_, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x4096, .f32⟩
  | .hbm, ⟨94, _⟩ => ⟨S_, .f32⟩
  | .hbm, ⟨95, _⟩ => ⟨S8192x4096, .f32⟩
  | .hbm, ⟨96, _⟩ => ⟨S8192x4096, .f32⟩
  | .hbm, ⟨97, _⟩ => ⟨S_, .f32⟩
  | .hbm, ⟨98, _⟩ => ⟨S8192x4096, .f32⟩
  | .hbm, ⟨99, _⟩ => ⟨S8192x4096, .i1⟩
  | .hbm, ⟨100, _⟩ => ⟨S_, .f32⟩
  | .hbm, ⟨101, _⟩ => ⟨S8192x4096, .f32⟩
  | .hbm, ⟨102, _⟩ => ⟨S8192x4096, .f32⟩
  | .hbm, ⟨103, _⟩ => ⟨S_, .f32⟩
  | .hbm, ⟨104, _⟩ => ⟨S8192x4096, .f32⟩
  | .hbm, ⟨105, _⟩ => ⟨S8192x4096, .f32⟩
  | .hbm, ⟨106, _⟩ => ⟨S8192x1024, .f32⟩
  | .hbm, ⟨107, _⟩ => ⟨S8192x4096, .f32⟩
  | .hbm, ⟨108, _⟩ => ⟨S8192x4096, .f32⟩
  | .hbm, ⟨109, _⟩ => ⟨S_, .f32⟩
  | .hbm, ⟨110, _⟩ => ⟨S8192x4096, .f32⟩
  | .hbm, ⟨111, _⟩ => ⟨S8192x4096, .f32⟩
  | .hbm, ⟨112, _⟩ => ⟨S8192x1024, .bf16⟩
  | .hbm, ⟨113, _⟩ => ⟨S8192x4096, .bf16⟩
  | .hbm, ⟨114, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_cst : Ref sig .tc := ⟨.hbm, 94, rfl⟩
abbrev main_call1_v0 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]
-- ==== MlpDwA.lean ====
abbrev S8192x1024 : Shape := ⟨2, ![8192, 1024]⟩
abbrev S1024 : Shape := ⟨1, ![1024]⟩
abbrev S8x1024x512 : Shape := ⟨3, ![8, 1024, 512]⟩
abbrev S4096x1024 : Shape := ⟨2, ![4096, 1024]⟩
abbrev S1024x8x512 : Shape := ⟨3, ![1024, 8, 512]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 47
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8x1024x512, .bf16⟩
  | .hbm, ⟨4, _⟩ => ⟨S4096x1024, .bf16⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S4096x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x1024, .bf16⟩
  | .hbm, ⟨45, _⟩ => ⟨S8192x4096, .bf16⟩
  | .hbm, ⟨46, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== MlpDwARefIdeal.lean ====
abbrev S8192x1024 : Shape := ⟨2, ![8192, 1024]⟩
abbrev S1024 : Shape := ⟨1, ![1024]⟩
abbrev S8x1024x512 : Shape := ⟨3, ![8, 1024, 512]⟩
abbrev S4096x1024 : Shape := ⟨2, ![4096, 1024]⟩
abbrev S1024x8x512 : Shape := ⟨3, ![1024, 8, 512]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8x1024x512, .bf16⟩
  | .hbm, ⟨4, _⟩ => ⟨S4096x1024, .bf16⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .i1⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S4096x1024, .f32⟩
  | .hbm, ⟨38, _⟩ => ⟨S8192x1024, .f32⟩
  | .hbm, ⟨39, _⟩ => ⟨S8192x1024, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S4096x1024, .f32⟩
  | .hbm, ⟨46, _⟩ => ⟨S1024x4096, .f32⟩
  | .hbm, ⟨47, _⟩ => ⟨S1024x8x512, .f32⟩
  | .hbm, ⟨48, _⟩ => ⟨S8x1024x512, .f32⟩
  | .hbm, ⟨49, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== MlpDwB.lean ====
abbrev S8192x1024 : Shape := ⟨2, ![8192, 1024]⟩
abbrev S1024 : Shape := ⟨1, ![1024]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 30
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8x1024x512, .bf16⟩
  | .hbm, ⟨4, _⟩ => ⟨S8x1024x512, .f32⟩
  | .hbm, ⟨5, _⟩ => ⟨S1024x8x512, .f32⟩
  | .hbm, ⟨6, _⟩ => ⟨S1024x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .bf16⟩
  | .hbm, ⟨29, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwBRefIdeal.lean ====
abbrev S8192x1024 : Shape := ⟨2, ![8192, 1024]⟩
abbrev S1024 : Shape := ⟨1, ![1024]⟩
abbrev S8x1024x512 : Shape := ⟨3, ![8, 1024, 512]⟩
abbrev S_ : Shape := ⟨0, ![]⟩
abbrev S4096x1024 : Shape := ⟨2, ![4096, 1024]⟩
abbrev S1024x8x512 : Shape := ⟨3, ![1024, 8, 512]⟩
abbrev S1024x4096 : Shape := ⟨2, ![1024, 4096]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8x1024x512, .bf16⟩
  | .hbm, ⟨4, _⟩ => ⟨S_, .f32⟩
  | .hbm, ⟨5, _⟩ => ⟨S4096x1024, .f32⟩
  | .hbm, ⟨6, _⟩ => ⟨S8x1024x512, .f32⟩
  | .hbm, ⟨7, _⟩ => ⟨S1024x8x512, .f32⟩
  | .hbm, ⟨8, _⟩ => ⟨S1024x4096, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S1024x4096, .f32⟩
  | .hbm, ⟨33, _⟩ => ⟨S4096x1024, .f32⟩
  | .hbm, ⟨34, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== MlpFwd.lean ====
abbrev S8192x1024 : Shape := ⟨2, ![8192, 1024]⟩
abbrev S1024 : Shape := ⟨1, ![1024]⟩
abbrev S8x1024x512 : Shape := ⟨3, ![8, 1024, 512]⟩
abbrev S4096x1024 : Shape := ⟨2, ![4096, 1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S1024x4096 : Shape := ⟨2, ![1024, 4096]⟩
abbrev S9 : Shape := ⟨1, ![9]⟩
abbrev S1 : Shape := ⟨1, ![1]⟩
abbrev S_ : Shape := ⟨0, ![]⟩
abbrev S1024x512 : Shape := ⟨2, ![1024, 512]⟩
abbrev S1x1024x512 : Shape := ⟨3, ![1, 1024, 512]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x512, .bf16⟩
  | .hbm, ⟨3, _⟩ => ⟨S4096x1024, .bf16⟩
  | .hbm, ⟨4, _⟩ => ⟨S1x1024, .f32⟩
  | .hbm, ⟨5, _⟩ => ⟨S8192x1024, .f32⟩
  | .hbm, ⟨6, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | .local _ .vmem, ⟨8, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlpFwdRefIdeal.lean ====
abbrev S8192x1024 : Shape := ⟨2, ![8192, 1024]⟩
abbrev S1024 : Shape := ⟨1, ![1024]⟩
abbrev S8x1024x512 : Shape := ⟨3, ![8, 1024, 512]⟩
abbrev S4096x1024 : Shape := ⟨2, ![4096, 1024]⟩
abbrev S1024x8x512 : Shape := ⟨3, ![1024, 8, 512]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1024x512, .bf16⟩
  | .hbm, ⟨3, _⟩ => ⟨S4096x1024, .bf16⟩
  | .hbm, ⟨4, _⟩ => ⟨S8x1024x512, .f32⟩
  | .hbm, ⟨5, _⟩ => ⟨S1024x8x512, .f32⟩
  | .hbm, ⟨6, _⟩ => ⟨S1024x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S4096x1024, .f32⟩
  | .hbm, ⟨29, _⟩ => ⟨S8192x1024, .f32⟩
  | .hbm, ⟨30, _⟩ => ⟨S8192x1024, .f32⟩
  | .hbm, ⟨31, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== InFwd.lean ====
abbrev S8192x1024 : Shape := ⟨2, ![8192, 1024]⟩
abbrev S1024 : Shape := ⟨1, ![1024]⟩
abbrev S1024x1536 : Shape := ⟨2, ![1024, 1536]⟩
abbrev S1x1024 : Shape := ⟨2, ![1, 1024]⟩
abbrev S8192x1536 : Shape := ⟨2, ![8192, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .bf16⟩
  | .hbm, ⟨3, _⟩ => ⟨S1x1024, .f32⟩
  | .hbm, ⟨4, _⟩ => ⟨S8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InFwdRefIdeal.lean ====
abbrev S8192x1024 : Shape := ⟨2, ![8192, 1024]⟩
abbrev S1024 : Shape := ⟨1, ![1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x1536, .f32⟩
  | .hbm, ⟨20, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InBwd.lean ====
abbrev S8192x1024 : Shape := ⟨2, ![8192, 1024]⟩
abbrev S1024 : Shape := ⟨1, ![1024]⟩
abbrev S1024x1536 : Shape := ⟨2, ![1024, 1536]⟩
abbrev S8192x512 : Shape := ⟨2, ![8192, 512]⟩
abbrev S8192x128 : Shape := ⟨2, ![8192, 128]⟩
abbrev S8192x256 : Shape := ⟨2, ![8192, 256]⟩
abbrev S1x1024 : Shape := ⟨2, ![1, 1024]⟩
abbrev S8x1024x192 : Shape := ⟨3, ![8, 1024, 192]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩
abbrev S1024x192 : Shape := ⟨2, ![1024, 192]⟩
abbrev S1x1024x192 : Shape := ⟨3, ![1, 1024, 192]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1536, .bf16⟩
  | .hbm, ⟨4, _⟩ => ⟨S8192x512, .f32⟩
  | .hbm, ⟨5, _⟩ => ⟨S8192x512, .f32⟩
  | .hbm, ⟨6, _⟩ => ⟨S8192x128, .f32⟩
  | .hbm, ⟨7, _⟩ => ⟨S8192x128, .f32⟩
  | .hbm, ⟨8, _⟩ => ⟨S8192x256, .f32⟩
  | .hbm, ⟨9, _⟩ => ⟨S1x1024, .f32⟩
  | .hbm, ⟨10, _⟩ => ⟨S8192x1024, .f32⟩
  | .hbm, ⟨11, _⟩ => ⟨S8x1024x192, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1536, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x256, .f32⟩
  | .local _ .vmem, ⟨15, _⟩ => ⟨S512x256, .f32⟩
  | .local _ .vmem, ⟨16, _⟩ => ⟨S512x1024, .f32⟩
  | .local _ .vmem, ⟨17, _⟩ => ⟨S512x1024, .f32⟩
  | .local _ .vmem, ⟨18, _⟩ => ⟨S8x1024x192, .bf16⟩
  | .local _ .vmem, ⟨19, _⟩ => ⟨S1x1024, .f32⟩
  | .local _ .vmem, ⟨20, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v59 : BitVec 1 := Scalar.cmpi .eq arg0 c15_i32
  let v60 : BitVec 32 := Scalar.extui v59
  let c0_i32_35 : BitVec 32 := 0#32
  let v61 : BitVec 1 := Scalar.cmpi .ne v60 c0_i32_35
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InBwdRefIdeal.lean ====
abbrev S8192x1024 : Shape := ⟨2, ![8192, 1024]⟩
abbrev S1024 : Shape := ⟨1, ![1024]⟩
abbrev S1024x1536 : Shape := ⟨2, ![1024, 1536]⟩
abbrev S8192x512 : Shape := ⟨2, ![8192, 512]⟩
abbrev S8192x128 : Shape := ⟨2, ![8192, 128]⟩
abbrev S8192x256 : Shape := ⟨2, ![8192, 256]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1536x1024 : Shape := ⟨2, ![1536, 1024]⟩
abbrev S1024x8x192 : Shape := ⟨3, ![1024, 8, 192]⟩
abbrev S8x1024x192 : Shape := ⟨3, ![8, 1024, 192]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1536, .bf16⟩
  | .hbm, ⟨4, _⟩ => ⟨S8192x512, .f32⟩
  | .hbm, ⟨5, _⟩ => ⟨S8192x512, .f32⟩
  | .hbm, ⟨6, _⟩ => ⟨S8192x128, .f32⟩
  | .hbm, ⟨7, _⟩ => ⟨S8192x128, .f32⟩
  | .hbm, ⟨8, _⟩ => ⟨S8192x256, .f32⟩
  | .hbm, ⟨9, _⟩ => ⟨S8192x1536, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1024x1536, .f32⟩
  | .hbm, ⟨31, _⟩ => ⟨S8192x1536, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1024x1536, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1536, .f32⟩
  | .hbm, ⟨76, _⟩ => ⟨S1536x1024, .f32⟩
  | .hbm, ⟨77, _⟩ => ⟨S1024x1536, .f32⟩
  | .hbm, ⟨78, _⟩ => ⟨S8192x1024, .f32⟩
  | .hbm, ⟨79, _⟩ => ⟨S1024x8x192, .f32⟩
  | .hbm, ⟨80, _⟩ => ⟨S8x1024x192, .f32⟩
  | .hbm, ⟨81, _⟩ => ⟨S8x1024x192, .bf16⟩
  | .hbm, ⟨82, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== MergeFwd.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1024, .f32⟩
  | .hbm, ⟨5, _⟩ => ⟨S1024x1024, .bf16⟩
  | .hbm, ⟨6, _⟩ => ⟨S256, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x256, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S256, .f32⟩
  | .hbm, ⟨41, _⟩ => ⟨S8192x256, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x256, .f32⟩
  | .hbm, ⟨53, _⟩ => ⟨S8192x256, .f32⟩
  | .hbm, ⟨54, _⟩ => ⟨S1x256, .f32⟩
  | .hbm, ⟨55, _⟩ => ⟨S8192x256, .f32⟩
  | .hbm, ⟨56, _⟩ => ⟨S8192x256, .f32⟩
  | .hbm, ⟨57, _⟩ => ⟨S8192x1024, .f32⟩
  | .hbm, ⟨58, _⟩ => ⟨S1024x1024, .f32⟩
  | .hbm, ⟨59, _⟩ => ⟨S8192x1024, .f32⟩
  | .hbm, ⟨60, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== MergeBwd.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S256 : Shape := ⟨1, ![256]⟩
abbrev S1x512 : Shape := ⟨2, ![1, 512]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S8192x256, .f32⟩
  | .hbm, ⟨8, _⟩ => ⟨S8192x512, .f32⟩
  | .hbm, ⟨9, _⟩ => ⟨S8192x256, .f32⟩
  | .hbm, ⟨10, _⟩ => ⟨S1024x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x1024, .bf16⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v123 : BitVec 1 := Scalar.cmpi .eq arg0 c15_i32
  let v124 : BitVec 32 := Scalar.extui v123
  let c0_i32_47 : BitVec 32 := 0#32
  let v125 : BitVec 1 := Scalar.cmpi .ne v124 c0_i32_47
  v125

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeBwdRefIdeal.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1024x1024 : Shape := ⟨2, ![1024, 1024]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S1x1024 : Shape := ⟨2, ![1, 1024]⟩

abbrev nBuf : Space → Nat
  | .hbm => 217
  | .vmem => 0
  | .smem => 0
  | _ => 0

abbrev hbmTy0_0 (i : Nat) : BufTy := match i % 128 with
  | 0 => ⟨S8192x1024, .f32⟩
  | 1 => ⟨S8192x256, .f32⟩
  | 2 => ⟨S8192x512, .f32⟩
  | 3 => ⟨S8192x256, .f32⟩
  | 4 => ⟨S1024, .f32⟩
  | 5 => ⟨S1024x1024, .bf16⟩
  | 6 => ⟨S256, .f32⟩
  | 7 => ⟨S8192x256, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x256, .f32⟩
  | 23 => ⟨S8192x256, .f32⟩
  | 24 => ⟨S1x256, .f32⟩
  | 25 => ⟨S8192x256, .f32⟩
  | 26 => ⟨S8192x256, .f32⟩
  | 27 => ⟨S512, .f32⟩
  | 28 => ⟨S8192x512, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x512, .f32⟩
  | 44 => ⟨S8192x512, .f32⟩
  | 45 => ⟨S1x512, .f32⟩
  | 46 => ⟨S8192x512, .f32⟩
  | 47 => ⟨S8192x512, .f32⟩
  | 48 => ⟨S256, .f32⟩
  | 49 => ⟨S8192x256, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S8192x1024, .f32⟩
  | 70 => ⟨S1024x1024, .f32⟩
  | 71 => ⟨S8192x1024, .f32⟩
  | 72 => ⟨S8192x1024, .f32⟩
  | 73 => ⟨S8192x256, .f32⟩
  | 74 => ⟨S8192x512, .f32⟩
  | 75 => ⟨S8192x256, .f32⟩
  | 76 => ⟨S8192x256, .f32⟩
  | 77 => ⟨S_, .f32⟩
  | 78 => ⟨S256, .f32⟩
  | 79 => ⟨S1x256, .f32⟩
  | 80 => ⟨S8192x256, .f32⟩
  | 81 => ⟨S8192x256, .f32⟩
  | 82 => ⟨S_, .f32⟩
  | 83 => ⟨S256, .f32⟩
  | 84 => ⟨S8192x256, .f32⟩
  | 85 => ⟨S_, .f32⟩
  | 86 => ⟨S8192, .f32⟩
  | 87 => ⟨S8192x1, .f32⟩
  | 88 => ⟨S8192x256, .f32⟩
  | 89 => ⟨S8192x256, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S1024, .f32⟩
  | 103 => ⟨S8192x512, .f32⟩
  | 104 => ⟨S_, .f32⟩
  | 105 => ⟨S512, .f32⟩
  | 106 => ⟨S1x512, .f32⟩
  | 107 => ⟨S8192x512, .f32⟩
  | 108 => ⟨S8192x512, .f32⟩
  | 109 => ⟨S_, .f32⟩
  | 110 => ⟨S512, .f32⟩
  | 111 => ⟨S8192x512, .f32⟩
  | 112 => ⟨S_, .f32⟩
  | 113 => ⟨S8192, .f32⟩
  | 114 => ⟨S8192x1, .f32⟩
  | 115 => ⟨S8192x512, .f32⟩
  | 116 => ⟨S8192x512, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S_, .f32⟩
  | 1 => ⟨S1024, .f32⟩
  | 2 => ⟨S1024, .f32⟩
  | 3 => ⟨S8192x256, .f32⟩
  | 4 => ⟨S_, .f32⟩
  | 5 => ⟨S256, .f32⟩
  | 6 => ⟨S1x256, .f32⟩
  | 7 => ⟨S8192x256, .f32⟩
  | 8 => ⟨S8192x256, .f32⟩
  | 9 => ⟨S_, .f32⟩
  | 10 => ⟨S256, .f32⟩
  | 11 => ⟨S8192x256, .f32⟩
  | 12 => ⟨S_, .f32⟩
  | 13 => ⟨S8192, .f32⟩
  | 14 => ⟨S8192x1, .f32⟩
  | 15 => ⟨S8192x256, .f32⟩
  | 16 => ⟨S8192x256, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S_, .f32⟩
  | 29 => ⟨S1024, .f32⟩
  | 30 => ⟨S1024, .f32⟩
  | 31 => ⟨S1024x1024, .f32⟩
  | 32 => ⟨S256, .f32⟩
  | 33 => ⟨S8192x256, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1, .f32⟩
  | 44 => ⟨S8192x256, .f32⟩
  | 45 => ⟨S8192x256, .f32⟩
  | 46 => ⟨S1x256, .f32⟩
  | 47 => ⟨S8192x256, .f32⟩
  | 48 => ⟨S8192x256, .f32⟩
  | 49 => ⟨S512, .f32⟩
  | 50 => ⟨S8192x512, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x512, .f32⟩
  | 62 => ⟨S8192x512, .f32⟩
  | 63 => ⟨S1x512, .f32⟩
  | 64 => ⟨S8192x512, .f32⟩
  | 65 => ⟨S8192x512, .f32⟩
  | 66 => ⟨S256, .f32⟩
  | 67 => ⟨S8192x256, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1, .f32⟩
  | 78 => ⟨S8192x256, .f32⟩
  | 79 => ⟨S8192x256, .f32⟩
  | 80 => ⟨S1x256, .f32⟩
  | 81 => ⟨S8192x256, .f32⟩
  | 82 => ⟨S8192x256, .f32⟩
  | 83 => ⟨S8192x1024, .f32⟩
  | 84 => ⟨S8192x1024, .f32⟩
  | 85 => ⟨S1024x1024, .f32⟩
  | 86 => ⟨S1024x1024, .f32⟩
  | 87 => ⟨S1024x1024, .bf16⟩
  | 88 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_18 : Ref sig .tc := ⟨.hbm, 109, rfl⟩
abbrev main_v84 : Ref sig .tc := ⟨.hbm, 110, rfl⟩
abbrev main_v85 : Ref sig .tc := ⟨.hbm, 111, rfl⟩
abbrev main_cst_19 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_cst_21 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_22 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_23 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_24 : Ref sig .tc := ⟨.hbm, 137, rfl⟩
abbrev main_v106 : Ref sig .tc := ⟨.hbm, 138, rfl⟩
abbrev main_v107 : Ref sig .tc := ⟨.hbm, 139, rfl⟩
abbrev main_cst_25 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_26 : Ref sig .tc := ⟨.hbm, 146, rfl⟩
abbrev main_v113 : Ref sig .tc := ⟨.hbm, 147, rfl⟩
abbrev main_v114 : Ref sig .tc := ⟨.hbm, 148, rfl⟩
abbrev main_cst_27 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_28 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_29 : Ref sig .tc := ⟨.hbm, 162, rfl⟩
abbrev main_v126 : Ref sig .tc := ⟨.hbm, 163, rfl⟩
abbrev main_v127 : Ref sig .tc := ⟨.hbm, 164, rfl⟩
abbrev main_cst_30 : Ref sig .tc := ⟨.hbm, 165, rfl⟩
abbrev main_v128 : Ref sig .tc := ⟨.hbm, 166, rfl⟩
abbrev main_v129 : Ref sig .tc := ⟨.hbm, 167, rfl⟩
abbrev main_cst_31 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_32 : Ref sig .tc := ⟨.hbm, 179, rfl⟩
abbrev main_v140 : Ref sig .tc := ⟨.hbm, 180, rfl⟩
abbrev main_v141 : Ref sig .tc := ⟨.hbm, 181, rfl⟩
abbrev main_cst_33 : Ref sig .tc := ⟨.hbm, 182, rfl⟩
abbrev main_v142 : Ref sig .tc := ⟨.hbm, 183, rfl⟩
abbrev main_v143 : Ref sig .tc := ⟨.hbm, 184, rfl⟩
abbrev main_cst_34 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_35 : Ref sig .tc := ⟨.hbm, 196, rfl⟩
abbrev main_v154 : Ref sig .tc := ⟨.hbm, 197, rfl⟩
abbrev main_v155 : Ref sig .tc := ⟨.hbm, 198, rfl⟩
abbrev main_cst_36 : Ref sig .tc := ⟨.hbm, 199, rfl⟩
abbrev main_v156 : Ref sig .tc := ⟨.hbm, 200, rfl⟩
abbrev main_v157 : Ref sig .tc := ⟨.hbm, 201, rfl⟩
abbrev main_cst_37 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩

abbrev nD : Nat := 1
abbrev τ : Topo := Topo.v7x

variable {F : FTy → Type} [FloatOps F]
-- ==== Proof.MlpRunA.lean ====
/- The MLP's backward kernel at the first grid point: the nine copies of the weights into scratch, each lent only its own window, and the point's work. -/
module

public import proofs.«01_k».proof.Proof.Gen.MlpBwdIdeal.Frame.Runs

@[expose] public section

set_option maxRecDepth 16384

noncomputable section

namespace Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
set_option sl_exec.dmaWindow true in
set_option sl_exec.dmaWindowSet true in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) :
    Σ' (L4 : List (View.Piece (Elt F) S512x1024 .f32)), Σ' (L5 : List (View.Piece (Elt F) S512x1024 .bf16)), Σ' (L6 : List (View.Piece (Elt F) S512x4096 .bf16)), Σ' (L7 : List (View.Piece (Elt F) S1x1024 .f32)), Σ' (LS0 : List (View.Piece (Elt F) S1024x4096 .bf16)), { LS1 : List (View.Piece (Elt F) S4096x1024 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_bwd i arg1 harg1 arg2 harg2 arg3 harg3 arg4 harg4 (Memref.whole main_arg3) (Memref.isWhole_whole _) (Memref.whole main_arg4) (Memref.isWhole_whole _) arg7 harg7 arg8 harg8 arg9 harg9 arg10 harg10 arg11 harg11 arg12 harg12 cc0_scratch2) K } := by
  refine ⟨?_, ?_, ?_, ?_, ?_, ?_, fun W K => ?run⟩
  case run =>
    simp only [cc0_mlp_bwd_eq_skeleton]; unfold cc0_mlp_bwd_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.MlpBwdIdeal.Gen

end
-- ==== Proof.MlpRunB.lean ====
/- The MLP's backward kernel at a later grid point: the weights are in scratch already. -/
module

public import proofs.«01_k».proof.Proof.MlpRunA

@[expose] public section

set_option maxRecDepth 16384

noncomputable section

namespace Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 15: 15 of 16), WITH the
    proof that on whole staging memrefs — the inputs' at their contents, the outputs it reads before covering (7) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) :
    Σ' (L4 : List (View.Piece (Elt F) S512x1024 .f32)), Σ' (L5 : List (View.Piece (Elt F) S512x1024 .bf16)), Σ' (L6 : List (View.Piece (Elt F) S512x4096 .bf16)), Σ' (L7 : List (View.Piece (Elt F) S1x1024 .f32)), Σ' (LS0 : List (View.Piece (Elt F) S1024x4096 .bf16)), { LS1 : List (View.Piece (Elt F) S4096x1024 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo7 ∗ owns (c : Thread nD τ) arg11 fullShare xs0 ∗ owns (c : Thread nD τ) arg12 fullShare xs1 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_bwd i arg1 harg1 arg2 harg2 arg3 harg3 arg4 harg4 (Memref.whole main_arg3) (Memref.isWhole_whole _) (Memref.whole main_arg4) (Memref.isWhole_whole _) arg7 harg7 arg8 harg8 arg9 harg9 arg10 harg10 arg11 harg11 arg12 harg12 cc0_scratch2) K } := by
  refine ⟨?_, ?_, ?_, ?_, [], [], fun W K => ?run⟩
  case run =>
    simp only [cc0_mlp_bwd_eq_skeleton]; unfold cc0_mlp_bwd_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%fs0, %hfs0, HS0⟩, ⟨%fs1, %hfs1, HS1⟩, Hq0, Hq1, Hq2, Hq3, Hq4, Hq5, Hq6, Hq7, Hq8, Hh0, Hh1, HW, Hk⟩
    obtain rfl := harg1.eq_unread hf0; obtain rfl := harg2.eq_unread hf1; obtain rfl := harg3.eq_unread hf2; obtain rfl := harg4.eq_unread hf3; obtain rfl := harg10.eq_unread hf7; obtain rfl := harg11.eq_unread hfs0; obtain rfl := harg12.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.MlpBwdIdeal.Gen

end
-- ==== Proof.MlpFrame.lean ====
/- The MLP's backward kernel over its whole grid: what each point leaves, and the run of the program. -/
module

public import proofs.«01_k».proof.Proof.MlpRunB
public import Idealize.ShloMosaic.Lib.Claim

@[expose] public section

set_option maxRecDepth 16384

noncomputable section

namespace Cert.MlpBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 4 tile its block (1 store of `S512x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) (y : S512x1024.Idx) :
    ∃ pc ∈ (kernelRun0_A c i arg1 harg1 arg2 harg2 arg3 harg3 arg4 harg4 arg7 harg7 arg8 harg8 arg9 harg9 arg10 harg10 arg11 harg11 arg12 harg12 hc0 hc1 x0 x1 x2 x3 fh0 fh1).1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 x0 x1 x2 x3 fh0 fh1).1 S512x1024.size (by sl_kernel_rfl) y

/-- What case A leaves in output 4's staging buffer: its pieces read back over junk. -/
def out0_A_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) : Vec F S512x1024 .f32 :=
  VO0_4.read (Elt F) (VO0_4.writes (Elt F) VO0_4.junk (kernelRun0_A c i arg1 harg1 arg2 harg2 arg3 harg3 arg4 harg4 arg7 harg7 arg8 harg8 arg9 harg9 arg10 harg10 arg11 harg11 arg12 harg12 hc0 hc1 x0 x1 x2 x3 fh0 fh1).1)

/-- Case A's pieces for output 5 tile its block (1 store of `S512x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) (y : S512x1024.Idx) :
    ∃ pc ∈ (kernelRun0_A c i arg1 harg1 arg2 harg2 arg3 harg3 arg4 harg4 arg7 harg7 arg8 harg8 arg9 harg9 arg10 harg10 arg11 harg11 arg12 harg12 hc0 hc1 x0 x1 x2 x3 fh0 fh1).2.1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 x0 x1 x2 x3 fh0 fh1).2.1 S512x1024.size (by sl_kernel_rfl) y

/-- What case A leaves in output 5's staging buffer: its pieces read back over junk. -/
def out0_A_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) : Vec F S512x1024 .bf16 :=
  VO0_5.read (Elt F) (VO0_5.writes (Elt F) VO0_5.junk (kernelRun0_A c i arg1 harg1 arg2 harg2 arg3 harg3 arg4 harg4 arg7 harg7 arg8 harg8 arg9 harg9 arg10 harg10 arg11 harg11 arg12 harg12 hc0 hc1 x0 x1 x2 x3 fh0 fh1).2.1)

/-- Case A's pieces for output 6 tile its block (4 stores of `S512x1024`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) (y : S512x4096.Idx) :
    ∃ pc ∈ (kernelRun0_A c i arg1 harg1 arg2 harg2 arg3 harg3 arg4 harg4 arg7 harg7 arg8 harg8 arg9 harg9 arg10 harg10 arg11 harg11 arg12 harg12 hc0 hc1 x0 x1 x2 x3 fh0 fh1).2.2.1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 x0 x1 x2 x3 fh0 fh1).2.2.1 S512x1024.size (by sl_kernel_rfl) y

/-- What case A leaves in output 6's staging buffer: its pieces read back over junk. -/
def out0_A_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) : Vec F S512x4096 .bf16 :=
  VO0_6.read (Elt F) (VO0_6.writes (Elt F) VO0_6.junk (kernelRun0_A c i arg1 harg1 arg2 harg2 arg3 harg3 arg4 harg4 arg7 harg7 arg8 harg8 arg9 harg9 arg10 harg10 arg11 harg11 arg12 harg12 hc0 hc1 x0 x1 x2 x3 fh0 fh1).2.2.1)

/-- Case A's pieces for output 7 tile its block (2 stores of `S1x1024`, checked by the kernel's evaluation: Lib/Ring.lean `Piece.tiledL`, linear in the pieces, through a loop's `@[irreducible]` trip theorem too), so they cover it. -/
theorem cover0_A_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) (y : S1x1024.Idx) :
    ∃ pc ∈ (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.1 S1x1024.size (by sl_kernel_rfl) y

/-- What case A leaves in output 7's staging buffer: its pieces read back over junk. -/
def out0_A_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) : Vec F S1x1024 .f32 :=
  VO0_7.read (Elt F) (VO0_7.writes (Elt F) VO0_7.junk (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.1)

/-- Case A's pieces for scratch `arg11`, which the kernel carries between points, cover it: 8 pieces of `S1024x512` tiling it (Lib/Ring.lean `Piece.tiledL`). -/
theorem scover0_A_0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) (y : S1024x4096.Idx) :
    ∃ pc ∈ (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.2.1 S1024x512.size (by sl_kernel_rfl) y

/-- What case A leaves in scratch `arg11`: its pieces read back over junk. -/
def sout0_A_0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) : Vec F S1024x4096 .bf16 :=
  VS0_0.read (Elt F) (VS0_0.writes (Elt F) VS0_0.junk (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.2.1)

/-- Case A's pieces for scratch `arg12`, which the kernel carries between points, cover it: 1 piece of `S4096x1024` tiling it (Lib/Ring.lean `Piece.tiledL`). -/
theorem scover0_A_1 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) (y : S4096x1024.Idx) :
    ∃ pc ∈ (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.2.2.1 S4096x1024.size (by sl_kernel_rfl) y

/-- What case A leaves in scratch `arg12`: its pieces read back over junk. -/
def sout0_A_1 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : cond0_0 i) (hc1 : cond0_1 i)
    (x0 : Vec F S512x1024 .f32) (x1 : Vec F S512x1024 .f32) (x2 : Vec F S1x1024 .f32) (x3 : Vec F S512x4096 .bf16) (fh0 : HbBuf0 (F := F) c hbM0_0) (fh1 : HbBuf0 (F := F) c hbM0_1) : Vec F S4096x1024 .bf16 :=
  VS0_1.read (Elt F) (VS0_1.writes (Elt F) VS0_1.junk (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.2.2.1)

/-- Case B's pieces for output 4 tile its block (1 store of `S512x1024`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) (y : S512x1024.Idx) :
    ∃ pc ∈ (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).1, y ∈ pc.1.set :=
  View.cover_of_tiledL (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).1 S512x1024.size (by sl_kernel_rfl) y

/-- What case B leaves in output 4's staging buffer: its pieces read back over junk. -/
def out0_B_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) : Vec F S512x1024 .f32 :=
  VO0_4.read (Elt F) (VO0_4.writes (Elt F) VO0_4.junk (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).1)

/-- Case B's pieces for output 5 tile its block (1 store of `S512x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) (y : S512x1024.Idx) :
    ∃ pc ∈ (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.1, y ∈ pc.1.set :=
  View.cover_of_tiledL (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.1 S512x1024.size (by sl_kernel_rfl) y

/-- What case B leaves in output 5's staging buffer: its pieces read back over junk. -/
def out0_B_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) : Vec F S512x1024 .bf16 :=
  VO0_5.read (Elt F) (VO0_5.writes (Elt F) VO0_5.junk (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.1)

/-- Case B's pieces for output 6 tile its block (4 stores of `S512x1024`, checked by the kernel's evaluation: Lib/Ring.lean `Piece.tiledL`, linear in the pieces, through a loop's `@[irreducible]` trip theorem too), so they cover it. -/
theorem cover0_B_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) (y : S512x4096.Idx) :
    ∃ pc ∈ (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.2.1, y ∈ pc.1.set :=
  View.cover_of_tiledL (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.2.1 S512x1024.size (by sl_kernel_rfl) y

/-- What case B leaves in output 6's staging buffer: its pieces read back over junk. -/
def out0_B_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) : Vec F S512x4096 .bf16 :=
  VO0_6.read (Elt F) (VO0_6.writes (Elt F) VO0_6.junk (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.2.1)

/-- Case B's pieces for output 7 tile its block (1 store of `S1x1024`, checked by the kernel's evaluation: Lib/Ring.lean `Piece.tiledL`, linear in the pieces, through a loop's `@[irreducible]` trip theorem too), so they cover it. -/
theorem cover0_B_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) (y : S1x1024.Idx) :
    ∃ pc ∈ (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.2.2.1, y ∈ pc.1.set :=
  View.cover_of_tiledL (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.2.2.1 S1x1024.size (by sl_kernel_rfl) y

/-- What case B leaves in output 7's staging buffer: its pieces read back over junk. -/
def out0_B_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) : Vec F S1x1024 .f32 :=
  VO0_7.read (Elt F) (VO0_7.writes (Elt F) VO0_7.junk (kernelRun0_B c i arg1 harg1 arg2 harg2 arg3 harg3 arg4 harg4 arg7 harg7 arg8 harg8 arg9 harg9 arg10 harg10 arg11 harg11 arg12 harg12 hc0 hc1 x0 x1 x2 x3 xo7 xs0 xs1 fh0 fh1).2.2.2.1)

/-- Case B stores nothing into scratch `arg11`: it holds what the point before left. -/
def sout0_B_0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) : Vec F S1024x4096 .bf16 := xs0

/-- Case B stores nothing into scratch `arg12`: it holds what the point before left. -/
def sout0_B_1 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x4096 .bf16) (harg4 : arg4.IsWhole) (arg7 : Memref sig .tc .vmem S512x1024 .f32) (harg7 : arg7.IsWhole) (arg8 : Memref sig .tc .vmem S512x1024 .bf16) (harg8 : arg8.IsWhole) (arg9 : Memref sig .tc .vmem S512x4096 .bf16) (harg9 : arg9.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (hc0 : ¬cond0_0 i) (hc1 : ¬cond0_1 i)
    (x0 : Vec F S512x1024 .f32) (x1 : Vec F S512x1024 .f32) (x2 : Vec F S1x1024 .f32) (x3 : Vec F S512x4096 .bf16) (xo7 : Vec F S1x1024 .f32) (xs0 : Vec F S1024x4096 .bf16) (xs1 : Vec F S4096x1024 .bf16) (fh0 : HbBuf0 (F := F) c hbM0_0) (fh1 : HbBuf0 (F := F) c hbM0_1) : Vec F S4096x1024 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x1024 .bf16 × Vec F S512x4096 .bf16 × Vec F S1x1024 .f32 × Vec F S1024x4096 .bf16 × Vec F S4096x1024 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_arg3) (V m c main_arg4), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_arg3) (V m c main_arg4), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_arg3) (V m c main_arg4), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_arg3) (V m c main_arg4), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_arg3) (V m c main_arg4), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_arg3) (V m c main_arg4))
  | n + 1, hn =>
    if h0 : (n + 1) % 16 = 0 then
      if h1 : (n + 1) % 16 = 0 then
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_arg3) (V m c main_arg4), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_arg3) (V m c main_arg4), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_arg3) (V m c main_arg4), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_arg3) (V m c main_arg4), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_arg3) (V m c main_arg4), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_arg3) (V m c main_arg4))
      else
        False.elim (by have hN : n + 1 < 16 := lt_of_lt_of_eq hn (show cfg0.N = 16 from N_0); omega)
    else
      if h1 : (n + 1) % 16 = 0 then
        False.elim (by have hN : n + 1 < 16 := lt_of_lt_of_eq hn (show cfg0.N = 16 from N_0); omega)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_arg3) (V m c main_arg4), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_arg3) (V m c main_arg4), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_arg3) (V m c main_arg4), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_arg3) (V m c main_arg4), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_arg3) (V m c main_arg4), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (V m c main_arg3) (V m c main_arg4))

/-- `outsAt0` at a point of case A: that case's contents. -/
theorem outsAt0_A (c : Dev nD) (t : Fin cfg0.N) (h0 : t.val % 16 = 0) (h1 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 16 = 0) (h1 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4)) := by
  obtain ⟨n, hn⟩ := t
  cases n with
  | zero => exact (by exfalso; (try dsimp only at h0); exact absurd (Nat.zero_mod _) h0)
  | succ n => exact (dif_neg h0).trans ((dif_neg h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_arg3) ∗ hbPt0 c hbM0_1 (V m c main_arg4)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_arg3) ∗ hbPt0 c hbM0_1 (V m c main_arg4))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r) ∗ iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_arg3) ∗ hbPt0 c hbM0_1 (V m c main_arg4))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 16 = 0) (h1 : ¬t.val % 16 = 0) (d) :
    (dats m 0 c).before 7 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 0
    · by_cases hz : t.val = 0
      · rw [PhiS_castSucc m c t, PhiS_zero m c _ _ hz, PhiD0_eq]
        rw [outsAt0_A m c t h0 h1]
        unfold out0_A_4 out0_A_5 out0_A_6 out0_A_7 sout0_A_0 sout0_A_1; (try dsimp only)
        iintro ⟨⟨⟨HS0, HS1⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) ((hcond0_1 t).mpr h1) (iblk m c 0 t) (iblk m c 1 t) (iblk m c 2 t) (iblk m c 3 t) (V m c main_arg3) (V m c main_arg4)).2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, ⟨%es0, HS0⟩, ⟨%es1, HS1⟩, Hq0, Hq1, Hq2, Hq3, Hq4, Hq5, Hq6, Hq7, Hq8, Hh0, Hh1, ⟨%W', HW'⟩⟩
        isplitl [HS0 HS1 Hg Hq0 Hq1 Hq2 Hq3 Hq4 Hq5 Hq6 Hq7 Hq8 Hh0 Hh1]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      · exfalso; have hN : t.val < 16 := lt_of_lt_of_eq t.isLt (show cfg0.N = 16 from N_0); omega
    · exfalso; omega
  · by_cases h1 : t.val % 16 = 0
    · exfalso; omega
    · by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_7_B m c t h0 h1]
        unfold out0_B_4 out0_B_5 out0_B_6 out0_B_7 sout0_B_0 sout0_B_1; (try dsimp only)
        iintro ⟨⟨⟨HS0, HS1⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ (V m c main_arg3) (V m c main_arg4)).2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexact H7
        isplitl [HS0]; · iexact HS0
        isplitl [HS1]; · iexact HS1
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, HS0, HS1, Hq0, Hq1, Hq2, Hq3, Hq4, Hq5, Hq6, Hq7, Hq8, Hh0, Hh1, ⟨%W', HW'⟩⟩
        isplitl [HS0 HS1 Hg Hq0 Hq1 Hq2 Hq3 Hq4 Hq5 Hq6 Hq7 Hq8 Hh0 Hh1]
        · isplitl [HS0 HS1]
          · isplitl [HS0]; · iexact HS0
            iexact HS1
          isplitl [Hg]
          · iexact Hg
          isplitl [Hq0 Hq1 Hq2 Hq3 Hq4 Hq5 Hq6 Hq7 Hq8]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            iexact Hq8
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8⟩, ⟨Hh0, Hh1⟩⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_MlpBwdIdeal`'s statement (Defs.lean) at any `F` — Proof.lean cites it at `Bits`:
    `theorem Cert.Proof.claim : Cert.Claim := ⟨Cert.MlpBwdIdeal.Gen.facts, fun m ρ _ => Cert.MlpBwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.MlpBwdIdeal.Gen

end
-- ==== Proof.MlpValue.lean ====
/- What the MLP's backward kernel leaves in each result array, block by block. -/
module

public import proofs.«01_k».proof.Proof.MlpFrame
public import Idealize.ShloMosaic.Lib.Pipeline.Value

@[expose] public section

noncomputable section

namespace Cert.MlpBwdIdeal.Value

open Cert.MlpBwdIdeal Cert.MlpBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 16 = 0) (h1 : t.val % 16 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4)) := by
  simp only [flushed4, outsAt0_A m c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 16 = 0) (h1 : ¬t.val % 16 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4)) := by
  simp only [flushed4, outsAt0_B m c t h0 h1]

/-- The index map sends distinct grid points to distinct block indices (decided over the 16 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S8192x1024.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 16 = 0) (h1 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 16 = 0) (h1 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4)) := by
  simp only [flushed5, outsAt0_B m c t h0 h1]

/-- The index map sends distinct grid points to distinct block indices (decided over the 16 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S8192x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t.val t.isLt).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) (h1 : t.val % 16 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) (h1 : ¬t.val % 16 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4)) := by
  simp only [flushed6, outsAt0_B m c t h0 h1]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x4096.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 3), read through the window's block. -/
theorem flushed7 (c : Dev nD) (t : Fin cfg0.N) :
    (dats m 0 c).flushed 7 t = (cfg0.win 7).cut (grid0.coords t) ((outsAt0 m c t.val t.isLt).2.2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) (h1 : t.val % 16 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) ((hcond0_1 t).mpr h1) (iblk m c 0 t) (iblk m c 1 t) (iblk m c 2 t) (iblk m c 3 t) (V m c main_arg3) (V m c main_arg4)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) (h1 : ¬t.val % 16 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4)) := by
  simp only [flushed7, outsAt0_B m c t h0 h1]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S1x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v21_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v21_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v21_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v21_3) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v21_0) = (dats m 0 c).arrAt 4 cfg0.N
      ∧ r.2.mem ((c : Thread nD τ).loc main_v21_1) = (dats m 0 c).arrAt 5 cfg0.N
      ∧ r.2.mem ((c : Thread nD τ).loc main_v21_2) = (dats m 0 c).arrAt 6 cfg0.N
      ∧ r.2.mem ((c : Thread nD τ).loc main_v21_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m r h c,
      post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1024x4096 .bf16) : Vec F S1024x4096 .bf16 :=
  if h0 : n % 16 = 0 then
    if h1 : n % 16 = 0 then
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (V m c main_arg3) (V m c main_arg4)
    else
      acc
  else
    if h1 : n % 16 = 0 then
      acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2 (V m c main_arg3) (V m c main_arg4)

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.1 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.2.2.1) 16 (fun n h => scAt0_0 m c n h (VS0_0.read (Elt F) VS0_0.junk)) (scAt0_0 m c)
    (fun n h hn => by
      have hN := lt_of_lt_of_eq h (show cfg0.N = 16 from N_0)
      by_cases h0 : n % 16 = 0 <;> by_cases h1 : n % 16 = 0
      all_goals first | (exfalso; omega) | (rw [outsAt0_A m c ⟨n, h⟩ h0 h1]; dsimp only; unfold scAt0_0; rw [dif_pos h0, dif_pos h1] <;> try rfl) | (rw [outsAt0_B m c ⟨n, h⟩ h0 h1]; dsimp only; unfold scAt0_0; rw [dif_neg h0, dif_neg h1] <;> try rfl))
    (fun n h hn => by
      have hN := lt_of_lt_of_eq h (show cfg0.N = 16 from N_0)
      by_cases h0 : (n + 1) % 16 = 0 <;> by_cases h1 : (n + 1) % 16 = 0
      all_goals first | (exfalso; omega) | (rw [outsAt0_A m c ⟨n + 1, h⟩ h0 h1]; dsimp only; unfold scAt0_0; rw [dif_pos h0, dif_pos h1] <;> try rfl) | (rw [outsAt0_B m c ⟨n + 1, h⟩ h0 h1]; dsimp only; unfold scAt0_0; rw [dif_neg h0, dif_neg h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S4096x1024 .bf16) : Vec F S4096x1024 .bf16 :=
  if h0 : n % 16 = 0 then
    if h1 : n % 16 = 0 then
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (V m c main_arg3) (V m c main_arg4)
    else
      acc
  else
    if h1 : n % 16 = 0 then
      acc
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (V m c main_arg3) (V m c main_arg4)

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.2 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.2.2.2.2) 16 (fun n h => scAt0_1 m c n h (VS0_1.read (Elt F) VS0_1.junk)) (scAt0_1 m c)
    (fun n h hn => by
      have hN := lt_of_lt_of_eq h (show cfg0.N = 16 from N_0)
      by_cases h0 : n % 16 = 0 <;> by_cases h1 : n % 16 = 0
      all_goals first | (exfalso; omega) | (rw [outsAt0_A m c ⟨n, h⟩ h0 h1]; dsimp only; unfold scAt0_1; rw [dif_pos h0, dif_pos h1] <;> try rfl) | (rw [outsAt0_B m c ⟨n, h⟩ h0 h1]; dsimp only; unfold scAt0_1; rw [dif_neg h0, dif_neg h1] <;> try rfl))
    (fun n h hn => by
      have hN := lt_of_lt_of_eq h (show cfg0.N = 16 from N_0)
      by_cases h0 : (n + 1) % 16 = 0 <;> by_cases h1 : (n + 1) % 16 = 0
      all_goals first | (exfalso; omega) | (rw [outsAt0_A m c ⟨n + 1, h⟩ h0 h1]; dsimp only; unfold scAt0_1; rw [dif_pos h0, dif_pos h1] <;> try rfl) | (rw [outsAt0_B m c ⟨n + 1, h⟩ h0 h1]; dsimp only; unfold scAt0_1; rw [dif_neg h0, dif_neg h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.MlpBwdIdeal.Value

end
-- ==== Proof.Real.lean ====
module

public import proofs.«01_k».proof.Proof.Gen.KernelIdeal.Skeleton
public import Idealize.ShloMosaic.Lib.Pointwise
public import Idealize.ShloMosaic.Lib.IdealHost

@[expose] public section

set_option maxRecDepth 16384

noncomputable section

/-! Vectors of extended reals that are real everywhere, written by a real function of natural coordinates, and what the
    vector operations do to them. -/

namespace Cert.RealForm

open Idealize.ShloMosaic Finset

/-- A vector of length `n` of reals. -/
def E1 (n : ℕ) (F : ℕ → ℝ) : (⟨1, ![n]⟩ : Shape).Idx → EReal := fun j => ((F (j 0).val : ℝ) : EReal)
/-- An `n` by `m` matrix of reals. -/
def E2 (n m : ℕ) (F : ℕ → ℕ → ℝ) : (⟨2, ![n, m]⟩ : Shape).Idx → EReal :=
  fun j => ((F (j 0).val (j 1).val : ℝ) : EReal)
/-- An `n` by `m` by `k` box of reals. -/
def E3 (n m k : ℕ) (F : ℕ → ℕ → ℕ → ℝ) : (⟨3, ![n, m, k]⟩ : Shape).Idx → EReal :=
  fun j => ((F (j 0).val (j 1).val (j 2).val : ℝ) : EReal)
/-- An `n` by `m` matrix of bits. -/
def M2 (n m : ℕ) (p : ℕ → ℕ → Bool) : (⟨2, ![n, m]⟩ : Shape).Idx → BitVec 1 :=
  fun j => BitVec.ofBool (p (j 0).val (j 1).val)

theorem E1_apply (n : ℕ) (F : ℕ → ℝ) (i : Fin n) : E1 n F (ix1 i) = ((F i.val : ℝ) : EReal) := rfl
theorem E2_apply (n m : ℕ) (F : ℕ → ℕ → ℝ) (i : Fin n) (j : Fin m) :
    E2 n m F (ix2 i j) = ((F i.val j.val : ℝ) : EReal) := rfl
theorem E3_apply (n m k : ℕ) (F : ℕ → ℕ → ℕ → ℝ) (i : Fin n) (j : Fin m) (l : Fin k) :
    E3 n m k F (ix3 i j l) = ((F i.val j.val l.val : ℝ) : EReal) := rfl
theorem M2_apply (n m : ℕ) (p : ℕ → ℕ → Bool) (i : Fin n) (j : Fin m) :
    M2 n m p (ix2 i j) = BitVec.ofBool (p i.val j.val) := rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over `Fin n` of reals, as one real. -/
theorem sum_fin (n : ℕ) (f : ℕ → ℝ) : (∑ i : Fin n, ((f i.val : ℝ) : EReal)) = ((∑ i ∈ range n, f i : ℝ) : EReal) := by
  rw [← Fin.sum_univ_eq_sum_range, coe_sum]

section Elementwise
variable (n m : ℕ) (F G : ℕ → ℕ → ℝ) {φ : FTy}

theorem mulf2 : mulf (F := Ideal) (φ := φ) (E2 n m F) (E2 n m G) = E2 n m fun r l => F r l * G r l := by
  funext j; exact (EReal.coe_mul _ _).symm
theorem addf2 : addf (F := Ideal) (φ := φ) (E2 n m F) (E2 n m G) = E2 n m fun r l => F r l + G r l := by
  funext j; exact (EReal.coe_add _ _).symm
theorem subf2 : subf (F := Ideal) (φ := φ) (E2 n m F) (E2 n m G) = E2 n m fun r l => F r l - G r l := by
  funext j; exact (EReal.coe_sub _ _).symm
theorem tanh2 : tanh (F := Ideal) (φ := φ) (E2 n m F) = E2 n m fun r l => Real.tanh (F r l) := by
  funext j; exact Ideal.tanh_coe _
theorem select2 (p : ℕ → ℕ → Bool) :
    select (M2 n m p) (E2 n m F) (E2 n m G) = E2 n m fun r l => if p r l then F r l else G r l := by
  funext j; unfold select M2 E2
  show (if BitVec.ofBool (p (j 0).val (j 1).val) = 1#1 then _ else _) = _
  show _ = (((if p (j 0).val (j 1).val then F (j 0).val (j 1).val else G (j 0).val (j 1).val : ℝ)) : EReal)
  cases hp : p (j 0).val (j 1).val <;> rfl
theorem splat2 (c : ℝ) : (broadcast ⟨2, ![n, m]⟩ ((c : ℝ) : EReal)) = E2 n m fun _ _ => c := rfl
theorem truncf2 (h) : (truncf (F := Ideal) .bf16 (φ := .f32) (E2 n m F) h) = E2 n m F := rfl
theorem rsqrt2 (hF : ∀ r l, 0 < F r l) :
    rsqrt (F := Ideal) (φ := φ) (E2 n m F) = E2 n m fun r l => (Real.sqrt (F r l))⁻¹ := by
  funext j
  show Ideal.rsqrt ((F (j 0).val (j 1).val : ℝ) : EReal) = _
  have h := hF (j 0).val (j 1).val
  rw [Ideal.rsqrt_coe, if_neg (not_lt.mpr h.le), if_neg h.ne']
  rfl
end Elementwise

section Layout
variable (n m a b : ℕ) (F : ℕ → ℕ → ℝ)

theorem slice2 (o₀ o₁ : ℕ) (h) : extractStridedSlice (⟨2, ![a, b]⟩ : Shape) ![o₀, o₁] (E2 n m F) h
    = E2 a b fun r l => F (o₀ + r) (o₁ + l) := rfl

end Layout

/-- A small number's word, read as a signed integer, is the number. -/
theorem toInt_nat (a : ℕ) (ha : a < 2 ^ 31) : (BitVec.ofNat 32 a).toInt = a := by
  have h : (BitVec.ofNat 32 a).toNat = a := by rw [BitVec.toNat_ofNat]; exact Nat.mod_eq_of_lt (by omega)
  rw [BitVec.toInt_eq_toNat_of_lt (by rw [h]; omega), h]
/-- The signed comparison of two small words is the comparison of the numbers. -/
theorem sge_nat (a b : ℕ) (ha : a < 2 ^ 31) (hb : b < 2 ^ 31) :
    IntOp.cmpi .sge (BitVec.ofNat 32 a) (BitVec.ofNat 32 b) = BitVec.ofBool (decide (b ≤ a)) := by
  simp [IntOp.cmpi, BitVec.sle_eq_decide, toInt_nat a ha, toInt_nat b hb]
theorem slt_nat (a b : ℕ) (ha : a < 2 ^ 31) (hb : b < 2 ^ 31) :
    IntOp.cmpi .slt (BitVec.ofNat 32 a) (BitVec.ofNat 32 b) = BitVec.ofBool (decide (a < b)) := by
  simp [IntOp.cmpi, BitVec.slt_eq_decide, toInt_nat a ha, toInt_nat b hb]

section Agree
theorem E2_congr {n m : ℕ} {F G : ℕ → ℕ → ℝ} (h : ∀ r < n, ∀ l < m, F r l = G r l) : E2 n m F = E2 n m G := by
  funext j; unfold E2; rw [h _ (j 0).isLt _ (j 1).isLt]
theorem E1_congr {n : ℕ} {F G : ℕ → ℝ} (h : ∀ r < n, F r = G r) : E1 n F = E1 n G := by
  funext j; unfold E1; rw [h _ (j 0).isLt]
theorem E3_congr {n m k : ℕ} {F G : ℕ → ℕ → ℕ → ℝ} (h : ∀ r < n, ∀ l < m, ∀ a < k, F r l a = G r l a) :
    E3 n m k F = E3 n m k G := by
  funext j; unfold E3; rw [h _ (j 0).isLt _ (j 1).isLt _ (j 2).isLt]
end Agree

/-! The words of the constants, as reals. -/
section Words
theorem w_zero : (Scalar.ofBits .f32 0x00000000#32 : Ideal .f32) = ((0 : ℝ) : EReal) := by
  show Ideal.ofBits .f32 _ = _; simp [Ideal.ofBits, Ideal.ieee]
theorem w_one : (Scalar.ofBits .f32 0x3F800000#32 : Ideal .f32) = ((1 : ℝ) : EReal) := by
  show Ideal.ofBits .f32 _ = _; simp [Ideal.ofBits, Ideal.ieee, -EReal.coe_mul]; norm_num
theorem w_half : (Scalar.ofBits .f32 0x3F000000#32 : Ideal .f32) = ((1 / 2 : ℝ) : EReal) := by
  show Ideal.ofBits .f32 _ = _; simp [Ideal.ofBits, Ideal.ieee, -EReal.coe_mul]; norm_num
theorem w_64th : (Scalar.ofBits .f32 0x3C800000#32 : Ideal .f32) = ((1 / 64 : ℝ) : EReal) := by
  show Ideal.ofBits .f32 _ = _; simp [Ideal.ofBits, Ideal.ieee, -EReal.coe_mul]; norm_num
/-- The layer norm's epsilon, the real number its word stands for. -/
def EPS : ℝ := 8796093 / 2 ^ 43
theorem EPS_pos : 0 < EPS := by unfold EPS; norm_num
theorem w_eps : (Scalar.ofBits .f32 0x358637BD#32 : Ideal .f32) = ((EPS : ℝ) : EReal) := by
  unfold EPS; show Ideal.ofBits .f32 _ = _; simp [Ideal.ofBits, Ideal.ieee, -EReal.coe_mul]; norm_num
/-- The factor inside the hyperbolic tangent, the real number its word stands for. -/
def GC : ℝ := 13386282 / 2 ^ 24
theorem w_gc : (Scalar.ofBits .f32 0x3F4C422A#32 : Ideal .f32) = ((GC : ℝ) : EReal) := by
  unfold GC; show Ideal.ofBits .f32 _ = _; simp [Ideal.ofBits, Ideal.ieee, -EReal.coe_mul]; norm_num
end Words

end Cert.RealForm
end
-- ==== Proof.Shapes.lean ====
module

public import proofs.«01_k».proof.Proof.Real

@[expose] public section

set_option maxRecDepth 16384

noncomputable section

/-! What the layout operations, reductions and products of the gating kernel do to real vectors, at its shapes. -/

namespace Cert.RealForm

open Idealize.ShloMosaic Finset Cert.KernelIdeal Cert.KernelIdeal.Gen

variable (F G : ℕ → ℕ → ℝ) (f : ℕ → ℝ) (H : ℕ → ℕ → ℕ → ℝ)

theorem bcRow (h) : broadcastTo (α := Ideal .f32) S512x128 (E2 1 128 F) h = E2 512 128 fun _ l => F 0 l := by
  funext j; idx_vars j; pointwise [E2_apply]
theorem bcCol (h) : broadcastTo (α := Ideal .f32) S512x128 (E2 512 1 F) h = E2 512 128 fun r _ => F r 0 := by
  funext j; idx_vars j; pointwise [E2_apply]
theorem bcColS (h) : broadcastTo (α := Ideal .f32) S128x128 (E2 128 1 F) h = E2 128 128 fun r _ => F r 0 := by
  funext j; idx_vars j; pointwise [E2_apply]
theorem sumLane (h h1 h2) : multiReduction (F := Ideal) (φ := .f32) .add [1] S512 (E2 512 128 F) 0x00000000#32 h h1 h2
    = E1 512 fun r => ∑ l ∈ range 128, F r l := by
  funext j; idx_vars j; pointwise [E2_apply, E1_apply]; exact sum_fin _ _
theorem sumLaneS (h h1 h2) : multiReduction (F := Ideal) (φ := .f32) .add [1] S128 (E2 128 128 F) 0x00000000#32 h h1 h2
    = E1 128 fun r => ∑ l ∈ range 128, F r l := by
  funext j; idx_vars j; pointwise [E2_apply, E1_apply]; exact sum_fin _ _
theorem sumRow (h h1 h2) : multiReduction (F := Ideal) (φ := .f32) .add [0] S128 (E2 512 128 F) 0x00000000#32 h h1 h2
    = E1 128 fun l => ∑ r ∈ range 512, F r l := by
  funext j; idx_vars j; pointwise [E2_apply, E1_apply]; exact sum_fin _ (fun r => F r _)
theorem toCol (h) : shapeCast (α := Ideal .f32) S512x1 (E1 512 f) h = E2 512 1 fun r _ => f r := by
  funext j; idx_vars j; pointwise [E2_apply, E1_apply]
theorem toColS (h) : shapeCast (α := Ideal .f32) S128x1 (E1 128 f) h = E2 128 1 fun r _ => f r := by
  funext j; idx_vars j; pointwise [E2_apply, E1_apply]
theorem toRow (h) : shapeCast (α := Ideal .f32) S1x128 (E1 128 f) h = E2 1 128 fun _ l => f l := by
  funext j; idx_vars j; pointwise [E2_apply, E1_apply]
theorem sameRow (h) : shapeCast (α := Ideal .f32) S1x128 (E2 1 128 F) h = E2 1 128 F := by
  funext j; idx_vars j; pointwise [E2_apply]
theorem sameCol (h) : shapeCast (α := Ideal .f32) S128x1 (E2 128 1 F) h = E2 128 1 F := by
  funext j; idx_vars j; pointwise [E2_apply]
theorem unbox (h) : shapeCast (α := Ideal .f32) S128x128 (E3 1 128 128 H) h = E2 128 128 fun r l => H 0 r l := by
  funext j; idx_vars j; pointwise [E2_apply, E3_apply]
theorem box (h) : shapeCast (α := Ideal .f32) S1x128x128 (E2 128 128 F) h = E3 1 128 128 fun _ r l => F r l := by
  funext j; idx_vars j; pointwise [E2_apply, E3_apply]
theorem rot (h) : dynamicRotate (α := Ideal .f32) 1 64#32 none (E2 512 128 F) h
    = E2 512 128 fun r l => F r ((l + 64) % 128) := by
  funext j; idx_vars j; pointwise [E2_apply]
  have e : j1.val + 128 - 64 = j1.val + 64 := by omega
  rw [e]
theorem mmNN (p) : matmul (F := Ideal) (φ₁ := .bf16) (φ₂ := .bf16) dot_S128x128_S128x128_S128x128_1_0_0_1_n_n p (E2 128 128 F) (E2 128 128 G)
    (constant S128x128 .f32 0x00000000#32) = E2 128 128 fun r l => ∑ k ∈ range 128, F r k * G k l := by
  funext j; idx_vars j; pointwise [E2_apply]
  simp only [← EReal.coe_mul]; exact sum_fin 128 (fun k => F j0 k * G k j1)
theorem mmNT (p) : matmul (F := Ideal) (φ₁ := .bf16) (φ₂ := .bf16) dot_S128x128_S128x128_S128x128_1_1_0_0_n_n p (E2 128 128 F) (E2 128 128 G)
    (constant S128x128 .f32 0x00000000#32) = E2 128 128 fun r l => ∑ k ∈ range 128, F r k * G l k := by
  funext j; idx_vars j; pointwise [E2_apply]
  simp only [← EReal.coe_mul]; exact sum_fin 128 (fun k => F j0 k * G j1 k)
theorem mmTN (p) : matmul (F := Ideal) (φ₁ := .bf16) (φ₂ := .bf16) dot_S128x128_S128x128_S128x128_0_0_1_1_n_n p (E2 128 128 F) (E2 128 128 G)
    (constant S128x128 .f32 0x00000000#32) = E2 128 128 fun r l => ∑ k ∈ range 128, F k r * G k l := by
  funext j; idx_vars j; pointwise [E2_apply]
  simp only [← EReal.coe_mul]; exact sum_fin 128 (fun k => F k j0 * G k j1)
theorem maskHi : k0_pay49 = M2 512 128 fun _ l => decide (64 ≤ l) := by
  unfold k0_pay49; funext j; idx_vars j; pointwise [M2_apply]; exact sge_nat _ 64 (by omega) (by norm_num)
theorem maskLo : k0_pay13 = M2 512 128 fun _ l => decide (l < 64) := by
  unfold k0_pay13; funext j; idx_vars j; pointwise [M2_apply]; exact slt_nat _ 64 (by omega) (by norm_num)
theorem maskTril : k0_pay21 = M2 128 128 fun i j => decide (j ≤ i) := by
  unfold k0_pay21; funext j; idx_vars j; pointwise [M2_apply]; exact sge_nat _ _ (by omega) (by omega)
theorem stack (A B C D : ℕ → ℕ → ℝ) (h) : concatenate (α := Ideal .f32) S512x128 0
    [⟨S128x128, E2 128 128 A⟩, ⟨S128x128, E2 128 128 B⟩, ⟨S128x128, E2 128 128 C⟩, ⟨S128x128, E2 128 128 D⟩] h
    = E2 512 128 fun r l => if r < 128 then A r l else if r < 256 then B (r - 128) l
        else if r < 384 then C (r - 256) l else D (r - 384) l := by
  funext j; idx_vars j; pointwise [E2_apply]
  have e (a b : ℕ) : j0.val - a - b = j0.val - (a + b) := Nat.sub_sub _ _ _
  simp only [e]
  by_cases h1 : j0.val < 128
  · simp only [h1, dite_true, if_true]
  by_cases h2 : j0.val < 256
  · have : j0.val - 128 < 128 := by omega
    simp only [h1, h2, this, dite_true, dite_false, if_true, if_false]
  have h2' : ¬ j0.val - 128 < 128 := by omega
  by_cases h3 : j0.val < 384
  · have : j0.val - (128 + 128) < 128 := by omega
    simp only [h1, h2, h2', h3, this, dite_true, dite_false, if_true, if_false]
  · have : ¬ j0.val - (128 + 128) < 128 := by omega
    simp only [h1, h2, h2', h3, this, dite_false, if_false]

end Cert.RealForm
end
-- ==== Proof.Head.lean ====
module

public import proofs.«01_k».proof.Proof.Shapes

@[expose] public section

set_option maxRecDepth 16384

noncomputable section

/-! One head of the gating kernel's backward block, written once for the four heads: its stages as the printed operations
    (`h…`), the real functions they compute (`r…`), and that the stage of real vectors is the vector of the real function. -/

namespace Cert.RealForm

open Idealize.ShloMosaic Finset Cert.KernelIdeal Cert.KernelIdeal.Gen

abbrev V := FVec Ideal S512x128 .f32
abbrev C := FVec Ideal S512x1 .f32
abbrev R := FVec Ideal S1x128 .f32
abbrev Q := FVec Ideal S128x128 .f32
abbrev B := FVec Ideal S1x128x128 .f32

def z512 : V := broadcast S512x128 (Scalar.ofBits .f32 0x00000000#32)
def z128 : Q := broadcast S128x128 (Scalar.ofBits .f32 0x00000000#32)
theorem z512_eq : z512 = E2 512 128 fun _ _ => 0 := by unfold z512; rw [w_zero]; rfl
theorem z128_eq : z128 = E2 128 128 fun _ _ => 0 := by unfold z128; rw [w_zero]; rfl

/-- The sums along a row's lanes, along a chunk row's lanes, and along the rows. -/
def hlane (x : V) : FVec Ideal S512 .f32 := multiReduction .add [1] S512 x 0x00000000#32 reduces_S512x128_S512 (.inl rfl) rfl
theorem hlane_eq (X) : hlane (E2 512 128 X) = E1 512 fun r => ∑ l ∈ range 128, X r l := sumLane X _ _ _
def hlaneS (x : Q) : FVec Ideal S128 .f32 := multiReduction .add [1] S128 x 0x00000000#32 reduces_S128x128_S128 (.inl rfl) rfl
theorem hlaneS_eq (X) : hlaneS (E2 128 128 X) = E1 128 fun r => ∑ l ∈ range 128, X r l := sumLaneS X _ _ _
def hrows (x : V) : FVec Ideal S128 .f32 := multiReduction .add [0] S128 x 0x00000000#32 reduces_S512x128_S128 (.inl rfl) rfl
theorem hrows_eq (X) : hrows (E2 512 128 X) = E1 128 fun l => ∑ r ∈ range 512, X r l := sumRow X _ _ _

/-- The mean over the head's 64 value lanes, one per row. -/
def hmean (x : V) : C :=
  mulf (shapeCast S512x1 (hlane x) shapeCasts_S512_S512x1)
    (broadcast S512x1 (Scalar.ofBits .f32 0x3C800000#32))
def rmean (X : ℕ → ℕ → ℝ) (r : ℕ) : ℝ := (∑ l ∈ range 128, X r l) * (1 / 64)
theorem hmean_eq (X) : hmean (E2 512 128 X) = E2 512 1 fun r _ => rmean X r := by
  unfold hmean rmean
  rw [hlane_eq, toCol, w_64th, splat2, mulf2]
def hcol (x : C) : V := broadcastTo S512x128 x broadcasts_S512x1_S512x128
theorem hcol_eq (X) : hcol (E2 512 1 X) = E2 512 128 fun r _ => X r 0 := by unfold hcol; rw [bcCol]
def hrow (x : R) : V := broadcastTo S512x128 x broadcasts_S1x128_S512x128
theorem hrow_eq (X) : hrow (E2 1 128 X) = E2 512 128 fun _ l => X 0 l := by unfold hrow; rw [bcRow]

/-- The centred value lanes. -/
def hxc (x : V) : V := select k0_pay49 (subf x (hcol (hmean (select k0_pay49 x z512)))) z512
def rxc (X : ℕ → ℕ → ℝ) (r l : ℕ) : ℝ :=
  if 64 ≤ l then X r l - rmean (fun r l => if 64 ≤ l then X r l else 0) r else 0
theorem hxc_eq (X) : hxc (E2 512 128 X) = E2 512 128 (rxc X) := by
  unfold hxc
  simp only [z512_eq, maskHi, select2, hmean_eq, hcol_eq, subf2, decide_eq_true_eq]
  rfl
/-- The reciprocal standard deviation, one per row. -/
def hrs (xc : V) : C := rsqrt (addf (hmean (mulf xc xc)) (broadcast S512x1 (Scalar.ofBits .f32 0x358637BD#32)))
def rrs (X : ℕ → ℕ → ℝ) (r : ℕ) : ℝ := (Real.sqrt (rmean (fun r l => X r l * X r l) r + EPS))⁻¹
theorem rmean_sq_nonneg (X : ℕ → ℕ → ℝ) (r : ℕ) : 0 ≤ rmean (fun r l => X r l * X r l) r := by
  unfold rmean; exact mul_nonneg (sum_nonneg fun l _ => mul_self_nonneg _) (by norm_num)
theorem hrs_eq (X) : hrs (E2 512 128 X) = E2 512 1 fun r _ => rrs X r := by
  unfold hrs
  rw [mulf2, hmean_eq, w_eps, splat2, addf2, rsqrt2 _ _ _ fun r l => add_pos_of_nonneg_of_pos (rmean_sq_nonneg X r) EPS_pos]
  rfl
def hvh (xc : V) : V := mulf xc (hcol (hrs xc))
def rvh (X : ℕ → ℕ → ℝ) (r l : ℕ) : ℝ := X r l * rrs X r
theorem hvh_eq (X) : hvh (E2 512 128 X) = E2 512 128 (rvh X) := by
  unfold hvh; rw [hrs_eq, hcol_eq, mulf2]; rfl
def hsame (x : R) : R := shapeCast S1x128 x shapeCasts_S1x128_S1x128
theorem hsame_eq (X) : hsame (E2 1 128 X) = E2 1 128 X := by unfold hsame; rw [sameRow]
def hvn (vh : V) (g b : R) : V := addf (mulf vh (hrow (hsame g))) (hrow (hsame b))
def rvn (X g b : ℕ → ℕ → ℝ) (r l : ℕ) : ℝ := X r l * g 0 l + b 0 l
theorem hvn_eq (X g b) : hvn (E2 512 128 X) (E2 1 128 g) (E2 1 128 b) = E2 512 128 (rvn X g b) := by
  unfold hvn; rw [hsame_eq, hsame_eq, hrow_eq, hrow_eq, mulf2, addf2]; rfl
def hunbox (w : B) : Q := shapeCast S128x128 w shapeCasts_S1x128x128_S128x128
theorem hunbox_eq (W) : hunbox (E3 1 128 128 W) = E2 128 128 fun r l => W 0 r l := by unfold hunbox; rw [unbox]
def hbox (w : Q) : B := shapeCast S1x128x128 w shapeCasts_S128x128_S1x128x128
theorem hbox_eq (W) : hbox (E2 128 128 W) = E3 1 128 128 fun _ r l => W r l := by unfold hbox; rw [box]
/-- The lower triangle. -/
def htril (w : Q) : Q := select k0_pay21 w z128
def rtril (W : ℕ → ℕ → ℝ) (i j : ℕ) : ℝ := if j ≤ i then W i j else 0
theorem htril_eq (W) : htril (E2 128 128 W) = E2 128 128 (rtril W) := by
  unfold htril; simp only [z128_eq, maskTril, select2, decide_eq_true_eq]; rfl
def hlo (p : V) : V := select k0_pay13 p z512
def rlo (P : ℕ → ℕ → ℝ) (r l : ℕ) : ℝ := if l < 64 then P r l else 0
theorem hlo_eq (P) : hlo (E2 512 128 P) = E2 512 128 (rlo P) := by
  unfold hlo; simp only [z512_eq, maskLo, select2, decide_eq_true_eq]; rfl
def hrot (p : V) : V := dynamicRotate 1 64#32 none p rotates_S512x128_d1
def rrot (P : ℕ → ℕ → ℝ) (r l : ℕ) : ℝ := P r ((l + 64) % 128)
theorem hrot_eq (P) : hrot (E2 512 128 P) = E2 512 128 (rrot P) := by unfold hrot; rw [rot]; rfl
def hdsv (dy x : V) : V := hrot (mulf dy x)
def rdsv (P X : ℕ → ℕ → ℝ) : ℕ → ℕ → ℝ := rrot fun r l => P r l * X r l
theorem hdsv_eq (P X) : hdsv (E2 512 128 P) (E2 512 128 X) = E2 512 128 (rdsv P X) := by
  unfold hdsv; rw [mulf2, hrot_eq]; rfl

/-- The four chunks of 128 rows. -/
def hc0 (x : V) : Q := extractStridedSlice S128x128 ![0, 0] x slices_S512x128_o0_0_S128x128
def hc1 (x : V) : Q := extractStridedSlice S128x128 ![128, 0] x slices_S512x128_o128_0_S128x128
def hc2 (x : V) : Q := extractStridedSlice S128x128 ![256, 0] x slices_S512x128_o256_0_S128x128
def hc3 (x : V) : Q := extractStridedSlice S128x128 ![384, 0] x slices_S512x128_o384_0_S128x128
def rch (c : ℕ) (X : ℕ → ℕ → ℝ) (r l : ℕ) : ℝ := X (c + r) l
theorem hc0_eq (X) : hc0 (E2 512 128 X) = E2 128 128 (rch 0 X) := by
  unfold hc0; rw [slice2]; simp only [Nat.zero_add]; exact E2_congr fun r _ l _ => by simp [rch]
theorem hc1_eq (X) : hc1 (E2 512 128 X) = E2 128 128 (rch 128 X) := by
  unfold hc1; rw [slice2]; exact E2_congr fun r _ l _ => by simp [rch]
theorem hc2_eq (X) : hc2 (E2 512 128 X) = E2 128 128 (rch 256 X) := by
  unfold hc2; rw [slice2]; exact E2_congr fun r _ l _ => by simp [rch]
theorem hc3_eq (X) : hc3 (E2 512 128 X) = E2 128 128 (rch 384 X) := by
  unfold hc3; rw [slice2]; exact E2_congr fun r _ l _ => by simp [rch]
def hstack (a b c d : Q) : V := concatenate S512x128 0 [⟨S128x128, a⟩, ⟨S128x128, b⟩, ⟨S128x128, c⟩, ⟨S128x128, d⟩]
  concatenates_S128x128_S128x128_S128x128_S128x128_S512x128_d0

/-- A product of one chunk: mixing weights against rows, their transpose against rows, rows against rows. -/
def hnn (a b : Q) : Q := matmul dot_S128x128_S128x128_S128x128_1_0_0_1_n_n none (truncf .bf16 a bitsLt_bf16_f32)
  (truncf .bf16 b bitsLt_bf16_f32) (constant S128x128 .f32 0x00000000#32)
def htn (a b : Q) : Q := matmul dot_S128x128_S128x128_S128x128_0_0_1_1_n_n none (truncf .bf16 a bitsLt_bf16_f32)
  (truncf .bf16 b bitsLt_bf16_f32) (constant S128x128 .f32 0x00000000#32)
def hnt (a b : Q) : Q := matmul dot_S128x128_S128x128_S128x128_1_1_0_0_n_n none (truncf .bf16 a bitsLt_bf16_f32)
  (truncf .bf16 b bitsLt_bf16_f32) (constant S128x128 .f32 0x00000000#32)
theorem hnn_eq (P X) : hnn (E2 128 128 P) (E2 128 128 X) = E2 128 128 fun r l => ∑ k ∈ range 128, P r k * X k l := mmNN P X _
theorem htn_eq (P X) : htn (E2 128 128 P) (E2 128 128 X) = E2 128 128 fun r l => ∑ k ∈ range 128, P k r * X k l := mmTN P X _
theorem hnt_eq (P X) : hnt (E2 128 128 P) (E2 128 128 X) = E2 128 128 fun r l => ∑ k ∈ range 128, P r k * X l k := mmNT P X _

/-- The mixed values, the four chunks stacked. -/
def hsv (wm : Q) (bs : B) (vn : V) : V := hstack (addf (hnn wm (hc0 vn)) (hunbox bs)) (addf (hnn wm (hc1 vn)) (hunbox bs))
  (addf (hnn wm (hc2 vn)) (hunbox bs)) (addf (hnn wm (hc3 vn)) (hunbox bs))
def rsv (W : ℕ → ℕ → ℝ) (b : ℕ → ℕ → ℝ) (X : ℕ → ℕ → ℝ) (r l : ℕ) : ℝ :=
  (∑ k ∈ range 128, W (r % 128) k * X (128 * (r / 128) + k) l) + b (r % 128) l
/-- Four chunks stacked, each the same function of its first row. -/
theorem stack_rows (A : ℕ → ℕ → ℕ → ℝ) : hstack (E2 128 128 (A 0)) (E2 128 128 (A 128)) (E2 128 128 (A 256)) (E2 128 128 (A 384))
    = E2 512 128 fun r l => A (128 * (r / 128)) (r % 128) l := by
  unfold hstack; rw [stack]
  refine E2_congr fun r hr l _ => ?_
  have hq : r = 128 * (r / 128) + r % 128 := (Nat.div_add_mod r 128).symm
  have hm : r % 128 < 128 := Nat.mod_lt _ (by norm_num)
  have h4 : r / 128 < 4 := by omega
  generalize hd : r / 128 = d at hq h4 ⊢
  generalize he : r % 128 = e at hq hm ⊢
  subst hq
  interval_cases d
  · rw [if_pos (by omega)]; simp
  · rw [if_neg (by omega), if_pos (by omega)]; congr 1; omega
  · rw [if_neg (by omega), if_neg (by omega), if_pos (by omega)]; congr 1; omega
  · rw [if_neg (by omega), if_neg (by omega), if_neg (by omega)]; congr 1; omega
theorem hsv_eq (W b X) : hsv (E2 128 128 W) (E3 1 128 128 b) (E2 512 128 X) = E2 512 128 (rsv W (b 0) X) := by
  unfold hsv
  rw [hc0_eq, hc1_eq, hc2_eq, hc3_eq, hunbox_eq]
  simp only [hnn_eq, addf2]
  exact stack_rows fun c r l => (∑ k ∈ range 128, W r k * rch c X k l) + b 0 r l
/-- The gradient of the normalised values, the four chunks stacked. -/
def hdvn (wm : Q) (dsv : V) : V := hstack (htn wm (hc0 dsv)) (htn wm (hc1 dsv)) (htn wm (hc2 dsv)) (htn wm (hc3 dsv))
def rdvn (W : ℕ → ℕ → ℝ) (X : ℕ → ℕ → ℝ) (r l : ℕ) : ℝ := ∑ k ∈ range 128, W k (r % 128) * X (128 * (r / 128) + k) l
theorem hdvn_eq (W X) : hdvn (E2 128 128 W) (E2 512 128 X) = E2 512 128 (rdvn W X) := by
  unfold hdvn
  rw [hc0_eq, hc1_eq, hc2_eq, hc3_eq]
  simp only [htn_eq]
  exact stack_rows fun c r l => ∑ k ∈ range 128, W k r * rch c X k l
/-- The block's share of the mixing weights' gradient. -/
def hdw (dsv vn : V) : Q := addf (addf (addf (addf z128 (hnt (hc0 dsv) (hc0 vn))) (hnt (hc1 dsv) (hc1 vn)))
  (hnt (hc2 dsv) (hc2 vn))) (hnt (hc3 dsv) (hc3 vn))
def rdw (D X : ℕ → ℕ → ℝ) (i j : ℕ) : ℝ := ∑ c ∈ range 4, ∑ k ∈ range 128, D (128 * c + i) k * X (128 * c + j) k
theorem hdw_eq (D X) : hdw (E2 512 128 D) (E2 512 128 X) = E2 128 128 (rdw D X) := by
  unfold hdw
  rw [hc0_eq, hc1_eq, hc2_eq, hc3_eq, hc0_eq, hc1_eq, hc2_eq, hc3_eq, z128_eq]
  simp only [hnt_eq, addf2]
  exact E2_congr fun r _ l _ => by simp [rdw, rch, sum_range_succ]
def hsumS (x : Q) : FVec Ideal S128x1 .f32 :=
  shapeCast S128x1 (hlaneS x) shapeCasts_S128_S128x1
theorem hsumS_eq (X) : hsumS (E2 128 128 X) = E2 128 1 fun r _ => ∑ l ∈ range 128, X r l := by unfold hsumS; rw [hlaneS_eq, toColS]
/-- The block's share of the mixing bias's gradient, one per row of a chunk. -/
def hdbs (dsv : V) : FVec Ideal S128x1 .f32 :=
  addf (addf (addf (addf (broadcast S128x1 (Scalar.ofBits .f32 0x00000000#32)) (hsumS (hc0 dsv))) (hsumS (hc1 dsv)))
    (hsumS (hc2 dsv))) (hsumS (hc3 dsv))
def rdbs (D : ℕ → ℕ → ℝ) (i : ℕ) : ℝ := ∑ c ∈ range 4, ∑ k ∈ range 128, D (128 * c + i) k
theorem hdbs_eq (D) : hdbs (E2 512 128 D) = E2 128 1 fun r _ => rdbs D r := by
  unfold hdbs
  rw [hc0_eq, hc1_eq, hc2_eq, hc3_eq, w_zero, splat2]
  simp only [hsumS_eq, addf2]
  exact E2_congr fun r _ l _ => by simp [rdbs, rch, sum_range_succ]

/-- What the head stores: the weights' gradient, the bias's, the scale's, the shift's, each added to what was there. -/
def sdw (prev : B) (dw : Q) : B := hbox (addf (hunbox prev) (htril dw))
theorem sdw_eq (P X) : sdw (E3 1 128 128 P) (E2 128 128 X) = E3 1 128 128 fun a r l => P 0 r l + rtril X r l := by
  unfold sdw; rw [hunbox_eq, htril_eq, addf2, hbox_eq]
def sdbs (prev : B) (d : FVec Ideal S128x1 .f32) : B :=
  hbox (addf (hunbox prev) (broadcastTo S128x128 (shapeCast S128x1 d shapeCasts_S128x1_S128x1) broadcasts_S128x1_S128x128))
theorem sdbs_eq (P X) : sdbs (E3 1 128 128 P) (E2 128 1 X) = E3 1 128 128 fun a r l => P 0 r l + X r 0 := by
  unfold sdbs; rw [hunbox_eq, sameCol, bcColS, addf2, hbox_eq]
def hsumR (x : V) : R :=
  shapeCast S1x128 (hrows x) shapeCasts_S128_S1x128
theorem hsumR_eq (X) : hsumR (E2 512 128 X) = E2 1 128 fun _ l => ∑ r ∈ range 512, X r l := by unfold hsumR; rw [hrows_eq, toRow]
def sdg (prev : R) (dvn vh : V) : R := addf (hsame prev) (hsumR (mulf dvn vh))
theorem sdg_eq (P D X) : sdg (E2 1 128 P) (E2 512 128 D) (E2 512 128 X)
    = E2 1 128 fun a l => P a l + ∑ r ∈ range 512, D r l * X r l := by
  unfold sdg; rw [hsame_eq, mulf2, hsumR_eq, addf2]
def sdb (prev : R) (dvn : V) : R := addf (hsame prev) (hsumR dvn)
theorem sdb_eq (P D) : sdb (E2 1 128 P) (E2 512 128 D) = E2 1 128 fun a l => P a l + ∑ r ∈ range 512, D r l := by
  unfold sdb; rw [hsame_eq, hsumR_eq, addf2]

/-- The layer norm's gradient from the gradient of the normalised lanes. -/
def hln (rs : C) (vh dvh : V) : V :=
  mulf (hcol rs) (subf (subf dvh (hcol (hmean dvh))) (mulf vh (hcol (hmean (mulf dvh vh)))))
def rln (rs : ℕ → ℝ) (vh dvh : ℕ → ℕ → ℝ) (r l : ℕ) : ℝ :=
  rs r * (dvh r l - rmean dvh r - vh r l * rmean (fun r l => dvh r l * vh r l) r)
theorem hln_eq (rs vh dvh) : hln (E2 512 1 fun r _ => rs r) (E2 512 128 vh) (E2 512 128 dvh) = E2 512 128 (rln rs vh dvh) := by
  unfold hln; simp only [mulf2, hmean_eq, hcol_eq, subf2]; rfl
/-- The block's gradient of the head's columns. -/
def hdz (gp dy sv vh dvn : V) (rs : C) (g : R) : V :=
  mulf (addf (mulf dy (hrot sv)) (select k0_pay13 z512 (hln rs vh (mulf dvn (hrow (hsame g)))))) gp
def rdz (gp dy sv vh dvn : ℕ → ℕ → ℝ) (rs : ℕ → ℝ) (g : ℕ → ℕ → ℝ) (r l : ℕ) : ℝ :=
  (dy r l * rrot sv r l + if l < 64 then 0 else rln rs vh (fun r l => dvn r l * g 0 l) r l) * gp r l
theorem hdz_eq (gp dy sv vh dvn rs g) : hdz (E2 512 128 gp) (E2 512 128 dy) (E2 512 128 sv) (E2 512 128 vh) (E2 512 128 dvn)
    (E2 512 1 fun r _ => rs r) (E2 1 128 g) = E2 512 128 (rdz gp dy sv vh dvn rs g) := by
  unfold hdz
  simp only [hrot_eq, hsame_eq, hrow_eq, mulf2, hln_eq, z512_eq, maskLo, select2, addf2, decide_eq_true_eq]; rfl

end Cert.RealForm
end
-- ==== Proof.Cells.lean ====
module

public import proofs.«01_k».proof.Proof.Head
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

/-! What one grid point leaves in each output, as the head's stages over the point's blocks. -/

namespace Cert.RealForm

open Cert.KernelIdeal Cert.KernelIdeal.Gen Cert.KernelIdeal.Value Idealize.ShloMosaic Idealize.ShloMosaic.TcCoe Idealize.SL.Sem Finset

/-- The head's value path, its gradients, and its four stores and one block. -/
def Hvn (x : V) (g b : R) : V := hvn (hvh (hxc x)) g b
def Hdsv (p x : V) : V := hdsv (hlo p) x
def Hdvn (w : B) (p x : V) : V := hdvn (htril (hunbox w)) (Hdsv p x)
def Hdw (prev : B) (x p : V) (g b : R) : B := sdw prev (hdw (Hdsv p x) (Hvn x g b))
def Hdbs (prev : B) (x p : V) : B := sdbs prev (hdbs (Hdsv p x))
def Hdg (prev : R) (w : B) (x p : V) : R := sdg prev (Hdvn w p x) (hvh (hxc x))
def Hdb (prev : R) (w : B) (x p : V) : R := sdb prev (Hdvn w p x)
def Hdz (gp x p : V) (g b : R) (w bs : B) : V :=
  hdz gp (hlo p) (hsv (htril (hunbox w)) bs (Hvn x g b)) (hvh (hxc x)) (Hdvn w p x) (hrs (hxc x)) g

abbrev W5 := FVec Ideal S512x512 .f32
def s0 (x : W5) : V := extractStridedSlice S512x128 ![0, 0] x slices_S512x512_o0_0_S512x128
def s1 (x : W5) : V := extractStridedSlice S512x128 ![0, 128] x slices_S512x512_o0_128_S512x128
def s2 (x : W5) : V := extractStridedSlice S512x128 ![0, 256] x slices_S512x512_o0_256_S512x128
def s3 (x : W5) : V := extractStridedSlice S512x128 ![0, 384] x slices_S512x512_o0_384_S512x128
def gl (x : W5) : W5 := k0_pay6 x
def gg (x : W5) : W5 := k0_pay12 (k0_pay8 x) (k0_pay9 x) (k0_pay10 x) k0_pay11
abbrev D2 := FVec Ideal S512x256 .f32
def p0 (x : D2) : V := View.ld (Val := Elt Ideal) (e' := .f32) x (Rect.unit ![0, 0] ![512, 128] inb_S512x256_S512x128_0_0)
def p1 (x : D2) : V := View.ld (Val := Elt Ideal) (e' := .f32) x (Rect.unit ![0, 128] ![512, 128] inb_S512x256_S512x128_0_128)
abbrev R5 := FVec Ideal S1x512 .f32
def r0 (x : R5) : R := View.ld (Val := Elt Ideal) (e' := .f32) x (Rect.unit ![0, 0] ![1, 128] inb_S1x512_S1x128_0_0)
def r1 (x : R5) : R := View.ld (Val := Elt Ideal) (e' := .f32) x (Rect.unit ![0, 128] ![1, 128] inb_S1x512_S1x128_0_128)
def r2 (x : R5) : R := View.ld (Val := Elt Ideal) (e' := .f32) x (Rect.unit ![0, 256] ![1, 128] inb_S1x512_S1x128_0_256)
def r3 (x : R5) : R := View.ld (Val := Elt Ideal) (e' := .f32) x (Rect.unit ![0, 384] ![1, 128] inb_S1x512_S1x128_0_384)
abbrev B4 := FVec Ideal S4x128x128 .f32
def b0 (x : B4) : B := View.ld (Val := Elt Ideal) (e' := .f32) x (Rect.unit ![0, 0, 0] ![1, 128, 128] inb_S4x128x128_S1x128x128_0_0_0)
def b1 (x : B4) : B := View.ld (Val := Elt Ideal) (e' := .f32) x (Rect.unit ![1, 0, 0] ![1, 128, 128] inb_S4x128x128_S1x128x128_1_0_0)
def b2 (x : B4) : B := View.ld (Val := Elt Ideal) (e' := .f32) x (Rect.unit ![2, 0, 0] ![1, 128, 128] inb_S4x128x128_S1x128x128_2_0_0)
def b3 (x : B4) : B := View.ld (Val := Elt Ideal) (e' := .f32) x (Rect.unit ![3, 0, 0] ![1, 128, 128] inb_S4x128x128_S1x128x128_3_0_0)

variable (x0 : W5) (x1 : D2) (x2 x3 : R5) (x4 x5 : B4)

/-- The five outputs' stores at a point, last made first, over what each accumulator held. -/
def Ldz : List (View.Piece (Elt Ideal) S512x512 .f32) :=
  [⟨Rect.unit ![0, 384] ![512, 128] inb_S512x512_S512x128_0_384, Hdz (s3 (gg x0)) (s3 (gl x0)) (hrot (p1 x1)) (r3 x2) (r3 x3) (b3 x4) (b3 x5)⟩,
   ⟨Rect.unit ![0, 256] ![512, 128] inb_S512x512_S512x128_0_256, Hdz (s2 (gg x0)) (s2 (gl x0)) (p1 x1) (r2 x2) (r2 x3) (b2 x4) (b2 x5)⟩,
   ⟨Rect.unit ![0, 128] ![512, 128] inb_S512x512_S512x128_0_128, Hdz (s1 (gg x0)) (s1 (gl x0)) (hrot (p0 x1)) (r1 x2) (r1 x3) (b1 x4) (b1 x5)⟩,
   ⟨Rect.unit ![0, 0] ![512, 128] inb_S512x512_S512x128_0_0, Hdz (s0 (gg x0)) (s0 (gl x0)) (p0 x1) (r0 x2) (r0 x3) (b0 x4) (b0 x5)⟩]
def Ldw (y : B4) : List (View.Piece (Elt Ideal) S4x128x128 .f32) :=
  [⟨Rect.unit ![3, 0, 0] ![1, 128, 128] inb_S4x128x128_S1x128x128_3_0_0, Hdw (b3 y) (s3 (gl x0)) (hrot (p1 x1)) (r3 x2) (r3 x3)⟩,
   ⟨Rect.unit ![2, 0, 0] ![1, 128, 128] inb_S4x128x128_S1x128x128_2_0_0, Hdw (b2 y) (s2 (gl x0)) (p1 x1) (r2 x2) (r2 x3)⟩,
   ⟨Rect.unit ![1, 0, 0] ![1, 128, 128] inb_S4x128x128_S1x128x128_1_0_0, Hdw (b1 y) (s1 (gl x0)) (hrot (p0 x1)) (r1 x2) (r1 x3)⟩,
   ⟨Rect.unit ![0, 0, 0] ![1, 128, 128] inb_S4x128x128_S1x128x128_0_0_0, Hdw (b0 y) (s0 (gl x0)) (p0 x1) (r0 x2) (r0 x3)⟩]
def Ldbs (y : B4) : List (View.Piece (Elt Ideal) S4x128x128 .f32) :=
  [⟨Rect.unit ![3, 0, 0] ![1, 128, 128] inb_S4x128x128_S1x128x128_3_0_0, Hdbs (b3 y) (s3 (gl x0)) (hrot (p1 x1))⟩,
   ⟨Rect.unit ![2, 0, 0] ![1, 128, 128] inb_S4x128x128_S1x128x128_2_0_0, Hdbs (b2 y) (s2 (gl x0)) (p1 x1)⟩,
   ⟨Rect.unit ![1, 0, 0] ![1, 128, 128] inb_S4x128x128_S1x128x128_1_0_0, Hdbs (b1 y) (s1 (gl x0)) (hrot (p0 x1))⟩,
   ⟨Rect.unit ![0, 0, 0] ![1, 128, 128] inb_S4x128x128_S1x128x128_0_0_0, Hdbs (b0 y) (s0 (gl x0)) (p0 x1)⟩]
def Ldg (y : R5) : List (View.Piece (Elt Ideal) S1x512 .f32) :=
  [⟨Rect.unit ![0, 384] ![1, 128] inb_S1x512_S1x128_0_384, Hdg (r3 y) (b3 x4) (s3 (gl x0)) (hrot (p1 x1))⟩,
   ⟨Rect.unit ![0, 256] ![1, 128] inb_S1x512_S1x128_0_256, Hdg (r2 y) (b2 x4) (s2 (gl x0)) (p1 x1)⟩,
   ⟨Rect.unit ![0, 128] ![1, 128] inb_S1x512_S1x128_0_128, Hdg (r1 y) (b1 x4) (s1 (gl x0)) (hrot (p0 x1))⟩,
   ⟨Rect.unit ![0, 0] ![1, 128] inb_S1x512_S1x128_0_0, Hdg (r0 y) (b0 x4) (s0 (gl x0)) (p0 x1)⟩]
def Ldb (y : R5) : List (View.Piece (Elt Ideal) S1x512 .f32) :=
  [⟨Rect.unit ![0, 384] ![1, 128] inb_S1x512_S1x128_0_384, Hdb (r3 y) (b3 x4) (s3 (gl x0)) (hrot (p1 x1))⟩,
   ⟨Rect.unit ![0, 256] ![1, 128] inb_S1x512_S1x128_0_256, Hdb (r2 y) (b2 x4) (s2 (gl x0)) (p1 x1)⟩,
   ⟨Rect.unit ![0, 128] ![1, 128] inb_S1x512_S1x128_0_128, Hdb (r1 y) (b1 x4) (s1 (gl x0)) (hrot (p0 x1))⟩,
   ⟨Rect.unit ![0, 0] ![1, 128] inb_S1x512_S1x128_0_0, Hdb (r0 y) (b0 x4) (s0 (gl x0)) (p0 x1)⟩]

end Cert.RealForm
end
-- ==== Proof.Spec.lean ====
module

public import proofs.«01_k».proof.Proof.Real

@[expose] public section

noncomputable section

/-! The gradient of the gated token mixing, as real functions of the token row, the head and the lane. -/

namespace Cert.RealForm

open Finset

/-- The gate's activation and its derivative. -/
def ge (x : ℝ) : ℝ := 1 / 2 * x * (1 + Real.tanh (GC * (x + 8943 / 200000 * (x * x * x))))
def gd (x : ℝ) : ℝ :=
  1 / 2 * (1 + Real.tanh (GC * (x + 8943 / 200000 * (x * x * x))))
    + 1 / 2 * x * (1 - Real.tanh (GC * (x + 8943 / 200000 * (x * x * x))) * Real.tanh (GC * (x + 8943 / 200000 * (x * x * x))))
      * (GC * (1 + 26829 / 200000 * (x * x)))

variable (Z D : ℕ → ℕ → ℝ) (g b : ℕ → ℕ → ℝ) (W : ℕ → ℕ → ℕ → ℝ) (s : ℕ → ℕ → ℝ)

/-- The gate lanes, the value lanes and the upstream gradient of head `h` at row `r`. -/
def sU (h r d : ℕ) : ℝ := ge (Z r (128 * h + d))
def sV (h r d : ℕ) : ℝ := ge (Z r (128 * h + 64 + d))
def sCt (h r d : ℕ) : ℝ := D r (64 * h + d)
def sXc (h r d : ℕ) : ℝ := sV Z h r d - (∑ e ∈ range 64, sV Z h r e) * (1 / 64)
def sRs (h r : ℕ) : ℝ := (Real.sqrt ((∑ e ∈ range 64, sXc Z h r e * sXc Z h r e) * (1 / 64) + EPS))⁻¹
def sVh (h r d : ℕ) : ℝ := sXc Z h r d * sRs Z h r
def sVn (h r d : ℕ) : ℝ := sVh Z h r d * g h d + b h d
def sW (h i j : ℕ) : ℝ := if j ≤ i then W h i j else 0
def sSv (h r d : ℕ) : ℝ :=
  (∑ k ∈ range 128, sW W h (r % 128) k * sVn Z g b h (128 * (r / 128) + k) d) + s h (r % 128)
def sDs (h r d : ℕ) : ℝ := sCt D h r d * sU Z h r d
def sDvn (h r d : ℕ) : ℝ := ∑ k ∈ range 128, sW W h k (r % 128) * sDs Z D h (128 * (r / 128) + k) d
def sDvh (h r d : ℕ) : ℝ := sDvn Z D W h r d * g h d
def sDv (h r d : ℕ) : ℝ :=
  sRs Z h r * (sDvh Z D g W h r d - (∑ e ∈ range 64, sDvh Z D g W h r e) * (1 / 64)
    - sVh Z h r d * ((∑ e ∈ range 64, sDvh Z D g W h r e * sVh Z h r e) * (1 / 64)))
def sDu (h r d : ℕ) : ℝ := sCt D h r d * sSv Z g b W s h r d

/-- The five results. -/
def oDz (r l : ℕ) : ℝ :=
  (if l % 128 < 64 then sDu Z D g b W s (l / 128) r (l % 128) else sDv Z D g W (l / 128) r (l % 128 - 64)) * gd (Z r l)
def oDw (h i j : ℕ) : ℝ :=
  if j ≤ i then ∑ n ∈ range 64, ∑ d ∈ range 64, sDs Z D h (128 * n + i) d * sVn Z g b h (128 * n + j) d else 0
def oDbs (h i : ℕ) : ℝ := ∑ n ∈ range 64, ∑ d ∈ range 64, sDs Z D h (128 * n + i) d
def oDg (h d : ℕ) : ℝ := ∑ r ∈ range 8192, sDvn Z D W h r d * sVh Z h r d
def oDb (h d : ℕ) : ℝ := ∑ r ∈ range 8192, sDvn Z D W h r d

end Cert.RealForm
end
-- ==== Proof.Lanes.lean ====
module

public import proofs.«01_k».proof.Proof.Cells
public import proofs.«01_k».proof.Proof.Spec

@[expose] public section

set_option maxRecDepth 16384

noncomputable section

/-! The head's real functions over 128 lanes (64 gate lanes, 64 value lanes) are the 64-lane functions of the gradient. -/

namespace Cert.RealForm

open Cert.KernelIdeal Cert.KernelIdeal.Gen Idealize.ShloMosaic Finset

section Compose
variable (X P gp : ℕ → ℕ → ℝ) (g b : ℕ → ℕ → ℝ) (W bs : ℕ → ℕ → ℕ → ℝ)

def Fvn : ℕ → ℕ → ℝ := rvn (rvh (rxc X)) g b
def Fdsv : ℕ → ℕ → ℝ := rdsv (rlo P) X
def Fdvn : ℕ → ℕ → ℝ := rdvn (rtril (W 0)) (Fdsv X P)
theorem Hvn_eq : Hvn (E2 512 128 X) (E2 1 128 g) (E2 1 128 b) = E2 512 128 (Fvn X g b) := by
  unfold Hvn; rw [hxc_eq, hvh_eq, hvn_eq]; rfl
theorem Hdsv_eq : Hdsv (E2 512 128 P) (E2 512 128 X) = E2 512 128 (Fdsv X P) := by
  unfold Hdsv; rw [hlo_eq, hdsv_eq]; rfl
theorem Hdvn_eq : Hdvn (E3 1 128 128 W) (E2 512 128 P) (E2 512 128 X) = E2 512 128 (Fdvn X P W) := by
  unfold Hdvn; rw [hunbox_eq, htril_eq, Hdsv_eq, hdvn_eq]; rfl
theorem Hdw_eq (Y) : Hdw (E3 1 128 128 Y) (E2 512 128 X) (E2 512 128 P) (E2 1 128 g) (E2 1 128 b)
    = E3 1 128 128 fun _ r l => Y 0 r l + rtril (rdw (Fdsv X P) (Fvn X g b)) r l := by
  unfold Hdw; rw [Hdsv_eq, Hvn_eq, hdw_eq, sdw_eq]
theorem Hdbs_eq (Y) : Hdbs (E3 1 128 128 Y) (E2 512 128 X) (E2 512 128 P)
    = E3 1 128 128 fun _ r l => Y 0 r l + rdbs (Fdsv X P) r := by
  unfold Hdbs; rw [Hdsv_eq, hdbs_eq, sdbs_eq]
theorem Hdg_eq (Y) : Hdg (E2 1 128 Y) (E3 1 128 128 W) (E2 512 128 X) (E2 512 128 P)
    = E2 1 128 fun a l => Y a l + ∑ r ∈ range 512, Fdvn X P W r l * rvh (rxc X) r l := by
  unfold Hdg; rw [Hdvn_eq, hxc_eq, hvh_eq, sdg_eq]
theorem Hdb_eq (Y) : Hdb (E2 1 128 Y) (E3 1 128 128 W) (E2 512 128 X) (E2 512 128 P)
    = E2 1 128 fun a l => Y a l + ∑ r ∈ range 512, Fdvn X P W r l := by
  unfold Hdb; rw [Hdvn_eq, sdb_eq]
theorem Hdz_eq : Hdz (E2 512 128 gp) (E2 512 128 X) (E2 512 128 P) (E2 1 128 g) (E2 1 128 b) (E3 1 128 128 W) (E3 1 128 128 bs)
    = E2 512 128 (rdz gp (rlo P) (rsv (rtril (W 0)) (bs 0) (Fvn X g b)) (rvh (rxc X)) (Fdvn X P W) (rrs (rxc X)) g) := by
  unfold Hdz; rw [hlo_eq, hunbox_eq, htril_eq, Hvn_eq, hsv_eq, hxc_eq, hvh_eq, Hdvn_eq, hrs_eq, hdz_eq]
end Compose

/-- A sum over 128 lanes: the first 64 and the last 64. -/
theorem sum_lanes (f : ℕ → ℝ) : ∑ l ∈ range 128, f l = ∑ d ∈ range 64, f d + ∑ d ∈ range 64, f (64 + d) :=
  sum_range_add f 64 64

section OneHead
variable (Z D g b : ℕ → ℕ → ℝ) (W : ℕ → ℕ → ℕ → ℝ) (s : ℕ → ℕ → ℝ) (h t : ℕ)

/-- Head `h`'s operands at block `t`: the activated lanes, the upstream pair, the padded scale and shift, the weights. -/
def kX (r l : ℕ) : ℝ := ge (Z (512 * t + r) (128 * h + l))
def kpad (a : ℕ → ℕ → ℝ) (_ l : ℕ) : ℝ := if l < 64 then 0 else a h (l - 64)

theorem kX_lo (r d : ℕ) : kX Z h t r d = sU Z h (512 * t + r) d := rfl
theorem kX_hi (r d : ℕ) : kX Z h t r (64 + d) = sV Z h (512 * t + r) d := by
  unfold kX sV; rw [show 128 * h + (64 + d) = 128 * h + 64 + d by omega]

theorem rxc_lo (r d : ℕ) (hd : d < 64) : rxc (kX Z h t) r d = 0 := by
  unfold rxc; rw [if_neg (by omega)]
theorem rxc_hi (r d : ℕ) : rxc (kX Z h t) r (64 + d) = sXc Z h (512 * t + r) d := by
  unfold rxc rmean sXc; rw [if_pos (by omega), kX_hi, sum_lanes]
  rw [sum_eq_zero fun x hx => if_neg (by simp at hx; omega), zero_add]
  congr 2
theorem rrs_eq (r : ℕ) : rrs (rxc (kX Z h t)) r = sRs Z h (512 * t + r) := by
  unfold rrs rmean sRs; rw [sum_lanes]
  rw [sum_eq_zero fun x hx => by beta_reduce; rw [rxc_lo _ _ _ _ _ (mem_range.mp hx), mul_zero], zero_add]
  simp only [rxc_hi]
theorem rvh_lo (r d : ℕ) (hd : d < 64) : rvh (rxc (kX Z h t)) r d = 0 := by
  unfold rvh; rw [rxc_lo _ _ _ _ _ hd, zero_mul]
theorem rvh_hi (r d : ℕ) : rvh (rxc (kX Z h t)) r (64 + d) = sVh Z h (512 * t + r) d := by
  unfold rvh sVh; rw [rxc_hi, rrs_eq]
theorem kpad_lo (a : ℕ → ℕ → ℝ) (r d : ℕ) (hd : d < 64) : kpad h a r d = 0 := by unfold kpad; rw [if_pos hd]
theorem kpad_hi (a : ℕ → ℕ → ℝ) (r d : ℕ) : kpad h a r (64 + d) = a h d := by
  unfold kpad; rw [if_neg (by omega), show 64 + d - 64 = d by omega]
theorem Fvn_lo (r d : ℕ) (hd : d < 64) : Fvn (kX Z h t) (kpad h g) (kpad h b) r d = 0 := by
  unfold Fvn rvn; rw [rvh_lo _ _ _ _ _ hd, kpad_lo _ _ _ _ hd, kpad_lo _ _ _ _ hd]; simp
theorem Fvn_hi (r d : ℕ) : Fvn (kX Z h t) (kpad h g) (kpad h b) r (64 + d) = sVn Z g b h (512 * t + r) d := by
  unfold Fvn rvn sVn; rw [rvh_hi, kpad_hi, kpad_hi]

variable (P : ℕ → ℕ → ℝ) (hP : ∀ r, ∀ d < 64, P r d = sCt D h (512 * t + r) d)
include hP
theorem rlo_lo (r d : ℕ) (hd : d < 64) : rlo P r d = sCt D h (512 * t + r) d := by unfold rlo; rw [if_pos hd, hP r d hd]
omit hP in
theorem rlo_hi (r d : ℕ) : rlo P r (64 + d) = 0 := by unfold rlo; rw [if_neg (by omega)]
omit hP in
theorem Fdsv_lo (r d : ℕ) (hd : d < 64) : Fdsv (kX Z h t) P r d = 0 := by
  unfold Fdsv rdsv rrot; beta_reduce; rw [show (d + 64) % 128 = 64 + d by omega, rlo_hi, zero_mul]
theorem Fdsv_hi (r d : ℕ) (hd : d < 64) : Fdsv (kX Z h t) P r (64 + d) = sDs Z D h (512 * t + r) d := by
  unfold Fdsv rdsv rrot sDs; beta_reduce; rw [show (64 + d + 64) % 128 = d by omega, rlo_lo D h t P hP r d hd, kX_lo]
omit hP in
theorem Fdvn_lo (r d : ℕ) (hd : d < 64) : Fdvn (kX Z h t) P (fun a => W (h + a)) r d = 0 := by
  unfold Fdvn rdvn; exact sum_eq_zero fun k _ => by rw [Fdsv_lo _ _ _ _ _ _ hd, mul_zero]
theorem Fdvn_hi (r d : ℕ) (hd : d < 64) : Fdvn (kX Z h t) P (fun a => W (h + a)) r (64 + d) = sDvn Z D W h (512 * t + r) d := by
  unfold Fdvn rdvn sDvn
  refine sum_congr rfl fun k _ => ?_
  rw [Fdsv_hi Z D h t P hP _ _ hd]
  rw [show (512 * t + r) % 128 = r % 128 by omega, show 128 * ((512 * t + r) / 128) + k = 512 * t + (128 * (r / 128) + k) by omega]
  rfl
omit hP in
theorem rsv_hi (r d : ℕ) : rsv (rtril (W (h + 0))) (fun i _ => s h i) (Fvn (kX Z h t) (kpad h g) (kpad h b)) r (64 + d)
    = sSv Z g b W s h (512 * t + r) d := by
  unfold rsv sSv
  rw [show (512 * t + r) % 128 = r % 128 by omega]
  congr 1
  refine sum_congr rfl fun k _ => ?_
  rw [Fvn_hi, show 128 * ((512 * t + r) / 128) + k = 512 * t + (128 * (r / 128) + k) by omega]
  rfl
theorem mean_dvh (r : ℕ) : rmean (fun r l => Fdvn (kX Z h t) P (fun a => W (h + a)) r l * kpad h g 0 l) r
    = (∑ e ∈ range 64, sDvh Z D g W h (512 * t + r) e) * (1 / 64) := by
  unfold rmean sDvh; rw [sum_lanes]
  rw [sum_eq_zero fun x hx => by beta_reduce; rw [kpad_lo _ _ _ _ (mem_range.mp hx), mul_zero], zero_add]
  congr 1; exact sum_congr rfl fun e he => by beta_reduce; rw [Fdvn_hi Z D W h t P hP _ _ (mem_range.mp he), kpad_hi]
theorem mean_dvh_vh (r : ℕ) : rmean (fun r l => Fdvn (kX Z h t) P (fun a => W (h + a)) r l * kpad h g 0 l * rvh (rxc (kX Z h t)) r l) r
    = (∑ e ∈ range 64, sDvh Z D g W h (512 * t + r) e * sVh Z h (512 * t + r) e) * (1 / 64) := by
  unfold rmean sDvh; rw [sum_lanes]
  rw [sum_eq_zero fun x hx => by beta_reduce; rw [kpad_lo _ _ _ _ (mem_range.mp hx), mul_zero, zero_mul], zero_add]
  congr 1; exact sum_congr rfl fun e he => by beta_reduce; rw [Fdvn_hi Z D W h t P hP _ _ (mem_range.mp he), kpad_hi, rvh_hi]

/-- The block's gradient of the head's columns. -/
theorem Fdz (r l : ℕ) (hl : l < 128) :
    rdz (fun r l => gd (Z (512 * t + r) (128 * h + l))) (rlo P)
      (rsv (rtril (W (h + 0))) (fun i _ => s h i) (Fvn (kX Z h t) (kpad h g) (kpad h b)))
      (rvh (rxc (kX Z h t))) (Fdvn (kX Z h t) P (fun a => W (h + a))) (rrs (rxc (kX Z h t))) (kpad h g) r l
    = oDz Z D g b W s (512 * t + r) (128 * h + l) := by
  unfold rdz oDz
  rw [show (128 * h + l) / 128 = h by omega, show (128 * h + l) % 128 = l by omega]
  congr 1
  by_cases h0 : l < 64
  · rw [if_pos h0, if_pos h0, rlo_lo D h t P hP r l h0, add_zero]
    unfold rrot sDu
    rw [show (l + 64) % 128 = 64 + l by omega, rsv_hi]
  · obtain ⟨d, rfl⟩ : ∃ d, l = 64 + d := ⟨l - 64, by omega⟩
    rw [if_neg h0, if_neg h0, rlo_hi, zero_mul, zero_add, show 64 + d - 64 = d by omega]
    unfold rln sDv
    beta_reduce
    rw [rrs_eq, mean_dvh Z D g W h t P hP, mean_dvh_vh Z D g W h t P hP, rvh_hi, Fdvn_hi Z D W h t P hP _ _ (by omega), kpad_hi]
    rfl
/-- The block's share of the weights' gradient. -/
theorem Fdw (i j : ℕ) : rtril (rdw (Fdsv (kX Z h t) P) (Fvn (kX Z h t) (kpad h g) (kpad h b))) i j
    = if j ≤ i then ∑ n ∈ range 4, ∑ d ∈ range 64, sDs Z D h (128 * (4 * t + n) + i) d * sVn Z g b h (128 * (4 * t + n) + j) d else 0 := by
  unfold rtril
  by_cases hij : j ≤ i
  · rw [if_pos hij, if_pos hij]; unfold rdw
    refine sum_congr rfl fun n _ => ?_
    rw [sum_lanes, sum_eq_zero fun x hx => by rw [Fdsv_lo _ _ _ _ _ _ (mem_range.mp hx), zero_mul], zero_add]
    refine sum_congr rfl fun d hd => ?_
    rw [Fdsv_hi Z D h t P hP _ _ (mem_range.mp hd), Fvn_hi, show 512 * t + (128 * n + i) = 128 * (4 * t + n) + i by omega,
      show 512 * t + (128 * n + j) = 128 * (4 * t + n) + j by omega]
  · rw [if_neg hij, if_neg hij]
theorem Fdbs (i : ℕ) : rdbs (Fdsv (kX Z h t) P) i = ∑ n ∈ range 4, ∑ d ∈ range 64, sDs Z D h (128 * (4 * t + n) + i) d := by
  unfold rdbs
  refine sum_congr rfl fun n _ => ?_
  rw [sum_lanes, sum_eq_zero fun x hx => by rw [Fdsv_lo _ _ _ _ _ _ (mem_range.mp hx)], zero_add]
  refine sum_congr rfl fun d hd => ?_
  rw [Fdsv_hi Z D h t P hP _ _ (mem_range.mp hd), show 512 * t + (128 * n + i) = 128 * (4 * t + n) + i by omega]
theorem Fdg (l : ℕ) (hl : l < 128) : ∑ r ∈ range 512, Fdvn (kX Z h t) P (fun a => W (h + a)) r l * rvh (rxc (kX Z h t)) r l
    = if l < 64 then 0 else ∑ r ∈ range 512, sDvn Z D W h (512 * t + r) (l - 64) * sVh Z h (512 * t + r) (l - 64) := by
  by_cases h0 : l < 64
  · rw [if_pos h0]; exact sum_eq_zero fun r _ => by rw [Fdvn_lo _ _ _ _ _ _ _ h0, zero_mul]
  · obtain ⟨d, rfl⟩ : ∃ d, l = 64 + d := ⟨l - 64, by omega⟩
    rw [if_neg h0, show 64 + d - 64 = d by omega]
    exact sum_congr rfl fun r _ => by rw [Fdvn_hi Z D W h t P hP _ _ (by omega), rvh_hi]
theorem Fdb (l : ℕ) (hl : l < 128) : ∑ r ∈ range 512, Fdvn (kX Z h t) P (fun a => W (h + a)) r l
    = if l < 64 then 0 else ∑ r ∈ range 512, sDvn Z D W h (512 * t + r) (l - 64) := by
  by_cases h0 : l < 64
  · rw [if_pos h0]; exact sum_eq_zero fun r _ => Fdvn_lo _ _ _ _ _ _ _ h0
  · obtain ⟨d, rfl⟩ : ∃ d, l = 64 + d := ⟨l - 64, by omega⟩
    rw [if_neg h0, show 64 + d - 64 = d by omega]
    exact sum_congr rfl fun r _ => by rw [Fdvn_hi Z D W h t P hP _ _ (by omega)]
end OneHead

end Cert.RealForm
end
-- ==== Proof.Point.lean ====
module

public import proofs.«01_k».proof.Proof.Lanes

@[expose] public section

set_option maxRecDepth 16384

noncomputable section

/-! What one grid point leaves in each output, in real numbers. -/

namespace Cert.RealForm

open Cert.KernelIdeal Cert.KernelIdeal.Gen Idealize.ShloMosaic Finset

/-! ### The activation and its derivative -/

theorem n_cubic : (Named.named (F := Ideal) κ "gelu_cubic" (φ := .f32) 0x3D372713#32) = ((8943 / 200000 : ℝ) : EReal) := rfl
theorem n_cubic3 : (Named.named (F := Ideal) κ "gelu_cubic_3" (φ := .f32) 0x3E095D4F#32) = ((26829 / 200000 : ℝ) : EReal) := rfl

def th (x : ℝ) : ℝ := Real.tanh (GC * (x + 8943 / 200000 * (x * x * x)))
theorem pay7_eq (X) : k0_pay7 (F := Ideal) (E2 512 512 X) = E2 512 512 fun r l => th (X r l) := by
  unfold k0_pay7
  simp only [n_cubic, w_gc, splat2, mulf2, addf2, tanh2]; rfl
theorem gl_eq (X) : gl (E2 512 512 X) = E2 512 512 fun r l => ge (X r l) := by
  unfold gl k0_pay6
  simp only [n_cubic, w_gc, w_half, w_one, splat2, mulf2, addf2, tanh2]; rfl
theorem gg_eq (X) : gg (E2 512 512 X) = E2 512 512 fun r l => gd (X r l) := by
  unfold gg k0_pay12 k0_pay8 k0_pay9 k0_pay10 k0_pay11
  simp only [pay7_eq, n_cubic3, w_gc, w_half, w_one, splat2, mulf2, addf2, subf2]; rfl

/-! ### The blocks' parts -/

theorem ld2 {n m a b o p : ℕ} (X : ℕ → ℕ → ℝ) (h : ∀ i, (![o, p] : Fin 2 → ℕ) i + (![a, b] : Fin 2 → ℕ) i ≤ (![n, m] : Fin 2 → ℕ) i) :
    View.ld (Val := Elt Ideal) (e' := .f32) (S := ⟨2, ![n, m]⟩) (E2 n m X) (Rect.unit (s := ⟨2, ![n, m]⟩) ![o, p] ![a, b] h) = E2 a b fun r l => X (o + r) (p + l) := by
  funext j
  show ((X (o + 1 * (j 0).val) (p + 1 * (j 1).val) : ℝ) : EReal) = _
  rw [one_mul, one_mul]; rfl
theorem ld3 {n m k a b c o p q : ℕ} (X : ℕ → ℕ → ℕ → ℝ)
    (h : ∀ i, (![o, p, q] : Fin 3 → ℕ) i + (![a, b, c] : Fin 3 → ℕ) i ≤ (![n, m, k] : Fin 3 → ℕ) i) :
    View.ld (Val := Elt Ideal) (e' := .f32) (S := ⟨3, ![n, m, k]⟩) (E3 n m k X) (Rect.unit (s := ⟨3, ![n, m, k]⟩) ![o, p, q] ![a, b, c] h)
      = E3 a b c fun r l u => X (o + r) (p + l) (q + u) := by
  funext j
  show ((X (o + 1 * (j 0).val) (p + 1 * (j 1).val) (q + 1 * (j 2).val) : ℝ) : EReal) = _
  rw [one_mul, one_mul, one_mul]; rfl

section Parts
variable (X : ℕ → ℕ → ℝ) (Y : ℕ → ℕ → ℕ → ℝ)
theorem s0_eq : s0 (E2 512 512 X) = E2 512 128 fun r l => X r (128 * 0 + l) := by
  unfold s0; rw [slice2]; exact E2_congr fun r _ l _ => by congr 1; omega
theorem s1_eq : s1 (E2 512 512 X) = E2 512 128 fun r l => X r (128 * 1 + l) := by
  unfold s1; rw [slice2]; exact E2_congr fun r _ l _ => by congr 1; omega
theorem s2_eq : s2 (E2 512 512 X) = E2 512 128 fun r l => X r (128 * 2 + l) := by
  unfold s2; rw [slice2]; exact E2_congr fun r _ l _ => by congr 1; omega
theorem s3_eq : s3 (E2 512 512 X) = E2 512 128 fun r l => X r (128 * 3 + l) := by
  unfold s3; rw [slice2]; exact E2_congr fun r _ l _ => by congr 1; omega
theorem p0_eq : p0 (E2 512 256 X) = E2 512 128 fun r l => X r l := by
  unfold p0; rw [ld2]; exact E2_congr fun r _ l _ => by congr 1 <;> omega
theorem p1_eq : p1 (E2 512 256 X) = E2 512 128 fun r l => X r (128 + l) := by
  unfold p1; rw [ld2]; exact E2_congr fun r _ l _ => by congr 1; omega
theorem r0_eq : r0 (E2 1 512 X) = E2 1 128 fun r l => X r (128 * 0 + l) := by
  unfold r0; rw [ld2]; exact E2_congr fun r _ l _ => by congr 1 <;> omega
theorem r1_eq : r1 (E2 1 512 X) = E2 1 128 fun r l => X r (128 * 1 + l) := by
  unfold r1; rw [ld2]; exact E2_congr fun r _ l _ => by congr 1; omega
theorem r2_eq : r2 (E2 1 512 X) = E2 1 128 fun r l => X r (128 * 2 + l) := by
  unfold r2; rw [ld2]; exact E2_congr fun r _ l _ => by congr 1; omega
theorem r3_eq : r3 (E2 1 512 X) = E2 1 128 fun r l => X r (128 * 3 + l) := by
  unfold r3; rw [ld2]; exact E2_congr fun r _ l _ => by congr 1; omega
theorem b0_eq : b0 (E3 4 128 128 Y) = E3 1 128 128 fun a r l => Y (0 + a) r l := by
  unfold b0; rw [ld3]; exact E3_congr fun r _ l _ a _ => by congr 1 <;> omega
theorem b1_eq : b1 (E3 4 128 128 Y) = E3 1 128 128 fun a r l => Y (1 + a) r l := by
  unfold b1; rw [ld3]; exact E3_congr fun r _ l _ a _ => by congr 1 <;> omega
theorem b2_eq : b2 (E3 4 128 128 Y) = E3 1 128 128 fun a r l => Y (2 + a) r l := by
  unfold b2; rw [ld3]; exact E3_congr fun r _ l _ a _ => by congr 1 <;> omega
theorem b3_eq : b3 (E3 4 128 128 Y) = E3 1 128 128 fun a r l => Y (3 + a) r l := by
  unfold b3; rw [ld3]; exact E3_congr fun r _ l _ a _ => by congr 1 <;> omega
end Parts

section Point
variable (Z D g b : ℕ → ℕ → ℝ) (W : ℕ → ℕ → ℕ → ℝ) (s : ℕ → ℕ → ℝ) (t : ℕ)

/-- The point's six blocks. -/
def eZ : W5 := E2 512 512 fun r l => Z (512 * t + r) l
def eD : D2 := E2 512 256 fun r l => D (512 * t + r) l
def padf (a : ℕ → ℕ → ℝ) (l : ℕ) : ℝ := if l % 128 < 64 then 0 else a (l / 128) (l % 128 - 64)
def eP (a : ℕ → ℕ → ℝ) : R5 := E2 1 512 fun _ l => padf a l
def eW : B4 := E3 4 128 128 W
def eS : B4 := E3 4 128 128 fun h i _ => s h i

theorem padf_head (a : ℕ → ℕ → ℝ) (h : ℕ) :
    E2 1 128 (fun _ l => padf a (128 * h + l)) = E2 1 128 (kpad h a) := by
  refine E2_congr fun r _ l hl => ?_
  unfold padf kpad
  rw [show (128 * h + l) / 128 = h by omega, show (128 * h + l) % 128 = l by omega]

variable (h : ℕ) (P : ℕ → ℕ → ℝ) (hP : ∀ r, ∀ d < 64, P r d = sCt D h (512 * t + r) d)
include hP
theorem head_dz : Hdz (E2 512 128 fun r l => gd (Z (512 * t + r) (128 * h + l))) (E2 512 128 (kX Z h t)) (E2 512 128 P) (E2 1 128 (kpad h g))
      (E2 1 128 (kpad h b)) (E3 1 128 128 fun a r l => W (h + a) r l) (E3 1 128 128 fun a i _ => s (h + a) i)
    = E2 512 128 fun r l => oDz Z D g b W s (512 * t + r) (128 * h + l) := by
  rw [Hdz_eq]; exact E2_congr fun r _ l hl => Fdz Z D g b W s h t P hP r l hl
/-- The point's shares of the four accumulated gradients. -/
def cDw (h i j : ℕ) : ℝ :=
  if j ≤ i then ∑ n ∈ range 4, ∑ d ∈ range 64, sDs Z D h (128 * (4 * t + n) + i) d * sVn Z g b h (128 * (4 * t + n) + j) d else 0
def cDbs (h i : ℕ) : ℝ := ∑ n ∈ range 4, ∑ d ∈ range 64, sDs Z D h (128 * (4 * t + n) + i) d
def cDg (l : ℕ) : ℝ :=
  if l % 128 < 64 then 0 else ∑ r ∈ range 512, sDvn Z D W (l / 128) (512 * t + r) (l % 128 - 64) * sVh Z (l / 128) (512 * t + r) (l % 128 - 64)
def cDb (l : ℕ) : ℝ := if l % 128 < 64 then 0 else ∑ r ∈ range 512, sDvn Z D W (l / 128) (512 * t + r) (l % 128 - 64)
theorem head_dw (Y : ℕ → ℕ → ℕ → ℝ) : Hdw (E3 1 128 128 fun a r l => Y (h + a) r l) (E2 512 128 (kX Z h t)) (E2 512 128 P) (E2 1 128 (kpad h g))
      (E2 1 128 (kpad h b)) = E3 1 128 128 fun a i j => Y (h + a) i j + cDw Z D g b t (h + a) i j := by
  rw [Hdw_eq]; refine E3_congr fun a ha i _ j _ => ?_
  obtain rfl : a = 0 := by omega
  rw [Fdw Z D g b h t P hP]; rfl
theorem head_dbs (Y : ℕ → ℕ → ℕ → ℝ) : Hdbs (E3 1 128 128 fun a r l => Y (h + a) r l) (E2 512 128 (kX Z h t)) (E2 512 128 P)
    = E3 1 128 128 fun a i j => Y (h + a) i j + cDbs Z D t (h + a) i := by
  rw [Hdbs_eq]; refine E3_congr fun a ha i _ j _ => ?_
  obtain rfl : a = 0 := by omega
  rw [Fdbs Z D h t P hP]; rfl
theorem head_dg (Y : ℕ → ℕ → ℝ) : Hdg (E2 1 128 fun a l => Y a (128 * h + l)) (E3 1 128 128 fun a r l => W (h + a) r l) (E2 512 128 (kX Z h t)) (E2 512 128 P)
    = E2 1 128 fun a l => Y a (128 * h + l) + cDg Z D W t (128 * h + l) := by
  rw [Hdg_eq]; refine E2_congr fun a ha l hl => ?_
  rw [Fdg Z D W h t P hP l hl]; unfold cDg
  rw [show (128 * h + l) / 128 = h by omega, show (128 * h + l) % 128 = l by omega]
theorem head_db (Y : ℕ → ℕ → ℝ) : Hdb (E2 1 128 fun a l => Y a (128 * h + l)) (E3 1 128 128 fun a r l => W (h + a) r l) (E2 512 128 (kX Z h t)) (E2 512 128 P)
    = E2 1 128 fun a l => Y a (128 * h + l) + cDb Z D W t (128 * h + l) := by
  rw [Hdb_eq]; refine E2_congr fun a ha l hl => ?_
  rw [Fdb Z D W h t P hP l hl]; unfold cDb
  rw [show (128 * h + l) / 128 = h by omega, show (128 * h + l) % 128 = l by omega]
end Point

section Pieces
variable (Z D g b : ℕ → ℕ → ℝ) (W : ℕ → ℕ → ℕ → ℝ) (s : ℕ → ℕ → ℝ) (t : ℕ)

/-- The four heads' upstream pairs, the head's own 64 columns first. -/
theorem hP0 : ∀ r, ∀ d < 64, (fun r l => D (512 * t + r) l) r d = sCt D 0 (512 * t + r) d := fun r d _ => by
  unfold sCt; beta_reduce; rw [mul_zero, zero_add]
theorem hP1 : ∀ r, ∀ d < 64, rrot (fun r l => D (512 * t + r) l) r d = sCt D 1 (512 * t + r) d := fun r d hd => by
  unfold sCt rrot; congr 1; omega
theorem hP2 : ∀ r, ∀ d < 64, (fun r l => D (512 * t + r) (128 + l)) r d = sCt D 2 (512 * t + r) d := fun r d _ => by
  unfold sCt; beta_reduce; congr 1
theorem hP3 : ∀ r, ∀ d < 64, rrot (fun r l => D (512 * t + r) (128 + l)) r d = sCt D 3 (512 * t + r) d := fun r d hd => by
  unfold sCt rrot; beta_reduce; rw [show 128 + (d + 64) % 128 = 64 * 3 + d by omega]

theorem sub2 {n m a b o p : ℕ} (X F : ℕ → ℕ → ℝ) (h : ∀ i, (![o, p] : Fin 2 → ℕ) i + (![a, b] : Fin 2 → ℕ) i ≤ (![n, m] : Fin 2 → ℕ) i)
    (v : (⟨2, ![a, b]⟩ : Shape).Idx → EReal) (hv : v = E2 a b F) (hF : ∀ r < a, ∀ l < b, F r l = X (o + r) (p + l)) (x : (⟨2, ![a, b]⟩ : Shape).Idx) :
    v x = E2 n m X ((Rect.unit (s := ⟨2, ![n, m]⟩) ![o, p] ![a, b] h).emb x) := by
  rw [hv, E2_congr hF]; exact (congrFun (ld2 X h) x).symm
theorem sub3 {n m k a b c o p q : ℕ} (X F : ℕ → ℕ → ℕ → ℝ)
    (h : ∀ i, (![o, p, q] : Fin 3 → ℕ) i + (![a, b, c] : Fin 3 → ℕ) i ≤ (![n, m, k] : Fin 3 → ℕ) i)
    (v : (⟨3, ![a, b, c]⟩ : Shape).Idx → EReal) (hv : v = E3 a b c F) (hF : ∀ r < a, ∀ l < b, ∀ u < c, F r l u = X (o + r) (p + l) (q + u))
    (x : (⟨3, ![a, b, c]⟩ : Shape).Idx) :
    v x = E3 n m k X ((Rect.unit (s := ⟨3, ![n, m, k]⟩) ![o, p, q] ![a, b, c] h).emb x) := by
  rw [hv, E3_congr hF]; exact (congrFun (ld3 X h) x).symm

theorem Ldz_pieces : View.PiecesOf (E2 512 512 fun r l => oDz Z D g b W s (512 * t + r) l)
    (Ldz (eZ Z t) (eD D t) (eP g) (eP b) (eW W) (eS s)) := by
  unfold Ldz eZ eD eP eW eS
  simp only [gl_eq, gg_eq, s0_eq, s1_eq, s2_eq, s3_eq, p0_eq, p1_eq, r0_eq, r1_eq, r2_eq, r3_eq, b0_eq, b1_eq, b2_eq, b3_eq, hrot_eq, padf_head]
  refine ⟨?_, ?_, ?_, ?_, trivial⟩
  · exact sub2 _ _ (by decide) _ (head_dz Z D g b W s t 3 _ (hP3 D t)) fun r _ l _ => by congr 1; omega
  · exact sub2 _ _ (by decide) _ (head_dz Z D g b W s t 2 _ (hP2 D t)) fun r _ l _ => by congr 1; omega
  · exact sub2 _ _ (by decide) _ (head_dz Z D g b W s t 1 _ (hP1 D t)) fun r _ l _ => by congr 1; omega
  · exact sub2 _ _ (by decide) _ (head_dz Z D g b W s t 0 _ (hP0 D t)) fun r _ l _ => by congr 1; omega
theorem Ldw_pieces (Y) : View.PiecesOf (E3 4 128 128 fun h i j => Y h i j + cDw Z D g b t h i j)
    (Ldw (eZ Z t) (eD D t) (eP g) (eP b) (E3 4 128 128 Y)) := by
  unfold Ldw eZ eD eP
  simp only [gl_eq, s0_eq, s1_eq, s2_eq, s3_eq, p0_eq, p1_eq, r0_eq, r1_eq, r2_eq, r3_eq, b0_eq, b1_eq, b2_eq, b3_eq, hrot_eq, padf_head]
  refine ⟨?_, ?_, ?_, ?_, trivial⟩
  · exact sub3 _ _ (by decide) _ (head_dw Z D g b t 3 _ (hP3 D t) Y) fun r _ l _ u _ => by rw [zero_add, zero_add]
  · exact sub3 _ _ (by decide) _ (head_dw Z D g b t 2 _ (hP2 D t) Y) fun r _ l _ u _ => by rw [zero_add, zero_add]
  · exact sub3 _ _ (by decide) _ (head_dw Z D g b t 1 _ (hP1 D t) Y) fun r _ l _ u _ => by rw [zero_add, zero_add]
  · exact sub3 _ _ (by decide) _ (head_dw Z D g b t 0 _ (hP0 D t) Y) fun r _ l _ u _ => by rw [zero_add l, zero_add u]
theorem Ldbs_pieces (Y) : View.PiecesOf (E3 4 128 128 fun h i j => Y h i j + cDbs Z D t h i)
    (Ldbs (eZ Z t) (eD D t) (E3 4 128 128 Y)) := by
  unfold Ldbs eZ eD
  simp only [gl_eq, s0_eq, s1_eq, s2_eq, s3_eq, p0_eq, p1_eq, b0_eq, b1_eq, b2_eq, b3_eq, hrot_eq]
  refine ⟨?_, ?_, ?_, ?_, trivial⟩
  · exact sub3 _ _ (by decide) _ (head_dbs Z D t 3 _ (hP3 D t) Y) fun r _ l _ u _ => by rw [zero_add, zero_add]
  · exact sub3 _ _ (by decide) _ (head_dbs Z D t 2 _ (hP2 D t) Y) fun r _ l _ u _ => by rw [zero_add, zero_add]
  · exact sub3 _ _ (by decide) _ (head_dbs Z D t 1 _ (hP1 D t) Y) fun r _ l _ u _ => by rw [zero_add, zero_add]
  · exact sub3 _ _ (by decide) _ (head_dbs Z D t 0 _ (hP0 D t) Y) fun r _ l _ u _ => by rw [zero_add l, zero_add u]
theorem Ldg_pieces (Y : ℕ → ℕ → ℝ) : View.PiecesOf (E2 1 512 fun a l => Y a l + cDg Z D W t l)
    (Ldg (eZ Z t) (eD D t) (eW W) (E2 1 512 Y)) := by
  unfold Ldg eZ eD eW
  simp only [gl_eq, s0_eq, s1_eq, s2_eq, s3_eq, p0_eq, p1_eq, r0_eq, r1_eq, r2_eq, r3_eq, b0_eq, b1_eq, b2_eq, b3_eq, hrot_eq]
  refine ⟨?_, ?_, ?_, ?_, trivial⟩
  · exact sub2 _ _ (by decide) _ (head_dg Z D W t 3 _ (hP3 D t) Y) fun r _ l _ => by rw [zero_add]
  · exact sub2 _ _ (by decide) _ (head_dg Z D W t 2 _ (hP2 D t) Y) fun r _ l _ => by rw [zero_add]
  · exact sub2 _ _ (by decide) _ (head_dg Z D W t 1 _ (hP1 D t) Y) fun r _ l _ => by rw [zero_add]
  · exact sub2 _ _ (by decide) _ (head_dg Z D W t 0 _ (hP0 D t) Y) fun r _ l _ => by rw [zero_add r]
theorem Ldb_pieces (Y : ℕ → ℕ → ℝ) : View.PiecesOf (E2 1 512 fun a l => Y a l + cDb Z D W t l)
    (Ldb (eZ Z t) (eD D t) (eW W) (E2 1 512 Y)) := by
  unfold Ldb eZ eD eW
  simp only [gl_eq, s0_eq, s1_eq, s2_eq, s3_eq, p0_eq, p1_eq, r0_eq, r1_eq, r2_eq, r3_eq, b0_eq, b1_eq, b2_eq, b3_eq, hrot_eq]
  refine ⟨?_, ?_, ?_, ?_, trivial⟩
  · exact sub2 _ _ (by decide) _ (head_db Z D W t 3 _ (hP3 D t) Y) fun r _ l _ => by rw [zero_add]
  · exact sub2 _ _ (by decide) _ (head_db Z D W t 2 _ (hP2 D t) Y) fun r _ l _ => by rw [zero_add]
  · exact sub2 _ _ (by decide) _ (head_db Z D W t 1 _ (hP1 D t) Y) fun r _ l _ => by rw [zero_add]
  · exact sub2 _ _ (by decide) _ (head_db Z D W t 0 _ (hP0 D t) Y) fun r _ l _ => by rw [zero_add r]

end Pieces

end Cert.RealForm
end
-- ==== Proof.Block.lean ====
module

public import proofs.«01_k».proof.Proof.Cells
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

/-! What one grid point leaves in each output, as the head's stages over the point's blocks. -/

namespace Cert.RealForm

open Cert.KernelIdeal Cert.KernelIdeal.Gen Cert.KernelIdeal.Value Idealize.ShloMosaic Idealize.ShloMosaic.TcCoe Idealize.SL.Sem Finset

variable (m : (ℓ : Loc nD τ sig) → Buf (Elt Ideal) ℓ) (c : Dev nD) (t : Fin cfg0.N)

theorem dz_B (h0 : ¬ t.val % 16 = 0) : (outsAt0 m c t.val t.isLt).1
    = View.canon (Ldz (iblk m c 0 t) (iblk m c 1 t) (iblk m c 2 t) (iblk m c 3 t) (iblk m c 4 t) (iblk m c 5 t)) := by
  rw [outsAt0_B m c t h0]
  frame_out
  rfl
theorem dz_A (h0 : t.val % 16 = 0) : (outsAt0 m c t.val t.isLt).1
    = View.canon (Ldz (iblk m c 0 t) (iblk m c 1 t) (iblk m c 2 t) (iblk m c 3 t) (iblk m c 4 t) (iblk m c 5 t)) := by
  rw [outsAt0_A m c t h0]
  frame_out
  rfl
theorem dw_B (h0 : ¬ t.val % 16 = 0) (h) : (outsAt0 m c t.val t.isLt).2.1
    = View.canon (Ldw (iblk m c 0 t) (iblk m c 1 t) (iblk m c 2 t) (iblk m c 3 t) (outsAt0 m c (t.val - 1) h).2.1) := by
  rw [outsAt0_B m c t h0]
  frame_out
  rfl
theorem dbs_B (h0 : ¬ t.val % 16 = 0) (h) : (outsAt0 m c t.val t.isLt).2.2.1
    = View.canon (Ldbs (iblk m c 0 t) (iblk m c 1 t) (outsAt0 m c (t.val - 1) h).2.2.1) := by
  rw [outsAt0_B m c t h0]
  frame_out
  rfl
theorem dg_B (h0 : ¬ t.val % 16 = 0) (h) : (outsAt0 m c t.val t.isLt).2.2.2.1
    = View.canon (Ldg (iblk m c 0 t) (iblk m c 1 t) (iblk m c 4 t) (outsAt0 m c (t.val - 1) h).2.2.2.1) := by
  rw [outsAt0_B m c t h0]
  frame_out
  rfl
theorem db_B (h0 : ¬ t.val % 16 = 0) (h) : (outsAt0 m c t.val t.isLt).2.2.2.2
    = View.canon (Ldb (iblk m c 0 t) (iblk m c 1 t) (iblk m c 4 t) (outsAt0 m c (t.val - 1) h).2.2.2.2) := by
  rw [outsAt0_B m c t h0]
  frame_out
  rfl
theorem dw_A (h0 : t.val % 16 = 0) : (outsAt0 m c t.val t.isLt).2.1
    = View.canon (Ldw (iblk m c 0 t) (iblk m c 1 t) (iblk m c 2 t) (iblk m c 3 t) k0_pay2
      ++ [⟨Rect.unit ![0, 0, 0] ![4, 128, 128] inb_S4x128x128_S4x128x128_0_0_0, (k0_pay2 (F := Ideal))⟩]) := by
  rw [outsAt0_A m c t h0]
  frame_open
  simp (disch := decide) only [↓ View.readCov_skip, ↓ View.readCov_fill]
  frame_out
  rfl
theorem dbs_A (h0 : t.val % 16 = 0) : (outsAt0 m c t.val t.isLt).2.2.1
    = View.canon (Ldbs (iblk m c 0 t) (iblk m c 1 t) k0_pay3
      ++ [⟨Rect.unit ![0, 0, 0] ![4, 128, 128] inb_S4x128x128_S4x128x128_0_0_0, (k0_pay3 (F := Ideal))⟩]) := by
  rw [outsAt0_A m c t h0]
  frame_open
  simp (disch := decide) only [↓ View.readCov_skip, ↓ View.readCov_fill]
  frame_out
  rfl
theorem dg_A (h0 : t.val % 16 = 0) : (outsAt0 m c t.val t.isLt).2.2.2.1
    = View.canon (Ldg (iblk m c 0 t) (iblk m c 1 t) (iblk m c 4 t) k0_pay4
      ++ [⟨Rect.unit ![0, 0] ![1, 512] inb_S1x512_S1x512_0_0, (k0_pay4 (F := Ideal))⟩]) := by
  rw [outsAt0_A m c t h0]
  frame_open
  simp (disch := decide) only [↓ View.readCov_skip, ↓ View.readCov_fill]
  frame_out
  rfl
theorem db_A (h0 : t.val % 16 = 0) : (outsAt0 m c t.val t.isLt).2.2.2.2
    = View.canon (Ldb (iblk m c 0 t) (iblk m c 1 t) (iblk m c 4 t) k0_pay5
      ++ [⟨Rect.unit ![0, 0] ![1, 512] inb_S1x512_S1x512_0_0, (k0_pay5 (F := Ideal))⟩]) := by
  rw [outsAt0_A m c t h0]
  frame_open
  simp (disch := decide) only [↓ View.readCov_skip, ↓ View.readCov_fill]
  frame_out
  rfl

end Cert.RealForm
end
-- ==== Proof.Blk.lean ====
module

public import proofs.«01_k».proof.Proof.Point
public import proofs.«01_k».proof.Proof.Block
public import Idealize.ShloMosaic.Lib.Pointwise

@[expose] public section

set_option maxRecDepth 16384

noncomputable section

/-! The blocks a grid point reads, in real numbers. -/

namespace Cert.RealForm

open Cert.KernelIdeal Cert.KernelIdeal.Gen Cert.KernelIdeal.Value Idealize.ShloMosaic Idealize.ShloMosaic.TcCoe Idealize.SL.Sem Finset

variable (m : (ℓ : Loc nD τ sig) → Buf (Elt Ideal) ℓ) (c : Dev nD) (Z D g b : ℕ → ℕ → ℝ) (W : ℕ → ℕ → ℕ → ℝ) (s : ℕ → ℕ → ℝ) (t : Fin cfg0.N)

theorem idx_in : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0, 0] :=
  (by decide +kernel : ∀ t : Fin grid0.N, _)

theorem emb0 (j0 j1 : Fin 512) : (((((cfg0.win 0).blk t).view.emb (ix2 j0 j1)) 0 : Fin _) : ℕ) = 512 * t.val + j0.val
    ∧ (((((cfg0.win 0).blk t).view.emb (ix2 j0 j1)) 1 : Fin _) : ℕ) = j1.val := by
  constructor <;> blk_simp [idx_in t] <;> omega
theorem blkZ (hz : ∀ i : (⟨2, ![8192, 1536]⟩ : Shape).Idx, (i 1).val < 512 → m (c, main_arg0) i = E2 8192 1536 Z i) : @Eq W5 (iblk m c 0 t) (eZ Z t.val) := by
  funext j; idx_vars j
  blk_simp [iblk]
  entry_read
  obtain ⟨h0, h1⟩ := emb0 t j0 j1
  refine (hz _ (by rw [h1]; exact j1.isLt)).trans ?_
  exact congrArg (fun x : ℝ => (x : EReal)) (congrArg₂ Z h0 h1)
theorem emb1 (j0 : Fin 512) (j1 : Fin 256) : (((((cfg0.win 1).blk t).view.emb (ix2 j0 j1)) 0 : Fin _) : ℕ) = 512 * t.val + j0.val
    ∧ (((((cfg0.win 1).blk t).view.emb (ix2 j0 j1)) 1 : Fin _) : ℕ) = j1.val := by
  constructor <;> blk_simp [idx_in t] <;> omega
theorem blkD (hd : m (c, main_arg1) = E2 8192 256 D) : @Eq D2 (iblk m c 1 t) (eD D t.val) := by
  funext j; idx_vars j
  blk_simp [iblk]
  entry_read
  rw [hd]
  obtain ⟨h0, h1⟩ := emb1 t j0 j1
  exact congrArg (fun x : ℝ => (x : EReal)) (congrArg₂ D h0 h1)
theorem emb4 (j0 : Fin 4) (j1 j2 : Fin 128) : (((((cfg0.win 4).blk t).view.emb (ix3 j0 j1 j2)) 0 : Fin _) : ℕ) = j0.val
    ∧ (((((cfg0.win 4).blk t).view.emb (ix3 j0 j1 j2)) 1 : Fin _) : ℕ) = j1.val
    ∧ (((((cfg0.win 4).blk t).view.emb (ix3 j0 j1 j2)) 2 : Fin _) : ℕ) = j2.val := by
  refine ⟨?_, ?_, ?_⟩ <;> blk_simp [idx_in t]
theorem blkW (hw : m (c, main_arg4) = E3 4 128 128 W) : @Eq B4 (iblk m c 4 t) (eW W) := by
  funext j; idx_vars j
  blk_simp [iblk]
  entry_read
  rw [hw]
  obtain ⟨h0, h1, h2⟩ := emb4 t j0 j1 j2
  exact congrArg (fun x : ℝ => (x : EReal)) (congr (congrArg₂ W h0 h1) h2)
theorem emb5 (j0 : Fin 4) (j1 j2 : Fin 128) : (((((cfg0.win 5).blk t).view.emb (ix3 j0 j1 j2)) 0 : Fin _) : ℕ) = j0.val
    ∧ (((((cfg0.win 5).blk t).view.emb (ix3 j0 j1 j2)) 1 : Fin _) : ℕ) = j1.val := by
  refine ⟨?_, ?_⟩ <;> blk_simp [idx_in t]
theorem blkS (hs : ∀ i j, m (c, main_arg5) (ix2 i j) = E2 4 128 s (ix2 i j)) : @Eq B4 (iblk m c 5 t) (eS s) := by
  funext j; idx_vars j
  blk_simp [iblk, idx_in t]
  entry_read
  pointwise
  obtain ⟨h0, h1⟩ := emb5 t j0 j1 j2
  exact (hs _ _).trans (congrArg (fun x : ℝ => (x : EReal)) (congrArg₂ s h0 h1))
/-- A padded row read at a lane. -/
theorem pad_read (f : Fin 4 → Fin 64 → EReal) (hf : ∀ i j, f i j = ((g i.val j.val : ℝ) : EReal)) (l : Fin 512) (h1 h2) :
    (if _h : l.val / 64 % 2 < 1 then (0 : EReal) else f ⟨l.val / 128, h1⟩ ⟨l.val % 64, h2⟩) = ((padf g l.val : ℝ) : EReal) := by
  unfold padf
  by_cases h : l.val / 64 % 2 < 1
  · rw [dif_pos h, if_pos (by omega), EReal.coe_zero]
  · rw [dif_neg h, hf, if_neg (by omega), show l.val % 128 - 64 = l.val % 64 by omega]
theorem blkG (hg : ∀ i j, m (c, main_arg2) (ix2 i j) = E2 4 64 g (ix2 i j)) : @Eq R5 (iblk m c 2 t) (eP g) := by
  funext j; idx_vars j
  blk_simp [iblk, idx_in t]
  entry_read
  pointwise
  blk_simp [idx_in t]
  have key := pad_read g (fun i j => m (c, main_arg2) (ix2 i j)) hg j1 (by omega) (by omega)
  refine Eq.trans ?_ (key.trans rfl)
  by_cases h : j1.val / 64 % 2 < 1
  · rw [dif_pos h]
  · rw [dif_neg h]
theorem blkB (hb : ∀ i j, m (c, main_arg3) (ix2 i j) = E2 4 64 b (ix2 i j)) : @Eq R5 (iblk m c 3 t) (eP b) := by
  funext j; idx_vars j
  blk_simp [iblk, idx_in t]
  entry_read
  pointwise
  blk_simp [idx_in t]
  have key := pad_read b (fun i j => m (c, main_arg3) (ix2 i j)) hb j1 (by omega) (by omega)
  refine Eq.trans ?_ (key.trans rfl)
  by_cases h : j1.val / 64 % 2 < 1
  · rw [dif_pos h]
  · rw [dif_neg h]

end Cert.RealForm
end
-- ==== Proof.Acc.lean ====
module

public import proofs.«01_k».proof.Proof.Blk

@[expose] public section

set_option maxRecDepth 16384

noncomputable section

/-! The five arrays the kernel leaves, in real numbers. -/

namespace Cert.RealForm

open Cert.KernelIdeal Cert.KernelIdeal.Gen Cert.KernelIdeal.Value Idealize.ShloMosaic Idealize.ShloMosaic.TcCoe Idealize.SL.Sem Finset

variable {n : ℕ}

/-- Four 128-column stores cover a 512-column block; four unit slabs cover a stack of four. -/
theorem cov2 (v0 v1 v2 v3 : (⟨2, ![n, 128]⟩ : Shape).Idx → EReal) (h0 h1 h2 h3) (y : (⟨2, ![n, 512]⟩ : Shape).Idx) :
    ∃ p ∈ ([⟨Rect.unit (s := ⟨2, ![n, 512]⟩) ![0, 384] ![n, 128] h3, v3⟩, ⟨Rect.unit (s := ⟨2, ![n, 512]⟩) ![0, 256] ![n, 128] h2, v2⟩,
      ⟨Rect.unit (s := ⟨2, ![n, 512]⟩) ![0, 128] ![n, 128] h1, v1⟩, ⟨Rect.unit (s := ⟨2, ![n, 512]⟩) ![0, 0] ![n, 128] h0, v0⟩] :
        List (View.Piece (Elt Ideal) ⟨2, ![n, 512]⟩ .f32)), y ∈ p.1.set := by
  have y0 : (y 0).val < n := (y 0).isLt
  have y1 : (y 1).val < 512 := (y 1).isLt
  rcases (by omega : (y 1).val < 128 ∨ (128 ≤ (y 1).val ∧ (y 1).val < 256) ∨ (256 ≤ (y 1).val ∧ (y 1).val < 384) ∨ 384 ≤ (y 1).val) with h | h | h | h
  · refine ⟨_, .tail _ (.tail _ (.tail _ (.head _))), (Rect.mem_set_unit (inb := h0)).mpr (Fin.forall_fin_two.mpr ⟨?_, ?_⟩)⟩
    · show 0 ≤ (y 0).val ∧ (y 0).val < 0 + n; omega
    · show 0 ≤ (y 1).val ∧ (y 1).val < 0 + 128; omega
  · refine ⟨_, .tail _ (.tail _ (.head _)), (Rect.mem_set_unit (inb := h1)).mpr (Fin.forall_fin_two.mpr ⟨?_, ?_⟩)⟩
    · show 0 ≤ (y 0).val ∧ (y 0).val < 0 + n; omega
    · show 128 ≤ (y 1).val ∧ (y 1).val < 128 + 128; omega
  · refine ⟨_, .tail _ (.head _), (Rect.mem_set_unit (inb := h2)).mpr (Fin.forall_fin_two.mpr ⟨?_, ?_⟩)⟩
    · show 0 ≤ (y 0).val ∧ (y 0).val < 0 + n; omega
    · show 256 ≤ (y 1).val ∧ (y 1).val < 256 + 128; omega
  · refine ⟨_, .head _, (Rect.mem_set_unit (inb := h3)).mpr (Fin.forall_fin_two.mpr ⟨?_, ?_⟩)⟩
    · show 0 ≤ (y 0).val ∧ (y 0).val < 0 + n; omega
    · show 384 ≤ (y 1).val ∧ (y 1).val < 384 + 128; omega
theorem cov3 (v0 v1 v2 v3 : (⟨3, ![1, 128, 128]⟩ : Shape).Idx → EReal) (h0 h1 h2 h3) (y : (⟨3, ![4, 128, 128]⟩ : Shape).Idx) :
    ∃ p ∈ ([⟨Rect.unit (s := ⟨3, ![4, 128, 128]⟩) ![3, 0, 0] ![1, 128, 128] h3, v3⟩, ⟨Rect.unit (s := ⟨3, ![4, 128, 128]⟩) ![2, 0, 0] ![1, 128, 128] h2, v2⟩,
      ⟨Rect.unit (s := ⟨3, ![4, 128, 128]⟩) ![1, 0, 0] ![1, 128, 128] h1, v1⟩, ⟨Rect.unit (s := ⟨3, ![4, 128, 128]⟩) ![0, 0, 0] ![1, 128, 128] h0, v0⟩] :
        List (View.Piece (Elt Ideal) ⟨3, ![4, 128, 128]⟩ .f32)), y ∈ p.1.set := by
  have y0 : (y 0).val < 4 := (y 0).isLt
  have y1 : (y 1).val < 128 := (y 1).isLt
  have y2 : (y 2).val < 128 := (y 2).isLt
  have key : ∀ o : ℕ, (y 0).val = o → ∀ a : Fin 3, (![o, 0, 0] : Fin 3 → ℕ) a ≤ (y a).val ∧ (y a).val < (![o, 0, 0] : Fin 3 → ℕ) a + (![1, 128, 128] : Fin 3 → ℕ) a := by
    intro o ho a
    match a with
    | ⟨0, _⟩ => show o ≤ (y 0).val ∧ (y 0).val < o + 1; omega
    | ⟨1, _⟩ => show 0 ≤ (y 1).val ∧ (y 1).val < 0 + 128; omega
    | ⟨2, _⟩ => show 0 ≤ (y 2).val ∧ (y 2).val < 0 + 128; omega
  rcases (by omega : (y 0).val = 0 ∨ (y 0).val = 1 ∨ (y 0).val = 2 ∨ (y 0).val = 3) with h | h | h | h
  · exact ⟨_, .tail _ (.tail _ (.tail _ (.head _))), (Rect.mem_set_unit (inb := h0)).mpr (key 0 h)⟩
  · exact ⟨_, .tail _ (.tail _ (.head _)), (Rect.mem_set_unit (inb := h1)).mpr (key 1 h)⟩
  · exact ⟨_, .tail _ (.head _), (Rect.mem_set_unit (inb := h2)).mpr (key 2 h)⟩
  · exact ⟨_, .head _, (Rect.mem_set_unit (inb := h3)).mpr (key 3 h)⟩

theorem pay2_eq : k0_pay2 (F := Ideal) = E3 4 128 128 fun _ _ _ => 0 := by unfold k0_pay2; rw [w_zero]; rfl
theorem pay3_eq : k0_pay3 (F := Ideal) = E3 4 128 128 fun _ _ _ => 0 := by unfold k0_pay3; rw [w_zero]; rfl
theorem pay4_eq : k0_pay4 (F := Ideal) = E2 1 512 fun _ _ => 0 := by unfold k0_pay4; rw [w_zero]; rfl
theorem pay5_eq : k0_pay5 (F := Ideal) = E2 1 512 fun _ _ => 0 := by unfold k0_pay5; rw [w_zero]; rfl

variable (m : (ℓ : Loc nD τ sig) → Buf (Elt Ideal) ℓ) (c : Dev nD) (Z D g b : ℕ → ℕ → ℝ) (W : ℕ → ℕ → ℕ → ℝ) (s : ℕ → ℕ → ℝ)

/-- The six arguments are arrays of reals, the first on the lanes the kernel reads. -/
structure Args : Prop where
  z : ∀ i : (⟨2, ![8192, 1536]⟩ : Shape).Idx, (i 1).val < 512 → m (c, main_arg0) i = E2 8192 1536 Z i
  d : m (c, main_arg1) = E2 8192 256 D
  g : ∀ i j, m (c, main_arg2) (ix2 i j) = E2 4 64 g (ix2 i j)
  b : ∀ i j, m (c, main_arg3) (ix2 i j) = E2 4 64 b (ix2 i j)
  w : m (c, main_arg4) = E3 4 128 128 W
  s : ∀ i j, m (c, main_arg5) (ix2 i j) = E2 4 128 s (ix2 i j)

variable (A : Args m c Z D g b W s)
include A

theorem out_dz (t : Fin cfg0.N) : (outsAt0 m c t.val t.isLt).1 = E2 512 512 fun r l => oDz Z D g b W s (512 * t.val + r) l := by
  have e : (outsAt0 m c t.val t.isLt).1 = View.canon (Ldz (iblk m c 0 t) (iblk m c 1 t) (iblk m c 2 t) (iblk m c 3 t) (iblk m c 4 t) (iblk m c 5 t)) := by
    by_cases h : t.val % 16 = 0
    · exact dz_A m c t h
    · exact dz_B m c t h
  rw [e, blkZ m c Z t A.z, blkD m c D t A.d, blkG m c g t A.g, blkB m c b t A.b, blkW m c W t A.w, blkS m c s t A.s]
  funext y
  exact View.canon_apply_of_pieces _ _ (Ldz_pieces Z D g b W s t.val).mem y (cov2 _ _ _ _ _ _ _ _ y)

theorem acc_dw : ∀ n (hn : n < cfg0.N), (outsAt0 m c n hn).2.1 = E3 4 128 128 fun h i j => ∑ u ∈ range (n + 1), cDw Z D g b u h i j
  | 0, hn => by
    rw [show (outsAt0 m c 0 hn).2.1 = _ from dw_A m c ⟨0, hn⟩ rfl, blkZ m c Z _ A.z, blkD m c D _ A.d, blkG m c g _ A.g, blkB m c b _ A.b, pay2_eq]
    funext y
    rw [View.canon_append_of_piecesOf _ _ _ (Ldw_pieces Z D g b 0 fun _ _ _ => 0) y (cov3 _ _ _ _ _ _ _ _ y)]
    simp only [zero_add, sum_range_one]
  | n + 1, hn => by
    have hN : n + 1 < 16 := hn
    rw [show (outsAt0 m c (n + 1) hn).2.1 = _ from dw_B m c ⟨n + 1, hn⟩ (by show ¬ (n + 1) % 16 = 0; omega) (by exact Nat.lt_of_succ_lt hn),
      blkZ m c Z _ A.z, blkD m c D _ A.d, blkG m c g _ A.g, blkB m c b _ A.b,
      show (outsAt0 m c ((⟨n + 1, hn⟩ : Fin cfg0.N).val - 1) _).2.1 = _ from acc_dw n (Nat.lt_of_succ_lt hn)]
    funext y
    rw [View.canon_apply_of_pieces _ _ (Ldw_pieces Z D g b (n + 1) _).mem y (cov3 _ _ _ _ _ _ _ _ y)]
    simp only [sum_range_succ _ (n + 1)]
theorem acc_dbs : ∀ n (hn : n < cfg0.N), (outsAt0 m c n hn).2.2.1 = E3 4 128 128 fun h i _ => ∑ u ∈ range (n + 1), cDbs Z D u h i
  | 0, hn => by
    rw [show (outsAt0 m c 0 hn).2.2.1 = _ from dbs_A m c ⟨0, hn⟩ rfl, blkZ m c Z _ A.z, blkD m c D _ A.d, pay3_eq]
    funext y
    rw [View.canon_append_of_piecesOf _ _ _ (Ldbs_pieces Z D 0 fun _ _ _ => 0) y (cov3 _ _ _ _ _ _ _ _ y)]
    simp only [zero_add, sum_range_one]
  | n + 1, hn => by
    have hN : n + 1 < 16 := hn
    rw [show (outsAt0 m c (n + 1) hn).2.2.1 = _ from dbs_B m c ⟨n + 1, hn⟩ (by show ¬ (n + 1) % 16 = 0; omega) (by exact Nat.lt_of_succ_lt hn),
      blkZ m c Z _ A.z, blkD m c D _ A.d,
      show (outsAt0 m c ((⟨n + 1, hn⟩ : Fin cfg0.N).val - 1) _).2.2.1 = _ from acc_dbs n (Nat.lt_of_succ_lt hn)]
    funext y
    rw [View.canon_apply_of_pieces _ _ (Ldbs_pieces Z D (n + 1) _).mem y (cov3 _ _ _ _ _ _ _ _ y)]
    simp only [sum_range_succ _ (n + 1)]
theorem acc_dg : ∀ n (hn : n < cfg0.N), (outsAt0 m c n hn).2.2.2.1 = E2 1 512 fun _ l => ∑ u ∈ range (n + 1), cDg Z D W u l
  | 0, hn => by
    rw [show (outsAt0 m c 0 hn).2.2.2.1 = _ from dg_A m c ⟨0, hn⟩ rfl, blkZ m c Z _ A.z, blkD m c D _ A.d, blkW m c W _ A.w, pay4_eq]
    funext y
    rw [View.canon_append_of_piecesOf _ _ _ (Ldg_pieces Z D W 0 fun _ _ => 0) y (cov2 _ _ _ _ _ _ _ _ y)]
    simp only [zero_add, sum_range_one]
  | n + 1, hn => by
    have hN : n + 1 < 16 := hn
    rw [show (outsAt0 m c (n + 1) hn).2.2.2.1 = _ from dg_B m c ⟨n + 1, hn⟩ (by show ¬ (n + 1) % 16 = 0; omega) (by exact Nat.lt_of_succ_lt hn),
      blkZ m c Z _ A.z, blkD m c D _ A.d, blkW m c W _ A.w,
      show (outsAt0 m c ((⟨n + 1, hn⟩ : Fin cfg0.N).val - 1) _).2.2.2.1 = _ from acc_dg n (Nat.lt_of_succ_lt hn)]
    funext y
    rw [View.canon_apply_of_pieces _ _ (Ldg_pieces Z D W (n + 1) _).mem y (cov2 _ _ _ _ _ _ _ _ y)]
    simp only [sum_range_succ _ (n + 1)]
theorem acc_db : ∀ n (hn : n < cfg0.N), (outsAt0 m c n hn).2.2.2.2 = E2 1 512 fun _ l => ∑ u ∈ range (n + 1), cDb Z D W u l
  | 0, hn => by
    rw [show (outsAt0 m c 0 hn).2.2.2.2 = _ from db_A m c ⟨0, hn⟩ rfl, blkZ m c Z _ A.z, blkD m c D _ A.d, blkW m c W _ A.w, pay5_eq]
    funext y
    rw [View.canon_append_of_piecesOf _ _ _ (Ldb_pieces Z D W 0 fun _ _ => 0) y (cov2 _ _ _ _ _ _ _ _ y)]
    simp only [zero_add, sum_range_one]
  | n + 1, hn => by
    have hN : n + 1 < 16 := hn
    rw [show (outsAt0 m c (n + 1) hn).2.2.2.2 = _ from db_B m c ⟨n + 1, hn⟩ (by show ¬ (n + 1) % 16 = 0; omega) (by exact Nat.lt_of_succ_lt hn),
      blkZ m c Z _ A.z, blkD m c D _ A.d, blkW m c W _ A.w,
      show (outsAt0 m c ((⟨n + 1, hn⟩ : Fin cfg0.N).val - 1) _).2.2.2.2 = _ from acc_db n (Nat.lt_of_succ_lt hn)]
    funext y
    rw [View.canon_apply_of_pieces _ _ (Ldb_pieces Z D W (n + 1) _).mem y (cov2 _ _ _ _ _ _ _ _ y)]
    simp only [sum_range_succ _ (n + 1)]

omit A in
theorem emb6 (t : Fin cfg0.N) (j0 j1 : Fin 512) : (((((cfg0.win 6).blk t).view.emb (ix2 j0 j1)) 0 : Fin _) : ℕ) = 512 * t.val + j0.val
    ∧ (((((cfg0.win 6).blk t).view.emb (ix2 j0 j1)) 1 : Fin _) : ℕ) = j1.val := by
  have idx : ∀ t : Fin cfg0.N, win0_6.index t = ![t.val, 0] := (by decide +kernel : ∀ t : Fin grid0.N, _)
  constructor <;> blk_simp [idx t] <;> omega
theorem arr_dz : (dats m 0 c).arrAt 6 cfg0.N = E2 8192 512 (oDz Z D g b W s) := by
  refine (dats m 0 c).arrAt_eq_of_covers 6 _ (by decide +kernel) fun t hf y => ?_
  idx_vars y
  obtain ⟨h0, h1⟩ := emb6 t y0 y1
  blk_simp
  rw [after0_6, out_dz m c Z D g b W s A t]
  exact congrArg (fun x : ℝ => (x : EReal)) (congrArg₂ (oDz Z D g b W s) h0.symm h1.symm)
theorem arr_dw : (dats m 0 c).arrAt 7 cfg0.N = E3 4 128 128 fun h i j => ∑ u ∈ range 16, cDw Z D g b u h i j := by
  refine (dats m 0 c).arrAt_eq_of_after_last 7 t0_15 (by decide +kernel) _ fun j => ?_
  blk_simp
  rw [after0_7, acc_dw m c Z D g b W s A]
  rfl
theorem arr_dbs : (dats m 0 c).arrAt 8 cfg0.N = E3 4 128 128 fun h i _ => ∑ u ∈ range 16, cDbs Z D u h i := by
  refine (dats m 0 c).arrAt_eq_of_after_last 8 t0_15 (by decide +kernel) _ fun j => ?_
  blk_simp
  rw [after0_8, acc_dbs m c Z D g b W s A]
  rfl
theorem arr_dg : (dats m 0 c).arrAt 9 cfg0.N = E2 1 512 fun _ l => ∑ u ∈ range 16, cDg Z D W u l := by
  refine (dats m 0 c).arrAt_eq_of_after_last 9 t0_15 (by decide +kernel) _ fun j => ?_
  blk_simp
  rw [after0_9, acc_dg m c Z D g b W s A]
  rfl
theorem arr_db : (dats m 0 c).arrAt 10 cfg0.N = E2 1 512 fun _ l => ∑ u ∈ range 16, cDb Z D W u l := by
  refine (dats m 0 c).arrAt_eq_of_after_last 10 t0_15 (by decide +kernel) _ fun j => ?_
  blk_simp
  rw [after0_10, acc_db m c Z D g b W s A]
  rfl

omit A in
/-- A sum over blocks of equal length is the sum over the whole range. -/
theorem sum_blocks (a b : ℕ) (f : ℕ → ℝ) : ∑ u ∈ range a, ∑ n ∈ range b, f (b * u + n) = ∑ k ∈ range (a * b), f k := by
  induction a with
  | zero => simp
  | succ a ih => rw [sum_range_succ, ih, add_mul, one_mul, sum_range_add]; congr 1; exact sum_congr rfl fun n _ => by rw [mul_comm]

theorem arr_dw' : (dats m 0 c).arrAt 7 cfg0.N = E3 4 128 128 (oDw Z D g b) := by
  rw [arr_dw m c Z D g b W s A]
  refine E3_congr fun h _ i _ j _ => ?_
  unfold oDw cDw
  split
  · exact sum_blocks 16 4 fun n => ∑ d ∈ range 64, sDs Z D h (128 * n + i) d * sVn Z g b h (128 * n + j) d
  · exact sum_const_zero
theorem arr_dbs' : (dats m 0 c).arrAt 8 cfg0.N = E3 4 128 128 fun h i _ => oDbs Z D h i := by
  rw [arr_dbs m c Z D g b W s A]
  refine E3_congr fun h _ i _ j _ => ?_
  unfold oDbs cDbs
  exact sum_blocks 16 4 fun n => ∑ d ∈ range 64, sDs Z D h (128 * n + i) d
theorem arr_dg' : (dats m 0 c).arrAt 9 cfg0.N = E2 1 512 fun _ l => padf (oDg Z D W) l := by
  rw [arr_dg m c Z D g b W s A]
  refine E2_congr fun _ _ l _ => ?_
  unfold padf oDg cDg
  split
  · exact sum_const_zero
  · exact sum_blocks 16 512 fun r => sDvn Z D W (l / 128) r (l % 128 - 64) * sVh Z (l / 128) r (l % 128 - 64)
theorem arr_db' : (dats m 0 c).arrAt 10 cfg0.N = E2 1 512 fun _ l => padf (oDb Z D W) l := by
  rw [arr_db m c Z D g b W s A]
  refine E2_congr fun _ _ l _ => ?_
  unfold padf oDb cDb
  split
  · exact sum_const_zero
  · exact sum_blocks 16 512 fun r => sDvn Z D W (l / 128) r (l % 128 - 64)

end Cert.RealForm
end
-- ==== Proof.RefA.lean ====
module

public import proofs.«01_k».proof.Proof.Spec
public import proofs.«01_k».proof.Proof.Gen.ReferenceIdeal.Read
public import Idealize.ShloMosaic.Lib.Pointwise

@[expose] public section

set_option maxRecDepth 16384

noncomputable section

/-! The reference's forward values, each written entry by entry as a real number: row `128 n + i` of the step is
    entry `(0, n, i, h, d)` of the reference's chunked shape. -/
namespace Cert.RealForm.Ref

open Cert.ReferenceIdeal Cert.ReferenceIdeal.Gen Cert.ReferenceIdeal.Value Cert.ReferenceIdeal.Read Idealize.ShloMosaic Idealize.ShloMosaic.TcCoe Idealize.SL.Sem Finset

/-- A `1 × 8192 × L` vector of reals. -/
def X3 (L : ℕ) (F : ℕ → ℕ → ℝ) : (⟨3, ![1, 8192, L]⟩ : Shape).Idx → EReal :=
  fun j => ((F (j 1).val (j 2).val : ℝ) : EReal)
/-- A `1 × 64 × 128 × k × l` vector of reals, by head, row and column. -/
def R5 (k l : ℕ) (F : ℕ → ℕ → ℕ → ℝ) : (⟨5, ![1, 64, 128, k, l]⟩ : Shape).Idx → EReal :=
  fun j => ((F (j 3).val (128 * (j 1).val + (j 2).val) (j 4).val : ℝ) : EReal)
/-- A `1 × 64 × 128 × k` vector of reals, by head and row. -/
def R4 (k : ℕ) (F : ℕ → ℕ → ℝ) : (⟨4, ![1, 64, 128, k]⟩ : Shape).Idx → EReal :=
  fun j => ((F (j 3).val (128 * (j 1).val + (j 2).val) : ℝ) : EReal)

theorem R5_congr {k l : ℕ} {F G : ℕ → ℕ → ℕ → ℝ} (h : ∀ a r b, a < k → b < l → F a r b = G a r b) : R5 k l F = R5 k l G := by
  funext j; unfold R5; rw [h _ _ _ (j 3).isLt (j 4).isLt]
theorem X3_congr {L : ℕ} {F G : ℕ → ℕ → ℝ} (h : ∀ r a, r < 8192 → a < L → F r a = G r a) : X3 L F = X3 L G := by
  funext j; unfold X3; rw [h _ _ (j 1).isLt (j 2).isLt]

theorem f_zero : (FloatOps.ofBits .f32 0x00000000#32 : Ideal .f32) = ((0 : ℝ) : EReal) := w_zero
theorem f_one : (FloatOps.ofBits .f32 0x3F800000#32 : Ideal .f32) = ((1 : ℝ) : EReal) := w_one
theorem f_half : (FloatOps.ofBits .f32 0x3F000000#32 : Ideal .f32) = ((1 / 2 : ℝ) : EReal) := w_half
theorem f_eps : (FloatOps.ofBits .f32 0x358637BD#32 : Ideal .f32) = ((EPS : ℝ) : EReal) := w_eps
theorem f_gc : (FloatOps.ofBits .f32 0x3F4C422A#32 : Ideal .f32) = ((GC : ℝ) : EReal) := w_gc
theorem f_three : (FloatOps.ofBits .f32 0x40400000#32 : Ideal .f32) = ((3 : ℝ) : EReal) := by
  show Ideal.ofBits .f32 _ = _; simp [Ideal.ofBits, Ideal.ieee, -EReal.coe_mul]; norm_num
theorem f_64 : (FloatOps.ofBits .f32 0x42800000#32 : Ideal .f32) = ((64 : ℝ) : EReal) := by
  show Ideal.ofBits .f32 _ = _; simp [Ideal.ofBits, Ideal.ieee, -EReal.coe_mul]; norm_num
theorem f_mhalf : (FloatOps.ofBits .f32 0xBF000000#32 : Ideal .f32) = ((-(1 / 2) : ℝ) : EReal) := by
  show Ideal.ofBits .f32 _ = _; simp [Ideal.ofBits, Ideal.ieee, -EReal.coe_mul]; norm_num
theorem f_num : (FloatOps.ofBits .f32 0x472EAB00#32 : Ideal .f32) = ((44715 : ℝ) : EReal) := by
  show Ideal.ofBits .f32 _ = _; simp [Ideal.ofBits, Ideal.ieee, -EReal.coe_mul]; norm_num
theorem f_den : (FloatOps.ofBits .f32 0x49742400#32 : Ideal .f32) = ((1000000 : ℝ) : EReal) := by
  show Ideal.ofBits .f32 _ = _; simp [Ideal.ofBits, Ideal.ieee, -EReal.coe_mul]; norm_num
/-- A quotient by a nonzero real. -/
theorem div_real (x y : ℝ) (hy : y ≠ 0) : Ideal.div ((x : ℝ) : EReal) ((y : ℝ) : EReal) = ((x / y : ℝ) : EReal) := by
  unfold Ideal.div
  rw [if_neg (by exact_mod_cast hy), div_eq_mul_inv, EReal.coe_mul, EReal.coe_inv]

variable (Z D : ℕ → ℕ → ℝ) (g b : ℕ → ℕ → ℝ) (W : ℕ → ℕ → ℕ → ℝ) (s : ℕ → ℕ → ℝ)

theorem v1 : val_main_v1 (F := Ideal) (E2 8192 1536 Z) = X3 512 Z := by
  funext j
  rw [val_main_v1_apply, val_main_v0_apply]
  rfl
theorem v2 (i) : val_main_v2 (F := Ideal) i = ((8943 / 200000 : ℝ) : EReal) := by
  rw [val_main_v2_apply, val_main_cst_apply, val_main_cst_0_apply, Ideal.hostDivf_def, f_num, f_den, div_real _ _ (by norm_num)]
  norm_num
theorem v13 : val_main_v13 (F := Ideal) (E2 8192 1536 Z)
    = X3 512 fun r l => Real.tanh (GC * (Z r l + 8943 / 200000 * (Z r l * Z r l * Z r l))) := by
  funext j
  simp only [val_main_v13_apply, val_main_v12_apply, val_main_v11_apply, val_main_cst_2_apply, val_main_v10_apply, val_main_v9_apply,
    val_main_v8_apply, v2, val_main_v4_apply, val_main_v3_apply, v1, X3, f_gc, Ideal.mulf_def, Ideal.addf_def, Ideal.hostUnary_tanh_def,
    ← EReal.coe_mul, ← EReal.coe_add, Ideal.tanh_coe]
theorem v18 : val_main_v18 (F := Ideal) (E2 8192 1536 Z)
    = X3 512 fun r l => (1 + Real.tanh (GC * (Z r l + 8943 / 200000 * (Z r l * Z r l * Z r l))))
        * (1 - Real.tanh (GC * (Z r l + 8943 / 200000 * (Z r l * Z r l * Z r l)))) := by
  funext j
  simp only [val_main_v18_apply, val_main_v17_apply, val_main_v16_apply, val_main_v15_apply, val_main_v14_apply, val_main_cst_3_apply,
    val_main_cst_4_apply, v13, X3, f_one, Ideal.mulf_def, Ideal.addf_def, Ideal.subf_def, ← EReal.coe_mul, ← EReal.coe_add, ← EReal.coe_sub]
theorem v22 : val_main_v22 (F := Ideal) (E2 8192 1536 Z)
    = X3 512 fun r l => 1 / 2 * (1 + Real.tanh (GC * (Z r l + 8943 / 200000 * (Z r l * Z r l * Z r l)))) := by
  funext j
  simp only [val_main_v22_apply, val_main_v21_apply, val_main_v20_apply, val_main_v19_apply, val_main_cst_5_apply,
    val_main_cst_6_apply, v13, X3, f_one, f_half, Ideal.mulf_def, Ideal.addf_def, ← EReal.coe_mul, ← EReal.coe_add]
theorem v7 : val_main_v7 (F := Ideal) (E2 8192 1536 Z) = X3 512 fun r l => 3 * (Z r l * Z r l) := by
  funext j
  simp only [val_main_v7_apply, val_main_v6_apply, val_main_v5_apply, val_main_cst_1_apply, v1, X3, f_three, Ideal.mulf_def, ← EReal.coe_mul]
theorem v23 : val_main_v23 (F := Ideal) (E2 8192 1536 Z) = X3 512 fun r l => ge (Z r l) := by
  funext j
  simp only [val_main_v23_apply, v22, v1, X3, Ideal.mulf_def, ← EReal.coe_mul]
  congr 1
  unfold ge
  ring
theorem v24 : val_main_v24 (F := Ideal) (E2 8192 1536 Z) = R5 4 128 fun h r d => ge (Z r (128 * h + d)) := by
  funext j
  have h0 : (j 0).val < 1 := (j 0).isLt
  have h1 : (j 1).val < 64 := (j 1).isLt
  have h2 : (j 2).val < 128 := (j 2).isLt
  have h3 : (j 3).val < 4 := (j 3).isLt
  have h4 : (j 4).val < 128 := (j 4).isLt
  rw [val_main_v24_apply, v23]
  show ((ge (Z _ _) : ℝ) : EReal) = ((ge (Z _ _) : ℝ) : EReal)
  congr 3
  · show _ / 512 % 8192 = _; omega
  · show _ % 512 = _; omega
theorem v25 : val_main_v25 (F := Ideal) (E2 8192 1536 Z) = R5 4 64 (sU Z) := by
  funext j
  rw [val_main_v25_apply, v24]
  rfl
theorem v26 : val_main_v26 (F := Ideal) (E2 8192 1536 Z) = R5 4 64 (sV Z) := by
  funext j
  rw [val_main_v26_apply, v24]
  show ((ge (Z _ (128 * _ + (64 + _))) : ℝ) : EReal) = ((ge (Z _ _) : ℝ) : EReal)
  rw [← Nat.add_assoc]

/-- The mean, the centred values, the variance and its square root. -/
theorem v30 : val_main_v30 (F := Ideal) (E2 8192 1536 Z) = R5 4 1 fun h r _ => (∑ e ∈ range 64, sV Z h r e) * (1 / 64) := by
  funext j
  rw [val_main_v30_apply, val_main_v29_apply, val_main_cst_8_apply, val_main_v28_apply, val_main_v27_apply, val_main_cst_7_apply, v26, f_64,
    f_zero, Ideal.hostDivf_def]
  rw [show (∑ k : Fin 64, R5 4 64 (sV Z) (idx_main_v27 (idx_main_v28 j) k))
    = ((∑ e ∈ range 64, sV Z (j 3).val (128 * (j 1).val + (j 2).val) e : ℝ) : EReal) from sum_fin 64 _]
  rw [← EReal.coe_add, div_real _ _ (by norm_num)]
  show ((_ : ℝ) : EReal) = ((_ : ℝ) : EReal)
  congr 1
  ring
theorem v32 : val_main_v32 (F := Ideal) (E2 8192 1536 Z) = R5 4 64 (sXc Z) := by
  funext j
  rw [val_main_v32_apply, val_main_v31_apply, v26, v30, Ideal.subf_def]
  exact (EReal.coe_sub _ _).symm
/-- The variance of a row's value lanes, with the layer norm's epsilon added. -/
def sVe (h r : ℕ) : ℝ := (∑ e ∈ range 64, sXc Z h r e * sXc Z h r e) * (1 / 64) + EPS
theorem sVe_pos (h r : ℕ) : 0 < sVe Z h r :=
  add_pos_of_nonneg_of_pos (mul_nonneg (sum_nonneg fun _ _ => mul_self_nonneg _) (by norm_num)) EPS_pos
theorem v39 : val_main_v39 (F := Ideal) (E2 8192 1536 Z) = R5 4 1 fun h r _ => sVe Z h r := by
  funext j
  rw [val_main_v39_apply, val_main_v38_apply, val_main_cst_11_apply, val_main_v37_apply, val_main_v36_apply, val_main_cst_10_apply,
    val_main_v35_apply, val_main_v34_apply, val_main_cst_9_apply, f_64, f_zero, f_eps, Ideal.hostDivf_def, Ideal.addf_def]
  rw [show (∑ k : Fin 64, val_main_v33 (F := Ideal) (E2 8192 1536 Z) (idx_main_v34 (idx_main_v35 j) k))
    = ((∑ e ∈ range 64, sXc Z (j 3).val (128 * (j 1).val + (j 2).val) e * sXc Z (j 3).val (128 * (j 1).val + (j 2).val) e : ℝ) : EReal) by
      refine (sum_congr rfl fun k _ => ?_).trans (sum_fin 64 _)
      rw [val_main_v33_apply, v32, Ideal.mulf_def]
      exact (EReal.coe_mul _ _).symm]
  rw [← EReal.coe_add, div_real _ _ (by norm_num), ← EReal.coe_add]
  show ((_ : ℝ) : EReal) = ((sVe _ _ _ : ℝ) : EReal)
  unfold sVe
  congr 1
  ring
theorem v40 : val_main_v40 (F := Ideal) (E2 8192 1536 Z) = R5 4 1 fun h r _ => sRs Z h r := by
  funext j
  rw [val_main_v40_apply, v39, Ideal.hostUnary_rsqrt_def]
  have h := sVe_pos Z (j 3).val (128 * (j 1).val + (j 2).val)
  show Ideal.rsqrt ((sVe Z (j 3).val (128 * (j 1).val + (j 2).val) : ℝ) : EReal) = _
  rw [Ideal.rsqrt_coe, if_neg (not_lt.mpr h.le), if_neg h.ne']
  rfl
theorem v43 : val_main_v43 (F := Ideal) (E2 8192 1536 Z) = R5 4 1 fun h r _ => -(1 / 2) * (sRs Z h r / sVe Z h r) := by
  funext j
  rw [val_main_v43_apply, val_main_v42_apply, val_main_cst_12_apply, val_main_v41_apply, v39, v40, f_mhalf, Ideal.mulf_def, Ideal.hostDivf_def]
  have h := sVe_pos Z (j 3).val (128 * (j 1).val + (j 2).val)
  show ((-(1 / 2) : ℝ) : EReal) * Ideal.div ((sRs Z (j 3).val (128 * (j 1).val + (j 2).val) : ℝ) : EReal)
    ((sVe Z (j 3).val (128 * (j 1).val + (j 2).val) : ℝ) : EReal) = _
  rw [div_real _ _ h.ne', ← EReal.coe_mul]
  rfl
theorem v45 : val_main_v45 (F := Ideal) (E2 8192 1536 Z) = R5 4 64 (sVh Z) := by
  funext j
  rw [val_main_v45_apply, val_main_v44_apply, v32, v40, Ideal.mulf_def]
  exact (EReal.coe_mul _ _).symm
theorem v47 : val_main_v47 (F := Ideal) (E2 4 64 g) = R5 4 64 fun h _ d => g h d := by
  funext j
  rw [val_main_v47_apply, val_main_v46_apply]
  rfl
theorem v50 : val_main_v50 (F := Ideal) (E2 4 64 b) = R5 4 64 fun h _ d => b h d := by
  funext j
  rw [val_main_v50_apply, val_main_v49_apply]
  rfl
theorem v51 : val_main_v51 (F := Ideal) (E2 8192 1536 Z) (E2 4 64 g) (E2 4 64 b) = R5 4 64 (sVn Z g b) := by
  funext j
  rw [val_main_v51_apply, val_main_v48_apply, v45, v47, v50, Ideal.addf_def, Ideal.mulf_def]
  show ((_ : ℝ) : EReal) * ((_ : ℝ) : EReal) + ((_ : ℝ) : EReal) = _
  rw [← EReal.coe_mul, ← EReal.coe_add]
  rfl

end Cert.RealForm.Ref
end
-- ==== Proof.RefB.lean ====
module

public import proofs.«01_k».proof.Proof.RefA

@[expose] public section

set_option maxRecDepth 16384

noncomputable section

/-! The reference's sums over several axes and its joins, read entry by entry. -/
namespace Cert.RealForm.Ref

open Cert.ReferenceIdeal Cert.ReferenceIdeal.Gen Cert.ReferenceIdeal.Value Cert.ReferenceIdeal.Read Idealize.ShloMosaic Idealize.ShloMosaic.TcCoe Idealize.SL.Sem Finset

/-- A host sum over axes whose dropped entries are named by `e`. -/
theorem red {s t : Shape} {axes : List (Fin s.rank)} (h : s.ReducesTo axes t) {κ : Type} [Fintype κ] (j : t.Idx)
    (e : κ → s.Idx) (inj : Function.Injective e) (hp : ∀ i, h.drop i = j ↔ ∃ k, e k = i) (x : s.Idx → EReal) (init : EReal) :
    Ideal.hostReduceAdd h x init j = init + ∑ k, x (e k) :=
  congrArg (init + ·) (Finset.sum_filter_eq_sum_of_fiber _ e inj hp x)

/-- A double sum of reals over two small ranges. -/
theorem sum_pair (a b : ℕ) (f : ℕ → ℕ → ℝ) :
    (∑ p : Fin a × Fin b, ((f p.1.val p.2.val : ℝ) : EReal)) = ((∑ n ∈ range a, ∑ d ∈ range b, f n d : ℝ) : EReal) := by
  rw [Fintype.sum_prod_type]
  simp only [sum_fin b (f _)]
  exact sum_fin a fun n => ∑ d ∈ range b, f n d

/-- A sum over blocks of rows is the sum over the rows. -/
theorem sum_rows (a b : ℕ) (f : ℕ → ℝ) : ∑ n ∈ range a, ∑ i ∈ range b, f (b * n + i) = ∑ r ∈ range (a * b), f r := by
  induction a with
  | zero => simp
  | succ a ih =>
    rw [sum_range_succ, ih, Nat.succ_mul, sum_range_add]
    exact congrArg _ (sum_congr rfl fun i _ => by rw [mul_comm])

theorem sel_true {α : Type} (x y : α) : Scalar.select (BitVec.ofBool true) x y = x := rfl
theorem sel_false {α : Type} (x y : α) : Scalar.select (BitVec.ofBool false) x y = y := rfl

theorem red14 (x : S1x64x128x4x64.Idx → EReal) (init : EReal) (j : S1x128x4.Idx) :
    Ideal.hostReduceAdd reducesTo_S1x64x128x4x64_S1x128x4_d1_4 x init j
      = init + ∑ p : Fin 64 × Fin 64, x (ix5 0 p.1 (⟨(j 1).val, (j 1).isLt⟩ : Fin 128) (⟨(j 2).val, (j 2).isLt⟩ : Fin 4) p.2) := by
  refine red _ j (fun p : Fin 64 × Fin 64 => ix5 0 p.1 (⟨(j 1).val, (j 1).isLt⟩ : Fin 128) (⟨(j 2).val, (j 2).isLt⟩ : Fin 4) p.2) ?_ ?_ x init
  · intro p q h
    exact Prod.ext (Fin.ext (congrArg (fun i : S1x64x128x4x64.Idx => (i 1).val) h)) (Fin.ext (congrArg (fun i : S1x64x128x4x64.Idx => (i 4).val) h))
  · intro i
    constructor
    · intro h
      refine ⟨(⟨(i 1).val, (i 1).isLt⟩, ⟨(i 4).val, (i 4).isLt⟩), funext fun a => Fin.ext ?_⟩
      have h0 : (i 0).val < 1 := (i 0).isLt
      match a with
      | ⟨0, _⟩ => show 0 = (i 0).val; omega
      | ⟨1, _⟩ => rfl
      | ⟨2, _⟩ => exact (congrArg Fin.val (congrFun h ⟨1, by decide⟩)).symm
      | ⟨3, _⟩ => exact (congrArg Fin.val (congrFun h ⟨2, by decide⟩)).symm
      | ⟨4, _⟩ => rfl
    · rintro ⟨p, rfl⟩
      refine funext fun a => Fin.ext ?_
      have h0 : (j 0).val < 1 := (j 0).isLt
      match a with
      | ⟨0, _⟩ => show 0 = (j 0).val; omega
      | ⟨1, _⟩ => rfl
      | ⟨2, _⟩ => rfl

theorem red12 (x : S1x64x128x4x64.Idx → EReal) (init : EReal) (j : S1x4x64.Idx) :
    Ideal.hostReduceAdd reducesTo_S1x64x128x4x64_S1x4x64_d1_2 x init j
      = init + ∑ p : Fin 64 × Fin 128, x (ix5 0 p.1 p.2 (⟨(j 1).val, (j 1).isLt⟩ : Fin 4) (⟨(j 2).val, (j 2).isLt⟩ : Fin 64)) := by
  refine red _ j (fun p : Fin 64 × Fin 128 => ix5 0 p.1 p.2 (⟨(j 1).val, (j 1).isLt⟩ : Fin 4) (⟨(j 2).val, (j 2).isLt⟩ : Fin 64)) ?_ ?_ x init
  · intro p q h
    exact Prod.ext (Fin.ext (congrArg (fun i : S1x64x128x4x64.Idx => (i 1).val) h)) (Fin.ext (congrArg (fun i : S1x64x128x4x64.Idx => (i 2).val) h))
  · intro i
    constructor
    · intro h
      refine ⟨(⟨(i 1).val, (i 1).isLt⟩, ⟨(i 2).val, (i 2).isLt⟩), funext fun a => Fin.ext ?_⟩
      have h0 : (i 0).val < 1 := (i 0).isLt
      match a with
      | ⟨0, _⟩ => show 0 = (i 0).val; omega
      | ⟨1, _⟩ => rfl
      | ⟨2, _⟩ => rfl
      | ⟨3, _⟩ => exact (congrArg Fin.val (congrFun h ⟨1, by decide⟩)).symm
      | ⟨4, _⟩ => exact (congrArg Fin.val (congrFun h ⟨2, by decide⟩)).symm
    · rintro ⟨p, rfl⟩
      refine funext fun a => Fin.ext ?_
      have h0 : (j 0).val < 1 := (j 0).isLt
      match a with
      | ⟨0, _⟩ => show 0 = (j 0).val; omega
      | ⟨1, _⟩ => rfl
      | ⟨2, _⟩ => rfl

/-- The sums over axes of one element. -/
theorem red014 (x : S1x1x128x4x1.Idx → EReal) (init : EReal) (j : S128x4.Idx) :
    Ideal.hostReduceAdd reducesTo_S1x1x128x4x1_S128x4_d0_1_4 x init j
      = init + x (ix5 0 0 (⟨(j 0).val, (j 0).isLt⟩ : Fin 128) (⟨(j 1).val, (j 1).isLt⟩ : Fin 4) 0) := by
  refine (red _ j (fun _ : Unit => ix5 0 0 (⟨(j 0).val, (j 0).isLt⟩ : Fin 128) (⟨(j 1).val, (j 1).isLt⟩ : Fin 4) 0) (fun _ _ _ => rfl) ?_ x init).trans ?_
  · intro i
    constructor
    · intro h
      refine ⟨(), funext fun a => Fin.ext ?_⟩
      have h0 : (i 0).val < 1 := (i 0).isLt
      have h1 : (i 1).val < 1 := (i 1).isLt
      have h4 : (i 4).val < 1 := (i 4).isLt
      match a with
      | ⟨0, _⟩ => show 0 = (i 0).val; omega
      | ⟨1, _⟩ => show 0 = (i 1).val; omega
      | ⟨2, _⟩ => exact (congrArg Fin.val (congrFun h ⟨0, by decide⟩)).symm
      | ⟨3, _⟩ => exact (congrArg Fin.val (congrFun h ⟨1, by decide⟩)).symm
      | ⟨4, _⟩ => show 0 = (i 4).val; omega
    · rintro ⟨p, rfl⟩
      refine funext fun a => Fin.ext ?_
      match a with
      | ⟨0, _⟩ => rfl
      | ⟨1, _⟩ => rfl
  · rw [Fintype.sum_unique]
theorem red012 (x : S1x1x1x4x64.Idx → EReal) (init : EReal) (j : S4x64.Idx) :
    Ideal.hostReduceAdd reducesTo_S1x1x1x4x64_S4x64_d0_1_2 x init j
      = init + x (ix5 0 0 0 (⟨(j 0).val, (j 0).isLt⟩ : Fin 4) (⟨(j 1).val, (j 1).isLt⟩ : Fin 64)) := by
  refine (red _ j (fun _ : Unit => ix5 0 0 0 (⟨(j 0).val, (j 0).isLt⟩ : Fin 4) (⟨(j 1).val, (j 1).isLt⟩ : Fin 64)) (fun _ _ _ => rfl) ?_ x init).trans ?_
  · intro i
    constructor
    · intro h
      refine ⟨(), funext fun a => Fin.ext ?_⟩
      have h0 : (i 0).val < 1 := (i 0).isLt
      have h1 : (i 1).val < 1 := (i 1).isLt
      have h2 : (i 2).val < 1 := (i 2).isLt
      match a with
      | ⟨0, _⟩ => show 0 = (i 0).val; omega
      | ⟨1, _⟩ => show 0 = (i 1).val; omega
      | ⟨2, _⟩ => show 0 = (i 2).val; omega
      | ⟨3, _⟩ => exact (congrArg Fin.val (congrFun h ⟨0, by decide⟩)).symm
      | ⟨4, _⟩ => exact (congrArg Fin.val (congrFun h ⟨1, by decide⟩)).symm
    · rintro ⟨p, rfl⟩
      refine funext fun a => Fin.ext ?_
      match a with
      | ⟨0, _⟩ => rfl
      | ⟨1, _⟩ => rfl
  · rw [Fintype.sum_unique]
theorem red04 (x : S1x64x128x4x1.Idx → EReal) (init : EReal) (j : S64x128x4.Idx) :
    Ideal.hostReduceAdd reducesTo_S1x64x128x4x1_S64x128x4_d0_4 x init j
      = init + x (ix5 0 (⟨(j 0).val, (j 0).isLt⟩ : Fin 64) (⟨(j 1).val, (j 1).isLt⟩ : Fin 128) (⟨(j 2).val, (j 2).isLt⟩ : Fin 4) 0) := by
  refine (red _ j (fun _ : Unit => ix5 0 (⟨(j 0).val, (j 0).isLt⟩ : Fin 64) (⟨(j 1).val, (j 1).isLt⟩ : Fin 128) (⟨(j 2).val, (j 2).isLt⟩ : Fin 4) 0) (fun _ _ _ => rfl) ?_ x init).trans ?_
  · intro i
    constructor
    · intro h
      refine ⟨(), funext fun a => Fin.ext ?_⟩
      have h0 : (i 0).val < 1 := (i 0).isLt
      have h4 : (i 4).val < 1 := (i 4).isLt
      match a with
      | ⟨0, _⟩ => show 0 = (i 0).val; omega
      | ⟨1, _⟩ => exact (congrArg Fin.val (congrFun h ⟨0, by decide⟩)).symm
      | ⟨2, _⟩ => exact (congrArg Fin.val (congrFun h ⟨1, by decide⟩)).symm
      | ⟨3, _⟩ => exact (congrArg Fin.val (congrFun h ⟨2, by decide⟩)).symm
      | ⟨4, _⟩ => show 0 = (i 4).val; omega
    · rintro ⟨p, rfl⟩
      refine funext fun a => Fin.ext ?_
      match a with
      | ⟨0, _⟩ => rfl
      | ⟨1, _⟩ => rfl
      | ⟨2, _⟩ => rfl
  · rw [Fintype.sum_unique]

/-- The two halves of each head's lanes, joined. -/
theorem cat5 (F G : ℕ → ℕ → ℕ → ℝ) :
    concatenate S1x64x128x4x128 4 [⟨S1x64x128x4x64, R5 4 64 F⟩, ⟨S1x64x128x4x64, R5 4 64 G⟩] concatenates_S1x64x128x4x64_S1x64x128x4x64_S1x64x128x4x128_d4
      = R5 4 128 fun h r d => if d < 64 then F h r d else G h r (d - 64) := by
  funext j; idx_vars j
  pointwise
  split
  · rename_i h
    show _ = (((if (j4 : ℕ) < 64 then _ else _ : ℝ)) : EReal)
    rw [if_pos h]
    rfl
  · rename_i h
    show _ = (((if (j4 : ℕ) < 64 then _ else _ : ℝ)) : EReal)
    rw [if_neg h]
    rfl
/-- A row of zeros over a row of values, for each head. -/
theorem cat3 (F G : ℕ → ℕ → ℕ → ℝ) :
    concatenate S4x2x64 1 [⟨S4x1x64, E3 4 1 64 F⟩, ⟨S4x1x64, E3 4 1 64 G⟩] concatenates_S4x1x64_S4x1x64_S4x2x64_d1
      = E3 4 2 64 fun h r d => if r < 1 then F h r d else G h (r - 1) d := by
  funext j; idx_vars j
  pointwise
  split
  · rename_i h
    show _ = (((if (j1 : ℕ) < 1 then _ else _ : ℝ)) : EReal)
    rw [if_pos h]
    rfl
  · rename_i h
    show _ = (((if (j1 : ℕ) < 1 then _ else _ : ℝ)) : EReal)
    rw [if_neg h]
    rfl

/-- The product over the chunks, the batch of one and the lanes. -/
abbrev dw72 := dot_S4x1x64x64x128_S1x64x128x4x64_S4x128x128_123_014_4_2_0_3
def c3 (p : Fin 64 × Fin 64) : dw72.contr.Idx := fun a => match a with
  | ⟨0, _⟩ => ⟨0, Nat.one_pos⟩
  | ⟨1, _⟩ => ⟨p.1.val, p.1.isLt⟩
  | ⟨2, _⟩ => ⟨p.2.val, p.2.isLt⟩
theorem c3_bij : Function.Bijective c3 := by
  constructor
  · intro p q h
    exact Prod.ext (Fin.ext (congrArg (fun i : dw72.contr.Idx => (i ⟨1, by decide⟩).val) h)) (Fin.ext (congrArg (fun i : dw72.contr.Idx => (i ⟨2, by decide⟩).val) h))
  · intro i
    refine ⟨(⟨(i ⟨1, by decide⟩).val, (i ⟨1, by decide⟩).isLt⟩, ⟨(i ⟨2, by decide⟩).val, (i ⟨2, by decide⟩).isLt⟩), funext fun a => Fin.ext ?_⟩
    have h0 : (i ⟨0, by decide⟩).val < 1 := (i ⟨0, by decide⟩).isLt
    match a with
    | ⟨0, _⟩ => show 0 = (i ⟨0, by decide⟩).val; omega
    | ⟨1, _⟩ => rfl
    | ⟨2, _⟩ => rfl
theorem dot72 (x : FVec Ideal S4x1x64x64x128 .f32) (y : FVec Ideal S1x64x128x4x64 .f32) (j : S4x128x128.Idx) :
    Host.dotGeneral (F := Ideal) (φ₁ := .f32) (φ₂ := .f32) dw72 none x y j
      = ∑ p : Fin 64 × Fin 64, x (ix5 (⟨(j 0).val, (j 0).isLt⟩ : Fin 4) 0 p.1 p.2 (⟨(j 1).val, (j 1).isLt⟩ : Fin 128))
          * y (ix5 0 p.1 (⟨(j 2).val, (j 2).isLt⟩ : Fin 128) (⟨(j 0).val, (j 0).isLt⟩ : Fin 4) p.2) := by
  simp only [Host.dotGeneral]
  rw [Ideal.dotGeneral_apply, ← c3_bij.sum_comp]
  refine sum_congr rfl fun p _ => ?_
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

end Cert.RealForm.Ref
end
-- ==== Proof.RefC.lean ====
module

public import proofs.«01_k».proof.Proof.RefB

@[expose] public section

set_option maxRecDepth 16384

noncomputable section

/-! The reference's causal weights, its mixed values and the gradients that meet them. -/
namespace Cert.RealForm.Ref

open Cert.ReferenceIdeal Cert.ReferenceIdeal.Gen Cert.ReferenceIdeal.Value Cert.ReferenceIdeal.Read Idealize.ShloMosaic Idealize.ShloMosaic.TcCoe Idealize.SL.Sem Finset

variable (Z D : ℕ → ℕ → ℝ) (g b : ℕ → ℕ → ℝ) (W : ℕ → ℕ → ℕ → ℝ) (s : ℕ → ℕ → ℝ)

theorem mask (j : S4x128x128.Idx) : val_main_v54_1 (F := Ideal) j = BitVec.ofBool (decide ((j 2).val ≤ (j 1).val)) := by
  have h1 : (j 1).val < 128 := (j 1).isLt
  have h2 : (j 2).val < 128 := (j 2).isLt
  rw [val_main_v54_1_apply, val_main_v53_apply, val_main_call0_v4_apply, val_main_call0_v2_apply, val_main_call0_v0_apply,
    val_main_call0_v1_apply, val_main_call0_v3_apply]
  show Scalar.select (IntOp.cmpi .sge (BitVec.ofNat 32 (j 1).val + 0#32) (BitVec.ofNat 32 (j 2).val)) 1#1 0#1 = _
  rw [BitVec.add_zero, sge_nat _ _ (by omega) (by omega)]
  cases decide ((j 2).val ≤ (j 1).val) <;> rfl
theorem v54 : val_main_v54_0 (F := Ideal) (E3 4 128 128 W) = E3 4 128 128 (sW W) := by
  funext j
  rw [val_main_v54_0_apply, mask, val_main_call1_v2_apply]
  show Scalar.select _ _ (FloatOps.ofBits .f32 0x00000000#32 : Ideal .f32) = (((if (j 2).val ≤ (j 1).val then _ else 0 : ℝ)) : EReal)
  rw [f_zero]
  by_cases h : (j 2).val ≤ (j 1).val
  · rw [if_pos h, decide_eq_true h]; rfl
  · rw [if_neg h, decide_eq_false h]; rfl
theorem v60 : val_main_v60 (F := Ideal) (E2 8192 1536 Z) (E2 4 64 g) (E2 4 64 b) (E3 4 128 128 W) (E2 4 128 s) = R5 4 64 (sSv Z g b W s) := by
  funext j
  have h2 : (j 2).val < 128 := (j 2).isLt
  rw [val_main_v60_apply, val_main_v56_apply, val_main_v55_apply, val_main_v59_apply, val_main_v58_apply, val_main_v57_apply, v51, v54,
    Ideal.addf_def]
  rw [show (∑ k : Fin 128, R5 4 64 (sVn Z g b) (lidx_main_v55 (idx_main_v56 j) k) * E3 4 128 128 (sW W) (ridx_main_v55 (idx_main_v56 j) k))
    = ((∑ k ∈ range 128, sW W (j 3).val (j 2).val k * sVn Z g b (j 3).val (128 * (j 1).val + k) (j 4).val : ℝ) : EReal) by
      refine Eq.trans (sum_congr rfl fun k _ => ?_) (sum_fin 128 _)
      rw [mul_comm (sW W _ _ _)]
      exact (EReal.coe_mul _ _).symm]
  show ((_ : ℝ) : EReal) + ((s (j 3).val (j 2).val : ℝ) : EReal) = ((sSv Z g b W s (j 3).val (128 * (j 1).val + (j 2).val) (j 4).val : ℝ) : EReal)
  unfold sSv
  rw [← EReal.coe_add, show (128 * (j 1).val + (j 2).val) % 128 = (j 2).val by omega, show (128 * (j 1).val + (j 2).val) / 128 = (j 1).val by omega]
theorem v64 : val_main_v64 (F := Ideal) (E2 8192 256 D) = R5 4 64 (sCt D) := by
  funext j
  have h0 : (j 0).val < 1 := (j 0).isLt
  have h1 : (j 1).val < 64 := (j 1).isLt
  have h2 : (j 2).val < 128 := (j 2).isLt
  have h3 : (j 3).val < 4 := (j 3).isLt
  have h4 : (j 4).val < 64 := (j 4).isLt
  rw [val_main_v64_apply, val_main_v63_apply]
  show ((D _ _ : ℝ) : EReal) = ((D _ _ : ℝ) : EReal)
  congr 2
  · show _ / 256 % 8192 = _; omega
  · show _ % 256 = _; omega
theorem v65 : val_main_v65 (F := Ideal) (E2 8192 1536 Z) (E2 8192 256 D) = R5 4 64 (sDs Z D) := by
  funext j
  rw [val_main_v65_apply, v25, v64, Ideal.mulf_def]
  refine (mul_comm _ _).trans ?_
  exact (EReal.coe_mul _ _).symm
theorem v66 : val_main_v66 (F := Ideal) (E2 8192 1536 Z) (E2 8192 256 D) (E2 4 64 g) (E2 4 64 b) (E3 4 128 128 W) (E2 4 128 s)
    = R5 4 64 (sDu Z D g b W s) := by
  funext j
  rw [val_main_v66_apply, v60, v64, Ideal.mulf_def]
  exact (EReal.coe_mul _ _).symm
theorem v126 : val_main_v126 (F := Ideal) (E2 8192 1536 Z) (E2 8192 256 D) = E3 4 128 128 fun h i _ => oDbs Z D h i := by
  funext j
  have h0 : (j 0).val < 4 := (j 0).isLt
  have h1 : (j 1).val < 128 := (j 1).isLt
  rw [val_main_v126_apply, val_main_v125_apply, val_main_v70_apply]
  unfold val_main_v69
  simp only [Host.reduceAdd, Ideal.hostReduceAdd_def]
  rw [red014, val_main_v68_apply]
  unfold val_main_v67
  simp only [Host.reduceAdd, Ideal.hostReduceAdd_def]
  rw [red14, v65, val_main_cst_14_apply, val_main_cst_15_apply, f_zero]
  refine (congrArg₂ (fun x y => (((0 : ℝ)) : EReal) + ((((0 : ℝ)) : EReal) + x)) (Eq.trans (sum_congr rfl fun p _ => ?_)
    (sum_pair 64 64 fun n d => sDs Z D (j 0).val (128 * n + (j 1).val) d)) (rfl : () = ())).trans ?_
  · refine congrArg₂ (fun x y => ((sDs Z D x (128 * p.1.val + y) p.2.val : ℝ) : EReal)) ?_ ?_
    · show ((((0 * 1 + 0) * 128 + (j 1).val) * 4 + (j 0).val) * 1 + 0) % 4 = (j 0).val; omega
    · show ((((0 * 1 + 0) * 128 + (j 1).val) * 4 + (j 0).val) * 1 + 0) / 4 % 128 = (j 1).val; omega
  · rw [← EReal.coe_add, ← EReal.coe_add, zero_add, zero_add]
    rfl

theorem v71 (j) : val_main_v71 (F := Ideal) (E2 8192 1536 Z) (E2 8192 256 D) j
    = ((sDs Z D (j 0).val (128 * (j 2).val + (j 4).val) (j 3).val : ℝ) : EReal) := by
  rw [val_main_v71_apply, v65]
  rfl
theorem v75 : val_main_v75 (F := Ideal) (E2 8192 1536 Z) (E2 8192 256 D) (E2 4 64 g) (E2 4 64 b) = E3 4 128 128 (oDw Z D g b) := by
  funext j
  rw [val_main_v75_apply, mask, val_main_call2_v0_apply]
  unfold val_main_v72
  rw [dot72, v51]
  show Scalar.select _ _ (FloatOps.ofBits .f32 0x00000000#32 : Ideal .f32) = (((if (j 2).val ≤ (j 1).val then _ else 0 : ℝ)) : EReal)
  rw [f_zero]
  by_cases h : (j 2).val ≤ (j 1).val
  · rw [if_pos h, decide_eq_true h, sel_true]
    refine Eq.trans ?_ (sum_pair 64 64 fun n d => sDs Z D (j 0).val (128 * n + (j 1).val) d * sVn Z g b (j 0).val (128 * n + (j 2).val) d)
    refine sum_congr rfl fun p _ => ?_
    rw [v71]
    exact (EReal.coe_mul _ _).symm
  · rw [if_neg h, decide_eq_false h]; rfl
theorem v74 : val_main_v74 (F := Ideal) (E2 8192 1536 Z) (E2 8192 256 D) (E3 4 128 128 W) = R5 4 64 (sDvn Z D W) := by
  funext j
  have h2 : (j 2).val < 128 := (j 2).isLt
  rw [val_main_v74_apply, val_main_v73_apply, v54]
  show _ = ((sDvn Z D W (j 3).val (128 * (j 1).val + (j 2).val) (j 4).val : ℝ) : EReal)
  unfold sDvn
  rw [show (128 * (j 1).val + (j 2).val) % 128 = (j 2).val by omega, show (128 * (j 1).val + (j 2).val) / 128 = (j 1).val by omega]
  refine Eq.trans (sum_congr rfl fun k _ => ?_) (sum_fin 128 _)
  rw [v71, mul_comm (sW W _ _ _)]
  exact (EReal.coe_mul _ _).symm

/-- The gain's and the bias' gradients, over all rows. -/
theorem v76 (j) : val_main_v76 (F := Ideal) (E2 8192 1536 Z) (E2 8192 256 D) (E3 4 128 128 W) j
    = ((oDb Z D W (j 1).val (j 2).val : ℝ) : EReal) := by
  unfold val_main_v76
  simp only [Host.reduceAdd, Ideal.hostReduceAdd_def]
  rw [red12, v74, val_main_cst_16_apply, f_zero]
  refine (congrArg (fun x => (((0 : ℝ)) : EReal) + x) (sum_pair 64 128 fun n i => sDvn Z D W (j 1).val (128 * n + i) (j 2).val)).trans ?_
  rw [← EReal.coe_add, zero_add, sum_rows 64 128 fun r => sDvn Z D W (j 1).val r (j 2).val]
  rfl
theorem v80 (j) : val_main_v80 (F := Ideal) (E2 8192 1536 Z) (E2 8192 256 D) (E3 4 128 128 W) j
    = ((oDg Z D W (j 1).val (j 2).val : ℝ) : EReal) := by
  unfold val_main_v80
  simp only [Host.reduceAdd, Ideal.hostReduceAdd_def]
  rw [red12, show val_main_v79 (F := Ideal) (E2 8192 1536 Z) (E2 8192 256 D) (E3 4 128 128 W)
    = R5 4 64 (fun h r d => sDvn Z D W h r d * sVh Z h r d) by
      funext i
      rw [val_main_v79_apply, v45, v74, Ideal.mulf_def]
      exact (mul_comm _ _).trans (EReal.coe_mul _ _).symm, val_main_cst_18_apply, f_zero]
  refine (congrArg (fun x => (((0 : ℝ)) : EReal) + x) (sum_pair 64 128 fun n i =>
    sDvn Z D W (j 1).val (128 * n + i) (j 2).val * sVh Z (j 1).val (128 * n + i) (j 2).val)).trans ?_
  rw [← EReal.coe_add, zero_add, sum_rows 64 128 fun r => sDvn Z D W (j 1).val r (j 2).val * sVh Z (j 1).val r (j 2).val]
  rfl
theorem v78 (j) : val_main_v78 (F := Ideal) (E2 8192 1536 Z) (E2 8192 256 D) (E3 4 128 128 W) j
    = ((oDb Z D W (j 0).val (j 1).val : ℝ) : EReal) := by
  have h0 : (j 0).val < 4 := (j 0).isLt
  have h1 : (j 1).val < 64 := (j 1).isLt
  unfold val_main_v78
  simp only [Host.reduceAdd, Ideal.hostReduceAdd_def]
  rw [red012, val_main_v77_apply, v76, val_main_cst_17_apply, f_zero, ← EReal.coe_add, zero_add]
  congr 2
  · show ((((0 * 1 + 0) * 1 + 0) * 4 + (j 0).val) * 64 + (j 1).val) / 64 % 4 = _; omega
  · show ((((0 * 1 + 0) * 1 + 0) * 4 + (j 0).val) * 64 + (j 1).val) % 64 = _; omega
theorem v84 (j) : val_main_v84 (F := Ideal) (E2 8192 1536 Z) (E2 8192 256 D) (E3 4 128 128 W) j
    = ((oDg Z D W (j 0).val (j 1).val : ℝ) : EReal) := by
  have h0 : (j 0).val < 4 := (j 0).isLt
  have h1 : (j 1).val < 64 := (j 1).isLt
  unfold val_main_v84
  simp only [Host.reduceAdd, Ideal.hostReduceAdd_def]
  rw [red012, val_main_v81_apply, v80, val_main_cst_19_apply, f_zero, ← EReal.coe_add, zero_add]
  congr 2
  · show ((((0 * 1 + 0) * 1 + 0) * 4 + (j 0).val) * 64 + (j 1).val) / 64 % 4 = _; omega
  · show ((((0 * 1 + 0) * 1 + 0) * 4 + (j 0).val) * 64 + (j 1).val) % 64 = _; omega

end Cert.RealForm.Ref
end
-- ==== Proof.RefD.lean ====
module

public import proofs.«01_k».proof.Proof.RefC

@[expose] public section

set_option maxRecDepth 16384

noncomputable section

/-! The reference's gradient through the layer norm and the activation, and its results. -/
namespace Cert.RealForm.Ref

open Cert.ReferenceIdeal Cert.ReferenceIdeal.Gen Cert.ReferenceIdeal.Value Cert.ReferenceIdeal.Read Idealize.ShloMosaic Idealize.ShloMosaic.TcCoe Idealize.SL.Sem Finset

variable (Z D : ℕ → ℕ → ℝ) (g b : ℕ → ℕ → ℝ) (W : ℕ → ℕ → ℕ → ℝ) (s : ℕ → ℕ → ℝ)

theorem v83 : val_main_v83 (F := Ideal) (E2 8192 1536 Z) (E2 8192 256 D) (E2 4 64 g) (E3 4 128 128 W) = R5 4 64 (sDvh Z D g W) := by
  funext j
  rw [val_main_v83_apply, val_main_v82_apply, val_main_v46_apply, v74, Ideal.mulf_def]
  exact (EReal.coe_mul _ _).symm
/-- The reference's factor of the centred values: half the gradient that comes back through the variance. -/
def rQ (h r : ℕ) : ℝ :=
  (∑ e ∈ range 64, sXc Z h r e * sDvh Z D g W h r e) * (-(1 / 2) * (sRs Z h r / sVe Z h r)) * (1 / 64)
theorem v87 : val_main_v87 (F := Ideal) (E2 8192 1536 Z) (E2 8192 256 D) (E2 4 64 g) (E3 4 128 128 W)
    = R5 4 1 fun h r _ => ∑ e ∈ range 64, sXc Z h r e * sDvh Z D g W h r e := by
  funext j
  have h0 : (j 0).val < 1 := (j 0).isLt
  have h1 : (j 1).val < 64 := (j 1).isLt
  have h2 : (j 2).val < 128 := (j 2).isLt
  have h3 : (j 3).val < 4 := (j 3).isLt
  have h4 : (j 4).val < 1 := (j 4).isLt
  rw [val_main_v87_apply, val_main_v86_apply, val_main_cst_20_apply, f_zero]
  rw [show val_main_v85 (F := Ideal) (E2 8192 1536 Z) (E2 8192 256 D) (E2 4 64 g) (E3 4 128 128 W)
    = R5 4 64 (fun h r d => sXc Z h r d * sDvh Z D g W h r d) by
      funext i
      rw [val_main_v85_apply, v32, v83, Ideal.mulf_def]
      exact (EReal.coe_mul _ _).symm]
  refine (congrArg (fun x => (((0 : ℝ)) : EReal) + x) (sum_fin 64 fun e =>
    sXc Z (idx_main_v87 j 3).val (128 * (idx_main_v87 j 1).val + (idx_main_v87 j 2).val) e
      * sDvh Z D g W (idx_main_v87 j 3).val (128 * (idx_main_v87 j 1).val + (idx_main_v87 j 2).val) e)).trans ?_
  rw [← EReal.coe_add, zero_add, show (idx_main_v87 j 3).val = (j 3).val by show _ % 4 = _; omega,
    show (idx_main_v87 j 2).val = (j 2).val by show _ / 4 % 128 = _; omega,
    show (idx_main_v87 j 1).val = (j 1).val by show _ / 512 % 64 = _; omega]
  rfl
theorem v95 : val_main_v95 (F := Ideal) (E2 8192 1536 Z) (E2 8192 256 D) (E2 4 64 g) (E3 4 128 128 W)
    = R5 4 64 fun h r _ => rQ Z D g W h r := by
  funext j
  rw [val_main_v95_apply, val_main_v94_apply]
  unfold val_main_v93
  simp only [Host.reduceAdd, Ideal.hostReduceAdd_def]
  rw [red04, val_main_v92_apply, val_main_v91_apply, val_main_cst_21_apply, val_main_cst_22_apply, val_main_v90_apply, v87, v43, f_64, f_zero,
    Ideal.mulf_def, Ideal.hostDivf_def]
  show ((0 : ℝ) : EReal) + Ideal.div (((_ : ℝ) : EReal) * ((_ : ℝ) : EReal)) ((64 : ℝ) : EReal) = _
  rw [← EReal.coe_mul, div_real _ _ (by norm_num), ← EReal.coe_add, zero_add, div_eq_mul_one_div]
  rfl
theorem v99 : val_main_v99 (F := Ideal) (E2 8192 1536 Z) (E2 8192 256 D) (E2 4 64 g) (E3 4 128 128 W)
    = R5 4 64 fun h r d => sDvh Z D g W h r d * sRs Z h r + sXc Z h r d * rQ Z D g W h r + rQ Z D g W h r * sXc Z h r d := by
  funext j
  rw [val_main_v99_apply, val_main_v98_apply, val_main_v97_apply, val_main_v96_apply, val_main_v89_apply, val_main_v88_apply,
    v83, v40, v32, v95]
  simp only [Ideal.mulf_def, Ideal.addf_def, R5, ← EReal.coe_mul, ← EReal.coe_add]
/-- The reference's negated gradient of the centred values. -/
def rN (h r e : ℕ) : ℝ := -(sDvh Z D g W h r e * sRs Z h r + sXc Z h r e * rQ Z D g W h r + rQ Z D g W h r * sXc Z h r e)
theorem v100 : val_main_v100 (F := Ideal) (E2 8192 1536 Z) (E2 8192 256 D) (E2 4 64 g) (E3 4 128 128 W) = R5 4 64 (rN Z D g W) := by
  funext i
  rw [val_main_v100_apply, v99]
  exact (EReal.coe_neg _).symm
theorem v102 : val_main_v102 (F := Ideal) (E2 8192 1536 Z) (E2 8192 256 D) (E2 4 64 g) (E3 4 128 128 W)
    = R5 4 1 fun h r _ => ∑ e ∈ range 64, rN Z D g W h r e := by
  funext j
  have h0 : (j 0).val < 1 := (j 0).isLt
  have h1 : (j 1).val < 64 := (j 1).isLt
  have h2 : (j 2).val < 128 := (j 2).isLt
  have h3 : (j 3).val < 4 := (j 3).isLt
  have h4 : (j 4).val < 1 := (j 4).isLt
  rw [val_main_v102_apply, val_main_v101_apply, val_main_cst_23_apply, f_zero, v100]
  refine (congrArg (fun x => (((0 : ℝ)) : EReal) + x) (sum_fin 64 fun e =>
    rN Z D g W (idx_main_v102 j 3).val (128 * (idx_main_v102 j 1).val + (idx_main_v102 j 2).val) e)).trans ?_
  rw [← EReal.coe_add, zero_add, show (idx_main_v102 j 3).val = (j 3).val by show _ % 4 = _; omega,
    show (idx_main_v102 j 2).val = (j 2).val by show _ / 4 % 128 = _; omega,
    show (idx_main_v102 j 1).val = (j 1).val by show _ / 512 % 64 = _; omega]
  rfl
theorem v107 : val_main_v107 (F := Ideal) (E2 8192 1536 Z) (E2 8192 256 D) (E2 4 64 g) (E3 4 128 128 W)
    = R5 4 64 fun h r _ => (∑ e ∈ range 64, rN Z D g W h r e) * (1 / 64) := by
  funext j
  rw [val_main_v107_apply, val_main_v106_apply]
  unfold val_main_v105
  simp only [Host.reduceAdd, Ideal.hostReduceAdd_def]
  rw [red04, val_main_v104_apply, val_main_v103_apply, val_main_cst_24_apply, val_main_cst_25_apply, v102, f_64, f_zero, Ideal.hostDivf_def]
  show ((0 : ℝ) : EReal) + Ideal.div ((_ : ℝ) : EReal) ((64 : ℝ) : EReal) = _
  rw [div_real _ _ (by norm_num), ← EReal.coe_add, zero_add, div_eq_mul_one_div]
  rfl

/-- The centred values of a row add up to zero. -/
theorem sXc_sum (h r : ℕ) : ∑ e ∈ range 64, sXc Z h r e = 0 := by
  unfold sXc
  rw [sum_sub_distrib, sum_const, card_range]
  simp only [nsmul_eq_mul, Nat.cast_ofNat]
  ring
theorem sRs_sq (h r : ℕ) : sRs Z h r * sRs Z h r * sVe Z h r = 1 := by
  have hp := sVe_pos Z h r
  have hs : Real.sqrt (sVe Z h r) * Real.sqrt (sVe Z h r) = sVe Z h r := Real.mul_self_sqrt hp.le
  have hn : Real.sqrt (sVe Z h r) ≠ 0 := (Real.sqrt_pos.mpr hp).ne'
  have hr : sRs Z h r = (Real.sqrt (sVe Z h r))⁻¹ := rfl
  rw [hr]
  nth_rewrite 3 [← hs]
  field_simp
/-- The layer norm's gradient in the two forms. -/
theorem ln_grad (a x : ℕ → ℝ) (R V : ℝ) (hV : V ≠ 0) (hR : R * R * V = 1) (hx : ∑ e ∈ range 64, x e = 0) (d : ℕ) (q : ℝ)
    (hq : q = (∑ e ∈ range 64, x e * a e) * (-(1 / 2) * (R / V)) * (1 / 64)) :
    a d * R + x d * q + q * x d + (∑ e ∈ range 64, -(a e * R + x e * q + q * x e)) * (1 / 64)
      = R * (a d - (∑ e ∈ range 64, a e) * (1 / 64) - x d * R * ((∑ e ∈ range 64, a e * (x e * R)) * (1 / 64))) := by
  have h1 : ∑ e ∈ range 64, -(a e * R + x e * q + q * x e) = -(R * (∑ e ∈ range 64, a e)) := by
    rw [show ∑ e ∈ range 64, -(a e * R + x e * q + q * x e) = ∑ e ∈ range 64, (-R * a e + -(2 * q) * x e) from
      sum_congr rfl fun e _ => by ring, sum_add_distrib, ← mul_sum, ← mul_sum, hx]
    ring
  have h2 : ∑ e ∈ range 64, a e * (x e * R) = R * ∑ e ∈ range 64, x e * a e := by
    rw [mul_sum]; exact sum_congr rfl fun e _ => by ring
  have h3 : R / V = R * R * R := by
    rw [div_eq_iff hV]; linear_combination -R * hR
  rw [h1, h2, hq, h3]
  ring
theorem v108 : val_main_v108 (F := Ideal) (E2 8192 1536 Z) (E2 8192 256 D) (E2 4 64 g) (E3 4 128 128 W) = R5 4 64 (sDv Z D g W) := by
  funext j
  rw [val_main_v108_apply, v99, v107, Ideal.addf_def]
  show ((_ : ℝ) : EReal) + ((_ : ℝ) : EReal) = ((_ : ℝ) : EReal)
  rw [← EReal.coe_add]
  refine congrArg (fun x : ℝ => (x : EReal)) ?_
  exact ln_grad (sDvh Z D g W (j 3).val (128 * (j 1).val + (j 2).val)) (sXc Z (j 3).val (128 * (j 1).val + (j 2).val)) _ _
    (sVe_pos Z _ _).ne' (sRs_sq Z _ _) (sXc_sum Z _ _) (j 4).val _ rfl
theorem v110 : val_main_v110 (F := Ideal) (E2 8192 1536 Z) (E2 8192 256 D) (E2 4 64 g) (E2 4 64 b) (E3 4 128 128 W) (E2 4 128 s)
    = X3 512 fun r l => if l % 128 < 64 then sDu Z D g b W s (l / 128) r (l % 128) else sDv Z D g W (l / 128) r (l % 128 - 64) := by
  funext j
  have h0 : (j 0).val < 1 := (j 0).isLt
  have h1 : (j 1).val < 8192 := (j 1).isLt
  have h2 : (j 2).val < 512 := (j 2).isLt
  rw [val_main_v110_apply]
  unfold val_main_v109
  rw [v66, v108, cat5]
  show (((if _ then sDu Z D g b W s _ _ _ else sDv Z D g W _ _ _ : ℝ)) : EReal) = (((if _ then sDu Z D g b W s _ _ _ else sDv Z D g W _ _ _ : ℝ)) : EReal)
  have e4 : (idx_main_v110 j 4).val = (j 2).val % 128 := by show _ % 128 = _; omega
  have e3 : (idx_main_v110 j 3).val = (j 2).val / 128 := by show _ / 128 % 4 = _; omega
  have e2 : (idx_main_v110 j 2).val = (j 1).val % 128 := by show _ / 512 % 128 = _; omega
  have e1 : (idx_main_v110 j 1).val = (j 1).val / 128 := by show _ / 65536 % 64 = _; omega
  rw [e1, e2, e3, e4, show 128 * ((j 1).val / 128) + (j 1).val % 128 = (j 1).val by omega]
theorem v124 : val_main_v124 (F := Ideal) (E2 8192 1536 Z) (E2 8192 256 D) (E2 4 64 g) (E2 4 64 b) (E3 4 128 128 W) (E2 4 128 s)
    = E2 8192 512 (oDz Z D g b W s) := by
  funext j
  have h0 : (j 0).val < 8192 := (j 0).isLt
  have h1 : (j 1).val < 512 := (j 1).isLt
  have hi : idx_main_v124 j = ix3 (0 : Fin 1) (⟨(j 0).val, h0⟩ : Fin 8192) (⟨(j 1).val, h1⟩ : Fin 512) := by
    refine funext fun a => Fin.ext ?_
    match a with
    | ⟨0, _⟩ => rfl
    | ⟨1, _⟩ => show ((j 0).val * 512 + (j 1).val) / 512 % 8192 = (j 0).val; omega
    | ⟨2, _⟩ => show ((j 0).val * 512 + (j 1).val) % 512 = (j 1).val; omega
  rw [val_main_v124_apply, hi, val_main_v122_apply, val_main_v121_apply, val_main_v120_apply, val_main_v119_apply, val_main_v118_apply,
    val_main_v117_apply, val_main_v116_apply, val_main_cst_27_apply, val_main_v115_apply, val_main_v114_apply, val_main_v113_apply,
    val_main_cst_26_apply, val_main_v112_apply, val_main_v111_apply, v110, v1, v22, v18, v7, v2, f_gc, f_half]
  have e1 : (ix3 (0 : Fin 1) (⟨(j 0).val, h0⟩ : Fin 8192) (⟨(j 1).val, h1⟩ : Fin 512) 1).val = (j 0).val := rfl
  have e2 : (ix3 (0 : Fin 1) (⟨(j 0).val, h0⟩ : Fin 8192) (⟨(j 1).val, h1⟩ : Fin 512) 2).val = (j 1).val := rfl
  simp only [Ideal.mulf_def, Ideal.addf_def, X3, E2, ← EReal.coe_mul, ← EReal.coe_add, e1, e2]
  refine congrArg (fun x : ℝ => (x : EReal)) ?_
  unfold oDz gd
  ring

/-- The gain's and the bias' gradients, laid out by lane. -/
theorem v130 : val_main_v130 (F := Ideal) (E2 8192 1536 Z) (E2 8192 256 D) (E3 4 128 128 W)
    = E2 1 512 fun _ l => if l % 128 < 64 then 0 else oDg Z D W (l / 128) (l % 128 - 64) := by
  funext j
  have h0 : (j 0).val < 1 := (j 0).isLt
  have h1 : (j 1).val < 512 := (j 1).isLt
  have hi : idx_main_v130 j = ix3 (⟨(j 1).val / 128, by omega⟩ : Fin 4) (⟨(j 1).val / 64 % 2, by omega⟩ : Fin 2) (⟨(j 1).val % 64, by omega⟩ : Fin 64) := by
    refine funext fun a => Fin.ext ?_
    match a with
    | ⟨0, _⟩ => show ((j 0).val * 512 + (j 1).val) / 128 = (j 1).val / 128; omega
    | ⟨1, _⟩ => show ((j 0).val * 512 + (j 1).val) / 64 % 2 = (j 1).val / 64 % 2; omega
    | ⟨2, _⟩ => show ((j 0).val * 512 + (j 1).val) % 64 = (j 1).val % 64; omega
  rw [val_main_v130_apply, hi]
  unfold val_main_v129
  rw [show val_main_v127 (F := Ideal) = E3 4 1 64 (fun _ _ _ => 0) by
      funext i; rw [val_main_v127_apply, val_main_v123_apply, val_main_cst_28_apply, f_zero]; rfl,
    show val_main_v128 (F := Ideal) (E2 8192 1536 Z) (E2 8192 256 D) (E3 4 128 128 W) = E3 4 1 64 (fun h _ d => oDg Z D W h d) by
      funext i; rw [val_main_v128_apply, v84]; rfl, cat3]
  show (((if (j 1).val / 64 % 2 < 1 then 0 else oDg Z D W ((j 1).val / 128) ((j 1).val % 64) : ℝ)) : EReal)
    = (((if (j 1).val % 128 < 64 then 0 else oDg Z D W ((j 1).val / 128) ((j 1).val % 128 - 64) : ℝ)) : EReal)
  refine congrArg (fun x : ℝ => (x : EReal)) ?_
  by_cases h : (j 1).val % 128 < 64
  · rw [if_pos h, if_pos (by omega)]
  · rw [if_neg h, if_neg (by omega), show (j 1).val % 64 = (j 1).val % 128 - 64 by omega]
theorem v134 : val_main_v134 (F := Ideal) (E2 8192 1536 Z) (E2 8192 256 D) (E3 4 128 128 W)
    = E2 1 512 fun _ l => if l % 128 < 64 then 0 else oDb Z D W (l / 128) (l % 128 - 64) := by
  funext j
  have h0 : (j 0).val < 1 := (j 0).isLt
  have h1 : (j 1).val < 512 := (j 1).isLt
  have hi : idx_main_v134 j = ix3 (⟨(j 1).val / 128, by omega⟩ : Fin 4) (⟨(j 1).val / 64 % 2, by omega⟩ : Fin 2) (⟨(j 1).val % 64, by omega⟩ : Fin 64) := by
    refine funext fun a => Fin.ext ?_
    match a with
    | ⟨0, _⟩ => show ((j 0).val * 512 + (j 1).val) / 128 = (j 1).val / 128; omega
    | ⟨1, _⟩ => show ((j 0).val * 512 + (j 1).val) / 64 % 2 = (j 1).val / 64 % 2; omega
    | ⟨2, _⟩ => show ((j 0).val * 512 + (j 1).val) % 64 = (j 1).val % 64; omega
  rw [val_main_v134_apply, hi]
  unfold val_main_v133
  rw [show val_main_v131 (F := Ideal) = E3 4 1 64 (fun _ _ _ => 0) by
      funext i; rw [val_main_v131_apply, val_main_v123_apply, val_main_cst_28_apply, f_zero]; rfl,
    show val_main_v132 (F := Ideal) (E2 8192 1536 Z) (E2 8192 256 D) (E3 4 128 128 W) = E3 4 1 64 (fun h _ d => oDb Z D W h d) by
      funext i; rw [val_main_v132_apply, v78]; rfl, cat3]
  show (((if (j 1).val / 64 % 2 < 1 then 0 else oDb Z D W ((j 1).val / 128) ((j 1).val % 64) : ℝ)) : EReal)
    = (((if (j 1).val % 128 < 64 then 0 else oDb Z D W ((j 1).val / 128) ((j 1).val % 128 - 64) : ℝ)) : EReal)
  refine congrArg (fun x : ℝ => (x : EReal)) ?_
  by_cases h : (j 1).val % 128 < 64
  · rw [if_pos h, if_pos (by omega)]
  · rw [if_neg h, if_neg (by omega), show (j 1).val % 64 = (j 1).val % 128 - 64 by omega]

end Cert.RealForm.Ref
end
-- ==== Proof.RefE.lean ====
module

public import proofs.«01_k».proof.Proof.RefA

@[expose] public section

set_option maxRecDepth 16384

noncomputable section

/-! The reference reads only the activation's lanes of its first argument: two arguments with the same slice give the
    same stages. -/
namespace Cert.RealForm.Ref

open Cert.ReferenceIdeal Cert.ReferenceIdeal.Gen Cert.ReferenceIdeal.Value Cert.ReferenceIdeal.Read Idealize.ShloMosaic Idealize.ShloMosaic.TcCoe Idealize.SL.Sem Finset

variable (x y : FVec Ideal S8192x1536 .f32) (h : val_main_v0 (F := Ideal) x = val_main_v0 (F := Ideal) y)
include h

theorem c_v1 : val_main_v1 (F := Ideal) x = val_main_v1 (F := Ideal) y := by
  unfold val_main_v1; rw [h]
theorem c_v3 : val_main_v3 (F := Ideal) x = val_main_v3 (F := Ideal) y := by
  unfold val_main_v3; rw [c_v1 x y h]
theorem c_v4 : val_main_v4 (F := Ideal) x = val_main_v4 (F := Ideal) y := by
  unfold val_main_v4; rw [c_v3 x y h, c_v1 x y h]
theorem c_v5 : val_main_v5 (F := Ideal) x = val_main_v5 (F := Ideal) y := by
  unfold val_main_v5; rw [c_v1 x y h]
theorem c_v7 : val_main_v7 (F := Ideal) x = val_main_v7 (F := Ideal) y := by
  unfold val_main_v7; rw [c_v5 x y h]
theorem c_v9 : val_main_v9 (F := Ideal) x = val_main_v9 (F := Ideal) y := by
  unfold val_main_v9; rw [c_v4 x y h]
theorem c_v10 : val_main_v10 (F := Ideal) x = val_main_v10 (F := Ideal) y := by
  unfold val_main_v10; rw [c_v1 x y h, c_v9 x y h]
theorem c_v12 : val_main_v12 (F := Ideal) x = val_main_v12 (F := Ideal) y := by
  unfold val_main_v12; rw [c_v10 x y h]
theorem c_v13 : val_main_v13 (F := Ideal) x = val_main_v13 (F := Ideal) y := by
  unfold val_main_v13; rw [c_v12 x y h]
theorem c_v15 : val_main_v15 (F := Ideal) x = val_main_v15 (F := Ideal) y := by
  unfold val_main_v15; rw [c_v13 x y h]
theorem c_v17 : val_main_v17 (F := Ideal) x = val_main_v17 (F := Ideal) y := by
  unfold val_main_v17; rw [c_v13 x y h]
theorem c_v18 : val_main_v18 (F := Ideal) x = val_main_v18 (F := Ideal) y := by
  unfold val_main_v18; rw [c_v15 x y h, c_v17 x y h]
theorem c_v20 : val_main_v20 (F := Ideal) x = val_main_v20 (F := Ideal) y := by
  unfold val_main_v20; rw [c_v13 x y h]
theorem c_v22 : val_main_v22 (F := Ideal) x = val_main_v22 (F := Ideal) y := by
  unfold val_main_v22; rw [c_v20 x y h]
theorem c_v23 : val_main_v23 (F := Ideal) x = val_main_v23 (F := Ideal) y := by
  unfold val_main_v23; rw [c_v1 x y h, c_v22 x y h]
theorem c_v24 : val_main_v24 (F := Ideal) x = val_main_v24 (F := Ideal) y := by
  unfold val_main_v24; rw [c_v23 x y h]
theorem c_v25 : val_main_v25 (F := Ideal) x = val_main_v25 (F := Ideal) y := by
  unfold val_main_v25; rw [c_v24 x y h]
theorem c_v26 : val_main_v26 (F := Ideal) x = val_main_v26 (F := Ideal) y := by
  unfold val_main_v26; rw [c_v24 x y h]
theorem c_v27 : val_main_v27 (F := Ideal) x = val_main_v27 (F := Ideal) y := by
  unfold val_main_v27; rw [c_v26 x y h]
theorem c_v28 : val_main_v28 (F := Ideal) x = val_main_v28 (F := Ideal) y := by
  unfold val_main_v28; rw [c_v27 x y h]
theorem c_v30 : val_main_v30 (F := Ideal) x = val_main_v30 (F := Ideal) y := by
  unfold val_main_v30; rw [c_v28 x y h]
theorem c_v31 : val_main_v31 (F := Ideal) x = val_main_v31 (F := Ideal) y := by
  unfold val_main_v31; rw [c_v30 x y h]
theorem c_v32 : val_main_v32 (F := Ideal) x = val_main_v32 (F := Ideal) y := by
  unfold val_main_v32; rw [c_v26 x y h, c_v31 x y h]
theorem c_v33 : val_main_v33 (F := Ideal) x = val_main_v33 (F := Ideal) y := by
  unfold val_main_v33; rw [c_v32 x y h]
theorem c_v34 : val_main_v34 (F := Ideal) x = val_main_v34 (F := Ideal) y := by
  unfold val_main_v34; rw [c_v33 x y h]
theorem c_v35 : val_main_v35 (F := Ideal) x = val_main_v35 (F := Ideal) y := by
  unfold val_main_v35; rw [c_v34 x y h]
theorem c_v37 : val_main_v37 (F := Ideal) x = val_main_v37 (F := Ideal) y := by
  unfold val_main_v37; rw [c_v35 x y h]
theorem c_v39 : val_main_v39 (F := Ideal) x = val_main_v39 (F := Ideal) y := by
  unfold val_main_v39; rw [c_v37 x y h]
theorem c_v40 : val_main_v40 (F := Ideal) x = val_main_v40 (F := Ideal) y := by
  unfold val_main_v40; rw [c_v39 x y h]
theorem c_v41 : val_main_v41 (F := Ideal) x = val_main_v41 (F := Ideal) y := by
  unfold val_main_v41; rw [c_v40 x y h, c_v39 x y h]
theorem c_v43 : val_main_v43 (F := Ideal) x = val_main_v43 (F := Ideal) y := by
  unfold val_main_v43; rw [c_v41 x y h]
theorem c_v44 : val_main_v44 (F := Ideal) x = val_main_v44 (F := Ideal) y := by
  unfold val_main_v44; rw [c_v40 x y h]
theorem c_v45 : val_main_v45 (F := Ideal) x = val_main_v45 (F := Ideal) y := by
  unfold val_main_v45; rw [c_v32 x y h, c_v44 x y h]
theorem c_v48 (x2 : FVec Ideal S4x64 .f32) : val_main_v48 (F := Ideal) x x2 = val_main_v48 (F := Ideal) y x2 := by
  unfold val_main_v48; rw [c_v45 x y h]
theorem c_v51 (x2 : FVec Ideal S4x64 .f32) (x3 : FVec Ideal S4x64 .f32) : val_main_v51 (F := Ideal) x x2 x3 = val_main_v51 (F := Ideal) y x2 x3 := by
  unfold val_main_v51; rw [c_v48 x y h x2]
theorem c_v55 (x2 : FVec Ideal S4x64 .f32) (x3 : FVec Ideal S4x64 .f32) (x4 : FVec Ideal S4x128x128 .f32) : val_main_v55 (F := Ideal) x x2 x3 x4 = val_main_v55 (F := Ideal) y x2 x3 x4 := by
  unfold val_main_v55; rw [c_v51 x y h x2 x3]
theorem c_v56 (x2 : FVec Ideal S4x64 .f32) (x3 : FVec Ideal S4x64 .f32) (x4 : FVec Ideal S4x128x128 .f32) : val_main_v56 (F := Ideal) x x2 x3 x4 = val_main_v56 (F := Ideal) y x2 x3 x4 := by
  unfold val_main_v56; rw [c_v55 x y h x2 x3 x4]
theorem c_v60 (x2 : FVec Ideal S4x64 .f32) (x3 : FVec Ideal S4x64 .f32) (x4 : FVec Ideal S4x128x128 .f32) (x5 : FVec Ideal S4x128 .f32) : val_main_v60 (F := Ideal) x x2 x3 x4 x5 = val_main_v60 (F := Ideal) y x2 x3 x4 x5 := by
  unfold val_main_v60; rw [c_v56 x y h x2 x3 x4]
theorem c_v65 (x1 : FVec Ideal S8192x256 .f32) : val_main_v65 (F := Ideal) x x1 = val_main_v65 (F := Ideal) y x1 := by
  unfold val_main_v65; rw [c_v25 x y h]
theorem c_v66 (x1 : FVec Ideal S8192x256 .f32) (x2 : FVec Ideal S4x64 .f32) (x3 : FVec Ideal S4x64 .f32) (x4 : FVec Ideal S4x128x128 .f32) (x5 : FVec Ideal S4x128 .f32) : val_main_v66 (F := Ideal) x x1 x2 x3 x4 x5 = val_main_v66 (F := Ideal) y x1 x2 x3 x4 x5 := by
  unfold val_main_v66; rw [c_v60 x y h x2 x3 x4 x5]
theorem c_v67 (x1 : FVec Ideal S8192x256 .f32) : val_main_v67 (F := Ideal) x x1 = val_main_v67 (F := Ideal) y x1 := by
  unfold val_main_v67; rw [c_v65 x y h x1]
theorem c_v68 (x1 : FVec Ideal S8192x256 .f32) : val_main_v68 (F := Ideal) x x1 = val_main_v68 (F := Ideal) y x1 := by
  unfold val_main_v68; rw [c_v67 x y h x1]
theorem c_v69 (x1 : FVec Ideal S8192x256 .f32) : val_main_v69 (F := Ideal) x x1 = val_main_v69 (F := Ideal) y x1 := by
  unfold val_main_v69; rw [c_v68 x y h x1]
theorem c_v70 (x1 : FVec Ideal S8192x256 .f32) : val_main_v70 (F := Ideal) x x1 = val_main_v70 (F := Ideal) y x1 := by
  unfold val_main_v70; rw [c_v69 x y h x1]
theorem c_v71 (x1 : FVec Ideal S8192x256 .f32) : val_main_v71 (F := Ideal) x x1 = val_main_v71 (F := Ideal) y x1 := by
  unfold val_main_v71; rw [c_v65 x y h x1]
theorem c_v72 (x1 : FVec Ideal S8192x256 .f32) (x2 : FVec Ideal S4x64 .f32) (x3 : FVec Ideal S4x64 .f32) : val_main_v72 (F := Ideal) x x1 x2 x3 = val_main_v72 (F := Ideal) y x1 x2 x3 := by
  unfold val_main_v72; rw [c_v71 x y h x1, c_v51 x y h x2 x3]
theorem c_v73 (x1 : FVec Ideal S8192x256 .f32) (x4 : FVec Ideal S4x128x128 .f32) : val_main_v73 (F := Ideal) x x1 x4 = val_main_v73 (F := Ideal) y x1 x4 := by
  unfold val_main_v73; rw [c_v71 x y h x1]
theorem c_v74 (x1 : FVec Ideal S8192x256 .f32) (x4 : FVec Ideal S4x128x128 .f32) : val_main_v74 (F := Ideal) x x1 x4 = val_main_v74 (F := Ideal) y x1 x4 := by
  unfold val_main_v74; rw [c_v73 x y h x1 x4]
theorem c_v75 (x1 : FVec Ideal S8192x256 .f32) (x2 : FVec Ideal S4x64 .f32) (x3 : FVec Ideal S4x64 .f32) : val_main_v75 (F := Ideal) x x1 x2 x3 = val_main_v75 (F := Ideal) y x1 x2 x3 := by
  unfold val_main_v75; rw [c_v72 x y h x1 x2 x3]
theorem c_v76 (x1 : FVec Ideal S8192x256 .f32) (x4 : FVec Ideal S4x128x128 .f32) : val_main_v76 (F := Ideal) x x1 x4 = val_main_v76 (F := Ideal) y x1 x4 := by
  unfold val_main_v76; rw [c_v74 x y h x1 x4]
theorem c_v77 (x1 : FVec Ideal S8192x256 .f32) (x4 : FVec Ideal S4x128x128 .f32) : val_main_v77 (F := Ideal) x x1 x4 = val_main_v77 (F := Ideal) y x1 x4 := by
  unfold val_main_v77; rw [c_v76 x y h x1 x4]
theorem c_v78 (x1 : FVec Ideal S8192x256 .f32) (x4 : FVec Ideal S4x128x128 .f32) : val_main_v78 (F := Ideal) x x1 x4 = val_main_v78 (F := Ideal) y x1 x4 := by
  unfold val_main_v78; rw [c_v77 x y h x1 x4]
theorem c_v79 (x1 : FVec Ideal S8192x256 .f32) (x4 : FVec Ideal S4x128x128 .f32) : val_main_v79 (F := Ideal) x x1 x4 = val_main_v79 (F := Ideal) y x1 x4 := by
  unfold val_main_v79; rw [c_v45 x y h, c_v74 x y h x1 x4]
theorem c_v80 (x1 : FVec Ideal S8192x256 .f32) (x4 : FVec Ideal S4x128x128 .f32) : val_main_v80 (F := Ideal) x x1 x4 = val_main_v80 (F := Ideal) y x1 x4 := by
  unfold val_main_v80; rw [c_v79 x y h x1 x4]
theorem c_v81 (x1 : FVec Ideal S8192x256 .f32) (x4 : FVec Ideal S4x128x128 .f32) : val_main_v81 (F := Ideal) x x1 x4 = val_main_v81 (F := Ideal) y x1 x4 := by
  unfold val_main_v81; rw [c_v80 x y h x1 x4]
theorem c_v83 (x1 : FVec Ideal S8192x256 .f32) (x2 : FVec Ideal S4x64 .f32) (x4 : FVec Ideal S4x128x128 .f32) : val_main_v83 (F := Ideal) x x1 x2 x4 = val_main_v83 (F := Ideal) y x1 x2 x4 := by
  unfold val_main_v83; rw [c_v74 x y h x1 x4]
theorem c_v84 (x1 : FVec Ideal S8192x256 .f32) (x4 : FVec Ideal S4x128x128 .f32) : val_main_v84 (F := Ideal) x x1 x4 = val_main_v84 (F := Ideal) y x1 x4 := by
  unfold val_main_v84; rw [c_v81 x y h x1 x4]
theorem c_v85 (x1 : FVec Ideal S8192x256 .f32) (x2 : FVec Ideal S4x64 .f32) (x4 : FVec Ideal S4x128x128 .f32) : val_main_v85 (F := Ideal) x x1 x2 x4 = val_main_v85 (F := Ideal) y x1 x2 x4 := by
  unfold val_main_v85; rw [c_v32 x y h, c_v83 x y h x1 x2 x4]
theorem c_v86 (x1 : FVec Ideal S8192x256 .f32) (x2 : FVec Ideal S4x64 .f32) (x4 : FVec Ideal S4x128x128 .f32) : val_main_v86 (F := Ideal) x x1 x2 x4 = val_main_v86 (F := Ideal) y x1 x2 x4 := by
  unfold val_main_v86; rw [c_v85 x y h x1 x2 x4]
theorem c_v87 (x1 : FVec Ideal S8192x256 .f32) (x2 : FVec Ideal S4x64 .f32) (x4 : FVec Ideal S4x128x128 .f32) : val_main_v87 (F := Ideal) x x1 x2 x4 = val_main_v87 (F := Ideal) y x1 x2 x4 := by
  unfold val_main_v87; rw [c_v86 x y h x1 x2 x4]
theorem c_v88 : val_main_v88 (F := Ideal) x = val_main_v88 (F := Ideal) y := by
  unfold val_main_v88; rw [c_v40 x y h]
theorem c_v89 (x1 : FVec Ideal S8192x256 .f32) (x2 : FVec Ideal S4x64 .f32) (x4 : FVec Ideal S4x128x128 .f32) : val_main_v89 (F := Ideal) x x1 x2 x4 = val_main_v89 (F := Ideal) y x1 x2 x4 := by
  unfold val_main_v89; rw [c_v83 x y h x1 x2 x4, c_v88 x y h]
theorem c_v90 (x1 : FVec Ideal S8192x256 .f32) (x2 : FVec Ideal S4x64 .f32) (x4 : FVec Ideal S4x128x128 .f32) : val_main_v90 (F := Ideal) x x1 x2 x4 = val_main_v90 (F := Ideal) y x1 x2 x4 := by
  unfold val_main_v90; rw [c_v87 x y h x1 x2 x4, c_v43 x y h]
theorem c_v92 (x1 : FVec Ideal S8192x256 .f32) (x2 : FVec Ideal S4x64 .f32) (x4 : FVec Ideal S4x128x128 .f32) : val_main_v92 (F := Ideal) x x1 x2 x4 = val_main_v92 (F := Ideal) y x1 x2 x4 := by
  unfold val_main_v92; rw [c_v90 x y h x1 x2 x4]
theorem c_v93 (x1 : FVec Ideal S8192x256 .f32) (x2 : FVec Ideal S4x64 .f32) (x4 : FVec Ideal S4x128x128 .f32) : val_main_v93 (F := Ideal) x x1 x2 x4 = val_main_v93 (F := Ideal) y x1 x2 x4 := by
  unfold val_main_v93; rw [c_v92 x y h x1 x2 x4]
theorem c_v94 (x1 : FVec Ideal S8192x256 .f32) (x2 : FVec Ideal S4x64 .f32) (x4 : FVec Ideal S4x128x128 .f32) : val_main_v94 (F := Ideal) x x1 x2 x4 = val_main_v94 (F := Ideal) y x1 x2 x4 := by
  unfold val_main_v94; rw [c_v93 x y h x1 x2 x4]
theorem c_v95 (x1 : FVec Ideal S8192x256 .f32) (x2 : FVec Ideal S4x64 .f32) (x4 : FVec Ideal S4x128x128 .f32) : val_main_v95 (F := Ideal) x x1 x2 x4 = val_main_v95 (F := Ideal) y x1 x2 x4 := by
  unfold val_main_v95; rw [c_v94 x y h x1 x2 x4]
theorem c_v96 (x1 : FVec Ideal S8192x256 .f32) (x2 : FVec Ideal S4x64 .f32) (x4 : FVec Ideal S4x128x128 .f32) : val_main_v96 (F := Ideal) x x1 x2 x4 = val_main_v96 (F := Ideal) y x1 x2 x4 := by
  unfold val_main_v96; rw [c_v32 x y h, c_v95 x y h x1 x2 x4]
theorem c_v97 (x1 : FVec Ideal S8192x256 .f32) (x2 : FVec Ideal S4x64 .f32) (x4 : FVec Ideal S4x128x128 .f32) : val_main_v97 (F := Ideal) x x1 x2 x4 = val_main_v97 (F := Ideal) y x1 x2 x4 := by
  unfold val_main_v97; rw [c_v89 x y h x1 x2 x4, c_v96 x y h x1 x2 x4]
theorem c_v98 (x1 : FVec Ideal S8192x256 .f32) (x2 : FVec Ideal S4x64 .f32) (x4 : FVec Ideal S4x128x128 .f32) : val_main_v98 (F := Ideal) x x1 x2 x4 = val_main_v98 (F := Ideal) y x1 x2 x4 := by
  unfold val_main_v98; rw [c_v95 x y h x1 x2 x4, c_v32 x y h]
theorem c_v99 (x1 : FVec Ideal S8192x256 .f32) (x2 : FVec Ideal S4x64 .f32) (x4 : FVec Ideal S4x128x128 .f32) : val_main_v99 (F := Ideal) x x1 x2 x4 = val_main_v99 (F := Ideal) y x1 x2 x4 := by
  unfold val_main_v99; rw [c_v97 x y h x1 x2 x4, c_v98 x y h x1 x2 x4]
theorem c_v100 (x1 : FVec Ideal S8192x256 .f32) (x2 : FVec Ideal S4x64 .f32) (x4 : FVec Ideal S4x128x128 .f32) : val_main_v100 (F := Ideal) x x1 x2 x4 = val_main_v100 (F := Ideal) y x1 x2 x4 := by
  unfold val_main_v100; rw [c_v99 x y h x1 x2 x4]
theorem c_v101 (x1 : FVec Ideal S8192x256 .f32) (x2 : FVec Ideal S4x64 .f32) (x4 : FVec Ideal S4x128x128 .f32) : val_main_v101 (F := Ideal) x x1 x2 x4 = val_main_v101 (F := Ideal) y x1 x2 x4 := by
  unfold val_main_v101; rw [c_v100 x y h x1 x2 x4]
theorem c_v102 (x1 : FVec Ideal S8192x256 .f32) (x2 : FVec Ideal S4x64 .f32) (x4 : FVec Ideal S4x128x128 .f32) : val_main_v102 (F := Ideal) x x1 x2 x4 = val_main_v102 (F := Ideal) y x1 x2 x4 := by
  unfold val_main_v102; rw [c_v101 x y h x1 x2 x4]
theorem c_v104 (x1 : FVec Ideal S8192x256 .f32) (x2 : FVec Ideal S4x64 .f32) (x4 : FVec Ideal S4x128x128 .f32) : val_main_v104 (F := Ideal) x x1 x2 x4 = val_main_v104 (F := Ideal) y x1 x2 x4 := by
  unfold val_main_v104; rw [c_v102 x y h x1 x2 x4]
theorem c_v105 (x1 : FVec Ideal S8192x256 .f32) (x2 : FVec Ideal S4x64 .f32) (x4 : FVec Ideal S4x128x128 .f32) : val_main_v105 (F := Ideal) x x1 x2 x4 = val_main_v105 (F := Ideal) y x1 x2 x4 := by
  unfold val_main_v105; rw [c_v104 x y h x1 x2 x4]
theorem c_v106 (x1 : FVec Ideal S8192x256 .f32) (x2 : FVec Ideal S4x64 .f32) (x4 : FVec Ideal S4x128x128 .f32) : val_main_v106 (F := Ideal) x x1 x2 x4 = val_main_v106 (F := Ideal) y x1 x2 x4 := by
  unfold val_main_v106; rw [c_v105 x y h x1 x2 x4]
theorem c_v107 (x1 : FVec Ideal S8192x256 .f32) (x2 : FVec Ideal S4x64 .f32) (x4 : FVec Ideal S4x128x128 .f32) : val_main_v107 (F := Ideal) x x1 x2 x4 = val_main_v107 (F := Ideal) y x1 x2 x4 := by
  unfold val_main_v107; rw [c_v106 x y h x1 x2 x4]
theorem c_v108 (x1 : FVec Ideal S8192x256 .f32) (x2 : FVec Ideal S4x64 .f32) (x4 : FVec Ideal S4x128x128 .f32) : val_main_v108 (F := Ideal) x x1 x2 x4 = val_main_v108 (F := Ideal) y x1 x2 x4 := by
  unfold val_main_v108; rw [c_v99 x y h x1 x2 x4, c_v107 x y h x1 x2 x4]
theorem c_v109 (x1 : FVec Ideal S8192x256 .f32) (x2 : FVec Ideal S4x64 .f32) (x3 : FVec Ideal S4x64 .f32) (x4 : FVec Ideal S4x128x128 .f32) (x5 : FVec Ideal S4x128 .f32) : val_main_v109 (F := Ideal) x x1 x2 x3 x4 x5 = val_main_v109 (F := Ideal) y x1 x2 x3 x4 x5 := by
  unfold val_main_v109; rw [c_v66 x y h x1 x2 x3 x4 x5, c_v108 x y h x1 x2 x4]
theorem c_v110 (x1 : FVec Ideal S8192x256 .f32) (x2 : FVec Ideal S4x64 .f32) (x3 : FVec Ideal S4x64 .f32) (x4 : FVec Ideal S4x128x128 .f32) (x5 : FVec Ideal S4x128 .f32) : val_main_v110 (F := Ideal) x x1 x2 x3 x4 x5 = val_main_v110 (F := Ideal) y x1 x2 x3 x4 x5 := by
  unfold val_main_v110; rw [c_v109 x y h x1 x2 x3 x4 x5]
theorem c_v111 (x1 : FVec Ideal S8192x256 .f32) (x2 : FVec Ideal S4x64 .f32) (x3 : FVec Ideal S4x64 .f32) (x4 : FVec Ideal S4x128x128 .f32) (x5 : FVec Ideal S4x128 .f32) : val_main_v111 (F := Ideal) x x1 x2 x3 x4 x5 = val_main_v111 (F := Ideal) y x1 x2 x3 x4 x5 := by
  unfold val_main_v111; rw [c_v1 x y h, c_v110 x y h x1 x2 x3 x4 x5]
theorem c_v112 (x1 : FVec Ideal S8192x256 .f32) (x2 : FVec Ideal S4x64 .f32) (x3 : FVec Ideal S4x64 .f32) (x4 : FVec Ideal S4x128x128 .f32) (x5 : FVec Ideal S4x128 .f32) : val_main_v112 (F := Ideal) x x1 x2 x3 x4 x5 = val_main_v112 (F := Ideal) y x1 x2 x3 x4 x5 := by
  unfold val_main_v112; rw [c_v110 x y h x1 x2 x3 x4 x5, c_v22 x y h]
theorem c_v114 (x1 : FVec Ideal S8192x256 .f32) (x2 : FVec Ideal S4x64 .f32) (x3 : FVec Ideal S4x64 .f32) (x4 : FVec Ideal S4x128x128 .f32) (x5 : FVec Ideal S4x128 .f32) : val_main_v114 (F := Ideal) x x1 x2 x3 x4 x5 = val_main_v114 (F := Ideal) y x1 x2 x3 x4 x5 := by
  unfold val_main_v114; rw [c_v111 x y h x1 x2 x3 x4 x5]
theorem c_v115 (x1 : FVec Ideal S8192x256 .f32) (x2 : FVec Ideal S4x64 .f32) (x3 : FVec Ideal S4x64 .f32) (x4 : FVec Ideal S4x128x128 .f32) (x5 : FVec Ideal S4x128 .f32) : val_main_v115 (F := Ideal) x x1 x2 x3 x4 x5 = val_main_v115 (F := Ideal) y x1 x2 x3 x4 x5 := by
  unfold val_main_v115; rw [c_v114 x y h x1 x2 x3 x4 x5, c_v18 x y h]
theorem c_v117 (x1 : FVec Ideal S8192x256 .f32) (x2 : FVec Ideal S4x64 .f32) (x3 : FVec Ideal S4x64 .f32) (x4 : FVec Ideal S4x128x128 .f32) (x5 : FVec Ideal S4x128 .f32) : val_main_v117 (F := Ideal) x x1 x2 x3 x4 x5 = val_main_v117 (F := Ideal) y x1 x2 x3 x4 x5 := by
  unfold val_main_v117; rw [c_v115 x y h x1 x2 x3 x4 x5]
theorem c_v118 (x1 : FVec Ideal S8192x256 .f32) (x2 : FVec Ideal S4x64 .f32) (x3 : FVec Ideal S4x64 .f32) (x4 : FVec Ideal S4x128x128 .f32) (x5 : FVec Ideal S4x128 .f32) : val_main_v118 (F := Ideal) x x1 x2 x3 x4 x5 = val_main_v118 (F := Ideal) y x1 x2 x3 x4 x5 := by
  unfold val_main_v118; rw [c_v112 x y h x1 x2 x3 x4 x5, c_v117 x y h x1 x2 x3 x4 x5]
theorem c_v120 (x1 : FVec Ideal S8192x256 .f32) (x2 : FVec Ideal S4x64 .f32) (x3 : FVec Ideal S4x64 .f32) (x4 : FVec Ideal S4x128x128 .f32) (x5 : FVec Ideal S4x128 .f32) : val_main_v120 (F := Ideal) x x1 x2 x3 x4 x5 = val_main_v120 (F := Ideal) y x1 x2 x3 x4 x5 := by
  unfold val_main_v120; rw [c_v117 x y h x1 x2 x3 x4 x5]
theorem c_v121 (x1 : FVec Ideal S8192x256 .f32) (x2 : FVec Ideal S4x64 .f32) (x3 : FVec Ideal S4x64 .f32) (x4 : FVec Ideal S4x128x128 .f32) (x5 : FVec Ideal S4x128 .f32) : val_main_v121 (F := Ideal) x x1 x2 x3 x4 x5 = val_main_v121 (F := Ideal) y x1 x2 x3 x4 x5 := by
  unfold val_main_v121; rw [c_v120 x y h x1 x2 x3 x4 x5, c_v7 x y h]
theorem c_v122 (x1 : FVec Ideal S8192x256 .f32) (x2 : FVec Ideal S4x64 .f32) (x3 : FVec Ideal S4x64 .f32) (x4 : FVec Ideal S4x128x128 .f32) (x5 : FVec Ideal S4x128 .f32) : val_main_v122 (F := Ideal) x x1 x2 x3 x4 x5 = val_main_v122 (F := Ideal) y x1 x2 x3 x4 x5 := by
  unfold val_main_v122; rw [c_v118 x y h x1 x2 x3 x4 x5, c_v121 x y h x1 x2 x3 x4 x5]
theorem c_v124 (x1 : FVec Ideal S8192x256 .f32) (x2 : FVec Ideal S4x64 .f32) (x3 : FVec Ideal S4x64 .f32) (x4 : FVec Ideal S4x128x128 .f32) (x5 : FVec Ideal S4x128 .f32) : val_main_v124 (F := Ideal) x x1 x2 x3 x4 x5 = val_main_v124 (F := Ideal) y x1 x2 x3 x4 x5 := by
  unfold val_main_v124; rw [c_v122 x y h x1 x2 x3 x4 x5]
theorem c_v125 (x1 : FVec Ideal S8192x256 .f32) : val_main_v125 (F := Ideal) x x1 = val_main_v125 (F := Ideal) y x1 := by
  unfold val_main_v125; rw [c_v70 x y h x1]
theorem c_v126 (x1 : FVec Ideal S8192x256 .f32) : val_main_v126 (F := Ideal) x x1 = val_main_v126 (F := Ideal) y x1 := by
  unfold val_main_v126; rw [c_v125 x y h x1]
theorem c_v128 (x1 : FVec Ideal S8192x256 .f32) (x4 : FVec Ideal S4x128x128 .f32) : val_main_v128 (F := Ideal) x x1 x4 = val_main_v128 (F := Ideal) y x1 x4 := by
  unfold val_main_v128; rw [c_v84 x y h x1 x4]
theorem c_v129 (x1 : FVec Ideal S8192x256 .f32) (x4 : FVec Ideal S4x128x128 .f32) : val_main_v129 (F := Ideal) x x1 x4 = val_main_v129 (F := Ideal) y x1 x4 := by
  unfold val_main_v129; rw [c_v128 x y h x1 x4]
theorem c_v130 (x1 : FVec Ideal S8192x256 .f32) (x4 : FVec Ideal S4x128x128 .f32) : val_main_v130 (F := Ideal) x x1 x4 = val_main_v130 (F := Ideal) y x1 x4 := by
  unfold val_main_v130; rw [c_v129 x y h x1 x4]
theorem c_v132 (x1 : FVec Ideal S8192x256 .f32) (x4 : FVec Ideal S4x128x128 .f32) : val_main_v132 (F := Ideal) x x1 x4 = val_main_v132 (F := Ideal) y x1 x4 := by
  unfold val_main_v132; rw [c_v78 x y h x1 x4]
theorem c_v133 (x1 : FVec Ideal S8192x256 .f32) (x4 : FVec Ideal S4x128x128 .f32) : val_main_v133 (F := Ideal) x x1 x4 = val_main_v133 (F := Ideal) y x1 x4 := by
  unfold val_main_v133; rw [c_v132 x y h x1 x4]
theorem c_v134 (x1 : FVec Ideal S8192x256 .f32) (x4 : FVec Ideal S4x128x128 .f32) : val_main_v134 (F := Ideal) x x1 x4 = val_main_v134 (F := Ideal) y x1 x4 := by
  unfold val_main_v134; rw [c_v133 x y h x1 x4]

end Cert.RealForm.Ref
end
-- ==== Proof.Gmlp.lean ====
module

public import proofs.«01_k».proof.Defs
public import proofs.«01_k».proof.Proof.Acc
public import proofs.«01_k».proof.Proof.RefD
public import proofs.«01_k».proof.Proof.RefE
public import proofs.«01_k».proof.Proof.Gen.KernelIdeal.Value
public import proofs.«01_k».proof.Proof.Gen.ReferenceIdeal.Run

@[expose] public section

set_option maxRecDepth 16384

noncomputable section

/-! The gated token mixing's backward kernel equals the gradient of its reference, on finite arguments. -/
namespace Cert.RealForm

open Idealize.ShloMosaic Idealize.ShloMosaic.TcCoe Idealize.SL.Sem Idealize.ShloMosaic.StableHlo Finset

theorem preFacts : Cert.Pre_finite.Facts where
  slices_S8192x1536_S8192x512_0_0 := by decide
  bcast_S_S8192x512 := by decide
  bcast_S_S8192x256 := by decide
  bcast_S_S4x64 := by decide
  bcast_S_S4x128x128 := by decide
  bcast_S_S4x128 := by decide

/-- Both named constants stand for the words they replace. -/
theorem preserves : Cert.preserves_Kernel_KernelIdeal :=
  ⟨IdealRules.named_const.statement Cert.KernelIdeal.κ "gelu_cubic" .f32 0x3D372713#32 ((8943 / 200000 : ℝ) : EReal) rfl,
    IdealRules.named_const.statement Cert.KernelIdeal.κ "gelu_cubic_3" .f32 0x3E095D4F#32 ((26829 / 200000 : ℝ) : EReal) rfl⟩

/-- A number whose absolute value is below infinity is a real. -/
theorem real_of_abs (x : EReal)
    (h : FloatOps.cmpf (F := Ideal) (φ := .f32) .olt (FloatOps.hostAbsf (F := Ideal) (φ := .f32) x) (FloatOps.ofBits .f32 0x7F800000#32) = 1#1) :
    ((x.toReal : ℝ) : EReal) = x := by
  have hi : (FloatOps.ofBits .f32 0x7F800000#32 : Ideal .f32) = (⊤ : EReal) := by
    show Ideal.ofBits .f32 _ = _; simp [Ideal.ofBits, Ideal.ieee]
  rw [hi] at h
  have h2 : max x (-x) < (⊤ : EReal) := by
    by_contra hn
    have : Ideal.cmp .olt (max x (-x)) (⊤ : EReal) = 1#1 := h
    simp [Ideal.cmp, hn] at this
  induction x using EReal.rec with
  | bot => simp at h2
  | top => simp at h2
  | coe r => rfl

/-- A whole-number indexed function of a vector's reals. -/
def un2 (n m : ℕ) (x : (⟨2, ![n, m]⟩ : Shape).Idx → EReal) (i j : ℕ) : ℝ :=
  if h : i < n ∧ j < m then (x (ix2 ⟨i, h.1⟩ ⟨j, h.2⟩)).toReal else 0
def un3 (n m k : ℕ) (x : (⟨3, ![n, m, k]⟩ : Shape).Idx → EReal) (i j l : ℕ) : ℝ :=
  if h : i < n ∧ j < m ∧ l < k then (x (ix3 ⟨i, h.1⟩ ⟨j, h.2.1⟩ ⟨l, h.2.2⟩)).toReal else 0
theorem un2_eq (n m : ℕ) (x : (⟨2, ![n, m]⟩ : Shape).Idx → EReal) (j) (h : (((x j).toReal : ℝ) : EReal) = x j) :
    x j = E2 n m (un2 n m x) j := by
  have e : ix2 (⟨(j 0).val, (j 0).isLt⟩ : Fin n) (⟨(j 1).val, (j 1).isLt⟩ : Fin m) = j :=
    funext fun a => Fin.ext (by match a with | ⟨0, _⟩ => rfl | ⟨1, _⟩ => rfl)
  refine h.symm.trans ?_
  show _ = (((un2 n m x (j 0).val (j 1).val) : ℝ) : EReal)
  unfold un2
  rw [dif_pos ⟨(j 0).isLt, (j 1).isLt⟩]
  exact congrArg (fun i => (((x i).toReal : ℝ) : EReal)) e.symm
theorem un3_eq (n m k : ℕ) (x : (⟨3, ![n, m, k]⟩ : Shape).Idx → EReal) (j) (h : (((x j).toReal : ℝ) : EReal) = x j) :
    x j = E3 n m k (un3 n m k x) j := by
  have e : ix3 (⟨(j 0).val, (j 0).isLt⟩ : Fin n) (⟨(j 1).val, (j 1).isLt⟩ : Fin m) (⟨(j 2).val, (j 2).isLt⟩ : Fin k) = j :=
    funext fun a => Fin.ext (by match a with | ⟨0, _⟩ => rfl | ⟨1, _⟩ => rfl | ⟨2, _⟩ => rfl)
  refine h.symm.trans ?_
  show _ = (((un3 n m k x (j 0).val (j 1).val (j 2).val) : ℝ) : EReal)
  unfold un3
  rw [dif_pos ⟨(j 0).isLt, (j 1).isLt, (j 2).isLt⟩]
  exact congrArg (fun i => (((x i).toReal : ℝ) : EReal)) e.symm

section Args
variable (m : (ℓ : Loc Cert.KernelIdeal.nD Cert.KernelIdeal.τ Cert.KernelIdeal.sig) → Buf (Elt Ideal) ℓ) (c : Dev Cert.KernelIdeal.nD)

/-- The real functions of the six arguments. -/
def aZ : ℕ → ℕ → ℝ := un2 8192 1536 (m (c, Cert.KernelIdeal.main_arg0))
def aD : ℕ → ℕ → ℝ := un2 8192 256 (m (c, Cert.KernelIdeal.main_arg1))
def aG : ℕ → ℕ → ℝ := un2 4 64 (m (c, Cert.KernelIdeal.main_arg2))
def aB : ℕ → ℕ → ℝ := un2 4 64 (m (c, Cert.KernelIdeal.main_arg3))
def aW : ℕ → ℕ → ℕ → ℝ := un3 4 128 128 (m (c, Cert.KernelIdeal.main_arg4))
def aS : ℕ → ℕ → ℝ := un2 4 128 (m (c, Cert.KernelIdeal.main_arg5))

theorem args (h : Cert.Pre_KernelIdeal_finite (hPre_finite := preFacts) m) :
    Args m c (aZ m c) (aD m c) (aG m c) (aB m c) (aW m c) (aS m c) where
  z i hi := by
    refine un2_eq 8192 1536 _ i (real_of_abs _ ?_)
    have e := congrFun (h c).1 (ix2 (⟨(i 0).val, (i 0).isLt⟩ : Fin 8192) (⟨(i 1).val, hi⟩ : Fin 512))
    refine Eq.trans (congrArg (fun k => FloatOps.cmpf (F := Ideal) (φ := .f32) .olt (FloatOps.hostAbsf (F := Ideal) (φ := .f32)
      (m (c, Cert.KernelIdeal.main_arg0) k)) (FloatOps.ofBits .f32 0x7F800000#32)) (funext fun a => Fin.ext ?_)) e
    match a with
    | ⟨0, _⟩ => exact (Nat.zero_add _).symm
    | ⟨1, _⟩ => exact (Nat.zero_add _).symm
  d := funext fun i => un2_eq 8192 256 _ i (real_of_abs _ (congrFun (h c).2.1 i))
  g i j := un2_eq 4 64 _ (ix2 i j) (real_of_abs _ (congrFun (h c).2.2.1 (ix2 i j)))
  b i j := un2_eq 4 64 _ (ix2 i j) (real_of_abs _ (congrFun (h c).2.2.2.1 (ix2 i j)))
  w := funext fun i => un3_eq 4 128 128 _ i (real_of_abs _ (congrFun (h c).2.2.2.2.1 i))
  s i j := un2_eq 4 128 _ (ix2 i j) (real_of_abs _ (congrFun (h c).2.2.2.2.2 (ix2 i j)))
end Args

/-- A two-axis vector is its entries. -/
theorem ix2_ext {n k : ℕ} {x y : (⟨2, ![n, k]⟩ : Shape).Idx → EReal} (h : ∀ i j, x (ix2 i j) = y (ix2 i j)) : x = y :=
  funext fun i => by
    have e : ix2 (⟨(i 0).val, (i 0).isLt⟩ : Fin n) (⟨(i 1).val, (i 1).isLt⟩ : Fin k) = i :=
      funext fun a => Fin.ext (by match a with | ⟨0, _⟩ => rfl | ⟨1, _⟩ => rfl)
    rw [← e]; exact h _ _

section Results
open Cert.ReferenceIdeal.Read
variable (m : (ℓ : Loc Cert.KernelIdeal.nD Cert.KernelIdeal.τ Cert.KernelIdeal.sig) → Buf (Elt Ideal) ℓ) (c : Dev Cert.KernelIdeal.nD)
  (Z D : ℕ → ℕ → ℝ) (g b : ℕ → ℕ → ℝ) (W : ℕ → ℕ → ℕ → ℝ) (s : ℕ → ℕ → ℝ) (A : Args m c Z D g b W s)
include A

theorem sliceZ : val_main_v0 (F := Ideal) (m (c, Cert.KernelIdeal.main_arg0)) = val_main_v0 (F := Ideal) (E2 8192 1536 Z) := by
  funext i
  rw [val_main_v0_apply, val_main_v0_apply]
  refine A.z _ ?_
  have h : (i 1).val < 512 := (i 1).isLt
  exact h

theorem res0 : val_main_v124 (F := Ideal) (m (c, Cert.KernelIdeal.main_arg0)) (m (c, Cert.KernelIdeal.main_arg1)) (m (c, Cert.KernelIdeal.main_arg2))
    (m (c, Cert.KernelIdeal.main_arg3)) (m (c, Cert.KernelIdeal.main_arg4)) (m (c, Cert.KernelIdeal.main_arg5)) = E2 8192 512 (oDz Z D g b W s) := by
  rw [Ref.c_v124 _ _ (sliceZ m c Z D g b W s A), A.d, ix2_ext A.g, ix2_ext A.b, A.w, ix2_ext A.s, Ref.v124]
theorem res1 : val_main_v75 (F := Ideal) (m (c, Cert.KernelIdeal.main_arg0)) (m (c, Cert.KernelIdeal.main_arg1)) (m (c, Cert.KernelIdeal.main_arg2))
    (m (c, Cert.KernelIdeal.main_arg3)) = E3 4 128 128 (oDw Z D g b) := by
  rw [Ref.c_v75 _ _ (sliceZ m c Z D g b W s A), A.d, ix2_ext A.g, ix2_ext A.b, Ref.v75]
theorem res2 : val_main_v126 (F := Ideal) (m (c, Cert.KernelIdeal.main_arg0)) (m (c, Cert.KernelIdeal.main_arg1))
    = E3 4 128 128 fun h i _ => oDbs Z D h i := by
  rw [Ref.c_v126 _ _ (sliceZ m c Z D g b W s A), A.d, Ref.v126]
theorem res3 : val_main_v130 (F := Ideal) (m (c, Cert.KernelIdeal.main_arg0)) (m (c, Cert.KernelIdeal.main_arg1)) (m (c, Cert.KernelIdeal.main_arg4))
    = E2 1 512 fun _ l => padf (oDg Z D W) l := by
  rw [Ref.c_v130 _ _ (sliceZ m c Z D g b W s A), A.d, A.w, Ref.v130]; rfl
theorem res4 : val_main_v134 (F := Ideal) (m (c, Cert.KernelIdeal.main_arg0)) (m (c, Cert.KernelIdeal.main_arg1)) (m (c, Cert.KernelIdeal.main_arg4))
    = E2 1 512 fun _ l => padf (oDb Z D W) l := by
  rw [Ref.c_v134 _ _ (sliceZ m c Z D g b W s A), A.d, A.w, Ref.v134]; rfl
end Results

theorem algebraic : Cert.algebraic_KernelIdeal_ReferenceIdeal_pre_finite (hPre_finite := preFacts) := by
  intro m g m' g' hpre hag
  refine ⟨fun c => E2 8192 512 (oDz (aZ m c) (aD m c) (aG m c) (aB m c) (aW m c) (aS m c)),
    fun c => E3 4 128 128 (oDw (aZ m c) (aD m c) (aG m c) (aB m c)),
    fun c => E3 4 128 128 fun h i _ => oDbs (aZ m c) (aD m c) h i,
    fun c => E2 1 512 fun _ l => padf (oDg (aZ m c) (aD m c) (aW m c)) l,
    fun c => E2 1 512 fun _ l => padf (oDb (aZ m c) (aD m c) (aW m c)) l, ?_, ?_⟩
  · refine (θ_run _ _ _).mono (fun r h c => ?_) (Cert.KernelIdeal.Value.run_blocks m g)
    obtain ⟨h0, h1, h2, h3, h4, k⟩ := h c
    have A := args m c hpre
    exact ⟨h0.trans (arr_dz m c _ _ _ _ _ _ A), h1.trans (arr_dw' m c _ _ _ _ _ _ A), h2.trans (arr_dbs' m c _ _ _ _ _ _ A),
      h3.trans (arr_dg' m c _ _ _ _ _ _ A), h4.trans (arr_db' m c _ _ _ _ _ _ A), k⟩
  · refine (θ_run _ _ _).mono (fun r h c => ?_) (Cert.ReferenceIdeal.Value.run m' g')
    obtain ⟨h0, h1, h2, h3, h4, k⟩ := h c
    have A := args m c hpre
    obtain ⟨a0, a1, a2, a3, a4, a5⟩ := hag c
    have V0 : launchContents m' c (Proc.devRef .tc Cert.ReferenceIdeal.main_arg0) = m (c, Cert.KernelIdeal.main_arg0) := a0
    have V1 : launchContents m' c (Proc.devRef .tc Cert.ReferenceIdeal.main_arg1) = m (c, Cert.KernelIdeal.main_arg1) := a1
    have V2 : launchContents m' c (Proc.devRef .tc Cert.ReferenceIdeal.main_arg2) = m (c, Cert.KernelIdeal.main_arg2) := a2
    have V3 : launchContents m' c (Proc.devRef .tc Cert.ReferenceIdeal.main_arg3) = m (c, Cert.KernelIdeal.main_arg3) := a3
    have V4 : launchContents m' c (Proc.devRef .tc Cert.ReferenceIdeal.main_arg4) = m (c, Cert.KernelIdeal.main_arg4) := a4
    have V5 : launchContents m' c (Proc.devRef .tc Cert.ReferenceIdeal.main_arg5) = m (c, Cert.KernelIdeal.main_arg5) := a5
    refine ⟨h0.trans ((Cert.ReferenceIdeal.Read.val_main_v124_eq _).trans ?_), h1.trans ((Cert.ReferenceIdeal.Read.val_main_v75_eq _).trans ?_),
      h2.trans ((Cert.ReferenceIdeal.Read.val_main_v126_eq _).trans ?_), h3.trans ((Cert.ReferenceIdeal.Read.val_main_v130_eq _).trans ?_),
      h4.trans ((Cert.ReferenceIdeal.Read.val_main_v134_eq _).trans ?_), k⟩
    · rw [V0, V1, V2, V3, V4, V5]; exact res0 m c _ _ _ _ _ _ A
    · rw [V0, V1, V2, V3]; exact res1 m c _ _ _ _ _ _ A
    · rw [V0, V1]; exact res2 m c _ _ _ _ _ _ A
    · rw [V0, V1, V4]; exact res3 m c _ _ _ _ _ _ A
    · rw [V0, V1, V4]; exact res4 m c _ _ _ _ _ _ A

end Cert.RealForm
end
-- ==== Proof.MlpBlock.lean ====
module

public import proofs.«01_k».proof.Proof.MlpValue
public import proofs.«01_k».proof.Proof.Real
public import Idealize.ShloMosaic.Lib.Pipeline.ValueKit
public import Idealize.ShloMosaic.Lib.Pipeline.ReadBack

@[expose] public section

set_option maxRecDepth 16384

noncomputable section

/-! What one grid point of the MLP's backward kernel leaves in each output, over the point's blocks. -/

namespace Cert.Mlp

open Cert.MlpBwdIdeal Cert.MlpBwdIdeal.Gen Cert.MlpBwdIdeal.Value Idealize.ShloMosaic Idealize.ShloMosaic.TcCoe Idealize.SL.Sem Finset

abbrev T1 := FVec Ideal S512x1024 .f32
abbrev T4 := FVec Ideal S512x4096 .bf16
abbrev R1 := FVec Ideal S1x1024 .f32
abbrev U1 := FVec Ideal S1024x4096 .bf16
abbrev U2 := FVec Ideal S4096x1024 .bf16

theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L r.toLoadRect

section Pieces
variable (G X : T1) (g d : R1) (R : T4) (A : U1) (B : U2)

/-- A quarter of the block's activations, of the up projection's columns, of the down projection's rows. -/
def q0 : FVec Ideal S512x1024 .bf16 := View.ld (Val := Elt Ideal) (e' := .bf16) R (Rect.unit ![0, 0] ![512, 1024] inb_S512x4096_S512x1024_0_0)
def q1 : FVec Ideal S512x1024 .bf16 := View.ld (Val := Elt Ideal) (e' := .bf16) R (Rect.unit ![0, 1024] ![512, 1024] inb_S512x4096_S512x1024_0_1024)
def q2 : FVec Ideal S512x1024 .bf16 := View.ld (Val := Elt Ideal) (e' := .bf16) R (Rect.unit ![0, 2048] ![512, 1024] inb_S512x4096_S512x1024_0_2048)
def q3 : FVec Ideal S512x1024 .bf16 := View.ld (Val := Elt Ideal) (e' := .bf16) R (Rect.unit ![0, 3072] ![512, 1024] inb_S512x4096_S512x1024_0_3072)
def u0 : FVec Ideal S1024x1024 .bf16 := View.ld (Val := Elt Ideal) (e' := .bf16) A (Rect.unit ![0, 0] ![1024, 1024] inb_S1024x4096_S1024x1024_0_0)
def u1 : FVec Ideal S1024x1024 .bf16 := View.ld (Val := Elt Ideal) (e' := .bf16) A (Rect.unit ![0, 1024] ![1024, 1024] inb_S1024x4096_S1024x1024_0_1024)
def u2 : FVec Ideal S1024x1024 .bf16 := View.ld (Val := Elt Ideal) (e' := .bf16) A (Rect.unit ![0, 2048] ![1024, 1024] inb_S1024x4096_S1024x1024_0_2048)
def u3 : FVec Ideal S1024x1024 .bf16 := View.ld (Val := Elt Ideal) (e' := .bf16) A (Rect.unit ![0, 3072] ![1024, 1024] inb_S1024x4096_S1024x1024_0_3072)
def d0 : FVec Ideal S1024x1024 .bf16 := View.ld (Val := Elt Ideal) (e' := .bf16) B (Rect.unit ![0, 0] ![1024, 1024] inb_S4096x1024_S1024x1024_0_0)
def d1 : FVec Ideal S1024x1024 .bf16 := View.ld (Val := Elt Ideal) (e' := .bf16) B (Rect.unit ![1024, 0] ![1024, 1024] inb_S4096x1024_S1024x1024_1024_0)
def d2 : FVec Ideal S1024x1024 .bf16 := View.ld (Val := Elt Ideal) (e' := .bf16) B (Rect.unit ![2048, 0] ![1024, 1024] inb_S4096x1024_S1024x1024_2048_0)
def d3 : FVec Ideal S1024x1024 .bf16 := View.ld (Val := Elt Ideal) (e' := .bf16) B (Rect.unit ![3072, 0] ![1024, 1024] inb_S4096x1024_S1024x1024_3072_0)

/-- The block's gradient of the normed input, up to its last quarter; the last quarter's gradient before the activation. -/
def sum3 : T1 := k0_pay8 (k0_pay2 G) (k0_pay4 G (d0 B) (q0 R) (u0 A)) (k0_pay5 G (d1 B) (q1 R)) (u1 A) (d2 B) (q2 R) (u2 A)
def last : FVec Ideal S512x1024 .bf16 := k0_pay9 (k0_pay2 G) (d3 B) (q3 R)
def bDh : T1 := k0_pay14 G (sum3 G R A B) (last G R B) (u3 A) X g
def bDg : R1 := k0_pay15 (sum3 G R A B) (last G R B) (u3 A) X d
def Lda : List (View.Piece (Elt Ideal) S512x4096 .bf16) :=
  [⟨Rect.unit ![0, 3072] ![512, 1024] inb_S512x4096_S512x1024_0_3072, last G R B⟩,
   ⟨Rect.unit ![0, 2048] ![512, 1024] inb_S512x4096_S512x1024_0_2048, k0_pay7 (F := Ideal) (k0_pay2 G) (d2 B) (q2 R)⟩,
   ⟨Rect.unit ![0, 1024] ![512, 1024] inb_S512x4096_S512x1024_0_1024, k0_pay6 (F := Ideal) (k0_pay5 G (d1 B) (q1 R))⟩,
   ⟨Rect.unit ![0, 0] ![512, 1024] inb_S512x4096_S512x1024_0_0, k0_pay3 (F := Ideal) G (d0 B) (q0 R)⟩]
variable (a0 a1 a2 a3 : FVec Ideal S1024x1024 .bf16) (h0 : a0 = u0 A) (h1 : a1 = u1 A) (h2 : a2 = u2 A) (h3 : a3 = u3 A)
include h0 h1 h2 h3
theorem bDh_of : k0_pay14 G (k0_pay8 (k0_pay2 G) (k0_pay4 G (d0 B) (q0 R) a0) (k0_pay5 G (d1 B) (q1 R)) a1 (d2 B) (q2 R) a2) (last G R B) a3 X g
    = bDh G X g R A B := by subst h0 h1 h2 h3; rfl
theorem bDg_of : k0_pay15 (k0_pay8 (k0_pay2 G) (k0_pay4 G (d0 B) (q0 R) a0) (k0_pay5 G (d1 B) (q1 R)) a1 (d2 B) (q2 R) a2) (last G R B) a3 X d
    = bDg G X d R A B := by subst h0 h1 h2 h3; rfl
end Pieces

variable (m : (ℓ : Loc nD τ sig) → Buf (Elt Ideal) ℓ) (c : Dev nD) (t : Fin cfg0.N)

/-- One copy into the up projection's scratch: a block of its columns. -/
def cp (d : ℕ) (h : ∀ i, (![d, 0, 0] : Fin 3 → ℕ) i + (![1, 1024, 512] : Fin 3 → ℕ) i ≤ (![8, 1024, 512] : Fin 3 → ℕ) i) : S1024x512.Idx → EReal :=
  View.read (Elt Ideal) (((View.whole main_arg3).slice (Rect.unit (s := S8x1024x512) ![d, 0, 0] ![1, 1024, 512] h)).reshape S1024x512
    (Shape.Squeezes.numel_eq squeezes_S1x1024x512_S1024x512)) (V m c main_arg3)

theorem dh_B (h0 : ¬ t.val % 16 = 0) (h) : (outsAt0 m c t.val t.isLt).1 = bDh (iblk m c 0 t) (iblk m c 1 t) (iblk m c 2 t) (iblk m c 3 t)
    (outsAt0 m c (t.val - 1) h).2.2.2.2.1 (outsAt0 m c (t.val - 1) h).2.2.2.2.2 := by
  rw [outsAt0_B m c t h0 h0]
  frame_out
  simp only [read_unread_whole]
  rfl
theorem hn_B (h0 : ¬ t.val % 16 = 0) : (outsAt0 m c t.val t.isLt).2.1 = k0_pay16 (iblk m c 1 t) (iblk m c 2 t) := by
  rw [outsAt0_B m c t h0 h0]
  frame_out
theorem hn_A (h0 : t.val % 16 = 0) : (outsAt0 m c t.val t.isLt).2.1 = k0_pay16 (iblk m c 1 t) (iblk m c 2 t) := by
  rw [outsAt0_A m c t h0 h0]
  frame_open
  frame_out
theorem da_B (h0 : ¬ t.val % 16 = 0) (h) : (outsAt0 m c t.val t.isLt).2.2.1 = View.canon (Lda (iblk m c 0 t) (iblk m c 3 t)
    (outsAt0 m c (t.val - 1) h).2.2.2.2.2) := by
  rw [outsAt0_B m c t h0 h0]
  frame_out
  simp only [read_unread_whole]
  rfl
theorem dg_B (h0 : ¬ t.val % 16 = 0) (h) : (outsAt0 m c t.val t.isLt).2.2.2.1 = bDg (iblk m c 0 t) (iblk m c 1 t) (outsAt0 m c (t.val - 1) h).2.2.2.1 (iblk m c 3 t)
    (outsAt0 m c (t.val - 1) h).2.2.2.2.1 (outsAt0 m c (t.val - 1) h).2.2.2.2.2 := by
  rw [outsAt0_B m c t h0 h0]
  frame_out
  simp only [read_unread_whole]
  rfl
theorem up_B (h0 : ¬ t.val % 16 = 0) (h) : (outsAt0 m c t.val t.isLt).2.2.2.2.1 = (outsAt0 m c (t.val - 1) h).2.2.2.2.1 := by
  rw [outsAt0_B m c t h0 h0]; rfl
theorem down_B (h0 : ¬ t.val % 16 = 0) (h) : (outsAt0 m c t.val t.isLt).2.2.2.2.2 = (outsAt0 m c (t.val - 1) h).2.2.2.2.2 := by
  rw [outsAt0_B m c t h0 h0]; rfl

theorem hsrc : ∀ d : Fin 8, ∀ i, (![d.val, 0, 0] : Fin 3 → ℕ) i + (![1, 1024, 512] : Fin 3 → ℕ) i ≤ (![8, 1024, 512] : Fin 3 → ℕ) i := by decide
theorem hdst : ∀ d : Fin 8, ∀ i, (![0, 512 * d.val] : Fin 2 → ℕ) i + (![1024, 512] : Fin 2 → ℕ) i ≤ (![1024, 4096] : Fin 2 → ℕ) i := by decide

/-- The eight copies into the up projection's scratch, last landed first. -/
def Lup : List (View.Piece (Elt Ideal) S1024x4096 .bf16) :=
  [⟨Rect.unit ![0, 3584] ![1024, 512] (hdst 7), cp m c 7 (hsrc 7)⟩, ⟨Rect.unit ![0, 3072] ![1024, 512] (hdst 6), cp m c 6 (hsrc 6)⟩,
   ⟨Rect.unit ![0, 2560] ![1024, 512] (hdst 5), cp m c 5 (hsrc 5)⟩, ⟨Rect.unit ![0, 2048] ![1024, 512] (hdst 4), cp m c 4 (hsrc 4)⟩,
   ⟨Rect.unit ![0, 1536] ![1024, 512] (hdst 3), cp m c 3 (hsrc 3)⟩, ⟨Rect.unit ![0, 1024] ![1024, 512] (hdst 2), cp m c 2 (hsrc 2)⟩,
   ⟨Rect.unit ![0, 512] ![1024, 512] (hdst 1), cp m c 1 (hsrc 1)⟩, ⟨Rect.unit ![0, 0] ![1024, 512] (hdst 0), cp m c 0 (hsrc 0)⟩]

theorem canon_all {s : Shape} {e : EltTy} (w : s.Idx → Elt Ideal e) : View.canon (Val := Elt Ideal) (e := e) [⟨Rect.whole s, w⟩] = w := by
  funext y
  have h := View.canon_cons_emb (Val := Elt Ideal) (e := e) (Rect.whole s) w [] y
  rwa [Rect.emb_whole_apply] at h
theorem up_A (h0 : t.val % 16 = 0) : (outsAt0 m c t.val t.isLt).2.2.2.2.1 = View.canon (Lup m c) := by
  rw [outsAt0_A m c t h0 h0]
  frame_open
  frame_out
  rfl
theorem down_A (h0 : t.val % 16 = 0) : (outsAt0 m c t.val t.isLt).2.2.2.2.2 = V m c main_arg4 := by
  rw [outsAt0_A m c t h0 h0]
  frame_open
  frame_out
  exact canon_all _
theorem dh_A (h0 : t.val % 16 = 0) : (outsAt0 m c t.val t.isLt).1 = bDh (iblk m c 0 t) (iblk m c 1 t) (iblk m c 2 t) (iblk m c 3 t)
    (View.canon (Lup m c)) (V m c main_arg4) := by
  rw [outsAt0_A m c t h0 h0]
  frame_open
  simp only [readCov_ld]
  frame_out
  simp only [canon_all]
  refine bDh_of (iblk m c 0 t) (iblk m c 1 t) (iblk m c 2 t) (iblk m c 3 t) (View.canon (Lup m c)) (V m c main_arg4) _ _ _ _ ?_ ?_ ?_ ?_
  · unfold u0; refine congrArg (fun Z => View.ld (Val := Elt Ideal) (e' := .bf16) Z _) ?_; rfl
  · unfold u1; refine congrArg (fun Z => View.ld (Val := Elt Ideal) (e' := .bf16) Z _) ?_; rfl
  · unfold u2; refine congrArg (fun Z => View.ld (Val := Elt Ideal) (e' := .bf16) Z _) ?_; rfl
  · unfold u3; refine congrArg (fun Z => View.ld (Val := Elt Ideal) (e' := .bf16) Z _) ?_; rfl
theorem da_A (h0 : t.val % 16 = 0) : (outsAt0 m c t.val t.isLt).2.2.1 = View.canon (Lda (iblk m c 0 t) (iblk m c 3 t)
    (V m c main_arg4)) := by
  rw [outsAt0_A m c t h0 h0]
  frame_open
  simp only [readCov_ld]
  frame_out
  simp only [canon_all]
  rfl
theorem dg_A (h0 : t.val % 16 = 0) : (outsAt0 m c t.val t.isLt).2.2.2.1 = bDg (iblk m c 0 t) (iblk m c 1 t) k0_pay1 (iblk m c 3 t)
    (View.canon (Lup m c)) (V m c main_arg4) := by
  rw [outsAt0_A m c t h0 h0]
  frame_open
  simp (disch := decide) only [↓ View.readCov_fill]
  simp only [readCov_ld]
  frame_out
  simp only [canon_all]
  refine bDg_of (iblk m c 0 t) (iblk m c 1 t) (k0_pay1) (iblk m c 3 t) (View.canon (Lup m c)) (V m c main_arg4) _ _ _ _ ?_ ?_ ?_ ?_
  · unfold u0; refine congrArg (fun Z => View.ld (Val := Elt Ideal) (e' := .bf16) Z _) ?_; rfl
  · unfold u1; refine congrArg (fun Z => View.ld (Val := Elt Ideal) (e' := .bf16) Z _) ?_; rfl
  · unfold u2; refine congrArg (fun Z => View.ld (Val := Elt Ideal) (e' := .bf16) Z _) ?_; rfl
  · unfold u3; refine congrArg (fun Z => View.ld (Val := Elt Ideal) (e' := .bf16) Z _) ?_; rfl

end Cert.Mlp
end
-- ==== Proof.MlpExt.lean ====
module

public import proofs.«01_k».proof.Proof.Real

@[expose] public section

set_option maxRecDepth 16384

noncomputable section

/-! Arrays of extended reals written by a function of natural coordinates, the infinities included: what the vector operations
    do to them, and the two equations of extended reals that the MLP's gradient rests on. -/

namespace Cert.Mlp

open Idealize.ShloMosaic Finset

/-- A vector of length `n`, an `n` by `m` matrix, an `n` by `m` by `k` box, and a matrix of bits. -/
def E1 (n : ℕ) (F : ℕ → EReal) : (⟨1, ![n]⟩ : Shape).Idx → EReal := fun j => F (j 0).val
def E2 (n m : ℕ) (F : ℕ → ℕ → EReal) : (⟨2, ![n, m]⟩ : Shape).Idx → EReal := fun j => F (j 0).val (j 1).val
def E3 (n m k : ℕ) (F : ℕ → ℕ → ℕ → EReal) : (⟨3, ![n, m, k]⟩ : Shape).Idx → EReal := fun j => F (j 0).val (j 1).val (j 2).val
def M2 (n m : ℕ) (p : ℕ → ℕ → Bool) : (⟨2, ![n, m]⟩ : Shape).Idx → BitVec 1 := fun j => BitVec.ofBool (p (j 0).val (j 1).val)

theorem E1_apply (n : ℕ) (F : ℕ → EReal) (i : Fin n) : E1 n F (ix1 i) = F i.val := rfl
theorem E2_apply (n m : ℕ) (F : ℕ → ℕ → EReal) (i : Fin n) (j : Fin m) : E2 n m F (ix2 i j) = F i.val j.val := rfl
theorem E3_apply (n m k : ℕ) (F : ℕ → ℕ → ℕ → EReal) (i : Fin n) (j : Fin m) (l : Fin k) : E3 n m k F (ix3 i j l) = F i.val j.val l.val := rfl
theorem E2_congr {n m : ℕ} {F G : ℕ → ℕ → EReal} (h : ∀ r < n, ∀ l < m, F r l = G r l) : E2 n m F = E2 n m G := by
  funext j; unfold E2; rw [h _ (j 0).isLt _ (j 1).isLt]
theorem sum_fin (n : ℕ) (f : ℕ → EReal) : (∑ i : Fin n, f i.val) = ∑ i ∈ range n, f i := Fin.sum_univ_eq_sum_range f n

section Elementwise
variable (n m : ℕ) (F G : ℕ → ℕ → EReal) {φ : FTy}
theorem mulf2 : mulf (F := Ideal) (φ := φ) (E2 n m F) (E2 n m G) = E2 n m fun r l => F r l * G r l := rfl
theorem addf2 : addf (F := Ideal) (φ := φ) (E2 n m F) (E2 n m G) = E2 n m fun r l => F r l + G r l := rfl
theorem subf2 : subf (F := Ideal) (φ := φ) (E2 n m F) (E2 n m G) = E2 n m fun r l => F r l - G r l := rfl
theorem rsqrt2 : rsqrt (F := Ideal) (φ := φ) (E2 n m F) = E2 n m fun r l => Ideal.rsqrt (F r l) := rfl
theorem sqrt2 : sqrt (F := Ideal) (φ := φ) (E2 n m F) = E2 n m fun r l => Ideal.sqrt (F r l) := rfl
theorem select2 (p : ℕ → ℕ → Bool) : select (M2 n m p) (E2 n m F) (E2 n m G) = E2 n m fun r l => if p r l then F r l else G r l := by
  funext j; unfold select M2 E2
  show (if BitVec.ofBool (p (j 0).val (j 1).val) = 1#1 then _ else _) = _
  show _ = (if p (j 0).val (j 1).val = true then F (j 0).val (j 1).val else G (j 0).val (j 1).val)
  cases hp : p (j 0).val (j 1).val <;> rfl
theorem splat2 (c : EReal) : (broadcast ⟨2, ![n, m]⟩ c) = E2 n m fun _ _ => c := rfl
theorem truncf2 (h) : (truncf (F := Ideal) .bf16 (φ := .f32) (E2 n m F) h) = E2 n m F := rfl
end Elementwise

theorem ld2 {n m a b o p : ℕ} (X : ℕ → ℕ → EReal) (h : ∀ i, (![o, p] : Fin 2 → ℕ) i + (![a, b] : Fin 2 → ℕ) i ≤ (![n, m] : Fin 2 → ℕ) i)
    (x : (⟨2, ![a, b]⟩ : Shape).Idx) : E2 n m X ((Rect.unit (s := ⟨2, ![n, m]⟩) ![o, p] ![a, b] h).emb x) = E2 a b (fun r l => X (o + r) (p + l)) x := by
  show X (o + 1 * (x 0).val) (p + 1 * (x 1).val) = _
  rw [one_mul, one_mul]; rfl
theorem sub2 {n m a b o p : ℕ} (X F : ℕ → ℕ → EReal) (h : ∀ i, (![o, p] : Fin 2 → ℕ) i + (![a, b] : Fin 2 → ℕ) i ≤ (![n, m] : Fin 2 → ℕ) i)
    (v : (⟨2, ![a, b]⟩ : Shape).Idx → EReal) (hv : v = E2 a b F) (hF : ∀ r < a, ∀ l < b, F r l = X (o + r) (p + l)) (x : (⟨2, ![a, b]⟩ : Shape).Idx) :
    v x = E2 n m X ((Rect.unit (s := ⟨2, ![n, m]⟩) ![o, p] ![a, b] h).emb x) := by
  rw [hv, E2_congr hF, ld2]
theorem sum_blocks (a b : ℕ) (f : ℕ → EReal) : ∑ u ∈ range a, ∑ n ∈ range b, f (b * u + n) = ∑ k ∈ range (a * b), f k := by
  induction a with
  | zero => simp
  | succ a ih => rw [sum_range_succ, ih, add_mul, one_mul, sum_range_add]; congr 1; exact sum_congr rfl fun n _ => by rw [mul_comm]

/-! The words of the constants. -/
theorem w_zero : (Scalar.ofBits .f32 0x00000000#32 : Ideal .f32) = (0 : EReal) := Cert.RealForm.w_zero.trans EReal.coe_zero
theorem w_two : (Scalar.ofBits .f32 0x40000000#32 : Ideal .f32) = ((2 : ℝ) : EReal) := by
  show Ideal.ofBits .f32 _ = _; simp [Ideal.ofBits, Ideal.ieee, -EReal.coe_mul]; norm_num
theorem w_1024 : (Scalar.ofBits .f32 0x44800000#32 : Ideal .f32) = ((1024 : ℝ) : EReal) := by
  show Ideal.ofBits .f32 _ = _; simp [Ideal.ofBits, Ideal.ieee, -EReal.coe_mul]; norm_num
theorem w_mhalf : (Scalar.ofBits .f32 0xBF000000#32 : Ideal .f32) = ((-(1 / 2) : ℝ) : EReal) := by
  show Ideal.ofBits .f32 _ = _; simp [Ideal.ofBits, Ideal.ieee, -EReal.coe_mul]; norm_num
/-- One part in 1024, and the norm's epsilon. -/
def C : EReal := ((1 / 1024 : ℝ) : EReal)
def EP : EReal := ((Cert.RealForm.EPS : ℝ) : EReal)
theorem div_1024 (x : EReal) : Ideal.div x ((1024 : ℝ) : EReal) = x * C := Ideal.div_coe (by norm_num) x

/-! Extended reals. -/
theorem mul_real_add (r : ℝ) (hr : 0 ≤ r) (a b : EReal) : (r : EReal) * (a + b) = r * a + r * b :=
  EReal.left_distrib_of_nonneg_of_ne_top (EReal.coe_nonneg.mpr hr) (EReal.coe_ne_top r) a b
theorem sum_mul_real (n : ℕ) (f : ℕ → EReal) (r : ℝ) (hr : 0 ≤ r) : ∑ l ∈ range n, f l * (r : EReal) = (∑ l ∈ range n, f l) * (r : EReal) := by
  induction n with
  | zero => simp
  | succ n ih => rw [sum_range_succ, sum_range_succ, ih, mul_comm _ (r : EReal), mul_comm _ (r : EReal), mul_comm _ (r : EReal), mul_real_add r hr]
theorem sq_nonneg (x : EReal) : 0 ≤ x * x := by
  induction x with
  | bot => simp
  | top => simp
  | coe x => rw [← EReal.coe_mul]; exact EReal.coe_nonneg.mpr (mul_self_nonneg x)
/-- The root of a square. -/
theorem sqrt_sq (p : EReal) (h : 0 ≤ p) : Ideal.sqrt (p * p) = p := by
  induction p with
  | bot => exact absurd h (by simp)
  | top => simp
  | coe p =>
    have hp : 0 ≤ p := EReal.coe_nonneg.mp h
    rw [← EReal.coe_mul, Ideal.sqrt_coe, if_neg (not_lt.mpr (mul_self_nonneg p)), Real.sqrt_mul_self hp]
/-- The two ways of writing the activation's derivative. -/
theorem relu_eq (a y : EReal) : (if decide (0 < a) = true then y * (((2 : ℝ) : EReal) * max a 0) else 0) = y * (((2 : ℝ) : EReal) * Ideal.sqrt (max a 0 * max a 0)) := by
  rw [sqrt_sq _ (le_max_right _ _)]
  by_cases h : 0 < a
  · rw [if_pos (decide_eq_true h)]
  · rw [if_neg (by simpa using h), max_eq_right (not_lt.mp h), mul_zero, mul_zero]

/-- A mean square with a positive epsilon is the positive infinity or a positive real. -/
theorem mean_cases (s : EReal) (hs : 0 ≤ s) : s * C + EP = ⊤ ∨ ∃ p : ℝ, 0 < p ∧ s * C + EP = (p : EReal) := by
  unfold C EP
  induction s with
  | bot => exact absurd hs (by simp)
  | top =>
    left
    rw [EReal.top_mul_coe_of_pos (by norm_num : (0 : ℝ) < 1 / 1024), EReal.top_add_coe]
  | coe s =>
    right
    have h : 0 ≤ s := EReal.coe_nonneg.mp hs
    have := Cert.RealForm.EPS_pos
    exact ⟨s * (1 / 1024) + Cert.RealForm.EPS, by positivity, by rw [← EReal.coe_mul, ← EReal.coe_add]⟩

/-- A product with a real, written twice, is the product with twice the real. -/
theorem twice (y : EReal) (k : ℝ) : y * (k : EReal) + y * (k : EReal) = y * ((k + k : ℝ) : EReal) := by
  rcases lt_trichotomy k 0 with h | h | h
  · induction y with
    | bot => rw [EReal.bot_mul_coe_of_neg h, EReal.bot_mul_coe_of_neg (by linarith)]; rfl
    | top => rw [EReal.top_mul_coe_of_neg h, EReal.top_mul_coe_of_neg (by linarith)]; rfl
    | coe y => rw [← EReal.coe_mul, ← EReal.coe_mul, ← EReal.coe_add, mul_add]
  · subst h; simp
  · induction y with
    | bot => rw [EReal.bot_mul_coe_of_pos h, EReal.bot_mul_coe_of_pos (by linarith)]; rfl
    | top => rw [EReal.top_mul_coe_of_pos h, EReal.top_mul_coe_of_pos (by linarith)]; rfl
    | coe y => rw [← EReal.coe_mul, ← EReal.coe_mul, ← EReal.coe_add, mul_add]

/-- The norm's gradient: as the derivative sums it, and as one factor times a difference. -/
theorem norm_grad (G d x S v : EReal) (hv : v = ⊤ ∨ ∃ p : ℝ, 0 < p ∧ v = (p : EReal)) :
    ((G + d * Ideal.rsqrt v) + x * ((S * (((-(1 / 2) : ℝ) : EReal) * Ideal.div (Ideal.rsqrt v) v)) * C)) + ((S * (((-(1 / 2) : ℝ) : EReal) * Ideal.div (Ideal.rsqrt v) v)) * C) * x
      = G + Ideal.rsqrt v * (d - x * Ideal.rsqrt v * ((S * Ideal.rsqrt v) * C)) := by
  rcases hv with rfl | ⟨p, hp, rfl⟩
  · have h0 : Ideal.div (0 : EReal) ⊤ = 0 := by unfold Ideal.div; simp
    rw [Ideal.rsqrt_top, h0]; simp
  · rw [Ideal.rsqrt_coe, if_neg (not_lt.mpr hp.le), if_neg hp.ne', Ideal.div_coe hp.ne']
    have hr : 0 ≤ (√p)⁻¹ := inv_nonneg.mpr (Real.sqrt_nonneg p)
    have hs : (√p)⁻¹ * (√p)⁻¹ = 1 / p := by rw [← mul_inv, Real.mul_self_sqrt hp.le, one_div]
    generalize (√p)⁻¹ = r at *
    rw [← hs]
    unfold C
    rw [sub_eq_add_neg, mul_real_add r hr, add_assoc, add_assoc]
    congr 1
    rw [mul_comm d]
    congr 1
    have e1 : x * ((S * (((-(1 / 2) : ℝ) : EReal) * ((r : EReal) * ((r * r : ℝ) : EReal)))) * ((1 / 1024 : ℝ) : EReal)) = (x * S) * ((-(1 / 2) * (r * (r * r)) * (1 / 1024) : ℝ) : EReal) := by
      push_cast; ac_rfl
    rw [mul_comm _ x, e1, twice]
    have e2 : (r : EReal) * -(x * r * ((S * r) * ((1 / 1024 : ℝ) : EReal))) = (x * S) * ((-(r * (r * r) * (1 / 1024)) : ℝ) : EReal) := by
      rw [mul_neg, EReal.coe_neg, mul_neg]; push_cast; congr 1; ac_rfl
    rw [e2]; congr 2; ring

end Cert.Mlp
end
-- ==== Proof.MlpPoint.lean ====
module

public import proofs.«01_k».proof.Proof.MlpBlock
public import proofs.«01_k».proof.Proof.MlpExt

@[expose] public section

set_option maxRecDepth 16384

noncomputable section

/-! What one grid point of the MLP's backward kernel leaves in each output, in extended reals. -/

namespace Cert.Mlp

open Cert.MlpBwdIdeal Cert.MlpBwdIdeal.Gen Idealize.ShloMosaic Finset

section Ops
variable (F G : ℕ → ℕ → EReal) (f : ℕ → EReal)
theorem mmNT (p) : matmul (F := Ideal) (φ₁ := .bf16) (φ₂ := .bf16) dot_S512x1024_S1024x1024_S512x1024_1_1_0_0_n_n p (E2 512 1024 F) (E2 1024 1024 G)
    (constant S512x1024 .f32 0x00000000#32) = E2 512 1024 fun r l => ∑ k ∈ range 1024, F r k * G l k := by
  funext j; idx_vars j; pointwise [E2_apply]
  exact sum_fin 1024 (fun k => F j0 k * G j1 k)
theorem bcRow (h) : broadcastTo (α := Ideal .f32) S512x1024 (E2 1 1024 F) h = E2 512 1024 fun _ l => F 0 l := by
  funext j; idx_vars j; pointwise [E2_apply]
theorem bcCol (h) : broadcastTo (α := Ideal .f32) S512x1024 (E2 512 1 F) h = E2 512 1024 fun r _ => F r 0 := by
  funext j; idx_vars j; pointwise [E2_apply]
theorem sumLane (h h1 h2) : multiReduction (F := Ideal) (φ := .f32) .add [1] S512 (E2 512 1024 F) 0x00000000#32 h h1 h2
    = E1 512 fun r => ∑ l ∈ range 1024, F r l := by
  funext j; idx_vars j; pointwise [E2_apply, E1_apply]; exact sum_fin _ _
theorem sumRow (h h1 h2) : multiReduction (F := Ideal) (φ := .f32) .add [0] S1024 (E2 512 1024 F) 0x00000000#32 h h1 h2
    = E1 1024 fun l => ∑ r ∈ range 512, F r l := by
  funext j; idx_vars j; pointwise [E2_apply, E1_apply]; exact sum_fin _ (fun r => F r _)
def redL (x : T1) : FVec Ideal S512 .f32 := multiReduction .add [1] S512 x 0x00000000#32 reduces_S512x1024_S512 (.inl rfl) rfl
theorem redL_eq : redL (E2 512 1024 F) = E1 512 fun r => ∑ l ∈ range 1024, F r l := sumLane F _ _ _
def redR (x : T1) : FVec Ideal S1024 .f32 := multiReduction .add [0] S1024 x 0x00000000#32 reduces_S512x1024_S1024 (.inl rfl) rfl
theorem redR_eq : redR (E2 512 1024 F) = E1 1024 fun l => ∑ r ∈ range 512, F r l := sumRow F _ _ _
theorem toCol (h) : shapeCast (α := Ideal .f32) S512x1 (E1 512 f) h = E2 512 1 fun r _ => f r := by
  funext j; idx_vars j; pointwise [E2_apply, E1_apply]
theorem toRow (h) : shapeCast (α := Ideal .f32) S1x1024 (E1 1024 f) h = E2 1 1024 fun _ l => f l := by
  funext j; idx_vars j; pointwise [E2_apply, E1_apply]
theorem sameRow (h) : shapeCast (α := Ideal .f32) S1x1024 (E2 1 1024 F) h = E2 1 1024 F := by
  funext j; idx_vars j; pointwise [E2_apply]
theorem same (h) : shapeCast (α := Ideal .bf16) S512x1024 (E2 512 1024 F) h = E2 512 1024 F := by
  funext j; idx_vars j; pointwise [E2_apply]
theorem ldb {n m a b o p : ℕ} (X : ℕ → ℕ → EReal) (h : ∀ i, (![o, p] : Fin 2 → ℕ) i + (![a, b] : Fin 2 → ℕ) i ≤ (![n, m] : Fin 2 → ℕ) i) :
    View.ld (Val := Elt Ideal) (e' := .bf16) (S := ⟨2, ![n, m]⟩) (E2 n m X) (Rect.unit (s := ⟨2, ![n, m]⟩) ![o, p] ![a, b] h) = E2 a b fun r l => X (o + r) (p + l) := by
  funext j
  show X (o + 1 * (j 0).val) (p + 1 * (j 1).val) = _
  rw [one_mul, one_mul]; rfl
theorem extf2 {n m : ℕ} (h) : extf (F := Ideal) .f32 (φ := .bf16) (E2 n m F) h = E2 n m F := rfl
theorem div1024 {n m : ℕ} : divf (F := Ideal) (φ := .f32) (E2 n m F) (E2 n m fun _ _ => ((1024 : ℝ) : EReal)) = E2 n m fun r l => F r l * C := by
  funext j; exact div_1024 _
end Ops

/-! ### The mathematics: a block or a whole array, row by row -/
section Spec
variable (G X A B R : ℕ → ℕ → EReal) (g : ℕ → EReal) (n : ℕ)

/-- The gradient before the activation, of the normed input, and the norm's own terms. -/
def mDa (k : ℕ) : EReal := (∑ j ∈ range 1024, G n j * B k j) * (((2 : ℝ) : EReal) * Ideal.sqrt (R n k))
def mDhn (i : ℕ) : EReal := ∑ k ∈ range 4096, mDa G B R n k * A i k
def mVar : EReal := (∑ j ∈ range 1024, X n j * X n j) * C + EP
def mRs : EReal := Ideal.rsqrt (mVar X n)
def mXh (i : ℕ) : EReal := X n i * mRs X n
def mDx (i : ℕ) : EReal := mDhn G A B R n i * g i
def mDh (i : ℕ) : EReal :=
  G n i + mRs X n * (mDx G A B R g n i - mXh X n i * ((∑ l ∈ range 1024, mDx G A B R g n l * mXh X n l) * C))
def mHn (i : ℕ) : EReal := mXh X n i * g i
end Spec
theorem mVar_cases (X : ℕ → ℕ → EReal) (n : ℕ) : mVar X n = ⊤ ∨ ∃ p : ℝ, 0 < p ∧ mVar X n = (p : EReal) :=
  mean_cases _ (sum_nonneg fun j _ => sq_nonneg _)

section Pay
variable (G X P Q R D : ℕ → ℕ → EReal)

theorem pay2_eq : k0_pay2 (F := Ideal) (E2 512 1024 G) = E2 512 1024 G := rfl
theorem pay1_eq : k0_pay1 (F := Ideal) = E2 1 1024 fun _ _ => 0 := by unfold k0_pay1; rw [w_zero]; rfl
/-- A quarter's gradient before the activation. -/
def qDa (r k : ℕ) : EReal := (∑ j ∈ range 1024, G r j * Q k j) * (((2 : ℝ) : EReal) * Ideal.sqrt (R r k))
theorem pay5_eq : k0_pay5 (F := Ideal) (E2 512 1024 G) (E2 1024 1024 Q) (E2 512 1024 R) = E2 512 1024 (qDa G Q R) := by
  unfold k0_pay5 qDa; simp only [pay2_eq, mmNT, same, extf2, sqrt2, w_two, splat2, mulf2]
theorem pay3_eq : k0_pay3 (F := Ideal) (E2 512 1024 G) (E2 1024 1024 Q) (E2 512 1024 R) = E2 512 1024 (qDa G Q R) := by
  unfold k0_pay3 qDa; simp only [pay2_eq, mmNT, same, extf2, sqrt2, w_two, splat2, mulf2, truncf2]
theorem pay7_eq : k0_pay7 (F := Ideal) (E2 512 1024 G) (E2 1024 1024 Q) (E2 512 1024 R) = E2 512 1024 (qDa G Q R) := by
  unfold k0_pay7 qDa; simp only [mmNT, same, extf2, sqrt2, w_two, splat2, mulf2, truncf2]
theorem pay9_eq : k0_pay9 (F := Ideal) (E2 512 1024 G) (E2 1024 1024 Q) (E2 512 1024 R) = E2 512 1024 (qDa G Q R) := by
  unfold k0_pay9 qDa; simp only [mmNT, same, extf2, sqrt2, w_two, splat2, mulf2, truncf2]
theorem pay4_eq : k0_pay4 (F := Ideal) (E2 512 1024 G) (E2 1024 1024 Q) (E2 512 1024 R) (E2 1024 1024 P)
    = E2 512 1024 fun r i => ∑ k ∈ range 1024, qDa G Q R r k * P i k := by
  unfold k0_pay4; simp only [pay3_eq, mmNT, w_zero, splat2, addf2, zero_add]
theorem pay6_eq : k0_pay6 (F := Ideal) (E2 512 1024 G) = E2 512 1024 G := rfl
theorem pay10_eq : k0_pay10 (F := Ideal) (E2 512 1024 G) (E2 512 1024 Q) (E2 1024 1024 P)
    = E2 512 1024 fun r i => G r i + ∑ k ∈ range 1024, Q r k * P i k := by
  unfold k0_pay10; simp only [mmNT, addf2]
theorem pay11_eq : k0_pay11 (F := Ideal) (E2 512 1024 X) = E2 512 1 fun r _ => mRs X r := by
  show rsqrt (addf (divf (shapeCast S512x1 (redL (mulf (E2 512 1024 X) (E2 512 1024 X))) shapeCasts_S512_S512x1)
    (broadcast S512x1 (Scalar.ofBits .f32 0x44800000#32))) (broadcast S512x1 (Scalar.ofBits .f32 0x358637BD#32))) = _
  simp only [mulf2, redL_eq, toCol, w_1024, show (Scalar.ofBits .f32 0x358637BD#32 : Ideal .f32) = EP from Cert.RealForm.w_eps, splat2, div1024, addf2]
  rfl
theorem pay12_eq : k0_pay12 (F := Ideal) (E2 1 1024 G) = E2 1 1024 G := by unfold k0_pay12; rw [sameRow]
theorem pay13_eq : k0_pay13 (F := Ideal) (E2 512 1024 X) = E2 512 1024 (mXh X) := by
  unfold k0_pay13; simp only [pay11_eq, bcCol, mulf2]; rfl
theorem pay16_eq (g : ℕ → ℕ → EReal) : k0_pay16 (F := Ideal) (E2 512 1024 X) (E2 1 1024 g) = E2 512 1024 fun r i => mXh X r i * g 0 i := by
  unfold k0_pay16; simp only [pay11_eq, pay12_eq, bcCol, bcRow, mulf2, truncf2]; rfl
theorem pay14_eq (g : ℕ → ℕ → EReal) : k0_pay14 (F := Ideal) (E2 512 1024 G) (E2 512 1024 D) (E2 512 1024 Q) (E2 1024 1024 P) (E2 512 1024 X) (E2 1 1024 g)
    = E2 512 1024 fun r i => G r i + mRs X r * ((D r i + ∑ k ∈ range 1024, Q r k * P i k) * g 0 i
      - mXh X r i * ((∑ l ∈ range 1024, (D r l + ∑ k ∈ range 1024, Q r k * P l k) * g 0 l * mXh X r l) * C)) := by
  have e : ∀ (G D X : T1) (Q : FVec Ideal S512x1024 .bf16) (P : FVec Ideal S1024x1024 .bf16) (g : R1), k0_pay14 (F := Ideal) G D Q P X g
      = addf G (mulf (broadcastTo S512x1024 (k0_pay11 X) broadcasts_S512x1_S512x1024)
        (subf (mulf (k0_pay10 D Q P) (broadcastTo S512x1024 (k0_pay12 g) broadcasts_S1x1024_S512x1024))
          (mulf (k0_pay13 X) (broadcastTo S512x1024 (divf (shapeCast S512x1
            (redL (mulf (mulf (k0_pay10 D Q P) (broadcastTo S512x1024 (k0_pay12 g) broadcasts_S1x1024_S512x1024)) (k0_pay13 X))) shapeCasts_S512_S512x1)
            (broadcast S512x1 (Scalar.ofBits .f32 0x44800000#32))) broadcasts_S512x1_S512x1024)))) := fun _ _ _ _ _ _ => rfl
  rw [e]
  simp only [pay10_eq, pay11_eq, pay12_eq, pay13_eq, bcCol, bcRow, mulf2, redL_eq, toCol, w_1024, splat2, div1024, addf2, subf2]
theorem pay15_eq (d : ℕ → ℕ → EReal) : k0_pay15 (F := Ideal) (E2 512 1024 D) (E2 512 1024 Q) (E2 1024 1024 P) (E2 512 1024 X) (E2 1 1024 d)
    = E2 1 1024 fun a i => d a i + ∑ r ∈ range 512, (D r i + ∑ k ∈ range 1024, Q r k * P i k) * mXh X r i := by
  have e : ∀ (D X : T1) (Q : FVec Ideal S512x1024 .bf16) (P : FVec Ideal S1024x1024 .bf16) (d : R1), k0_pay15 (F := Ideal) D Q P X d
      = addf (shapeCast S1x1024 d shapeCasts_S1x1024_S1x1024) (shapeCast S1x1024 (redR (mulf (k0_pay10 D Q P) (k0_pay13 X))) shapeCasts_S1024_S1x1024) :=
    fun _ _ _ _ _ => rfl
  rw [e]
  simp only [pay10_eq, pay13_eq, mulf2, redR_eq, toRow, sameRow, addf2]
theorem pay8_eq (R' Q' P' : ℕ → ℕ → EReal) : k0_pay8 (F := Ideal) (E2 512 1024 G) (E2 512 1024 D) (E2 512 1024 X) (E2 1024 1024 P)
      (E2 1024 1024 Q') (E2 512 1024 R') (E2 1024 1024 P')
    = E2 512 1024 fun r i => (D r i + ∑ k ∈ range 1024, X r k * P i k) + ∑ k ∈ range 1024, qDa G Q' R' r k * P' i k := by
  unfold k0_pay8
  simp only [pay6_eq, pay7_eq G Q' R', mmNT, addf2]
end Pay

/-! ### The block's outputs -/
section Out
variable (G X A B R : ℕ → ℕ → EReal) (g d : ℕ → ℕ → EReal)

/-- A sum over the 4096 hidden columns is the four quarters' sums. -/
theorem quarters (f : ℕ → EReal) : ((∑ k ∈ range 1024, f k + ∑ k ∈ range 1024, f (1024 + k)) + ∑ k ∈ range 1024, f (2048 + k)) + ∑ k ∈ range 1024, f (3072 + k)
    = ∑ k ∈ range 4096, f k := by
  rw [show 4096 = 1024 + 1024 + 1024 + 1024 from rfl, sum_range_add, sum_range_add, sum_range_add]

theorem lq0 : q0 (E2 512 4096 R) = E2 512 1024 R := by
  unfold q0; rw [ldb]; exact E2_congr fun r _ l _ => by congr 1 <;> omega
theorem lq1 : q1 (E2 512 4096 R) = E2 512 1024 fun r l => R r (1024 + l) := by
  unfold q1; rw [ldb]; exact E2_congr fun r _ l _ => by congr 1; omega
theorem lq2 : q2 (E2 512 4096 R) = E2 512 1024 fun r l => R r (2048 + l) := by
  unfold q2; rw [ldb]; exact E2_congr fun r _ l _ => by congr 1; omega
theorem lq3 : q3 (E2 512 4096 R) = E2 512 1024 fun r l => R r (3072 + l) := by
  unfold q3; rw [ldb]; exact E2_congr fun r _ l _ => by congr 1; omega
theorem lu0 : u0 (E2 1024 4096 A) = E2 1024 1024 A := by
  unfold u0; rw [ldb]; exact E2_congr fun r _ l _ => by congr 1 <;> omega
theorem lu1 : u1 (E2 1024 4096 A) = E2 1024 1024 fun r l => A r (1024 + l) := by
  unfold u1; rw [ldb]; exact E2_congr fun r _ l _ => by congr 1; omega
theorem lu2 : u2 (E2 1024 4096 A) = E2 1024 1024 fun r l => A r (2048 + l) := by
  unfold u2; rw [ldb]; exact E2_congr fun r _ l _ => by congr 1; omega
theorem lu3 : u3 (E2 1024 4096 A) = E2 1024 1024 fun r l => A r (3072 + l) := by
  unfold u3; rw [ldb]; exact E2_congr fun r _ l _ => by congr 1; omega
theorem ld0 : d0 (E2 4096 1024 B) = E2 1024 1024 B := by
  unfold d0; rw [ldb]; exact E2_congr fun r _ l _ => by congr 1 <;> omega
theorem ld1 : d1 (E2 4096 1024 B) = E2 1024 1024 fun r l => B (1024 + r) l := by
  unfold d1; rw [ldb]; exact E2_congr fun r _ l _ => by congr 1; omega
theorem ldd2 : d2 (E2 4096 1024 B) = E2 1024 1024 fun r l => B (2048 + r) l := by
  unfold d2; rw [ldb]; exact E2_congr fun r _ l _ => by congr 1; omega
theorem ldd3 : d3 (E2 4096 1024 B) = E2 1024 1024 fun r l => B (3072 + r) l := by
  unfold d3; rw [ldb]; exact E2_congr fun r _ l _ => by congr 1; omega

theorem last_eq : last (E2 512 1024 G) (E2 512 4096 R) (E2 4096 1024 B) = E2 512 1024 fun r k => mDa G B R r (3072 + k) := by
  unfold last; rw [pay2_eq, ldd3, lq3, pay9_eq _ _ _]; rfl
theorem sum3_eq : sum3 (E2 512 1024 G) (E2 512 4096 R) (E2 1024 4096 A) (E2 4096 1024 B) = E2 512 1024 fun r i =>
    (∑ k ∈ range 1024, mDa G B R r k * A i k + ∑ k ∈ range 1024, mDa G B R r (1024 + k) * A i (1024 + k))
      + ∑ k ∈ range 1024, mDa G B R r (2048 + k) * A i (2048 + k) := by
  unfold sum3
  rw [pay2_eq, ld0, lq0, lu0, ld1, lq1, lu1, ldd2, lq2, lu2, pay4_eq, pay5_eq _ _ _, pay8_eq _ _ _ _ _ _ _]; rfl
theorem full (r i : ℕ) : ((∑ k ∈ range 1024, mDa G B R r k * A i k + ∑ k ∈ range 1024, mDa G B R r (1024 + k) * A i (1024 + k))
      + ∑ k ∈ range 1024, mDa G B R r (2048 + k) * A i (2048 + k)) + ∑ k ∈ range 1024, mDa G B R r (3072 + k) * A i (3072 + k) = mDhn G A B R r i :=
  quarters fun k => mDa G B R r k * A i k
theorem bDh_eq : bDh (E2 512 1024 G) (E2 512 1024 X) (E2 1 1024 g) (E2 512 4096 R) (E2 1024 4096 A) (E2 4096 1024 B)
    = E2 512 1024 (mDh G X A B R (g 0)) := by
  unfold bDh
  rw [sum3_eq _ _ _ _, last_eq _ _ _, lu3, pay14_eq]
  simp only [full G A B R]; rfl
theorem bDg_eq : bDg (E2 512 1024 G) (E2 512 1024 X) (E2 1 1024 d) (E2 512 4096 R) (E2 1024 4096 A) (E2 4096 1024 B)
    = E2 1 1024 fun a i => d a i + ∑ r ∈ range 512, mDhn G A B R r i * mXh X r i := by
  unfold bDg
  rw [sum3_eq _ _ _ _, last_eq _ _ _, lu3, pay15_eq]
  simp only [full G A B R]
end Out

end Cert.Mlp
end
-- ==== Proof.MlpRefA.lean ====
module

public import proofs.«01_k».proof.Proof.MlpPoint
public import proofs.«01_k».proof.Proof.Gen.MlpBwdRefIdeal.Read

@[expose] public section

set_option maxRecDepth 16384

noncomputable section

/-! The reference's gradient of the MLP, stage by stage, in extended reals. -/

namespace Cert.Mlp

open Cert.MlpBwdRefIdeal Cert.MlpBwdRefIdeal.Gen Cert.MlpBwdRefIdeal.Read Idealize.ShloMosaic Finset

/-- The column of the up projection's blocks laid side by side. -/
def mCol (W : ℕ → ℕ → ℕ → EReal) (j k : ℕ) : EReal := W (k / 512) j (k % 512)
/-- The activation's argument, and the activation. -/
def mPre (X : ℕ → ℕ → EReal) (g : ℕ → EReal) (A : ℕ → ℕ → EReal) (n k : ℕ) : EReal := ∑ j ∈ range 1024, mHn X g n j * A j k
def mR (X : ℕ → ℕ → EReal) (g : ℕ → EReal) (A : ℕ → ℕ → EReal) (n k : ℕ) : EReal := max (mPre X g A n k) 0 * max (mPre X g A n k) 0

/-! ### The host's operations on such arrays -/
section HostOps
variable (F G : ℕ → ℕ → EReal) (f : ℕ → EReal)
theorem hcst1 (h) (w : BitVec 32) (x : EReal) (hx : (Scalar.ofBits .f32 w : Ideal .f32) = x) :
    broadcastInDim S8192x1 ![] h (constant (F := Ideal) S_ .f32 w) = E2 8192 1 fun _ _ => x := by
  funext i; exact hx
theorem hcst4 (h) (w : BitVec 32) (x : EReal) (hx : (Scalar.ofBits .f32 w : Ideal .f32) = x) :
    broadcastInDim S8192x4096 ![] h (constant (F := Ideal) S_ .f32 w) = E2 8192 4096 fun _ _ => x := by
  funext i; exact hx
theorem hCol1 (h) : broadcastInDim (α := Ideal .f32) S8192x1 ![0] h (E1 8192 f) = E2 8192 1 fun r _ => f r := by
  funext j; idx_vars j; pointwise [E2_apply, E1_apply]
theorem hCol (h) : broadcastInDim (α := Ideal .f32) S8192x1024 ![0, 1] h (E2 8192 1 F) = E2 8192 1024 fun r _ => F r 0 := by
  funext j; idx_vars j; pointwise [E2_apply]
theorem hColB (h) : broadcastInDim (α := Ideal .f32) S8192x1024 ![0] h (E1 8192 f) = E2 8192 1024 fun r _ => f r := by
  funext j; idx_vars j; pointwise [E2_apply, E1_apply]
theorem hRow1 (h) : broadcastInDim (α := Ideal .f32) S1x1024 ![1] h (E1 1024 f) = E2 1 1024 fun _ l => f l := by
  funext j; idx_vars j; pointwise [E2_apply, E1_apply]
theorem hRow (h) : broadcastInDim (α := Ideal .f32) S8192x1024 ![0, 1] h (E2 1 1024 F) = E2 8192 1024 fun _ l => F 0 l := by
  funext j; idx_vars j; pointwise [E2_apply]
theorem hSame (h) : shapeCast (α := Ideal .f32) S8192x1024 (E2 8192 1024 F) h = E2 8192 1024 F := by
  funext j; idx_vars j; pointwise [E2_apply]
theorem hToRow (h) : shapeCast (α := Ideal .f32) S1x1024 (E1 1024 f) h = E2 1 1024 fun _ l => f l := by
  funext j; idx_vars j; pointwise [E2_apply, E1_apply]
theorem hToCol (h) : shapeCast (α := Ideal .f32) S8192x1 (E1 8192 f) h = E2 8192 1 fun r _ => f r := by
  funext j; idx_vars j; pointwise [E2_apply, E1_apply]
theorem hDiv {n m : ℕ} : Host.divf (F := Ideal) (φ := .f32) (E2 n m F) (E2 n m G) = E2 n m fun r l => Ideal.div (F r l) (G r l) := rfl
theorem hRsqrt {n m : ℕ} : Host.rsqrt (F := Ideal) (φ := .f32) (E2 n m F) = E2 n m fun r l => Ideal.rsqrt (F r l) := rfl
theorem hMax {n m : ℕ} : maximumf (F := Ideal) (φ := .f32) (E2 n m F) (E2 n m G) = E2 n m fun r l => max (F r l) (G r l) := rfl
theorem hGt {n m : ℕ} : cmpf (F := Ideal) (φ := .f32) .ogt (E2 n m F) (E2 n m G) = M2 n m fun r l => decide (G r l < F r l) := by
  funext j
  show Ideal.cmp .ogt _ _ = _
  unfold E2 M2 Ideal.cmp
  rfl
end HostOps

variable (G X : ℕ → ℕ → EReal) (g : ℕ → EReal) (W : ℕ → ℕ → ℕ → EReal) (B : ℕ → ℕ → EReal)

theorem v2 : val_main_v2 (F := Ideal) (E3 8 1024 512 W) = E2 1024 4096 (mCol W) := by
  funext i
  rw [val_main_v2_apply, val_main_v1_apply, val_main_v0_apply]
  have h0 : (i 0).val < 1024 := (i 0).isLt
  have h1 : (i 1).val < 4096 := (i 1).isLt
  show (W ((((i 0).val * 4096 + (i 1).val) / 512) % 8) (((i 0).val * 4096 + (i 1).val) / 4096) (((i 0).val * 4096 + (i 1).val) % 512) : EReal)
    = (W ((i 1).val / 512) (i 0).val ((i 1).val % 512) : EReal)
  congr 1 <;> omega
theorem v3 : val_main_v3 (F := Ideal) (E2 4096 1024 B) = E2 4096 1024 B := rfl
theorem v18 : val_main_v18 (F := Ideal) (E2 8192 1024 X) = E1 8192 fun r => ∑ j ∈ range 1024, X r j * X r j := by
  funext i
  rw [val_main_v18_apply, show val_main_cst_2 (F := Ideal) _ = (0 : EReal) from w_zero]
  unfold val_main_v17
  rw [mulf2, zero_add]
  exact sum_fin 1024 fun j => X (i 0).val j * X (i 0).val j
theorem v23 : val_main_v23 (F := Ideal) (E2 8192 1024 X) = E2 8192 1 fun r _ => mVar X r := by
  unfold val_main_v23 val_main_v21 val_main_v19 val_main_v20 val_main_v22 val_main_cst_3 val_main_cst_4
  rw [v18, hcst1 _ _ _ w_1024, hcst1 _ _ _ (show (Scalar.ofBits .f32 0x358637BD#32 : Ideal .f32) = EP from Cert.RealForm.w_eps), hCol1, hDiv, addf2]
  simp only [div_1024]; rfl
theorem v24 : val_main_v24 (F := Ideal) (E2 8192 1024 X) = E2 8192 1 fun r _ => mRs X r := by
  unfold val_main_v24; rw [v23, hRsqrt]; rfl
theorem v29 : val_main_v29 (F := Ideal) (E2 8192 1024 X) = E2 8192 1024 (mXh X) := by
  unfold val_main_v29 val_main_v28; rw [v24, hCol, mulf2]; rfl
theorem v30 : val_main_v30 (F := Ideal) (E1 1024 g) = E2 1 1024 fun _ l => g l := by
  unfold val_main_v30; rw [hRow1]
theorem v32 : val_main_v32 (F := Ideal) (E2 8192 1024 X) (E1 1024 g) = E2 8192 1024 (mHn X g) := by
  unfold val_main_v32 val_main_v31; rw [v29, v30, hRow, mulf2]; rfl
theorem v33 : val_main_v33 (F := Ideal) (E2 8192 1024 X) (E1 1024 g) (E3 8 1024 512 W) = E2 8192 4096 (mPre X g (mCol W)) := by
  funext i
  rw [val_main_v33_apply, v32, v2]
  exact (sum_fin 1024 fun j => mHn X g (i 0).val j * mCol W j (i 1).val)
theorem v34 : val_main_v34 (F := Ideal) (E2 8192 1024 X) (E1 1024 g) (E3 8 1024 512 W) = E2 8192 4096 fun n k => max (mPre X g (mCol W) n k) 0 := by
  unfold val_main_v34 val_main_call0_v0 val_main_call0_cst
  rw [v33, hcst4 _ _ _ w_zero, hMax]
theorem v44 : val_main_v44 (F := Ideal) (E2 8192 1024 G) (E2 4096 1024 B) = E2 8192 4096 fun n k => ∑ j ∈ range 1024, G n j * B k j := by
  funext i
  rw [val_main_v44_apply, v3]
  unfold val_main_v43
  rw [hSame]
  exact (sum_fin 1024 fun j => G (i 0).val j * B (i 1).val j)
theorem v47 : val_main_v47 (F := Ideal) (E2 8192 1024 G) (E2 8192 1024 X) (E1 1024 g) (E3 8 1024 512 W) (E2 4096 1024 B) = E2 8192 4096 (mDa G B (mR X g (mCol W))) := by
  unfold val_main_v47 val_main_v36 val_main_v45 val_main_v40 val_main_v39 val_main_v35 val_main_v46 val_main_cst_6 val_main_cst_8 val_main_cst_9
  rw [v44, v34, v33, hcst4 _ _ _ w_zero, hcst4 _ _ _ w_two, mulf2, mulf2, hGt, select2]
  exact E2_congr fun n _ k _ => relu_eq _ _
theorem v48 : val_main_v48 (F := Ideal) (E2 8192 1024 G) (E2 8192 1024 X) (E1 1024 g) (E3 8 1024 512 W) (E2 4096 1024 B) = E2 8192 1024 (mDhn G (mCol W) B (mR X g (mCol W))) := by
  funext i
  rw [val_main_v48_apply, v47, v2]
  exact (sum_fin 4096 fun k => mDa G B (mR X g (mCol W)) (i 0).val k * mCol W (i 1).val k)

/-! ### The results -/
theorem v83 : val_main_v83 (F := Ideal) (E2 8192 1024 X) (E1 1024 g) = E2 8192 1024 (mHn X g) :=
  (show val_main_v83 (F := Ideal) (E2 8192 1024 X) (E1 1024 g) = val_main_v32 (F := Ideal) (E2 8192 1024 X) (E1 1024 g) from rfl).trans (v32 X g)
theorem v84 : val_main_v84 (F := Ideal) (E2 8192 1024 G) (E2 8192 1024 X) (E1 1024 g) (E3 8 1024 512 W) (E2 4096 1024 B) = E2 8192 4096 (mDa G B (mR X g (mCol W))) := by
  have e : val_main_v79 (F := Ideal) (E2 8192 1024 G) (E2 4096 1024 B) = val_main_v44 (F := Ideal) (E2 8192 1024 G) (E2 4096 1024 B) := by
    unfold val_main_v44 val_main_v43; rw [hSame]; rfl
  have e2 : val_main_v71 (F := Ideal) (E2 8192 1024 X) (E1 1024 g) (E3 8 1024 512 W) = val_main_v34 (F := Ideal) (E2 8192 1024 X) (E1 1024 g) (E3 8 1024 512 W) := rfl
  have e3 : val_main_v70 (F := Ideal) (E2 8192 1024 X) (E1 1024 g) (E3 8 1024 512 W) = val_main_v33 (F := Ideal) (E2 8192 1024 X) (E1 1024 g) (E3 8 1024 512 W) := rfl
  show val_main_v82 (F := Ideal) (E2 8192 1024 G) (E2 8192 1024 X) (E1 1024 g) (E3 8 1024 512 W) (E2 4096 1024 B) = _
  unfold val_main_v82 val_main_v73 val_main_v80 val_main_v77 val_main_v76 val_main_v72 val_main_v81 val_main_cst_15 val_main_cst_17 val_main_cst_18
  rw [e, e2, e3, v44, v34, v33, hcst4 _ _ _ w_zero, hcst4 _ _ _ w_two, mulf2, mulf2, hGt, select2]
  exact E2_congr fun n _ k _ => relu_eq _ _

theorem v50 : val_main_v50 (F := Ideal) (E2 8192 1024 G) (E2 8192 1024 X) (E1 1024 g) (E3 8 1024 512 W) (E2 4096 1024 B) = E1 1024 fun i => ∑ n ∈ range 8192, mDhn G (mCol W) B (mR X g (mCol W)) n i * mXh X n i := by
  funext i
  rw [val_main_v50_apply, show val_main_cst_10 (F := Ideal) _ = (0 : EReal) from w_zero]
  unfold val_main_v49
  rw [v48, v29, mulf2, zero_add]
  refine (sum_fin 8192 fun n => mXh X n (i 0).val * mDhn G (mCol W) B (mR X g (mCol W)) n (i 0).val).trans ?_
  simp only [mul_comm (mXh X _ _)]; rfl
theorem v85 : val_main_v85 (F := Ideal) (E2 8192 1024 G) (E2 8192 1024 X) (E1 1024 g) (E3 8 1024 512 W) (E2 4096 1024 B) = E2 1 1024 fun _ i => ∑ n ∈ range 8192, mDhn G (mCol W) B (mR X g (mCol W)) n i * mXh X n i := by
  have e : val_main_v54 (F := Ideal) (E2 8192 1024 G) (E2 8192 1024 X) (E1 1024 g) (E3 8 1024 512 W) (E2 4096 1024 B) = E1 1024 fun i => ∑ n ∈ range 8192, mDhn G (mCol W) B (mR X g (mCol W)) n i * mXh X n i := by
    funext i
    rw [val_main_v54_apply, show val_main_cst_11 (F := Ideal) _ = (0 : EReal) from w_zero]
    unfold val_main_v51
    rw [v50, hToRow, zero_add]
    exact (Fin.sum_univ_one _).trans rfl
  unfold val_main_v85; rw [e, hToRow]

theorem v53 : val_main_v53 (F := Ideal) (E2 8192 1024 G) (E2 8192 1024 X) (E1 1024 g) (E3 8 1024 512 W) (E2 4096 1024 B) = E2 8192 1024 (mDx G (mCol W) B (mR X g (mCol W)) g) := by
  unfold val_main_v53 val_main_v52; rw [v48, v30, hRow, mulf2]; rfl
theorem v56 : val_main_v56 (F := Ideal) (E2 8192 1024 G) (E2 8192 1024 X) (E1 1024 g) (E3 8 1024 512 W) (E2 4096 1024 B) = E1 8192 fun n => ∑ l ∈ range 1024, X n l * mDx G (mCol W) B (mR X g (mCol W)) g n l := by
  funext i
  rw [val_main_v56_apply, show val_main_cst_12 (F := Ideal) _ = (0 : EReal) from w_zero]
  unfold val_main_v55
  rw [v53, mulf2, zero_add]
  exact sum_fin 1024 fun l => X (i 0).val l * mDx G (mCol W) B (mR X g (mCol W)) g (i 0).val l
theorem v27 : val_main_v27 (F := Ideal) (E2 8192 1024 X) = E2 8192 1 fun r _ => ((-(1 / 2) : ℝ) : EReal) * Ideal.div (mRs X r) (mVar X r) := by
  unfold val_main_v27 val_main_v25 val_main_v26 val_main_cst_5
  rw [v24, v23, hDiv, hcst1 _ _ _ w_mhalf, mulf2]
/-- The variance's part of the norm's gradient. -/
def rC (n : ℕ) : EReal := ((∑ l ∈ range 1024, X n l * mDx G (mCol W) B (mR X g (mCol W)) g n l) * (((-(1 / 2) : ℝ) : EReal) * Ideal.div (mRs X n) (mVar X n))) * C
theorem v65 : val_main_v65 (F := Ideal) (E2 8192 1024 G) (E2 8192 1024 X) (E1 1024 g) (E3 8 1024 512 W) (E2 4096 1024 B) = E2 8192 1024 fun n _ => rC G X g W B n := by
  have e : val_main_v63 (F := Ideal) (E2 8192 1024 G) (E2 8192 1024 X) (E1 1024 g) (E3 8 1024 512 W) (E2 4096 1024 B) = E2 8192 1 fun n _ => rC G X g W B n := by
    unfold val_main_v63 val_main_v61 val_main_v57 val_main_v62 val_main_cst_13
    rw [v56, v27, hToCol, mulf2, hcst1 _ _ _ w_1024, hDiv]
    simp only [div_1024]; rfl
  have e2 : val_main_v64 (F := Ideal) (E2 8192 1024 G) (E2 8192 1024 X) (E1 1024 g) (E3 8 1024 512 W) (E2 4096 1024 B) = E1 8192 fun n => rC G X g W B n := by
    funext i
    rw [val_main_v64_apply, show val_main_cst_14 (F := Ideal) _ = (0 : EReal) from w_zero, e, zero_add]
    exact (Fin.sum_univ_one _).trans rfl
  unfold val_main_v65; rw [e2, hColB]
theorem v69 : val_main_v69 (F := Ideal) (E2 8192 1024 G) (E2 8192 1024 X) (E1 1024 g) (E3 8 1024 512 W) (E2 4096 1024 B) = E2 8192 1024 (mDh G X (mCol W) B (mR X g (mCol W)) g) := by
  unfold val_main_v69 val_main_v68 val_main_v67 val_main_v66 val_main_v60 val_main_v59 val_main_v58
  rw [v65, v53, v24, hCol, mulf2, mulf2, mulf2, addf2, addf2, addf2]
  refine E2_congr fun n _ i _ => ?_
  obtain ⟨e, hv⟩ : (∑ l ∈ range 1024, mDx G (mCol W) B (mR X g (mCol W)) g n l * mXh X n l)
      = (∑ l ∈ range 1024, X n l * mDx G (mCol W) B (mR X g (mCol W)) g n l) * mRs X n ∧ (mVar X n = ⊤ ∨ ∃ p : ℝ, 0 < p ∧ mVar X n = (p : EReal)) := by
    refine ⟨?_, mVar_cases X n⟩
    unfold mXh mRs
    rcases mVar_cases X n with h | ⟨p, hp, h⟩
    · rw [h, Ideal.rsqrt_top]; simp
    · rw [h, Ideal.rsqrt_coe, if_neg (not_lt.mpr hp.le), if_neg hp.ne', ← sum_mul_real _ _ _ (inv_nonneg.mpr (Real.sqrt_nonneg p))]
      exact sum_congr rfl fun l _ => by rw [mul_comm (X n l) (mDx _ _ _ _ _ _ _), mul_assoc]
  unfold mDh rC
  rw [e]
  exact norm_grad _ _ _ _ _ hv

end Cert.Mlp
end
-- ==== Proof.MlpArr.lean ====
module

public import proofs.«01_k».proof.Proof.MlpRefA
public import proofs.«01_k».proof.Proof.MlpExt

@[expose] public section

set_option maxRecDepth 16384

noncomputable section

/-! The blocks, scratches and arrays of the MLP's backward kernel, in extended reals. -/

namespace Cert.Mlp

open Cert.MlpBwdIdeal Cert.MlpBwdIdeal.Gen Cert.MlpBwdIdeal.Value Idealize.ShloMosaic Idealize.ShloMosaic.TcCoe Idealize.SL.Sem Finset

variable (m : (ℓ : Loc nD τ sig) → Buf (Elt Ideal) ℓ) (c : Dev nD) (G X : ℕ → ℕ → EReal) (g : ℕ → EReal) (W : ℕ → ℕ → ℕ → EReal) (B : ℕ → ℕ → EReal)

/-- The five arguments written by functions of natural coordinates. -/
structure Args : Prop where
  g0 : m (c, main_arg0) = E2 8192 1024 G
  x : m (c, main_arg1) = E2 8192 1024 X
  g : m (c, main_arg2) = E1 1024 g
  w : m (c, main_arg3) = E3 8 1024 512 W
  b : m (c, main_arg4) = E2 4096 1024 B

variable (A : Args m c G X g W B)
include A

/-- The activation the host computes before the kernel. -/
theorem host_r : V m c main_v19 = E2 8192 4096 (mR X g (mCol W)) := by
  have e : V m c main_v19 = mulf (F := Ideal) (φ := .f32) (Cert.MlpBwdRefIdeal.Read.val_main_v34 (F := Ideal) (m (c, main_arg1)) (m (c, main_arg2)) (m (c, main_arg3)))
      (Cert.MlpBwdRefIdeal.Read.val_main_v34 (F := Ideal) (m (c, main_arg1)) (m (c, main_arg2)) (m (c, main_arg3))) := by
    entry_read
    rfl
  rw [e, A.x, A.g, A.w, v34, mulf2]; rfl
theorem host_g : V m c main_v20 = E2 1 1024 fun _ l => g l := by
  have e : V m c main_v20 = shapeCast (α := Ideal .f32) S1x1024 (m (c, main_arg2)) shapeCasts_S1024_S1x1024 := by
    entry_read
    rfl
  rw [e, A.g]
  funext j; idx_vars j; pointwise [E2_apply, E1_apply]
omit A in
theorem idx_in : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)
omit A in
theorem emb0 (t : Fin cfg0.N) (j0 : Fin 512) (j1 : Fin 1024) : (((((cfg0.win 0).blk t).view.emb (ix2 j0 j1)) 0 : Fin _) : ℕ) = 512 * t.val + j0.val
    ∧ (((((cfg0.win 0).blk t).view.emb (ix2 j0 j1)) 1 : Fin _) : ℕ) = j1.val := by
  constructor <;> blk_simp [idx_in t] <;> omega
omit A in
theorem emb1 (t : Fin cfg0.N) (j0 : Fin 512) (j1 : Fin 1024) : (((((cfg0.win 1).blk t).view.emb (ix2 j0 j1)) 0 : Fin _) : ℕ) = 512 * t.val + j0.val
    ∧ (((((cfg0.win 1).blk t).view.emb (ix2 j0 j1)) 1 : Fin _) : ℕ) = j1.val := by
  constructor <;> blk_simp [idx_in t] <;> omega
omit A in
theorem emb2 (t : Fin cfg0.N) (j0 : Fin 1) (j1 : Fin 1024) : (((((cfg0.win 2).blk t).view.emb (ix2 j0 j1)) 1 : Fin _) : ℕ) = j1.val := by
  blk_simp [idx_in t]
omit A in
theorem emb3 (t : Fin cfg0.N) (j0 : Fin 512) (j1 : Fin 4096) : (((((cfg0.win 3).blk t).view.emb (ix2 j0 j1)) 0 : Fin _) : ℕ) = 512 * t.val + j0.val
    ∧ (((((cfg0.win 3).blk t).view.emb (ix2 j0 j1)) 1 : Fin _) : ℕ) = j1.val := by
  constructor <;> blk_simp [idx_in t] <;> omega

theorem blk0 (t : Fin cfg0.N) : @Eq T1 (iblk m c 0 t) (E2 512 1024 fun r l => G (512 * t.val + r) l) := by
  funext j; idx_vars j
  obtain ⟨h0, h1⟩ := emb0 t j0 j1
  have e : iblk m c 0 t (ix2 j0 j1) = V m c main_arg0 (((cfg0.win 0).blk t).view.emb (ix2 j0 j1)) := by blk_simp [iblk]
  refine e.trans ?_
  rw [V_main_arg0, show m ((c : Thread nD τ).loc main_arg0) = E2 8192 1024 G from A.g0]
  exact congrArg₂ G h0 h1
theorem blk1 (t : Fin cfg0.N) : @Eq T1 (iblk m c 1 t) (E2 512 1024 fun r l => X (512 * t.val + r) l) := by
  funext j; idx_vars j
  obtain ⟨h0, h1⟩ := emb1 t j0 j1
  have e : iblk m c 1 t (ix2 j0 j1) = V m c main_arg1 (((cfg0.win 1).blk t).view.emb (ix2 j0 j1)) := by blk_simp [iblk]
  refine e.trans ?_
  rw [V_main_arg1, show m ((c : Thread nD τ).loc main_arg1) = E2 8192 1024 X from A.x]
  exact congrArg₂ X h0 h1
theorem blk2 (t : Fin cfg0.N) : @Eq R1 (iblk m c 2 t) (E2 1 1024 fun _ l => g l) := by
  funext j; idx_vars j
  have h1 := emb2 t j0 j1
  have e : iblk m c 2 t (ix2 j0 j1) = V m c main_v20 (((cfg0.win 2).blk t).view.emb (ix2 j0 j1)) := by blk_simp [iblk]
  refine e.trans ?_
  rw [host_g m c G X g W B A]
  exact congrArg g h1
theorem blk3 (t : Fin cfg0.N) : @Eq T4 (iblk m c 3 t) (E2 512 4096 fun r l => mR X g (mCol W) (512 * t.val + r) l) := by
  funext j; idx_vars j
  obtain ⟨h0, h1⟩ := emb3 t j0 j1
  have e : iblk m c 3 t (ix2 j0 j1) = V m c main_v19 (((cfg0.win 3).blk t).view.emb (ix2 j0 j1)) := by blk_simp [iblk]
  refine e.trans ?_
  rw [host_r m c G X g W B A]
  exact congrArg₂ (mR X g (mCol W)) h0 h1

/-- The down projection's scratch is the argument; the up projection's is its blocks side by side. -/
theorem down_eq : @Eq U2 (V m c main_arg4) (E2 4096 1024 B) := by
  rw [V_main_arg4]; exact A.b
omit A in
/-- One block of the stack, flattened to its two axes. -/
theorem block_cast (Y : ℕ → ℕ → ℕ → EReal) (h) : shapeCast (α := Ideal .bf16) S1024x512 (E3 1 1024 512 Y) h = E2 1024 512 fun i k => Y 0 i k := by
  funext j; idx_vars j; pointwise [E2_apply, E3_apply]
omit A in
theorem sub_box (d : ℕ) (h : ∀ i, (![d, 0, 0] : Fin 3 → ℕ) i + (![1, 1024, 512] : Fin 3 → ℕ) i ≤ (![8, 1024, 512] : Fin 3 → ℕ) i) :
    (fun i => E3 8 1024 512 W ((Rect.unit (s := S8x1024x512) ![d, 0, 0] ![1, 1024, 512] h).emb i)) = E3 1 1024 512 fun a i k => W (d + a) i k := by
  funext i
  show W (d + 1 * (i 0).val) (0 + 1 * (i 1).val) (0 + 1 * (i 2).val) = W (d + (i 0).val) (i 1).val (i 2).val
  rw [one_mul, one_mul, one_mul, zero_add, zero_add]
omit A
/-- One copy into the up projection's scratch, of any stack of column blocks, and the eight copies, last landed first. -/
def cpOf (Y : S8x1024x512.Idx → EReal) (d : ℕ) (h : ∀ i, (![d, 0, 0] : Fin 3 → ℕ) i + (![1, 1024, 512] : Fin 3 → ℕ) i ≤ (![8, 1024, 512] : Fin 3 → ℕ) i) :
    S1024x512.Idx → EReal :=
  shapeCast (α := Ideal .bf16) S1024x512 (fun i => Y ((Rect.unit (s := S8x1024x512) ![d, 0, 0] ![1, 1024, 512] h).emb i))
    (Shape.Squeezes.numel_eq squeezes_S1x1024x512_S1024x512)
def LupOf (Y : S8x1024x512.Idx → EReal) : List (View.Piece (Elt Ideal) S1024x4096 .bf16) :=
  [⟨Rect.unit ![0, 3584] ![1024, 512] (hdst 7), cpOf Y 7 (hsrc 7)⟩, ⟨Rect.unit ![0, 3072] ![1024, 512] (hdst 6), cpOf Y 6 (hsrc 6)⟩,
   ⟨Rect.unit ![0, 2560] ![1024, 512] (hdst 5), cpOf Y 5 (hsrc 5)⟩, ⟨Rect.unit ![0, 2048] ![1024, 512] (hdst 4), cpOf Y 4 (hsrc 4)⟩,
   ⟨Rect.unit ![0, 1536] ![1024, 512] (hdst 3), cpOf Y 3 (hsrc 3)⟩, ⟨Rect.unit ![0, 1024] ![1024, 512] (hdst 2), cpOf Y 2 (hsrc 2)⟩,
   ⟨Rect.unit ![0, 512] ![1024, 512] (hdst 1), cpOf Y 1 (hsrc 1)⟩, ⟨Rect.unit ![0, 0] ![1024, 512] (hdst 0), cpOf Y 0 (hsrc 0)⟩]
theorem Lup_of : Lup m c = LupOf (V m c main_arg3) := rfl
theorem cp_eq (d : ℕ) (h) : cpOf (E3 8 1024 512 W) d h = E2 1024 512 fun i k => W d i k := by
  unfold cpOf; rw [sub_box W d h, block_cast]; rfl

/-- Eight 512-column copies cover the scratch. -/
theorem cov8 (Y : S8x1024x512.Idx → EReal) (y : S1024x4096.Idx) : ∃ p ∈ LupOf Y, y ∈ p.1.set := by
  have y0 : (y 0).val < 1024 := (y 0).isLt
  have y1 : (y 1).val < 4096 := (y 1).isLt
  have key : ∀ (o : ℕ) (h), o ≤ (y 1).val ∧ (y 1).val < o + 512 → y ∈ (Rect.unit (s := S1024x4096) ![0, o] ![1024, 512] h).set := by
    intro o h ho
    refine (Rect.mem_set_unit (inb := h)).mpr (Fin.forall_fin_two.mpr ⟨?_, ?_⟩)
    · show 0 ≤ (y 0).val ∧ (y 0).val < 0 + 1024; omega
    · exact ho
  unfold LupOf
  rcases (by omega : (y 1).val < 512 ∨ (512 ≤ (y 1).val ∧ (y 1).val < 1024) ∨ (1024 ≤ (y 1).val ∧ (y 1).val < 1536) ∨ (1536 ≤ (y 1).val ∧ (y 1).val < 2048)
    ∨ (2048 ≤ (y 1).val ∧ (y 1).val < 2560) ∨ (2560 ≤ (y 1).val ∧ (y 1).val < 3072) ∨ (3072 ≤ (y 1).val ∧ (y 1).val < 3584) ∨ 3584 ≤ (y 1).val)
    with h | h | h | h | h | h | h | h
  · exact ⟨_, .tail _ (.tail _ (.tail _ (.tail _ (.tail _ (.tail _ (.tail _ (.head _))))))), key 0 (hdst 0) (by omega)⟩
  · exact ⟨_, .tail _ (.tail _ (.tail _ (.tail _ (.tail _ (.tail _ (.head _)))))), key 512 (hdst 1) (by omega)⟩
  · exact ⟨_, .tail _ (.tail _ (.tail _ (.tail _ (.tail _ (.head _))))), key 1024 (hdst 2) (by omega)⟩
  · exact ⟨_, .tail _ (.tail _ (.tail _ (.tail _ (.head _)))), key 1536 (hdst 3) (by omega)⟩
  · exact ⟨_, .tail _ (.tail _ (.tail _ (.head _))), key 2048 (hdst 4) (by omega)⟩
  · exact ⟨_, .tail _ (.tail _ (.head _)), key 2560 (hdst 5) (by omega)⟩
  · exact ⟨_, .tail _ (.head _), key 3072 (hdst 6) (by omega)⟩
  · exact ⟨_, .head _, key 3584 (hdst 7) (by omega)⟩
theorem up_pieces : View.PiecesOf (e := .bf16) (E2 1024 4096 (mCol W)) (LupOf (E3 8 1024 512 W)) := by
  have key : ∀ (d : Fin 8) (x : (⟨2, ![1024, 512]⟩ : Shape).Idx), cpOf (E3 8 1024 512 W) d.val (hsrc d) x
      = E2 1024 4096 (mCol W) ((Rect.unit (s := ⟨2, ![1024, 4096]⟩) ![0, 512 * d.val] ![1024, 512] (hdst d)).emb x) := by
    intro d
    refine sub2 _ (fun i k => W d.val i k) (hdst d) _ (cp_eq W d.val _) fun r _ l hl => ?_
    unfold mCol
    rw [zero_add, show (512 * d.val + l) / 512 = d.val by omega, show (512 * d.val + l) % 512 = l by omega]
  unfold LupOf
  exact ⟨key 7, key 6, key 5, key 4, key 3, key 2, key 1, key 0, trivial⟩
theorem up_canon : View.canon (LupOf (E3 8 1024 512 W)) = E2 1024 4096 (mCol W) := by
  funext y
  exact View.canon_apply_of_pieces _ _ (up_pieces W).mem y (cov8 _ y)
include A
theorem up_eq : View.canon (Lup m c) = E2 1024 4096 (mCol W) := by
  rw [Lup_of, V_main_arg3, show m ((c : Thread nD τ).loc main_arg3) = E3 8 1024 512 W from A.w]
  exact up_canon W

/-- The scratches hold the weights at every point. -/
theorem sc_up : ∀ n (hn : n < cfg0.N), (outsAt0 m c n hn).2.2.2.2.1 = E2 1024 4096 (mCol W)
  | 0, hn => (show (outsAt0 m c 0 hn).2.2.2.2.1 = _ from up_A m c ⟨0, hn⟩ rfl).trans (up_eq m c G X g W B A)
  | n + 1, hn => by
    have hN : n + 1 < 16 := hn
    exact (show (outsAt0 m c (n + 1) hn).2.2.2.2.1 = _ from up_B m c ⟨n + 1, hn⟩ (by show ¬ (n + 1) % 16 = 0; omega) (by exact Nat.lt_of_succ_lt hn)).trans
      (sc_up n (Nat.lt_of_succ_lt hn))
theorem sc_down : ∀ n (hn : n < cfg0.N), (outsAt0 m c n hn).2.2.2.2.2 = E2 4096 1024 B
  | 0, hn => (show (outsAt0 m c 0 hn).2.2.2.2.2 = _ from down_A m c ⟨0, hn⟩ rfl).trans (down_eq m c G X g W B A)
  | n + 1, hn => by
    have hN : n + 1 < 16 := hn
    exact (show (outsAt0 m c (n + 1) hn).2.2.2.2.2 = _ from down_B m c ⟨n + 1, hn⟩ (by show ¬ (n + 1) % 16 = 0; omega) (by exact Nat.lt_of_succ_lt hn)).trans
      (sc_down n (Nat.lt_of_succ_lt hn))

omit A in
theorem mDh_shift (t r i : ℕ) : mDh (fun r l => G (512 * t + r) l) (fun r l => X (512 * t + r) l) (mCol W) B (fun r l => mR X g (mCol W) (512 * t + r) l) g r i
    = mDh G X (mCol W) B (mR X g (mCol W)) g (512 * t + r) i := rfl

theorem out_dh (t : Fin cfg0.N) : (outsAt0 m c t.val t.isLt).1 = E2 512 1024 fun r i => mDh G X (mCol W) B (mR X g (mCol W)) g (512 * t.val + r) i := by
  have e : (outsAt0 m c t.val t.isLt).1 = bDh (iblk m c 0 t) (iblk m c 1 t) (iblk m c 2 t) (iblk m c 3 t) (E2 1024 4096 (mCol W)) (E2 4096 1024 B) := by
    by_cases h : t.val % 16 = 0
    · rw [dh_A m c t h, up_eq m c G X g W B A, down_eq m c G X g W B A]
    · have hl : t.val - 1 < cfg0.N := lt_of_le_of_lt (Nat.sub_le _ _) t.isLt
      rw [dh_B m c t h hl, sc_up m c G X g W B A, sc_down m c G X g W B A]
  rw [e, blk0 m c G X g W B A, blk1 m c G X g W B A, blk2 m c G X g W B A, blk3 m c G X g W B A, bDh_eq]
  rfl
theorem out_hn (t : Fin cfg0.N) : (outsAt0 m c t.val t.isLt).2.1 = E2 512 1024 fun r i => mHn X g (512 * t.val + r) i := by
  have e : (outsAt0 m c t.val t.isLt).2.1 = k0_pay16 (iblk m c 1 t) (iblk m c 2 t) := by
    by_cases h : t.val % 16 = 0
    · exact hn_A m c t h
    · exact hn_B m c t h
  rw [e, blk1 m c G X g W B A, blk2 m c G X g W B A, pay16_eq]
  rfl

end Cert.Mlp
end
-- ==== Proof.MlpOut.lean ====
module

public import proofs.«01_k».proof.Proof.MlpArr

@[expose] public section

set_option maxRecDepth 16384

noncomputable section

/-! The four arrays the MLP's backward kernel leaves, in extended reals. -/

namespace Cert.Mlp

open Cert.MlpBwdIdeal Cert.MlpBwdIdeal.Gen Cert.MlpBwdIdeal.Value Idealize.ShloMosaic Idealize.ShloMosaic.TcCoe Idealize.SL.Sem Finset

section Pieces
variable (G R B : ℕ → ℕ → EReal)

/-- Four 1024-column stores cover a row block of the hidden gradient. -/
theorem cov4 (U : T1) (V : T4) (Z : U2) (y : S512x4096.Idx) : ∃ p ∈ Lda U V Z, y ∈ p.1.set := by
  have y0 : (y 0).val < 512 := (y 0).isLt
  have y1 : (y 1).val < 4096 := (y 1).isLt
  have key : ∀ (o : ℕ) (h), o ≤ (y 1).val ∧ (y 1).val < o + 1024 → y ∈ (Rect.unit (s := S512x4096) ![0, o] ![512, 1024] h).set := by
    intro o h ho
    refine (Rect.mem_set_unit (inb := h)).mpr (Fin.forall_fin_two.mpr ⟨?_, ?_⟩)
    · show 0 ≤ (y 0).val ∧ (y 0).val < 0 + 512; omega
    · exact ho
  have hd : ∀ d : Fin 4, ∀ i, (![0, 1024 * d.val] : Fin 2 → ℕ) i + (![512, 1024] : Fin 2 → ℕ) i ≤ (![512, 4096] : Fin 2 → ℕ) i := by decide
  unfold Lda
  rcases (by omega : (y 1).val < 1024 ∨ (1024 ≤ (y 1).val ∧ (y 1).val < 2048) ∨ (2048 ≤ (y 1).val ∧ (y 1).val < 3072) ∨ 3072 ≤ (y 1).val)
    with h | h | h | h
  · exact ⟨_, .tail _ (.tail _ (.tail _ (.head _))), key 0 (hd 0) (by omega)⟩
  · exact ⟨_, .tail _ (.tail _ (.head _)), key 1024 (hd 1) (by omega)⟩
  · exact ⟨_, .tail _ (.head _), key 2048 (hd 2) (by omega)⟩
  · exact ⟨_, .head _, key 3072 (hd 3) (by omega)⟩
theorem da_pieces : View.PiecesOf (e := .bf16) (E2 512 4096 (mDa G B R)) (Lda (E2 512 1024 G) (E2 512 4096 R) (E2 4096 1024 B)) := by
  unfold Lda
  refine ⟨?_, ?_, ?_, ?_, trivial⟩
  · exact sub2 _ _ (by decide) _ (last_eq G B R) fun r _ l _ => by rw [zero_add]
  · refine sub2 _ _ (by decide) _ ((congr (congrArg₂ _ (pay2_eq G) (ldd2 B)) (lq2 R)).trans (pay7_eq _ _ _)) fun r _ l _ => by rw [zero_add]; rfl
  · refine sub2 _ _ (by decide) _ ((congrArg k0_pay6 ((congr (congrArg₂ _ rfl (ld1 B)) (lq1 R)).trans (pay5_eq _ _ _))).trans (pay6_eq _))
      fun r _ l _ => by rw [zero_add]; rfl
  · refine sub2 _ _ (by decide) _ ((congr (congrArg₂ _ rfl (ld0 B)) (lq0 R)).trans (pay3_eq _ _ _)) fun r _ l _ => by rw [zero_add, zero_add]; rfl
theorem da_canon : View.canon (Lda (E2 512 1024 G) (E2 512 4096 R) (E2 4096 1024 B)) = E2 512 4096 (mDa G B R) := by
  funext y
  exact View.canon_apply_of_pieces _ _ (da_pieces G R B).mem y (cov4 _ _ _ y)
end Pieces

variable (m : (ℓ : Loc nD τ sig) → Buf (Elt Ideal) ℓ) (c : Dev nD) (G X : ℕ → ℕ → EReal) (g : ℕ → EReal) (W : ℕ → ℕ → ℕ → EReal) (B : ℕ → ℕ → EReal)
  (A : Args m c G X g W B)
include A

theorem out_da (t : Fin cfg0.N) : (outsAt0 m c t.val t.isLt).2.2.1 = E2 512 4096 fun r k => mDa G B (mR X g (mCol W)) (512 * t.val + r) k := by
  have e : (outsAt0 m c t.val t.isLt).2.2.1 = View.canon (Lda (iblk m c 0 t) (iblk m c 3 t) (E2 4096 1024 B)) := by
    by_cases h : t.val % 16 = 0
    · rw [da_A m c t h, down_eq m c G X g W B A]
    · have hl : t.val - 1 < cfg0.N := lt_of_le_of_lt (Nat.sub_le _ _) t.isLt
      rw [da_B m c t h hl, sc_down m c G X g W B A]
  rw [e, blk0 m c G X g W B A, blk3 m c G X g W B A, da_canon]
  rfl

theorem acc_dg : ∀ n (hn : n < cfg0.N), (outsAt0 m c n hn).2.2.2.1 = E2 1 1024 fun _ i => ∑ u ∈ range (n + 1), ∑ r ∈ range 512,
      mDhn G (mCol W) B (mR X g (mCol W)) (512 * u + r) i * mXh X (512 * u + r) i
  | 0, hn => by
    rw [show (outsAt0 m c 0 hn).2.2.2.1 = _ from dg_A m c ⟨0, hn⟩ rfl, up_eq m c G X g W B A, down_eq m c G X g W B A,
      blk0 m c G X g W B A, blk1 m c G X g W B A, blk3 m c G X g W B A, pay1_eq, bDg_eq]
    simp only [zero_add, sum_range_one]
    rfl
  | n + 1, hn => by
    have hN : n + 1 < 16 := hn
    have hl : n < cfg0.N := Nat.lt_of_succ_lt hn
    rw [show (outsAt0 m c (n + 1) hn).2.2.2.1 = _ from dg_B m c ⟨n + 1, hn⟩ (by show ¬ (n + 1) % 16 = 0; omega) hl,
      sc_up m c G X g W B A, sc_down m c G X g W B A, blk0 m c G X g W B A, blk1 m c G X g W B A, blk3 m c G X g W B A,
      show (outsAt0 m c ((⟨n + 1, hn⟩ : Fin cfg0.N).val - 1) _).2.2.2.1 = _ from acc_dg n hl, bDg_eq]
    simp only [sum_range_succ _ (n + 1)]
    rfl

omit A in
theorem emb4 (t : Fin cfg0.N) (j0 : Fin 512) (j1 : Fin 1024) : (((((cfg0.win 4).blk t).view.emb (ix2 j0 j1)) 0 : Fin _) : ℕ) = 512 * t.val + j0.val
    ∧ (((((cfg0.win 4).blk t).view.emb (ix2 j0 j1)) 1 : Fin _) : ℕ) = j1.val := by
  have idx : ∀ t : Fin cfg0.N, win0_4.index t = ![t.val, 0] := (by decide +kernel : ∀ t : Fin grid0.N, _)
  constructor <;> blk_simp [idx t] <;> omega
omit A in
theorem emb5 (t : Fin cfg0.N) (j0 : Fin 512) (j1 : Fin 1024) : (((((cfg0.win 5).blk t).view.emb (ix2 j0 j1)) 0 : Fin _) : ℕ) = 512 * t.val + j0.val
    ∧ (((((cfg0.win 5).blk t).view.emb (ix2 j0 j1)) 1 : Fin _) : ℕ) = j1.val := by
  have idx : ∀ t : Fin cfg0.N, win0_5.index t = ![t.val, 0] := (by decide +kernel : ∀ t : Fin grid0.N, _)
  constructor <;> blk_simp [idx t] <;> omega
omit A in
theorem emb6 (t : Fin cfg0.N) (j0 : Fin 512) (j1 : Fin 4096) : (((((cfg0.win 6).blk t).view.emb (ix2 j0 j1)) 0 : Fin _) : ℕ) = 512 * t.val + j0.val
    ∧ (((((cfg0.win 6).blk t).view.emb (ix2 j0 j1)) 1 : Fin _) : ℕ) = j1.val := by
  have idx : ∀ t : Fin cfg0.N, win0_6.index t = ![t.val, 0] := (by decide +kernel : ∀ t : Fin grid0.N, _)
  constructor <;> blk_simp [idx t] <;> omega
theorem arr_dh : (dats m 0 c).arrAt 4 cfg0.N = E2 8192 1024 (mDh G X (mCol W) B (mR X g (mCol W)) g) := by
  refine (dats m 0 c).arrAt_eq_of_covers 4 _ (by decide +kernel) fun t hf y => ?_
  idx_vars y
  obtain ⟨h0, h1⟩ := emb4 t y0 y1
  blk_simp
  rw [after0_4, out_dh m c G X g W B A t]
  exact congrArg₂ (mDh G X (mCol W) B (mR X g (mCol W)) g) h0.symm h1.symm
theorem arr_hn : (dats m 0 c).arrAt 5 cfg0.N = E2 8192 1024 (mHn X g) := by
  refine (dats m 0 c).arrAt_eq_of_covers 5 _ (by decide +kernel) fun t hf y => ?_
  idx_vars y
  obtain ⟨h0, h1⟩ := emb5 t y0 y1
  blk_simp
  rw [after0_5, out_hn m c G X g W B A t]
  exact congrArg₂ (mHn X g) h0.symm h1.symm
theorem arr_da : (dats m 0 c).arrAt 6 cfg0.N = E2 8192 4096 (mDa G B (mR X g (mCol W))) := by
  refine (dats m 0 c).arrAt_eq_of_covers 6 _ (by decide +kernel) fun t hf y => ?_
  idx_vars y
  obtain ⟨h0, h1⟩ := emb6 t y0 y1
  blk_simp
  rw [after0_6, out_da m c G X g W B A t]
  exact congrArg₂ (mDa G B (mR X g (mCol W))) h0.symm h1.symm
theorem arr_dg : (dats m 0 c).arrAt 7 cfg0.N = E2 1 1024 fun _ i => ∑ n ∈ range 8192, mDhn G (mCol W) B (mR X g (mCol W)) n i * mXh X n i := by
  refine (dats m 0 c).arrAt_eq_of_after_last 7 t0_15 (by decide +kernel) _ fun j => ?_
  blk_simp
  rw [after0_7, acc_dg m c G X g W B A]
  exact sum_blocks 16 512 fun n => mDhn G (mCol W) B (mR X g (mCol W)) n (j 1).val * mXh X n (j 1).val

end Cert.Mlp
end
-- ==== Proof.Mlp.lean ====
module

public import proofs.«01_k».proof.Defs
public import proofs.«01_k».proof.Proof.MlpOut
public import proofs.«01_k».proof.Proof.Gen.MlpBwdRefIdeal.Run

@[expose] public section

set_option maxRecDepth 16384

noncomputable section

/-! The MLP's backward kernel equals the gradient of its reference. -/
namespace Cert.Mlp

open Idealize.ShloMosaic Idealize.ShloMosaic.TcCoe Idealize.SL.Sem Idealize.ShloMosaic.StableHlo Finset

theorem preserves : Cert.preserves_MlpBwd_MlpBwdIdeal := by
  unfold Cert.preserves_MlpBwd_MlpBwdIdeal; trivial

/-! A vector, a matrix or a box as a function of natural coordinates. -/
def un1 (n : ℕ) (x : (⟨1, ![n]⟩ : Shape).Idx → EReal) (i : ℕ) : EReal := if h : i < n then x (ix1 ⟨i, h⟩) else 0
theorem un1_eq (n : ℕ) (x : (⟨1, ![n]⟩ : Shape).Idx → EReal) : x = E1 n (un1 n x) := by
  funext j
  have e : ix1 (⟨(j 0).val, (j 0).isLt⟩ : Fin n) = j := funext fun a => Fin.ext (by match a with | ⟨0, _⟩ => rfl)
  have q : un1 n x (j 0).val = x (ix1 (⟨(j 0).val, (j 0).isLt⟩ : Fin n)) := dif_pos (j 0).isLt
  show _ = un1 n x (j 0).val
  rw [q, e]
def un2 (n m : ℕ) (x : (⟨2, ![n, m]⟩ : Shape).Idx → EReal) (i j : ℕ) : EReal := if h : i < n ∧ j < m then x (ix2 ⟨i, h.1⟩ ⟨j, h.2⟩) else 0
theorem un2_eq (n m : ℕ) (x : (⟨2, ![n, m]⟩ : Shape).Idx → EReal) : x = E2 n m (un2 n m x) := by
  funext j
  have e : ix2 (⟨(j 0).val, (j 0).isLt⟩ : Fin n) (⟨(j 1).val, (j 1).isLt⟩ : Fin m) = j := funext fun a => Fin.ext (by match a with | ⟨0, _⟩ => rfl | ⟨1, _⟩ => rfl)
  have q : un2 n m x (j 0).val (j 1).val = x (ix2 (⟨(j 0).val, (j 0).isLt⟩ : Fin n) (⟨(j 1).val, (j 1).isLt⟩ : Fin m)) := dif_pos ⟨(j 0).isLt, (j 1).isLt⟩
  show _ = un2 n m x (j 0).val (j 1).val
  rw [q, e]
def un3 (n m k : ℕ) (x : (⟨3, ![n, m, k]⟩ : Shape).Idx → EReal) (i j l : ℕ) : EReal := if h : i < n ∧ j < m ∧ l < k then x (ix3 ⟨i, h.1⟩ ⟨j, h.2.1⟩ ⟨l, h.2.2⟩) else 0
theorem un3_eq (n m k : ℕ) (x : (⟨3, ![n, m, k]⟩ : Shape).Idx → EReal) : x = E3 n m k (un3 n m k x) := by
  funext j
  have e : ix3 (⟨(j 0).val, (j 0).isLt⟩ : Fin n) (⟨(j 1).val, (j 1).isLt⟩ : Fin m) (⟨(j 2).val, (j 2).isLt⟩ : Fin k) = j := funext fun a => Fin.ext (by match a with | ⟨0, _⟩ => rfl | ⟨1, _⟩ => rfl | ⟨2, _⟩ => rfl)
  have q : un3 n m k x (j 0).val (j 1).val (j 2).val = x (ix3 (⟨(j 0).val, (j 0).isLt⟩ : Fin n) (⟨(j 1).val, (j 1).isLt⟩ : Fin m) (⟨(j 2).val, (j 2).isLt⟩ : Fin k)) := dif_pos ⟨(j 0).isLt, (j 1).isLt, (j 2).isLt⟩
  show _ = un3 n m k x (j 0).val (j 1).val (j 2).val
  rw [q, e]

section Args
variable (m : (ℓ : Loc Cert.MlpBwdIdeal.nD Cert.MlpBwdIdeal.τ Cert.MlpBwdIdeal.sig) → Buf (Elt Ideal) ℓ) (c : Dev Cert.MlpBwdIdeal.nD)

/-- The functions of the five arguments. -/
def aG : ℕ → ℕ → EReal := un2 8192 1024 (m (c, Cert.MlpBwdIdeal.main_arg0))
def aX : ℕ → ℕ → EReal := un2 8192 1024 (m (c, Cert.MlpBwdIdeal.main_arg1))
def ag : ℕ → EReal := un1 1024 (m (c, Cert.MlpBwdIdeal.main_arg2))
def aW : ℕ → ℕ → ℕ → EReal := un3 8 1024 512 (m (c, Cert.MlpBwdIdeal.main_arg3))
def aB : ℕ → ℕ → EReal := un2 4096 1024 (m (c, Cert.MlpBwdIdeal.main_arg4))

theorem args : Args m c (aG m c) (aX m c) (ag m c) (aW m c) (aB m c) where
  g0 := un2_eq 8192 1024 _
  x := un2_eq 8192 1024 _
  g := un1_eq 1024 _
  w := un3_eq 8 1024 512 _
  b := un2_eq 4096 1024 _
end Args

theorem algebraic : Cert.algebraic_MlpBwdIdeal_MlpBwdRefIdeal := by
  intro m g m' g' _ hag
  refine ⟨fun c => E2 8192 1024 (mDh (aG m c) (aX m c) (mCol (aW m c)) (aB m c) (mR (aX m c) (ag m c) (mCol (aW m c))) (ag m c)),
    fun c => E2 8192 1024 (mHn (aX m c) (ag m c)),
    fun c => E2 8192 4096 (mDa (aG m c) (aB m c) (mR (aX m c) (ag m c) (mCol (aW m c)))),
    fun c => E2 1 1024 fun _ i => ∑ n ∈ range 8192, mDhn (aG m c) (mCol (aW m c)) (aB m c) (mR (aX m c) (ag m c) (mCol (aW m c))) n i * mXh (aX m c) n i, ?_, ?_⟩
  · refine (θ_run _ _ _).mono (fun r h c => ?_) (Cert.MlpBwdIdeal.Value.run_blocks m g)
    obtain ⟨h0, h1, h2, h3, k⟩ := h c
    have A := args m c
    exact ⟨h0.trans (arr_dh m c _ _ _ _ _ A), h1.trans (arr_hn m c _ _ _ _ _ A), h2.trans (arr_da m c _ _ _ _ _ A), h3.trans (arr_dg m c _ _ _ _ _ A), k⟩
  · refine (θ_run _ _ _).mono (fun r h c => ?_) (Cert.MlpBwdRefIdeal.Value.run m' g')
    obtain ⟨h0, h1, h2, h3, k⟩ := h c
    have A := args m c
    obtain ⟨a0, a1, a2, a3, a4⟩ := hag c
    have V0 : m' ((c.tc : Thread Cert.MlpBwdRefIdeal.nD Cert.MlpBwdRefIdeal.τ).loc Cert.MlpBwdRefIdeal.main_arg0) = E2 8192 1024 (aG m c) := a0.trans A.g0
    have V1 : m' ((c.tc : Thread Cert.MlpBwdRefIdeal.nD Cert.MlpBwdRefIdeal.τ).loc Cert.MlpBwdRefIdeal.main_arg1) = E2 8192 1024 (aX m c) := a1.trans A.x
    have V2 : m' ((c.tc : Thread Cert.MlpBwdRefIdeal.nD Cert.MlpBwdRefIdeal.τ).loc Cert.MlpBwdRefIdeal.main_arg2) = E1 1024 (ag m c) := a2.trans A.g
    have V3 : m' ((c.tc : Thread Cert.MlpBwdRefIdeal.nD Cert.MlpBwdRefIdeal.τ).loc Cert.MlpBwdRefIdeal.main_arg3) = E3 8 1024 512 (aW m c) := a3.trans A.w
    have V4 : m' ((c.tc : Thread Cert.MlpBwdRefIdeal.nD Cert.MlpBwdRefIdeal.τ).loc Cert.MlpBwdRefIdeal.main_arg4) = E2 4096 1024 (aB m c) := a4.trans A.b
    refine ⟨h0.trans ((Cert.MlpBwdRefIdeal.Read.val_main_v69_eq _ _).trans ?_), h1.trans ((Cert.MlpBwdRefIdeal.Read.val_main_v83_eq _ _).trans ?_),
      h2.trans ((Cert.MlpBwdRefIdeal.Read.val_main_v84_eq _ _ _ _ _).trans ?_), h3.trans ((Cert.MlpBwdRefIdeal.Read.val_main_v85_eq _ _ _ _ _).trans ?_), k⟩
    · rw [V0, V1, V2, V3, V4]; exact v69 _ _ _ _ _
    · rw [V1, V2]; exact v83 _ _
    · rw [V0, V1, V2, V3, V4]; exact v84 _ _ _ _ _
    · rw [V0, V1, V2, V3, V4]; exact v85 _ _ _ _ _

end Cert.Mlp
end
-- ==== Proof.MlpSame.lean ====
/- The MLP's kernel at the machine's words has the text of its ideal program, so its run is that program's. -/
module
public import proofs.«01_k».proof.Defs
public import proofs.«01_k».proof.Proof.Gen.MlpBwd
public import proofs.«01_k».proof.Proof.Gen.MlpBwdIdeal
public import proofs.«01_k».proof.Proof.MlpFrame
@[expose] public section
set_option maxRecDepth 16384
noncomputable section
open Idealize.ShloMosaic Idealize.ShloMosaic.TcCoe Idealize.SL.Sem
namespace Cert.Mlp

/-- The two bodies are the same program. -/
theorem body_same : @Cert.MlpBwd.cc0_mlp_bwd Bits _ _ = @Cert.MlpBwdIdeal.cc0_mlp_bwd Bits _ _ := rfl

/-- The two body tables are the same. -/
theorem table_same : (Cert.MlpBwd.defs₀ (F := Bits)) = Cert.MlpBwdIdeal.defs₀ (F := Bits) := by
  unfold Cert.MlpBwd.defs₀ Cert.MlpBwdIdeal.defs₀
  congr 1
  funext l x
  match l, x with
  | ⟨0, _⟩, (t, s) => exact congrArg (fun (f : type_of% (@Cert.MlpBwdIdeal.cc0_mlp_bwd Bits _ _)) => f (Cert.MlpBwdIdeal.grid0.coords t) (Cert.MlpBwdIdeal.win0_0.stage (s 0)) (Cert.MlpBwdIdeal.Gen.hstage0_0 ((s 0).cast Cert.MlpBwdIdeal.Gen.nbuf0_0)) (Cert.MlpBwdIdeal.win0_1.stage (s 1)) _ (Cert.MlpBwdIdeal.win0_2.stage (s 2)) _ (Cert.MlpBwdIdeal.win0_3.stage (s 3)) _ (Memref.whole Cert.MlpBwdIdeal.main_arg3) _ (Memref.whole Cert.MlpBwdIdeal.main_arg4) _ (Cert.MlpBwdIdeal.win0_4.stage (s 4)) _ (Cert.MlpBwdIdeal.win0_5.stage (s 5)) _ (Cert.MlpBwdIdeal.win0_6.stage (s 6)) _ (Cert.MlpBwdIdeal.win0_7.stage (s 7)) _ (Memref.whole Cert.MlpBwdIdeal.cc0_scratch0) _ (Memref.whole Cert.MlpBwdIdeal.cc0_scratch1) _ Cert.MlpBwdIdeal.cc0_scratch2) body_same
  | ⟨n + 1, h⟩, _ => exact absurd h (Nat.not_lt.2 (Nat.le_add_left _ _))

/-- The two tables of bodies, regions and pipelines are the same. -/
theorem defs_same : (Cert.MlpBwd.defs (F := Bits)) = Cert.MlpBwdIdeal.defs (F := Bits) :=
  congrArg (Pipeline.defs (Cert.MlpBwdIdeal.pcfgs (F := Bits))) table_same

/-- The two host programs are the same. -/
theorem main_same : (Cert.MlpBwd.main (F := Bits)) = Cert.MlpBwdIdeal.main (F := Bits) := rfl

/-- The frame of the kernel at the machine's words. -/
theorem frame_kernel : Cert.quiescent_MlpBwd := fun m ρ _ => by
  have key : ∀ D, D = Cert.MlpBwdIdeal.defs (F := Bits) → ∀ M, M = Cert.MlpBwdIdeal.main (F := Bits) →
      θ_run D (onTc (τ := Cert.MlpBwdIdeal.τ) M) ⟨m, fun _ => 0, ρ⟩ (fun r => (∀ c : Dev Cert.MlpBwdIdeal.nD,
        r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
        ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
        ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
        ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
        ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
        ∧ r.2.sem = fun _ => 0) := by
    rintro _ rfl _ rfl
    exact Cert.MlpBwdIdeal.Gen.frame (F := Bits) m ρ
  exact key _ defs_same _ main_same

end Cert.Mlp
end
-- ==== Proof.MlpTnA.lean ====
module

public import proofs.«01_k».proof.Proof.Mlp
public import proofs.«01_k».proof.Proof.Gen.MlpDwAIdeal.Value
public import proofs.«01_k».proof.Proof.Gen.MlpDwARefIdeal.Run
public import proofs.«01_k».proof.Proof.Gen.MlpDwARefIdeal.Read

@[expose] public section

set_option maxRecDepth 16384

noncomputable section

/-! The gradient of the MLP's first weight: the normalised tokens' transpose times the gradient before the activation,
    accumulated in scratch over four blocks of 2048 tokens and written one block of 512 columns after another, equals the derivative. -/

namespace Cert.Mlp.DwA

open Cert.MlpDwAIdeal Cert.MlpDwAIdeal.Gen Cert.MlpDwAIdeal.Value Idealize.ShloMosaic Idealize.ShloMosaic.TcCoe Idealize.SL.Sem Finset

section Pay
variable (D F G : ℕ → ℕ → EReal)
theorem mmTN (p) : matmul (F := Ideal) (φ₁ := .bf16) (φ₂ := .bf16) dot_S2048x1024_S2048x512_S1024x512_0_0_1_1_n_n p (E2 2048 1024 F) (E2 2048 512 G)
    (constant S1024x512 .f32 0x00000000#32) = E2 1024 512 fun k l => ∑ r ∈ range 2048, F r k * G r l := by
  funext j; idx_vars j; pointwise [E2_apply]
  exact sum_fin 2048 (fun r => F r j0 * G r j1)
theorem same (h) : shapeCast (α := Ideal .f32) S1024x512 (E2 1024 512 F) h = E2 1024 512 F := by
  funext j; idx_vars j; pointwise [E2_apply]
theorem sameL (h) : shapeCast (α := Ideal .bf16) S2048x1024 (E2 2048 1024 F) h = E2 2048 1024 F := by
  funext j; idx_vars j; pointwise [E2_apply]
theorem sameR (h) : shapeCast (α := Ideal .bf16) S2048x512 (E2 2048 512 F) h = E2 2048 512 F := by
  funext j; idx_vars j; pointwise [E2_apply]
theorem toBlock (h) : shapeCast (α := Ideal .bf16) S1x1024x512 (E2 1024 512 F) h = E3 1 1024 512 fun _ j k => F j k := by
  funext j; idx_vars j; pointwise [E2_apply, E3_apply]
theorem pay1_eq : k0_pay1 (F := Ideal) = E2 1024 512 fun _ _ => 0 := by
  unfold k0_pay1; simp only [w_zero, splat2, same]
theorem pay2_eq : k0_pay2 (F := Ideal) (E2 1024 512 D) (E2 2048 1024 F) (E2 2048 512 G)
    = E2 1024 512 fun k l => D k l + ∑ r ∈ range 2048, F r k * G r l := by
  unfold k0_pay2; simp only [sameL, sameR, mmTN, addf2, same]
theorem pay3_eq : k0_pay3 (F := Ideal) (E2 1024 512 D) = E3 1 1024 512 fun _ j k => D j k := by
  unfold k0_pay3; simp only [truncf2, toBlock]
end Pay

variable (m : (ℓ : Loc nD τ sig) → Buf (Elt Ideal) ℓ) (c : Dev nD)

section Point
variable (t : Fin cfg0.N)
theorem acc_A (h0 : t.val % 4 = 0) : (outsAt0 m c t.val t.isLt).2 = k0_pay2 k0_pay1 (iblk m c 0 t) (iblk m c 1 t) := by
  rw [outsAt0_A m c t h0 (by omega)]
  frame_open
  simp (disch := decide) only [↓ View.readCov_fill]
  frame_out
theorem acc_B (h0 : ¬ t.val % 4 = 0) (h) : (outsAt0 m c t.val t.isLt).2 = k0_pay2 (outsAt0 m c (t.val - 1) h).2 (iblk m c 0 t) (iblk m c 1 t) := by
  by_cases h1 : t.val % 4 = 3
  · rw [outsAt0_C m c t h0 h1]
    frame_out
    simp only [read_unread_whole]
  · rw [outsAt0_B m c t h0 h1]
    frame_out
    simp only [read_unread_whole]
theorem out_C (h1 : t.val % 4 = 3) : (outsAt0 m c t.val t.isLt).1 = k0_pay3 (outsAt0 m c t.val t.isLt).2 := by
  rw [outsAt0_C m c t (by omega) h1]
  frame_open
  simp (disch := decide) only [↓ View.readCov_fill]
  frame_out
end Point

theorem idx_in : ∀ t : Fin cfg0.N, win0_0.index t = ![t.val % 4, 0] ∧ win0_1.index t = ![t.val % 4, t.val / 4] ∧ win0_2.index t = ![t.val / 4, 0, 0] :=
  (by decide +kernel : ∀ t : Fin grid0.N, _)
theorem emb0 (t : Fin cfg0.N) (j0 : Fin 2048) (j1 : Fin 1024) : (((((cfg0.win 0).blk t).view.emb (ix2 j0 j1)) 0 : Fin _) : ℕ) = 2048 * (t.val % 4) + j0.val
    ∧ (((((cfg0.win 0).blk t).view.emb (ix2 j0 j1)) 1 : Fin _) : ℕ) = j1.val := by
  constructor <;> blk_simp [idx_in t] <;> omega
theorem emb1 (t : Fin cfg0.N) (j0 : Fin 2048) (j1 : Fin 512) : (((((cfg0.win 1).blk t).view.emb (ix2 j0 j1)) 0 : Fin _) : ℕ) = 2048 * (t.val % 4) + j0.val
    ∧ (((((cfg0.win 1).blk t).view.emb (ix2 j0 j1)) 1 : Fin _) : ℕ) = 512 * (t.val / 4) + j1.val := by
  constructor <;> blk_simp [idx_in t] <;> omega
theorem emb2 (t : Fin cfg0.N) (j0 : Fin 1) (j1 : Fin 1024) (j2 : Fin 512) : (((((cfg0.win 2).blk t).view.emb (ix3 j0 j1 j2)) 0 : Fin _) : ℕ) = t.val / 4
    ∧ (((((cfg0.win 2).blk t).view.emb (ix3 j0 j1 j2)) 1 : Fin _) : ℕ) = j1.val
    ∧ (((((cfg0.win 2).blk t).view.emb (ix3 j0 j1 j2)) 2 : Fin _) : ℕ) = j2.val := by
  refine ⟨?_, ?_, ?_⟩ <;> blk_simp [idx_in t] <;> omega

variable (G X : ℕ → ℕ → EReal) (g : ℕ → EReal) (W : ℕ → ℕ → ℕ → EReal) (B : ℕ → ℕ → EReal)

/-- The five arguments written by functions of natural coordinates. -/
structure Args : Prop where
  g0 : m (c, main_arg0) = E2 8192 1024 G
  x : m (c, main_arg1) = E2 8192 1024 X
  g : m (c, main_arg2) = E1 1024 g
  w : m (c, main_arg3) = E3 8 1024 512 W
  b : m (c, main_arg4) = E2 4096 1024 B

/-- The gradient before the activation. -/
def pDa : ℕ → ℕ → EReal := mDa G B (mR X g (mCol W))

variable (A : Args m c G X g W B)
include A

/-- The normalised tokens the host computes before the kernel. -/
theorem host_hn : V m c main_v30 = E2 8192 1024 (mHn X g) := by
  have e : V m c main_v30 = Cert.MlpBwdRefIdeal.Read.val_main_v32 (F := Ideal) (m (c, main_arg1)) (m (c, main_arg2)) := by
    entry_read
    rfl
  rw [e, A.x, A.g, v32]
/-- The gradient before the activation, which the host computes before the kernel. -/
theorem host_da : V m c main_v31 = E2 8192 4096 (pDa G X g W B) := by
  have e : V m c main_v31 = Cert.MlpBwdRefIdeal.Read.val_main_v84 (F := Ideal) (m (c, main_arg0)) (m (c, main_arg1)) (m (c, main_arg2)) (m (c, main_arg3)) (m (c, main_arg4)) := by
    entry_read
    rfl
  rw [e, A.g0, A.x, A.g, A.w, A.b, v84]; rfl
theorem blk0 (t : Fin cfg0.N) : @Eq (FVec Ideal S2048x1024 .bf16) (iblk m c 0 t) (E2 2048 1024 fun r j => mHn X g (2048 * (t.val % 4) + r) j) := by
  funext j; idx_vars j
  obtain ⟨h0, h1⟩ := emb0 t j0 j1
  have e : iblk m c 0 t (ix2 j0 j1) = V m c main_v30 (((cfg0.win 0).blk t).view.emb (ix2 j0 j1)) := by blk_simp [iblk]
  refine e.trans ?_
  rw [host_hn m c G X g W B A]
  exact congrArg₂ (mHn X g) h0 h1
theorem blk1 (t : Fin cfg0.N) : @Eq (FVec Ideal S2048x512 .bf16) (iblk m c 1 t)
    (E2 2048 512 fun r k => pDa G X g W B (2048 * (t.val % 4) + r) (512 * (t.val / 4) + k)) := by
  funext j; idx_vars j
  obtain ⟨h0, h1⟩ := emb1 t j0 j1
  have e : iblk m c 1 t (ix2 j0 j1) = V m c main_v31 (((cfg0.win 1).blk t).view.emb (ix2 j0 j1)) := by blk_simp [iblk]
  refine e.trans ?_
  rw [host_da m c G X g W B A]
  exact congrArg₂ (pDa G X g W B) h0 h1

/-- The scratch after each point: the products over the token blocks seen so far in this row of the grid. -/
theorem acc_eq : ∀ n (hn : n < cfg0.N), (outsAt0 m c n hn).2 = E2 1024 512 fun j k => ∑ u ∈ range (n % 4 + 1), ∑ r ∈ range 2048,
      mHn X g (2048 * u + r) j * pDa G X g W B (2048 * u + r) (512 * (n / 4) + k)
  | 0, hn => by
    rw [show (outsAt0 m c 0 hn).2 = _ from acc_A m c ⟨0, hn⟩ rfl, blk0 m c G X g W B A, blk1 m c G X g W B A, pay1_eq, pay2_eq]
    simp only [zero_add, Nat.zero_mod, sum_range_one]
  | n + 1, hn => by
    have hN : n + 1 < 32 := hn
    have hl : n < cfg0.N := Nat.lt_of_succ_lt hn
    by_cases h0 : (n + 1) % 4 = 0
    · rw [show (outsAt0 m c (n + 1) hn).2 = _ from acc_A m c ⟨n + 1, hn⟩ h0, blk0 m c G X g W B A, blk1 m c G X g W B A, pay1_eq, pay2_eq]
      simp only [h0, zero_add, sum_range_one]
    · rw [show (outsAt0 m c (n + 1) hn).2 = _ from acc_B m c ⟨n + 1, hn⟩ h0 hl, blk0 m c G X g W B A, blk1 m c G X g W B A,
        show (outsAt0 m c ((⟨n + 1, hn⟩ : Fin cfg0.N).val - 1) _).2 = _ from acc_eq n hl, pay2_eq]
      have e1 : (n + 1) % 4 = n % 4 + 1 := by omega
      have e2 : (n + 1) / 4 = n / 4 := by omega
      simp only [e1, e2, sum_range_succ _ (n % 4 + 1)]

/-- The array of the first weight's gradient, in blocks of 512 columns. -/
theorem arr_dw : (dats m 0 c).arrAt 2 cfg0.N = E3 8 1024 512 fun d j k => ∑ n ∈ range 8192, mHn X g n j * pDa G X g W B n (512 * d + k) := by
  refine (dats m 0 c).arrAt_eq_of_covers 2 _ (by decide +kernel) fun t hf y => ?_
  have h3 : t.val % 4 = 3 := (flush0_2 t).mp hf
  idx_vars y
  obtain ⟨h0, h1, h2⟩ := emb2 t y0 y1 y2
  blk_simp
  rw [after0_2, out_C m c t h3, acc_eq m c G X g W B A, pay3_eq]
  show (∑ u ∈ range (t.val % 4 + 1), ∑ r ∈ range 2048, mHn X g (2048 * u + r) y1.val * pDa G X g W B (2048 * u + r) (512 * (t.val / 4) + y2.val)) = _
  rw [h3]
  refine (sum_blocks 4 2048 fun n => mHn X g n y1.val * pDa G X g W B n (512 * (t.val / 4) + y2.val)).trans ?_
  unfold E3
  rw [h0, h1, h2]
omit A

/-- The derivative in the first weight. -/
theorem ref_dw : Cert.MlpDwARefIdeal.Read.val_main_v35 (F := Ideal) (E2 8192 1024 G) (E2 8192 1024 X) (E1 1024 g) (E3 8 1024 512 W) (E2 4096 1024 B)
    = E3 8 1024 512 fun d j k => ∑ n ∈ range 8192, mHn X g n j * pDa G X g W B n (512 * d + k) := by
  have e1 : Cert.MlpDwARefIdeal.Read.val_main_v15 (F := Ideal) (E2 8192 1024 X) (E1 1024 g) = E2 8192 1024 (mHn X g) := by
    rw [← v32]; rfl
  have e2 : Cert.MlpDwARefIdeal.Read.val_main_v30 (F := Ideal) (E2 8192 1024 G) (E2 8192 1024 X) (E1 1024 g) (E3 8 1024 512 W) (E2 4096 1024 B)
      = E2 8192 4096 (pDa G X g W B) := by
    unfold pDa; rw [← v84]; rfl
  funext i; idx_vars i
  refine (Cert.MlpDwARefIdeal.Read.val_main_v34_apply (F := Ideal) _ _ _ _ _ _).trans ?_
  rw [Cert.MlpDwARefIdeal.Read.val_main_v33_apply, Cert.MlpDwARefIdeal.Read.val_main_v32_apply, Cert.MlpDwARefIdeal.Read.val_main_v31_apply, e1, e2]
  have h0 := i0.isLt
  have h1 := i1.isLt
  have h2 := i2.isLt
  refine (sum_fin 8192 fun n => pDa G X g W B n (((i1.val * 8 + i0.val) * 512 + i2.val) % 4096) * mHn X g n (((i1.val * 8 + i0.val) * 512 + i2.val) / 4096)).trans ?_
  rw [show ((i1.val * 8 + i0.val) * 512 + i2.val) % 4096 = 512 * i0.val + i2.val by omega,
    show ((i1.val * 8 + i0.val) * 512 + i2.val) / 4096 = i1.val by omega, E3_apply]
  exact sum_congr rfl fun n _ => mul_comm _ _

section Arguments
/-- The functions of the five arguments. -/
def aG : ℕ → ℕ → EReal := un2 8192 1024 (m (c, main_arg0))
def aX : ℕ → ℕ → EReal := un2 8192 1024 (m (c, main_arg1))
def ag : ℕ → EReal := un1 1024 (m (c, main_arg2))
def aW : ℕ → ℕ → ℕ → EReal := un3 8 1024 512 (m (c, main_arg3))
def aB : ℕ → ℕ → EReal := un2 4096 1024 (m (c, main_arg4))
theorem args : Args m c (aG m c) (aX m c) (ag m c) (aW m c) (aB m c) where
  g0 := un2_eq 8192 1024 _
  x := un2_eq 8192 1024 _
  g := un1_eq 1024 _
  w := un3_eq 8 1024 512 _
  b := un2_eq 4096 1024 _
end Arguments

theorem preserves : Cert.preserves_MlpDwA_MlpDwAIdeal := by
  unfold Cert.preserves_MlpDwA_MlpDwAIdeal; trivial

theorem algebraic : Cert.algebraic_MlpDwAIdeal_MlpDwARefIdeal := by
  intro m g m' g' _ hag
  refine ⟨fun c => E3 8 1024 512 fun d j k => ∑ n ∈ range 8192, mHn (aX m c) (ag m c) n j * pDa (aG m c) (aX m c) (ag m c) (aW m c) (aB m c) n (512 * d + k), ?_, ?_⟩
  · refine (θ_run _ _ _).mono (fun r h c => ?_) (Cert.MlpDwAIdeal.Value.run_blocks m g)
    obtain ⟨h0, k⟩ := h c
    exact ⟨h0.trans (arr_dw m c _ _ _ _ _ (args m c)), k⟩
  · refine (θ_run _ _ _).mono (fun r h c => ?_) (Cert.MlpDwARefIdeal.Value.run m' g')
    obtain ⟨h0, k⟩ := h c
    have A := args m c
    obtain ⟨a0, a1, a2, a3, a4⟩ := hag c
    have V0 : m' ((c.tc : Thread Cert.MlpDwARefIdeal.nD Cert.MlpDwARefIdeal.τ).loc Cert.MlpDwARefIdeal.main_arg0) = E2 8192 1024 (aG m c) := a0.trans A.g0
    have V1 : m' ((c.tc : Thread Cert.MlpDwARefIdeal.nD Cert.MlpDwARefIdeal.τ).loc Cert.MlpDwARefIdeal.main_arg1) = E2 8192 1024 (aX m c) := a1.trans A.x
    have V2 : m' ((c.tc : Thread Cert.MlpDwARefIdeal.nD Cert.MlpDwARefIdeal.τ).loc Cert.MlpDwARefIdeal.main_arg2) = E1 1024 (ag m c) := a2.trans A.g
    have V3 : m' ((c.tc : Thread Cert.MlpDwARefIdeal.nD Cert.MlpDwARefIdeal.τ).loc Cert.MlpDwARefIdeal.main_arg3) = E3 8 1024 512 (aW m c) := a3.trans A.w
    have V4 : m' ((c.tc : Thread Cert.MlpDwARefIdeal.nD Cert.MlpDwARefIdeal.τ).loc Cert.MlpDwARefIdeal.main_arg4) = E2 4096 1024 (aB m c) := a4.trans A.b
    refine ⟨h0.trans ((Cert.MlpDwARefIdeal.Read.val_main_v35_eq (F := Ideal) _ _ _ _ _).trans ?_), k⟩
    rw [V0, V1, V2, V3, V4]; exact ref_dw _ _ _ _ _

end Cert.Mlp.DwA
end
-- ==== Proof.MlpTnB.lean ====
module

public import proofs.«01_k».proof.Proof.Mlp
public import proofs.«01_k».proof.Proof.Gen.MlpDwBIdeal.Value
public import proofs.«01_k».proof.Proof.Gen.MlpDwBRefIdeal.Run
public import proofs.«01_k».proof.Proof.Gen.MlpDwBRefIdeal.Read

@[expose] public section

set_option maxRecDepth 16384

noncomputable section

/-! The gradient of the MLP's second weight: the activation's transpose times the incoming gradient, accumulated in scratch over
    four blocks of 2048 tokens, equals the derivative. -/

namespace Cert.Mlp.DwB

open Cert.MlpDwBIdeal Cert.MlpDwBIdeal.Gen Cert.MlpDwBIdeal.Value Idealize.ShloMosaic Idealize.ShloMosaic.TcCoe Idealize.SL.Sem Finset

section Pay
variable (D F G : ℕ → ℕ → EReal)
theorem mmTN (p) : matmul (F := Ideal) (φ₁ := .bf16) (φ₂ := .bf16) dot_S2048x1024_S2048x1024_S1024x1024_0_0_1_1_n_n p (E2 2048 1024 F) (E2 2048 1024 G)
    (constant S1024x1024 .f32 0x00000000#32) = E2 1024 1024 fun k l => ∑ r ∈ range 2048, F r k * G r l := by
  funext j; idx_vars j; pointwise [E2_apply]
  exact sum_fin 2048 (fun r => F r j0 * G r j1)
theorem same (h) : shapeCast (α := Ideal .f32) S1024x1024 (E2 1024 1024 F) h = E2 1024 1024 F := by
  funext j; idx_vars j; pointwise [E2_apply]
theorem sameIn (h) : shapeCast (α := Ideal .bf16) S2048x1024 (E2 2048 1024 F) h = E2 2048 1024 F := by
  funext j; idx_vars j; pointwise [E2_apply]
theorem pay1_eq : k0_pay1 (F := Ideal) = E2 1024 1024 fun _ _ => 0 := by
  unfold k0_pay1; simp only [w_zero, splat2, same]
theorem pay2_eq : k0_pay2 (F := Ideal) (E2 1024 1024 D) (E2 2048 1024 F) (E2 2048 1024 G)
    = E2 1024 1024 fun k l => D k l + ∑ r ∈ range 2048, F r k * G r l := by
  unfold k0_pay2; simp only [sameIn, truncf2, mmTN, addf2, same]
end Pay

variable (m : (ℓ : Loc nD τ sig) → Buf (Elt Ideal) ℓ) (c : Dev nD)

section Point
variable (t : Fin cfg0.N)
theorem acc_A (h0 : t.val % 4 = 0) : (outsAt0 m c t.val t.isLt).2 = k0_pay2 k0_pay1 (iblk m c 0 t) (iblk m c 1 t) := by
  rw [outsAt0_A m c t h0 (by omega)]
  frame_open
  simp (disch := decide) only [↓ View.readCov_fill]
  frame_out
theorem acc_B (h0 : ¬ t.val % 4 = 0) (h) : (outsAt0 m c t.val t.isLt).2 = k0_pay2 (outsAt0 m c (t.val - 1) h).2 (iblk m c 0 t) (iblk m c 1 t) := by
  by_cases h1 : t.val % 4 = 3
  · rw [outsAt0_C m c t h0 h1]
    frame_out
    simp only [read_unread_whole]
  · rw [outsAt0_B m c t h0 h1]
    frame_out
    simp only [read_unread_whole]
theorem out_C (h1 : t.val % 4 = 3) : (outsAt0 m c t.val t.isLt).1 = k0_pay3 (outsAt0 m c t.val t.isLt).2 := by
  rw [outsAt0_C m c t (by omega) h1]
  frame_open
  simp (disch := decide) only [↓ View.readCov_fill]
  frame_out
end Point

theorem idx_in : ∀ t : Fin cfg0.N, win0_0.index t = ![t.val % 4, t.val / 4] ∧ win0_1.index t = ![t.val % 4, 0] ∧ win0_2.index t = ![t.val / 4, 0] :=
  (by decide +kernel : ∀ t : Fin grid0.N, _)
theorem emb0 (t : Fin cfg0.N) (j0 : Fin 2048) (j1 : Fin 1024) : (((((cfg0.win 0).blk t).view.emb (ix2 j0 j1)) 0 : Fin _) : ℕ) = 2048 * (t.val % 4) + j0.val
    ∧ (((((cfg0.win 0).blk t).view.emb (ix2 j0 j1)) 1 : Fin _) : ℕ) = 1024 * (t.val / 4) + j1.val := by
  constructor <;> blk_simp [idx_in t] <;> omega
theorem emb1 (t : Fin cfg0.N) (j0 : Fin 2048) (j1 : Fin 1024) : (((((cfg0.win 1).blk t).view.emb (ix2 j0 j1)) 0 : Fin _) : ℕ) = 2048 * (t.val % 4) + j0.val
    ∧ (((((cfg0.win 1).blk t).view.emb (ix2 j0 j1)) 1 : Fin _) : ℕ) = j1.val := by
  constructor <;> blk_simp [idx_in t] <;> omega
theorem emb2 (t : Fin cfg0.N) (j0 : Fin 1024) (j1 : Fin 1024) : (((((cfg0.win 2).blk t).view.emb (ix2 j0 j1)) 0 : Fin _) : ℕ) = 1024 * (t.val / 4) + j0.val
    ∧ (((((cfg0.win 2).blk t).view.emb (ix2 j0 j1)) 1 : Fin _) : ℕ) = j1.val := by
  constructor <;> blk_simp [idx_in t] <;> omega

variable (G X : ℕ → ℕ → EReal) (g : ℕ → EReal) (W : ℕ → ℕ → ℕ → EReal)

/-- The four arguments written by functions of natural coordinates. -/
structure Args : Prop where
  g0 : m (c, main_arg0) = E2 8192 1024 G
  x : m (c, main_arg1) = E2 8192 1024 X
  g : m (c, main_arg2) = E1 1024 g
  w : m (c, main_arg3) = E3 8 1024 512 W

variable (A : Args m c G X g W)
include A

/-- The activation the host computes before the kernel. -/
theorem host_r : V m c main_v19 = E2 8192 4096 (mR X g (mCol W)) := by
  have e : V m c main_v19 = mulf (F := Ideal) (φ := .f32) (Cert.MlpBwdRefIdeal.Read.val_main_v34 (F := Ideal) (m (c, main_arg1)) (m (c, main_arg2)) (m (c, main_arg3)))
      (Cert.MlpBwdRefIdeal.Read.val_main_v34 (F := Ideal) (m (c, main_arg1)) (m (c, main_arg2)) (m (c, main_arg3))) := by
    entry_read
    rfl
  rw [e, A.x, A.g, A.w, v34, mulf2]; rfl
theorem blk0 (t : Fin cfg0.N) : @Eq (FVec Ideal S2048x1024 .bf16) (iblk m c 0 t)
    (E2 2048 1024 fun r k => mR X g (mCol W) (2048 * (t.val % 4) + r) (1024 * (t.val / 4) + k)) := by
  funext j; idx_vars j
  obtain ⟨h0, h1⟩ := emb0 t j0 j1
  have e : iblk m c 0 t (ix2 j0 j1) = V m c main_v19 (((cfg0.win 0).blk t).view.emb (ix2 j0 j1)) := by blk_simp [iblk]
  refine e.trans ?_
  rw [host_r m c G X g W A]
  exact congrArg₂ (mR X g (mCol W)) h0 h1
theorem blk1 (t : Fin cfg0.N) : @Eq (FVec Ideal S2048x1024 .f32) (iblk m c 1 t) (E2 2048 1024 fun r l => G (2048 * (t.val % 4) + r) l) := by
  funext j; idx_vars j
  obtain ⟨h0, h1⟩ := emb1 t j0 j1
  have e : iblk m c 1 t (ix2 j0 j1) = V m c main_arg0 (((cfg0.win 1).blk t).view.emb (ix2 j0 j1)) := by blk_simp [iblk]
  refine e.trans ?_
  rw [V_main_arg0, show m ((c : Thread nD τ).loc main_arg0) = E2 8192 1024 G from A.g0]
  exact congrArg₂ G h0 h1

/-- The scratch after each point: the products over the token blocks seen so far in this row of the grid. -/
theorem acc_eq : ∀ n (hn : n < cfg0.N), (outsAt0 m c n hn).2 = E2 1024 1024 fun k l => ∑ u ∈ range (n % 4 + 1), ∑ r ∈ range 2048,
      mR X g (mCol W) (2048 * u + r) (1024 * (n / 4) + k) * G (2048 * u + r) l
  | 0, hn => by
    rw [show (outsAt0 m c 0 hn).2 = _ from acc_A m c ⟨0, hn⟩ rfl, blk0 m c G X g W A, blk1 m c G X g W A, pay1_eq, pay2_eq]
    simp only [zero_add, Nat.zero_mod, sum_range_one]
  | n + 1, hn => by
    have hN : n + 1 < 16 := hn
    have hl : n < cfg0.N := Nat.lt_of_succ_lt hn
    by_cases h0 : (n + 1) % 4 = 0
    · rw [show (outsAt0 m c (n + 1) hn).2 = _ from acc_A m c ⟨n + 1, hn⟩ h0, blk0 m c G X g W A, blk1 m c G X g W A, pay1_eq, pay2_eq]
      simp only [h0, zero_add, sum_range_one]
    · rw [show (outsAt0 m c (n + 1) hn).2 = _ from acc_B m c ⟨n + 1, hn⟩ h0 hl, blk0 m c G X g W A, blk1 m c G X g W A,
        show (outsAt0 m c ((⟨n + 1, hn⟩ : Fin cfg0.N).val - 1) _).2 = _ from acc_eq n hl, pay2_eq]
      have e1 : (n + 1) % 4 = n % 4 + 1 := by omega
      have e2 : (n + 1) / 4 = n / 4 := by omega
      simp only [e1, e2, sum_range_succ _ (n % 4 + 1)]

/-- The array of the second weight's gradient. -/
theorem arr_dw : (dats m 0 c).arrAt 2 cfg0.N = E2 4096 1024 fun k l => ∑ n ∈ range 8192, mR X g (mCol W) n k * G n l := by
  refine (dats m 0 c).arrAt_eq_of_covers 2 _ (by decide +kernel) fun t hf y => ?_
  have h3 : t.val % 4 = 3 := (flush0_2 t).mp hf
  idx_vars y
  obtain ⟨h0, h1⟩ := emb2 t y0 y1
  blk_simp
  rw [after0_2, out_C m c t h3, acc_eq m c G X g W A]
  show (∑ u ∈ range (t.val % 4 + 1), ∑ r ∈ range 2048, mR X g (mCol W) (2048 * u + r) (1024 * (t.val / 4) + y0.val) * G (2048 * u + r) y1.val) = _
  rw [h3]
  refine (sum_blocks 4 2048 fun n => mR X g (mCol W) n (1024 * (t.val / 4) + y0.val) * G n y1.val).trans ?_
  exact congrArg₂ (fun k l => ∑ n ∈ range 8192, mR X g (mCol W) n k * G n l) h0.symm h1.symm
omit A

/-- The derivative in the second weight. -/
theorem ref_dw : Cert.MlpDwBRefIdeal.Read.val_main_v24 (F := Ideal) (E2 8192 1024 G) (E2 8192 1024 X) (E1 1024 g) (E3 8 1024 512 W)
    = E2 4096 1024 fun k l => ∑ n ∈ range 8192, mR X g (mCol W) n k * G n l := by
  have e : Cert.MlpDwBRefIdeal.Read.val_main_v19 (F := Ideal) (E2 8192 1024 X) (E1 1024 g) (E3 8 1024 512 W) = E2 8192 4096 (mR X g (mCol W)) := by
    have h : Cert.MlpDwBRefIdeal.Read.val_main_v18 (F := Ideal) (E2 8192 1024 X) (E1 1024 g) (E3 8 1024 512 W)
      = Cert.MlpBwdRefIdeal.Read.val_main_v34 (F := Ideal) (E2 8192 1024 X) (E1 1024 g) (E3 8 1024 512 W) := rfl
    unfold Cert.MlpDwBRefIdeal.Read.val_main_v19
    rw [h, v34, mulf2]; rfl
  funext i
  refine (Cert.MlpDwBRefIdeal.Read.val_main_v23_apply (F := Ideal) _ _ _ _ i).trans ?_
  rw [Cert.MlpDwBRefIdeal.Read.val_main_v22_apply, e]
  refine (sum_fin 8192 fun n => G n (i 1).val * mR X g (mCol W) n (i 0).val).trans ?_
  exact sum_congr rfl fun n _ => mul_comm _ _

section Arguments
/-- The functions of the four arguments. -/
def aG : ℕ → ℕ → EReal := un2 8192 1024 (m (c, main_arg0))
def aX : ℕ → ℕ → EReal := un2 8192 1024 (m (c, main_arg1))
def ag : ℕ → EReal := un1 1024 (m (c, main_arg2))
def aW : ℕ → ℕ → ℕ → EReal := un3 8 1024 512 (m (c, main_arg3))
theorem args : Args m c (aG m c) (aX m c) (ag m c) (aW m c) where
  g0 := un2_eq 8192 1024 _
  x := un2_eq 8192 1024 _
  g := un1_eq 1024 _
  w := un3_eq 8 1024 512 _
end Arguments

theorem preserves : Cert.preserves_MlpDwB_MlpDwBIdeal := by
  unfold Cert.preserves_MlpDwB_MlpDwBIdeal; trivial

theorem algebraic : Cert.algebraic_MlpDwBIdeal_MlpDwBRefIdeal := by
  intro m g m' g' _ hag
  refine ⟨fun c => E2 4096 1024 fun k l => ∑ n ∈ range 8192, mR (aX m c) (ag m c) (mCol (aW m c)) n k * aG m c n l, ?_, ?_⟩
  · refine (θ_run _ _ _).mono (fun r h c => ?_) (Cert.MlpDwBIdeal.Value.run_blocks m g)
    obtain ⟨h0, k⟩ := h c
    exact ⟨h0.trans (arr_dw m c _ _ _ _ (args m c)), k⟩
  · refine (θ_run _ _ _).mono (fun r h c => ?_) (Cert.MlpDwBRefIdeal.Value.run m' g')
    obtain ⟨h0, k⟩ := h c
    have A := args m c
    obtain ⟨a0, a1, a2, a3⟩ := hag c
    have V0 : m' ((c.tc : Thread Cert.MlpDwBRefIdeal.nD Cert.MlpDwBRefIdeal.τ).loc Cert.MlpDwBRefIdeal.main_arg0) = E2 8192 1024 (aG m c) := a0.trans A.g0
    have V1 : m' ((c.tc : Thread Cert.MlpDwBRefIdeal.nD Cert.MlpDwBRefIdeal.τ).loc Cert.MlpDwBRefIdeal.main_arg1) = E2 8192 1024 (aX m c) := a1.trans A.x
    have V2 : m' ((c.tc : Thread Cert.MlpDwBRefIdeal.nD Cert.MlpDwBRefIdeal.τ).loc Cert.MlpDwBRefIdeal.main_arg2) = E1 1024 (ag m c) := a2.trans A.g
    have V3 : m' ((c.tc : Thread Cert.MlpDwBRefIdeal.nD Cert.MlpDwBRefIdeal.τ).loc Cert.MlpDwBRefIdeal.main_arg3) = E3 8 1024 512 (aW m c) := a3.trans A.w
    refine ⟨h0.trans ((Cert.MlpDwBRefIdeal.Read.val_main_v24_eq (F := Ideal) _ _ _ _).trans ?_), k⟩
    rw [V0, V1, V2, V3]; exact ref_dw _ _ _ _

end Cert.Mlp.DwB
end
-- ==== Proof.MlpFwdRunA.lean ====
/- The MLP's forward kernel at the first grid point: the nine copies of the weights into scratch, each lent only its own window, and the point's work. -/
module

public import proofs.«01_k».proof.Proof.Gen.MlpFwdIdeal.Frame.Runs

@[expose] public section

-- membership in a rectangle of production extents (`View.cover_of_tiled`): the elaborator's structural look
-- recurses once per coordinate of the long axes
set_option maxRecDepth 16384

noncomputable section

namespace Cert.MlpFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
set_option sl_exec.dmaWindow true in
set_option sl_exec.dmaWindowSet true in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) :
    Σ' (L2 : List (View.Piece (Elt F) S512x1024 .f32)), Σ' (L3 : List (View.Piece (Elt F) S512x4096 .bf16)), Σ' (LS0 : List (View.Piece (Elt F) S1024x4096 .bf16)), { LS1 : List (View.Piece (Elt F) S4096x1024 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_fwd i arg1 harg1 arg2 harg2 (Memref.whole main_arg2) (Memref.isWhole_whole _) (Memref.whole main_arg3) (Memref.isWhole_whole _) arg5 harg5 arg6 harg6 arg7 harg7 arg8 harg8 cc0_scratch2) K } := by
  refine ⟨?_, ?_, ?_, ?_, fun W K => ?run⟩
  case run =>
    simp only [cc0_mlp_fwd_eq_skeleton]; unfold cc0_mlp_fwd_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hq0, Hq1, Hq2, Hq3, Hq4, Hq5, Hq6, Hq7, Hq8, Hh0, Hh1, HW, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.MlpFwdIdeal.Gen

end
-- ==== Proof.MlpFwdRunB.lean ====
/- The MLP's forward kernel at a later grid point: the weights are in scratch already. -/
module

public import proofs.«01_k».proof.Proof.MlpFwdRunA

@[expose] public section

-- membership in a rectangle of production extents (`View.cover_of_tiled`): the elaborator's structural look
-- recurses once per coordinate of the long axes
set_option maxRecDepth 16384

noncomputable section

namespace Cert.MlpFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : ¬cond0_0 i)
    (x0 : Vec F S512x1024 .f32) (x1 : Vec F S1x1024 .f32) (xs0 : Vec F S1024x4096 .bf16) (xs1 : Vec F S4096x1024 .bf16) (fh0 : HbBuf0 (F := F) c hbM0_0) (fh1 : HbBuf0 (F := F) c hbM0_1) :
    Σ' (L2 : List (View.Piece (Elt F) S512x1024 .f32)), Σ' (L3 : List (View.Piece (Elt F) S512x4096 .bf16)), Σ' (LS0 : List (View.Piece (Elt F) S1024x4096 .bf16)), { LS1 : List (View.Piece (Elt F) S4096x1024 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_fwd i arg1 harg1 arg2 harg2 (Memref.whole main_arg2) (Memref.isWhole_whole _) (Memref.whole main_arg3) (Memref.isWhole_whole _) arg5 harg5 arg6 harg6 arg7 harg7 arg8 harg8 cc0_scratch2) K } := by
  refine ⟨?_, ?_, [], [], fun W K => ?run⟩
  case run =>
    simp only [cc0_mlp_fwd_eq_skeleton]; unfold cc0_mlp_fwd_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hq0, Hq1, Hq2, Hq3, Hq4, Hq5, Hq6, Hq7, Hq8, Hh0, Hh1, HW, Hk⟩
    obtain rfl := harg1.eq_unread hf0; obtain rfl := harg2.eq_unread hf1; obtain rfl := harg7.eq_unread hfs0; obtain rfl := harg8.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hh0]; · iexact Hh0
    isplitl [Hh1]; · iexact Hh1
    iexists _; iexact HW

end Cert.MlpFwdIdeal.Gen

end
-- ==== Proof.MlpFwdFrame.lean ====
/- The MLP's forward kernel over its whole grid: what each point leaves, and the run of the program. -/
module

public import proofs.«01_k».proof.Proof.MlpFwdRunB
public import Idealize.ShloMosaic.Lib.Claim

@[expose] public section

-- membership in a rectangle of production extents (`View.cover_of_tiled`): the elaborator's structural look
-- recurses once per coordinate of the long axes
set_option maxRecDepth 16384

noncomputable section

namespace Cert.MlpFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 2 tile its block (1 store of `S512x1024`, checked by the kernel's evaluation: Lib/Ring.lean `Piece.tiledL`, linear in the pieces, through a loop's `@[irreducible]` trip theorem too), so they cover it. -/
theorem cover0_A_2 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) (y : S512x1024.Idx) :
    ∃ pc ∈ (kernelRun0_A c i arg1 harg1 arg2 harg2 arg5 harg5 arg6 harg6 arg7 harg7 arg8 harg8 hc0 x0 x1 fh0 fh1).1, y ∈ pc.1.set :=
  View.cover_of_tiledL (kernelRun0_A c i arg1 harg1 arg2 harg2 arg5 harg5 arg6 harg6 arg7 harg7 arg8 harg8 hc0 x0 x1 fh0 fh1).1 S512x1024.size (by sl_kernel_rfl) y

/-- What case A leaves in output 2's staging buffer: its pieces read back over junk. -/
def out0_A_2 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) : Vec F S512x1024 .f32 :=
  VO0_2.read (Elt F) (VO0_2.writes (Elt F) VO0_2.junk (kernelRun0_A c i arg1 harg1 arg2 harg2 arg5 harg5 arg6 harg6 arg7 harg7 arg8 harg8 hc0 x0 x1 fh0 fh1).1)

/-- Case A's pieces for output 3 tile its block (1 store of `S512x4096`, checked by the kernel's evaluation: Lib/Ring.lean `Piece.tiledL`, linear in the pieces, through a loop's `@[irreducible]` trip theorem too), so they cover it. -/
theorem cover0_A_3 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) (y : S512x4096.Idx) :
    ∃ pc ∈ (kernelRun0_A c i arg1 harg1 arg2 harg2 arg5 harg5 arg6 harg6 arg7 harg7 arg8 harg8 hc0 x0 x1 fh0 fh1).2.1, y ∈ pc.1.set :=
  View.cover_of_tiledL (kernelRun0_A c i arg1 harg1 arg2 harg2 arg5 harg5 arg6 harg6 arg7 harg7 arg8 harg8 hc0 x0 x1 fh0 fh1).2.1 S512x4096.size (by sl_kernel_rfl) y

/-- What case A leaves in output 3's staging buffer: its pieces read back over junk. -/
def out0_A_3 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) : Vec F S512x4096 .bf16 :=
  VO0_3.read (Elt F) (VO0_3.writes (Elt F) VO0_3.junk (kernelRun0_A c i arg1 harg1 arg2 harg2 arg5 harg5 arg6 harg6 arg7 harg7 arg8 harg8 hc0 x0 x1 fh0 fh1).2.1)

/-- Case A's pieces for scratch `arg7`, which the kernel carries between points, cover it: 8 pieces of `S1024x512` tiling it (Lib/Ring.lean `Piece.tiledL`). -/
theorem scover0_A_0 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) (y : S1024x4096.Idx) :
    ∃ pc ∈ (kernelRun0_A c i arg1 harg1 arg2 harg2 arg5 harg5 arg6 harg6 arg7 harg7 arg8 harg8 hc0 x0 x1 fh0 fh1).2.2.1, y ∈ pc.1.set :=
  View.cover_of_tiledL (kernelRun0_A c i arg1 harg1 arg2 harg2 arg5 harg5 arg6 harg6 arg7 harg7 arg8 harg8 hc0 x0 x1 fh0 fh1).2.2.1 S1024x512.size (by sl_kernel_rfl) y

/-- What case A leaves in scratch `arg7`: its pieces read back over junk. -/
def sout0_A_0 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) : Vec F S1024x4096 .bf16 :=
  VS0_0.read (Elt F) (VS0_0.writes (Elt F) VS0_0.junk (kernelRun0_A c i arg1 harg1 arg2 harg2 arg5 harg5 arg6 harg6 arg7 harg7 arg8 harg8 hc0 x0 x1 fh0 fh1).2.2.1)

/-- Case A's pieces for scratch `arg8`, which the kernel carries between points, cover it: 1 piece of `S4096x1024` tiling it (Lib/Ring.lean `Piece.tiledL`). -/
theorem scover0_A_1 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) (y : S4096x1024.Idx) :
    ∃ pc ∈ (kernelRun0_A c i arg1 harg1 arg2 harg2 arg5 harg5 arg6 harg6 arg7 harg7 arg8 harg8 hc0 x0 x1 fh0 fh1).2.2.2.1, y ∈ pc.1.set :=
  View.cover_of_tiledL (kernelRun0_A c i arg1 harg1 arg2 harg2 arg5 harg5 arg6 harg6 arg7 harg7 arg8 harg8 hc0 x0 x1 fh0 fh1).2.2.2.1 S4096x1024.size (by sl_kernel_rfl) y

/-- What case A leaves in scratch `arg8`: its pieces read back over junk. -/
def sout0_A_1 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : cond0_0 i)
    (x0 : Vec F S512x1024 .f32) (x1 : Vec F S1x1024 .f32) (fh0 : HbBuf0 (F := F) c hbM0_0) (fh1 : HbBuf0 (F := F) c hbM0_1) : Vec F S4096x1024 .bf16 :=
  VS0_1.read (Elt F) (VS0_1.writes (Elt F) VS0_1.junk (kernelRun0_A c i arg1 harg1 arg2 harg2 arg5 harg5 arg6 harg6 arg7 harg7 arg8 harg8 hc0 x0 x1 fh0 fh1).2.2.2.1)

/-- Case B's pieces for output 2 tile its block (1 store of `S512x1024`, checked by the kernel's evaluation: Lib/Ring.lean `Piece.tiledL`, linear in the pieces, through a loop's `@[irreducible]` trip theorem too), so they cover it. -/
theorem cover0_B_2 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : ¬cond0_0 i)
    (x0 : Vec F S512x1024 .f32) (x1 : Vec F S1x1024 .f32) (xs0 : Vec F S1024x4096 .bf16) (xs1 : Vec F S4096x1024 .bf16) (fh0 : HbBuf0 (F := F) c hbM0_0) (fh1 : HbBuf0 (F := F) c hbM0_1) (y : S512x1024.Idx) :
    ∃ pc ∈ (kernelRun0_B c i arg1 harg1 arg2 harg2 arg5 harg5 arg6 harg6 arg7 harg7 arg8 harg8 hc0 x0 x1 xs0 xs1 fh0 fh1).1, y ∈ pc.1.set :=
  View.cover_of_tiledL (kernelRun0_B c i arg1 harg1 arg2 harg2 arg5 harg5 arg6 harg6 arg7 harg7 arg8 harg8 hc0 x0 x1 xs0 xs1 fh0 fh1).1 S512x1024.size (by sl_kernel_rfl) y

/-- What case B leaves in output 2's staging buffer: its pieces read back over junk. -/
def out0_B_2 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : ¬cond0_0 i)
    (x0 : Vec F S512x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S512x1024 .f32 :=
  VO0_2.read (Elt F) (VO0_2.writes (Elt F) VO0_2.junk (kernelRun0_B c i arg1 harg1 arg2 harg2 arg5 harg5 arg6 harg6 arg7 harg7 arg8 harg8 hc0 x0 x1 xs0 xs1 fh0 fh1).1)

/-- Case B's pieces for output 3 tile its block (1 store of `S512x4096`, checked by the kernel's evaluation: Lib/Ring.lean `Piece.tiledL`, linear in the pieces, through a loop's `@[irreducible]` trip theorem too), so they cover it. -/
theorem cover0_B_3 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : ¬cond0_0 i)
    (x0 : Vec F S512x1024 .f32) (x1 : Vec F S1x1024 .f32) (xs0 : Vec F S1024x4096 .bf16) (xs1 : Vec F S4096x1024 .bf16) (fh0 : HbBuf0 (F := F) c hbM0_0) (fh1 : HbBuf0 (F := F) c hbM0_1) (y : S512x4096.Idx) :
    ∃ pc ∈ (kernelRun0_B c i arg1 harg1 arg2 harg2 arg5 harg5 arg6 harg6 arg7 harg7 arg8 harg8 hc0 x0 x1 xs0 xs1 fh0 fh1).2.1, y ∈ pc.1.set :=
  View.cover_of_tiledL (kernelRun0_B c i arg1 harg1 arg2 harg2 arg5 harg5 arg6 harg6 arg7 harg7 arg8 harg8 hc0 x0 x1 xs0 xs1 fh0 fh1).2.1 S512x4096.size (by sl_kernel_rfl) y

/-- What case B leaves in output 3's staging buffer: its pieces read back over junk. -/
def out0_B_3 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : ¬cond0_0 i)
    (x0 : Vec F S512x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S512x4096 .bf16 :=
  VO0_3.read (Elt F) (VO0_3.writes (Elt F) VO0_3.junk (kernelRun0_B c i arg1 harg1 arg2 harg2 arg5 harg5 arg6 harg6 arg7 harg7 arg8 harg8 hc0 x0 x1 xs0 xs1 fh0 fh1).2.1)

/-- Case B stores nothing into scratch `arg7`: it holds what the point before left. -/
def sout0_B_0 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : ¬cond0_0 i)
    (x0 : Vec F S512x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S1024x4096 .bf16 := xs0

/-- Case B stores nothing into scratch `arg8`: it holds what the point before left. -/
def sout0_B_1 (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S512x1024 .f32) (harg5 : arg5.IsWhole) (arg6 : Memref sig .tc .vmem S512x4096 .bf16) (harg6 : arg6.IsWhole) (arg7 : Memref sig .tc .vmem S1024x4096 .bf16) (harg7 : arg7.IsWhole) (arg8 : Memref sig .tc .vmem S4096x1024 .bf16) (harg8 : arg8.IsWhole) (hc0 : ¬cond0_0 i)
    (x0 : Vec F S512x1024 .f32) (x1 : Vec F S1x1024 .f32) (xs0 : Vec F S1024x4096 .bf16) (xs1 : Vec F S4096x1024 .bf16) (fh0 : HbBuf0 (F := F) c hbM0_0) (fh1 : HbBuf0 (F := F) c hbM0_1) : Vec F S4096x1024 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x4096 .bf16 × Vec F S1024x4096 .bf16 × Vec F S4096x1024 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (V m c main_arg2) (V m c main_arg3), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (V m c main_arg2) (V m c main_arg3), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (V m c main_arg2) (V m c main_arg3), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (V m c main_arg2) (V m c main_arg3))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (V m c main_arg2) (V m c main_arg3), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (V m c main_arg2) (V m c main_arg3), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (V m c main_arg2) (V m c main_arg3), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (V m c main_arg2) (V m c main_arg3))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2 (V m c main_arg2) (V m c main_arg3), out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2 (V m c main_arg2) (V m c main_arg3), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2 (V m c main_arg2) (V m c main_arg3), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2 (V m c main_arg2) (V m c main_arg3))

/-- `outsAt0` at a point of case A: that case's contents. -/
theorem outsAt0_A (c : Dev nD) (t : Fin cfg0.N) (h0 : t.val % 16 = 0) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (V m c main_arg2) (V m c main_arg3), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (V m c main_arg2) (V m c main_arg3), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (V m c main_arg2) (V m c main_arg3), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (V m c main_arg2) (V m c main_arg3)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_arg2) (V m c main_arg3), out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_arg2) (V m c main_arg3), sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_arg2) (V m c main_arg3), sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_arg2) (V m c main_arg3)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg2) ∗ hbPt0 c hbM0_1 (V m c main_arg3)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg2) ∗ hbPt0 c hbM0_1 (V m c main_arg3))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg2) ∗ hbPt0 c hbM0_1 (V m c main_arg3))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_2 out0_A_3 sout0_A_0 sout0_A_1; (try dsimp only)
      iintro ⟨⟨⟨HS0, HS1⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩⟩
      iapply ((kernelRun0_A c (grid0.coords t) _ _ _ _ _ _ _ _ _ _ _ _ ((hcond0_0 t).mpr h0) (iblk m c 0 t) (iblk m c 1 t) (V m c main_arg2) (V m c main_arg3)).2.2.2.2 W _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hh0]; · iexact Hh0
      isplitl [Hh1]; · iexact Hh1
      isplitl [HW]; · iexact HW
      iintro ⟨H0, H1, ⟨%e2, H2⟩, ⟨%e3, H3⟩, ⟨%es0, HS0⟩, ⟨%es1, HS1⟩, Hq0, Hq1, Hq2, Hq3, Hq4, Hq5, Hq6, Hq7, Hq8, Hh0, Hh1, ⟨%W', HW'⟩⟩
      isplitl [HS0 HS1 Hg Hq0 Hq1 Hq2 Hq3 Hq4 Hq5 Hq6 Hq7 Hq8 Hh0 Hh1]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _)
        isplitl [Hg]
        · iexact Hg
        isplitl [Hq0 Hq1 Hq2 Hq3 Hq4 Hq5 Hq6 Hq7 Hq8]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          iexact Hq8
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _)
      unfold owns; iexists _; isplitr
      swap; · iexact H3
      ipureintro; exact View.read_writes_of_cover _ _ _ _ _ (cover0_A_3 c _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_2 out0_B_3 sout0_B_0 sout0_B_1; (try dsimp only)
      iintro ⟨⟨⟨HS0, HS1⟩, Hg, ⟨Hq0, Hq1, Hq2, Hq3, Hq4, Hq5, Hq6, Hq7, Hq8⟩, ⟨Hh0, Hh1⟩⟩, ⟨%W, -, HW⟩, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (iblk m c 0 t) (iblk m c 1 t) _ _ (V m c main_arg2) (V m c main_arg3)).2.2.2.2 W _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hh0]; · iexact Hh0
      isplitl [Hh1]; · iexact Hh1
      isplitl [HW]; · iexact HW
      iintro ⟨H0, H1, ⟨%e2, H2⟩, ⟨%e3, H3⟩, HS0, HS1, Hq0, Hq1, Hq2, Hq3, Hq4, Hq5, Hq6, Hq7, Hq8, Hh0, Hh1, ⟨%W', HW'⟩⟩
      isplitl [HS0 HS1 Hg Hq0 Hq1 Hq2 Hq3 Hq4 Hq5 Hq6 Hq7 Hq8 Hh0 Hh1]
      · isplitl [HS0 HS1]
        · isplitl [HS0]; · iexact HS0
          iexact HS1
        isplitl [Hg]
        · iexact Hg
        isplitl [Hq0 Hq1 Hq2 Hq3 Hq4 Hq5 Hq6 Hq7 Hq8]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          iexact Hq8
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _)
      unfold owns; iexists _; isplitr
      swap; · iexact H3
      ipureintro; exact View.read_writes_of_cover _ _ _ _ _ (cover0_B_3 c _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8⟩, ⟨Hh0, Hh1⟩⟩
  isplitl [HS0 HS1]
  · isplitl [HS0]
    · iexists _; iexact HS0
    iexists _; iexact HS1
  isplitl [Hg]; · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_MlpFwdIdeal`'s statement (Defs.lean) at any `F` — Proof.lean cites it at `Bits`:
    `theorem Cert.Proof.claim : Cert.Claim := ⟨Cert.MlpFwdIdeal.Gen.facts, fun m ρ _ => Cert.MlpFwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MlpFwdIdeal.Gen

end
-- ==== Proof.MlpFwdValue.lean ====
/- What the MLP's forward kernel leaves in each result array, block by block. -/
module

public import proofs.«01_k».proof.Proof.MlpFwdFrame
public import Idealize.ShloMosaic.Lib.Pipeline.Value

@[expose] public section

noncomputable section

namespace Cert.MlpFwdIdeal.Value

open Cert.MlpFwdIdeal Cert.MlpFwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — by the frame's rewriting lemma for the case. -/
theorem flushed2_A (c : Dev nD) (t : Fin cfg0.N) (h0 : t.val % 16 = 0) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (V m c main_arg2) (V m c main_arg3)) := by
  simp only [flushed2, outsAt0_A m c t h0]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : ¬t.val % 16 = 0) :
    (dats m 0 c).flushed 2 t = (cfg0.win 2).cut (grid0.coords t) (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_arg2) (V m c main_arg3)) := by
  simp only [flushed2, outsAt0_B m c t h0]

/-- The index map sends distinct grid points to distinct block indices (decided over the 16 points). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S8192x1024.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the run's contents for that window after the body (`Gen.outsAt0`: its component 1), read through the window's block. -/
theorem flushed3 (c : Dev nD) (t : Fin cfg0.N) :
    (dats m 0 c).flushed 3 t = (cfg0.win 3).cut (grid0.coords t) ((outsAt0 m c t.val t.isLt).2.1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 16 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (V m c main_arg2) (V m c main_arg3)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 16 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_arg2) (V m c main_arg3)) := by
  simp only [flushed3, outsAt0_B m c t h0]

/-- The index map sends distinct grid points to distinct block indices (decided over the 16 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8192x4096.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v1_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_1) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post2 m r h c,
      post3 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1024x4096 .bf16) : Vec F S1024x4096 .bf16 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (V m c main_arg2) (V m c main_arg3)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2 (V m c main_arg2) (V m c main_arg3)

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.1) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S4096x1024 .bf16) : Vec F S4096x1024 .bf16 :=
  if h0 : n % 16 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (V m c main_arg2) (V m c main_arg3)
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (V m c main_arg2) (V m c main_arg3)

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.2.2) 16 (fun n h => scAt0_1 m c n h (VS0_1.read (Elt F) VS0_1.junk)) (scAt0_1 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.MlpFwdIdeal.Value

end
-- ==== Proof.MlpFwdOut.lean ====
module

public import proofs.«01_k».proof.Proof.Mlp
public import proofs.«01_k».proof.Proof.MlpFwdValue
public import proofs.«01_k».proof.Proof.Gen.MlpFwdRefIdeal.Run
public import proofs.«01_k».proof.Proof.Gen.MlpFwdRefIdeal.Read

@[expose] public section

set_option maxRecDepth 16384

noncomputable section

/-! The MLP's forward kernel equals its reference. -/

namespace Cert.Mlp.Fwd

open Cert.MlpFwdIdeal Cert.MlpFwdIdeal.Gen Cert.MlpFwdIdeal.Value Idealize.ShloMosaic Idealize.ShloMosaic.TcCoe Idealize.SL.Sem Finset

section Pay
variable (X P R B : ℕ → ℕ → EReal)
theorem mmUp (p) : matmul (F := Ideal) (φ₁ := .bf16) (φ₂ := .bf16) dot_S512x1024_S1024x4096_S512x4096_1_0_0_1_n_n p (E2 512 1024 X) (E2 1024 4096 P)
    (constant S512x4096 .f32 0x00000000#32) = E2 512 4096 fun r k => ∑ j ∈ range 1024, X r j * P j k := by
  funext j; idx_vars j; pointwise [E2_apply]
  exact sum_fin 1024 (fun k => X j0 k * P k j1)
theorem mmDown (p) : matmul (F := Ideal) (φ₁ := .bf16) (φ₂ := .bf16) dot_S512x4096_S4096x1024_S512x1024_1_0_0_1_n_n p (E2 512 4096 R) (E2 4096 1024 B)
    (constant S512x1024 .f32 0x00000000#32) = E2 512 1024 fun r l => ∑ k ∈ range 4096, R r k * B k l := by
  funext j; idx_vars j; pointwise [E2_apply]
  exact sum_fin 4096 (fun k => R j0 k * B k j1)
theorem max2 (n m : ℕ) (F G : ℕ → ℕ → EReal) : maximumf (F := Ideal) (φ := .f32) (E2 n m F) (E2 n m G) = E2 n m fun r l => max (F r l) (G r l) := rfl
theorem pay1_eq (g : ℕ → EReal) : k0_pay1 (F := Ideal) (E2 512 1024 X) (E2 1 1024 fun _ l => g l) (E2 1024 4096 P) = E2 512 4096 (mR X g P) := by
  have e : ∀ (x : FVec Ideal S512x1024 .f32) (g : FVec Ideal S1x1024 .f32) (u : FVec Ideal S1024x4096 .bf16), k0_pay1 (F := Ideal) x g u
    = truncf .bf16 (mulf (maximumf (matmul dot_S512x1024_S1024x4096_S512x4096_1_0_0_1_n_n none (Cert.MlpBwdIdeal.Gen.k0_pay16 x g) u (constant S512x4096 .f32 0x00000000#32))
          (broadcast S512x4096 (Scalar.ofBits .f32 0x00000000#32)))
        (maximumf (matmul dot_S512x1024_S1024x4096_S512x4096_1_0_0_1_n_n none (Cert.MlpBwdIdeal.Gen.k0_pay16 x g) u (constant S512x4096 .f32 0x00000000#32))
          (broadcast S512x4096 (Scalar.ofBits .f32 0x00000000#32)))) bitsLt_bf16_f32 := fun _ _ _ => rfl
  rw [e]
  simp only [pay16_eq, mmUp, w_zero, splat2, max2, mulf2, truncf2]
  rfl
theorem pay2_eq (g : ℕ → EReal) : k0_pay2 (F := Ideal) (E2 512 1024 X) (E2 1 1024 fun _ l => g l) (E2 1024 4096 P) (E2 4096 1024 B)
    = E2 512 1024 fun r l => X r l + ∑ k ∈ range 4096, mR X g P r k * B k l := by
  unfold k0_pay2
  simp only [pay1_eq, mmDown, addf2]
end Pay

variable (m : (ℓ : Loc nD τ sig) → Buf (Elt Ideal) ℓ) (c : Dev nD)

section Point
variable (t : Fin cfg0.N)
theorem o_B (h0 : ¬ t.val % 16 = 0) (h) : (outsAt0 m c t.val t.isLt).1 = k0_pay2 (iblk m c 0 t) (iblk m c 1 t)
    (outsAt0 m c (t.val - 1) h).2.2.1 (outsAt0 m c (t.val - 1) h).2.2.2 := by
  rw [outsAt0_B m c t h0]
  frame_out
  simp only [read_unread_whole]
theorem r_B (h0 : ¬ t.val % 16 = 0) (h) : (outsAt0 m c t.val t.isLt).2.1 = k0_pay1 (iblk m c 0 t) (iblk m c 1 t) (outsAt0 m c (t.val - 1) h).2.2.1 := by
  rw [outsAt0_B m c t h0]
  frame_out
  simp only [read_unread_whole]
theorem up_B (h0 : ¬ t.val % 16 = 0) (h) : (outsAt0 m c t.val t.isLt).2.2.1 = (outsAt0 m c (t.val - 1) h).2.2.1 := by
  rw [outsAt0_B m c t h0]; rfl
theorem down_B (h0 : ¬ t.val % 16 = 0) (h) : (outsAt0 m c t.val t.isLt).2.2.2 = (outsAt0 m c (t.val - 1) h).2.2.2 := by
  rw [outsAt0_B m c t h0]; rfl
theorem up_A (h0 : t.val % 16 = 0) : (outsAt0 m c t.val t.isLt).2.2.1 = View.canon (LupOf (V m c main_arg2)) := by
  rw [outsAt0_A m c t h0]
  frame_open
  frame_out
  rfl
theorem down_A (h0 : t.val % 16 = 0) : (outsAt0 m c t.val t.isLt).2.2.2 = V m c main_arg3 := by
  rw [outsAt0_A m c t h0]
  frame_open
  frame_out
  exact canon_all _
theorem r_A (h0 : t.val % 16 = 0) : (outsAt0 m c t.val t.isLt).2.1 = k0_pay1 (iblk m c 0 t) (iblk m c 1 t) (View.canon (LupOf (V m c main_arg2))) := by
  rw [outsAt0_A m c t h0]
  frame_open
  simp only [readCov_ld]
  frame_out
  rfl
theorem o_A (h0 : t.val % 16 = 0) : (outsAt0 m c t.val t.isLt).1 = k0_pay2 (iblk m c 0 t) (iblk m c 1 t) (View.canon (LupOf (V m c main_arg2))) (V m c main_arg3) := by
  rw [outsAt0_A m c t h0]
  frame_open
  simp only [readCov_ld]
  frame_out
  simp only [canon_all]
  rfl
end Point

/-- The layer's output: the input and the second weight's product. -/
def fOut (X : ℕ → ℕ → EReal) (g : ℕ → EReal) (W : ℕ → ℕ → ℕ → EReal) (B : ℕ → ℕ → EReal) (n l : ℕ) : EReal :=
  X n l + ∑ k ∈ range 4096, mR X g (mCol W) n k * B k l

variable (X : ℕ → ℕ → EReal) (g : ℕ → EReal) (W : ℕ → ℕ → ℕ → EReal) (B : ℕ → ℕ → EReal)

/-- The four arguments written by functions of natural coordinates. -/
structure Args : Prop where
  x : m (c, main_arg0) = E2 8192 1024 X
  g : m (c, main_arg1) = E1 1024 g
  w : m (c, main_arg2) = E3 8 1024 512 W
  b : m (c, main_arg3) = E2 4096 1024 B

theorem idx_in : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)
theorem emb0 (t : Fin cfg0.N) (j0 : Fin 512) (j1 : Fin 1024) : (((((cfg0.win 0).blk t).view.emb (ix2 j0 j1)) 0 : Fin _) : ℕ) = 512 * t.val + j0.val
    ∧ (((((cfg0.win 0).blk t).view.emb (ix2 j0 j1)) 1 : Fin _) : ℕ) = j1.val := by
  constructor <;> blk_simp [idx_in t] <;> omega
theorem emb1 (t : Fin cfg0.N) (j0 : Fin 1) (j1 : Fin 1024) : (((((cfg0.win 1).blk t).view.emb (ix2 j0 j1)) 1 : Fin _) : ℕ) = j1.val := by
  blk_simp [idx_in t]
theorem emb2 (t : Fin cfg0.N) (j0 : Fin 512) (j1 : Fin 1024) : (((((cfg0.win 2).blk t).view.emb (ix2 j0 j1)) 0 : Fin _) : ℕ) = 512 * t.val + j0.val
    ∧ (((((cfg0.win 2).blk t).view.emb (ix2 j0 j1)) 1 : Fin _) : ℕ) = j1.val := by
  constructor <;> blk_simp [idx_in t] <;> omega
theorem emb3 (t : Fin cfg0.N) (j0 : Fin 512) (j1 : Fin 4096) : (((((cfg0.win 3).blk t).view.emb (ix2 j0 j1)) 0 : Fin _) : ℕ) = 512 * t.val + j0.val
    ∧ (((((cfg0.win 3).blk t).view.emb (ix2 j0 j1)) 1 : Fin _) : ℕ) = j1.val := by
  constructor <;> blk_simp [idx_in t] <;> omega

variable (A : Args m c X g W B)
include A

/-- The gain as the row the host makes of it. -/
theorem host_g : V m c main_v0 = E2 1 1024 fun _ l => g l := by
  have e : V m c main_v0 = shapeCast (α := Ideal .f32) S1x1024 (m (c, main_arg1)) shapeCasts_S1024_S1x1024 := by
    entry_read
    rfl
  rw [e, A.g]
  funext j; idx_vars j; pointwise [E2_apply, E1_apply]
theorem blk0 (t : Fin cfg0.N) : @Eq (FVec Ideal S512x1024 .f32) (iblk m c 0 t) (E2 512 1024 fun r l => X (512 * t.val + r) l) := by
  funext j; idx_vars j
  obtain ⟨h0, h1⟩ := emb0 t j0 j1
  have e : iblk m c 0 t (ix2 j0 j1) = V m c main_arg0 (((cfg0.win 0).blk t).view.emb (ix2 j0 j1)) := by blk_simp [iblk]
  refine e.trans ?_
  rw [V_main_arg0, show m ((c : Thread nD τ).loc main_arg0) = E2 8192 1024 X from A.x]
  exact congrArg₂ X h0 h1
theorem blk1 (t : Fin cfg0.N) : @Eq (FVec Ideal S1x1024 .f32) (iblk m c 1 t) (E2 1 1024 fun _ l => g l) := by
  funext j; idx_vars j
  have h1 := emb1 t j0 j1
  have e : iblk m c 1 t (ix2 j0 j1) = V m c main_v0 (((cfg0.win 1).blk t).view.emb (ix2 j0 j1)) := by blk_simp [iblk]
  refine e.trans ?_
  rw [host_g m c X g W B A]
  exact congrArg g h1
theorem down_eq : @Eq (FVec Ideal S4096x1024 .bf16) (V m c main_arg3) (E2 4096 1024 B) := by
  rw [V_main_arg3]; exact A.b
theorem up_eq : @Eq (FVec Ideal S1024x4096 .bf16) (View.canon (LupOf (V m c main_arg2))) (E2 1024 4096 (mCol W)) := by
  rw [V_main_arg2, show m ((c : Thread nD τ).loc main_arg2) = E3 8 1024 512 W from A.w]
  exact up_canon W

/-- The two weights stay in the scratch from the first point on. -/
theorem sc_up : ∀ n (hn : n < cfg0.N), (outsAt0 m c n hn).2.2.1 = E2 1024 4096 (mCol W)
  | 0, hn => (show (outsAt0 m c 0 hn).2.2.1 = _ from up_A m c ⟨0, hn⟩ rfl).trans (up_eq m c X g W B A)
  | n + 1, hn => by
    have hN : n + 1 < 16 := hn
    exact (show (outsAt0 m c (n + 1) hn).2.2.1 = _ from up_B m c ⟨n + 1, hn⟩ (by show ¬ (n + 1) % 16 = 0; omega) (by exact Nat.lt_of_succ_lt hn)).trans
      (sc_up n (Nat.lt_of_succ_lt hn))
theorem sc_down : ∀ n (hn : n < cfg0.N), (outsAt0 m c n hn).2.2.2 = E2 4096 1024 B
  | 0, hn => (show (outsAt0 m c 0 hn).2.2.2 = _ from down_A m c ⟨0, hn⟩ rfl).trans (down_eq m c X g W B A)
  | n + 1, hn => by
    have hN : n + 1 < 16 := hn
    exact (show (outsAt0 m c (n + 1) hn).2.2.2 = _ from down_B m c ⟨n + 1, hn⟩ (by show ¬ (n + 1) % 16 = 0; omega) (by exact Nat.lt_of_succ_lt hn)).trans
      (sc_down n (Nat.lt_of_succ_lt hn))

theorem out_o (t : Fin cfg0.N) : (outsAt0 m c t.val t.isLt).1 = E2 512 1024 fun r l => fOut X g W B (512 * t.val + r) l := by
  have e : (outsAt0 m c t.val t.isLt).1 = k0_pay2 (iblk m c 0 t) (iblk m c 1 t) (E2 1024 4096 (mCol W)) (E2 4096 1024 B) := by
    by_cases h : t.val % 16 = 0
    · rw [o_A m c t h, up_eq m c X g W B A, down_eq m c X g W B A]
    · have hl : t.val - 1 < cfg0.N := lt_of_le_of_lt (Nat.sub_le _ _) t.isLt
      rw [o_B m c t h hl, sc_up m c X g W B A, sc_down m c X g W B A]
  rw [e, blk0 m c X g W B A, blk1 m c X g W B A, pay2_eq]
  rfl
theorem out_r (t : Fin cfg0.N) : (outsAt0 m c t.val t.isLt).2.1 = E2 512 4096 fun r k => mR X g (mCol W) (512 * t.val + r) k := by
  have e : (outsAt0 m c t.val t.isLt).2.1 = k0_pay1 (iblk m c 0 t) (iblk m c 1 t) (E2 1024 4096 (mCol W)) := by
    by_cases h : t.val % 16 = 0
    · rw [r_A m c t h, up_eq m c X g W B A]
    · have hl : t.val - 1 < cfg0.N := lt_of_le_of_lt (Nat.sub_le _ _) t.isLt
      rw [r_B m c t h hl, sc_up m c X g W B A]
  rw [e, blk0 m c X g W B A, blk1 m c X g W B A, pay1_eq]
  rfl

/-- The two arrays the kernel leaves. -/
theorem arr_o : (dats m 0 c).arrAt 2 cfg0.N = E2 8192 1024 (fOut X g W B) := by
  refine (dats m 0 c).arrAt_eq_of_covers 2 _ (by decide +kernel) fun t hf y => ?_
  idx_vars y
  obtain ⟨h0, h1⟩ := emb2 t y0 y1
  blk_simp
  rw [after0_2, out_o m c X g W B A t]
  exact congrArg₂ (fOut X g W B) h0.symm h1.symm
theorem arr_r : (dats m 0 c).arrAt 3 cfg0.N = E2 8192 4096 (mR X g (mCol W)) := by
  refine (dats m 0 c).arrAt_eq_of_covers 3 _ (by decide +kernel) fun t hf y => ?_
  idx_vars y
  obtain ⟨h0, h1⟩ := emb3 t y0 y1
  blk_simp
  rw [after0_3, out_r m c X g W B A t]
  exact congrArg₂ (mR X g (mCol W)) h0.symm h1.symm
omit A

/-- The reference's activation and output. -/
theorem ref_act : Cert.MlpFwdRefIdeal.Read.val_main_v18 (F := Ideal) (E2 8192 1024 X) (E1 1024 g) (E3 8 1024 512 W) = E2 8192 4096 (mR X g (mCol W)) := by
  have h : Cert.MlpFwdRefIdeal.Read.val_main_v17 (F := Ideal) (E2 8192 1024 X) (E1 1024 g) (E3 8 1024 512 W)
    = Cert.MlpBwdRefIdeal.Read.val_main_v34 (F := Ideal) (E2 8192 1024 X) (E1 1024 g) (E3 8 1024 512 W) := rfl
  unfold Cert.MlpFwdRefIdeal.Read.val_main_v18
  rw [h, v34, mulf2]; rfl
theorem ref_r : Cert.MlpFwdRefIdeal.Read.val_main_v22 (F := Ideal) (E2 8192 1024 X) (E1 1024 g) (E3 8 1024 512 W) = E2 8192 4096 (mR X g (mCol W)) := by
  unfold Cert.MlpFwdRefIdeal.Read.val_main_v22
  rw [ref_act, truncf2]
theorem ref_o : Cert.MlpFwdRefIdeal.Read.val_main_v21 (F := Ideal) (E2 8192 1024 X) (E1 1024 g) (E3 8 1024 512 W) (E2 4096 1024 B) = E2 8192 1024 (fOut X g W B) := by
  have e : Cert.MlpFwdRefIdeal.Read.val_main_v20 (F := Ideal) (E2 8192 1024 X) (E1 1024 g) (E3 8 1024 512 W) (E2 4096 1024 B)
      = E2 8192 1024 fun n l => ∑ k ∈ range 4096, mR X g (mCol W) n k * B k l := by
    funext i
    refine (Cert.MlpFwdRefIdeal.Read.val_main_v20_apply _ _ _ _ i).trans ?_
    rw [ref_act]
    exact sum_fin 4096 fun k => mR X g (mCol W) (i 0).val k * B k (i 1).val
  unfold Cert.MlpFwdRefIdeal.Read.val_main_v21
  rw [e, addf2]; rfl

section Arguments
/-- The functions of the four arguments. -/
def aX : ℕ → ℕ → EReal := un2 8192 1024 (m (c, main_arg0))
def ag : ℕ → EReal := un1 1024 (m (c, main_arg1))
def aW : ℕ → ℕ → ℕ → EReal := un3 8 1024 512 (m (c, main_arg2))
def aB : ℕ → ℕ → EReal := un2 4096 1024 (m (c, main_arg3))
theorem args : Args m c (aX m c) (ag m c) (aW m c) (aB m c) where
  x := un2_eq 8192 1024 _
  g := un1_eq 1024 _
  w := un3_eq 8 1024 512 _
  b := un2_eq 4096 1024 _
end Arguments

theorem preserves : Cert.preserves_MlpFwd_MlpFwdIdeal := by
  unfold Cert.preserves_MlpFwd_MlpFwdIdeal; trivial

theorem algebraic : Cert.algebraic_MlpFwdIdeal_MlpFwdRefIdeal := by
  intro m g m' g' _ hag
  refine ⟨fun c => E2 8192 1024 (fOut (aX m c) (ag m c) (aW m c) (aB m c)), fun c => E2 8192 4096 (mR (aX m c) (ag m c) (mCol (aW m c))), ?_, ?_⟩
  · refine (θ_run _ _ _).mono (fun r h c => ?_) (Cert.MlpFwdIdeal.Value.run_blocks m g)
    obtain ⟨h0, h1, k⟩ := h c
    exact ⟨h0.trans (arr_o m c _ _ _ _ (args m c)), h1.trans (arr_r m c _ _ _ _ (args m c)), k⟩
  · refine (θ_run _ _ _).mono (fun r h c => ?_) (Cert.MlpFwdRefIdeal.Value.run m' g')
    obtain ⟨h0, h1, k⟩ := h c
    have A := args m c
    obtain ⟨a0, a1, a2, a3⟩ := hag c
    have V0 : m' ((c.tc : Thread Cert.MlpFwdRefIdeal.nD Cert.MlpFwdRefIdeal.τ).loc Cert.MlpFwdRefIdeal.main_arg0) = E2 8192 1024 (aX m c) := a0.trans A.x
    have V1 : m' ((c.tc : Thread Cert.MlpFwdRefIdeal.nD Cert.MlpFwdRefIdeal.τ).loc Cert.MlpFwdRefIdeal.main_arg1) = E1 1024 (ag m c) := a1.trans A.g
    have V2 : m' ((c.tc : Thread Cert.MlpFwdRefIdeal.nD Cert.MlpFwdRefIdeal.τ).loc Cert.MlpFwdRefIdeal.main_arg2) = E3 8 1024 512 (aW m c) := a2.trans A.w
    have V3 : m' ((c.tc : Thread Cert.MlpFwdRefIdeal.nD Cert.MlpFwdRefIdeal.τ).loc Cert.MlpFwdRefIdeal.main_arg3) = E2 4096 1024 (aB m c) := a3.trans A.b
    refine ⟨h0.trans ((Cert.MlpFwdRefIdeal.Read.val_main_v21_eq (F := Ideal) _ _ _ _).trans ?_),
      h1.trans ((Cert.MlpFwdRefIdeal.Read.val_main_v22_eq (F := Ideal) _ _ _).trans ?_), k⟩
    · rw [V0, V1, V2, V3]; exact ref_o _ _ _ _
    · rw [V0, V1, V2]; exact ref_r _ _ _

end Cert.Mlp.Fwd
end
-- ==== Proof.MlpFwdSame.lean ====
/- The MLP's forward kernel at the machine's words has the text of its ideal program, so its run is that program's. -/
module
public import proofs.«01_k».proof.Defs
public import proofs.«01_k».proof.Proof.Gen.MlpFwd
public import proofs.«01_k».proof.Proof.Gen.MlpFwdIdeal
public import proofs.«01_k».proof.Proof.MlpFwdFrame
@[expose] public section
set_option maxRecDepth 16384
noncomputable section
open Idealize.ShloMosaic Idealize.ShloMosaic.TcCoe Idealize.SL.Sem
namespace Cert.Mlp.Fwd

/-- The two bodies are the same program. -/
theorem body_same : @Cert.MlpFwd.cc0_mlp_fwd Bits _ _ = @Cert.MlpFwdIdeal.cc0_mlp_fwd Bits _ _ := rfl

/-- The two body tables are the same. -/
theorem table_same : (Cert.MlpFwd.defs₀ (F := Bits)) = Cert.MlpFwdIdeal.defs₀ (F := Bits) := by
  unfold Cert.MlpFwd.defs₀ Cert.MlpFwdIdeal.defs₀
  congr 1
  funext l x
  match l, x with
  | ⟨0, _⟩, (t, s) => exact congrArg (fun (f : type_of% (@Cert.MlpFwdIdeal.cc0_mlp_fwd Bits _ _)) => f (Cert.MlpFwdIdeal.grid0.coords t) (Cert.MlpFwdIdeal.win0_0.stage (s 0)) (Cert.MlpFwdIdeal.Gen.hstage0_0 ((s 0).cast Cert.MlpFwdIdeal.Gen.nbuf0_0)) (Cert.MlpFwdIdeal.win0_1.stage (s 1)) _ (Memref.whole Cert.MlpFwdIdeal.main_arg2) _ (Memref.whole Cert.MlpFwdIdeal.main_arg3) _ (Cert.MlpFwdIdeal.win0_2.stage (s 2)) _ (Cert.MlpFwdIdeal.win0_3.stage (s 3)) _ (Memref.whole Cert.MlpFwdIdeal.cc0_scratch0) _ (Memref.whole Cert.MlpFwdIdeal.cc0_scratch1) _ Cert.MlpFwdIdeal.cc0_scratch2) body_same
  | ⟨n + 1, h⟩, _ => exact absurd h (Nat.not_lt.2 (Nat.le_add_left _ _))

/-- The two tables of bodies, regions and pipelines are the same. -/
theorem defs_same : (Cert.MlpFwd.defs (F := Bits)) = Cert.MlpFwdIdeal.defs (F := Bits) :=
  congrArg (Pipeline.defs (Cert.MlpFwdIdeal.pcfgs (F := Bits))) table_same

/-- The two host programs are the same. -/
theorem main_same : (Cert.MlpFwd.main (F := Bits)) = Cert.MlpFwdIdeal.main (F := Bits) := rfl

/-- The frame of the kernel at the machine's words. -/
theorem frame_kernel : Cert.quiescent_MlpFwd := fun m ρ _ => by
  have key : ∀ D, D = Cert.MlpFwdIdeal.defs (F := Bits) → ∀ M, M = Cert.MlpFwdIdeal.main (F := Bits) →
      θ_run D (onTc (τ := Cert.MlpFwdIdeal.τ) M) ⟨m, fun _ => 0, ρ⟩ (fun r => (∀ c : Dev Cert.MlpFwdIdeal.nD,
        r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
        ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
        ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
        ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
        ∧ r.2.sem = fun _ => 0) := by
    rintro _ rfl _ rfl
    exact Cert.MlpFwdIdeal.Gen.frame (F := Bits) m ρ
  exact key _ defs_same _ main_same

end Cert.Mlp.Fwd
end
-- ==== Proof.InFwdOut.lean ====
module

public import proofs.«01_k».proof.Proof.Mlp
public import proofs.«01_k».proof.Proof.Gen.InFwdIdeal.Value
public import proofs.«01_k».proof.Proof.Gen.InFwdRefIdeal.Run
public import proofs.«01_k».proof.Proof.Gen.InFwdRefIdeal.Read

@[expose] public section

set_option maxRecDepth 16384

noncomputable section

/-! The input projection's forward kernel, a block of 512 tokens at a time, equals the normed tokens times the weight. -/

namespace Cert.In.Fwd

open Cert.Mlp Cert.InFwdIdeal Cert.InFwdIdeal.Gen Cert.InFwdIdeal.Value Idealize.ShloMosaic Idealize.ShloMosaic.TcCoe Idealize.SL.Sem Finset

section Pay
variable (X P : ℕ → ℕ → EReal)
theorem mmIn (p) : matmul (F := Ideal) (φ₁ := .bf16) (φ₂ := .bf16) dot_S512x1024_S1024x1536_S512x1536_1_0_0_1_n_n p (E2 512 1024 X) (E2 1024 1536 P)
    (constant S512x1536 .f32 0x00000000#32) = E2 512 1536 fun r k => ∑ j ∈ range 1024, X r j * P j k := by
  funext j; idx_vars j; pointwise [E2_apply]
  exact sum_fin 1024 (fun k => X j0 k * P k j1)
theorem pay1_eq (g : ℕ → EReal) : k0_pay1 (F := Ideal) (E2 512 1024 X) (E2 1 1024 fun _ l => g l) (E2 1024 1536 P)
    = E2 512 1536 fun r k => ∑ j ∈ range 1024, mHn X g r j * P j k := by
  have e : ∀ (x : FVec Ideal S512x1024 .f32) (g : FVec Ideal S1x1024 .f32) (u : FVec Ideal S1024x1536 .bf16), k0_pay1 (F := Ideal) x g u
    = matmul dot_S512x1024_S1024x1536_S512x1536_1_0_0_1_n_n none (Cert.MlpBwdIdeal.Gen.k0_pay16 x g) u (constant S512x1536 .f32 0x00000000#32) := fun _ _ _ => rfl
  rw [e, pay16_eq, mmIn]
  rfl
end Pay

variable (m : (ℓ : Loc nD τ sig) → Buf (Elt Ideal) ℓ) (c : Dev nD)

/-- The projection of the normed tokens. -/
def pOut (X : ℕ → ℕ → EReal) (g : ℕ → EReal) (W : ℕ → ℕ → EReal) (n k : ℕ) : EReal := ∑ j ∈ range 1024, mHn X g n j * W j k

variable (X : ℕ → ℕ → EReal) (g : ℕ → EReal) (W : ℕ → ℕ → EReal)

/-- The three arguments written by functions of natural coordinates. -/
structure Args : Prop where
  x : m (c, main_arg0) = E2 8192 1024 X
  g : m (c, main_arg1) = E1 1024 g
  w : m (c, main_arg2) = E2 1024 1536 W

theorem idx_in : ∀ t : Fin cfg0.N, win0_0.index t = ![t.val, 0] ∧ win0_1.index t = ![0, 0] ∧ win0_2.index t = ![0, 0] ∧ win0_3.index t = ![t.val, 0] :=
  (by decide +kernel : ∀ t : Fin grid0.N, _)
theorem emb3 (t : Fin cfg0.N) (j0 : Fin 512) (j1 : Fin 1536) : (((((cfg0.win 3).blk t).view.emb (ix2 j0 j1)) 0 : Fin _) : ℕ) = 512 * t.val + j0.val
    ∧ (((((cfg0.win 3).blk t).view.emb (ix2 j0 j1)) 1 : Fin _) : ℕ) = j1.val := by
  constructor <;> blk_simp [idx_in t] <;> omega

variable (A : Args m c X g W)
include A

/-- The gain as the row the host makes of it. -/
theorem host_g : V m c main_v0 = E2 1 1024 fun _ l => g l := by
  have e : V m c main_v0 = shapeCast (α := Ideal .f32) S1x1024 (m (c, main_arg1)) shapeCasts_S1024_S1x1024 := by
    entry_read
    rfl
  rw [e, A.g]
  funext j; idx_vars j; pointwise [E2_apply, E1_apply]
theorem blk0 (t : Fin cfg0.N) : @Eq (FVec Ideal S512x1024 .f32) (iblk m c 0 t) (E2 512 1024 fun r l => X (512 * t.val + r) l) := by
  funext j; idx_vars j
  have e : iblk m c 0 t (ix2 j0 j1) = V m c main_arg0 (((cfg0.win 0).blk t).view.emb (ix2 j0 j1)) := by blk_simp [iblk]
  refine e.trans ?_
  rw [V_main_arg0, show m ((c : Thread nD τ).loc main_arg0) = E2 8192 1024 X from A.x]
  refine congrArg₂ X ?_ ?_ <;> blk_simp [idx_in t] <;> omega
theorem blk1 (t : Fin cfg0.N) : @Eq (FVec Ideal S1x1024 .f32) (iblk m c 1 t) (E2 1 1024 fun _ l => g l) := by
  funext j; idx_vars j
  have e : iblk m c 1 t (ix2 j0 j1) = V m c main_v0 (((cfg0.win 1).blk t).view.emb (ix2 j0 j1)) := by blk_simp [iblk]
  refine e.trans ?_
  rw [host_g m c X g W A]
  refine congrArg g ?_; blk_simp [idx_in t]
theorem blk2 (t : Fin cfg0.N) : @Eq (FVec Ideal S1024x1536 .bf16) (iblk m c 2 t) (E2 1024 1536 W) := by
  funext j; idx_vars j
  have e : iblk m c 2 t (ix2 j0 j1) = V m c main_arg2 (((cfg0.win 2).blk t).view.emb (ix2 j0 j1)) := by blk_simp [iblk]
  refine e.trans ?_
  rw [V_main_arg2, show m ((c : Thread nD τ).loc main_arg2) = E2 1024 1536 W from A.w]
  refine congrArg₂ W ?_ ?_ <;> blk_simp [idx_in t]

/-- The array the kernel leaves. -/
theorem arr_o : (dats m 0 c).arrAt 3 cfg0.N = E2 8192 1536 (pOut X g W) := by
  refine (dats m 0 c).arrAt_eq_of_covers 3 _ (by decide +kernel) fun t hf y => ?_
  idx_vars y
  obtain ⟨h0, h1⟩ := emb3 t y0 y1
  blk_simp
  rw [after0_3, blk0 m c X g W A, blk1 m c X g W A, blk2 m c X g W A]
  have e : out0_3 (F := Ideal) (E2 512 1024 fun r l => X (512 * t.val + r) l) (E2 1 1024 fun _ l => g l) (E2 1024 1536 W)
      = E2 512 1536 fun r k => pOut X g W (512 * t.val + r) k := by
    unfold out0_3
    have z : ∀ a, (![0, 0] : Fin 2 → ℕ) a = 0 := by decide
    refine (View.canon_cons_unit_lit _ _ _ z).trans ?_
    refine (congr (congrArg₂ k0_pay1 (View.ld_unit_lit _ _ z) (View.ld_unit_lit _ _ z)) (View.ld_unit_lit _ _ z)).trans ?_
    rw [pay1_eq]
    rfl
  rw [e]
  exact congrArg₂ (pOut X g W) h0.symm h1.symm
omit A

/-- The reference's projection. -/
theorem ref_o : Cert.InFwdRefIdeal.Read.val_main_v14 (F := Ideal) (E2 8192 1024 X) (E1 1024 g) (E2 1024 1536 W) = E2 8192 1536 (pOut X g W) := by
  have h : Cert.InFwdRefIdeal.Read.val_main_v12 (F := Ideal) (E2 8192 1024 X) (E1 1024 g) = E2 8192 1024 (mHn X g) := by
    rw [← v32]; rfl
  funext i
  refine (Cert.InFwdRefIdeal.Read.val_main_v14_apply _ _ _ i).trans ?_
  rw [h]
  exact sum_fin 1024 fun j => mHn X g (i 0).val j * W j (i 1).val

section Arguments
/-- The functions of the three arguments. -/
def aX : ℕ → ℕ → EReal := un2 8192 1024 (m (c, main_arg0))
def ag : ℕ → EReal := un1 1024 (m (c, main_arg1))
def aW : ℕ → ℕ → EReal := un2 1024 1536 (m (c, main_arg2))
theorem args : Args m c (aX m c) (ag m c) (aW m c) where
  x := un2_eq 8192 1024 _
  g := un1_eq 1024 _
  w := un2_eq 1024 1536 _
end Arguments

theorem preserves : Cert.preserves_InFwd_InFwdIdeal := by
  unfold Cert.preserves_InFwd_InFwdIdeal; trivial

theorem algebraic : Cert.algebraic_InFwdIdeal_InFwdRefIdeal := by
  intro m g m' g' _ hag
  refine ⟨fun c => E2 8192 1536 (pOut (aX m c) (ag m c) (aW m c)), ?_, ?_⟩
  · refine (θ_run _ _ _).mono (fun r h c => ?_) (Cert.InFwdIdeal.Value.run_blocks m g)
    obtain ⟨h0, k⟩ := h c
    exact ⟨h0.trans (arr_o m c _ _ _ (args m c)), k⟩
  · refine (θ_run _ _ _).mono (fun r h c => ?_) (Cert.InFwdRefIdeal.Value.run m' g')
    obtain ⟨h0, k⟩ := h c
    have A := args m c
    obtain ⟨a0, a1, a2⟩ := hag c
    have V0 : m' ((c.tc : Thread Cert.InFwdRefIdeal.nD Cert.InFwdRefIdeal.τ).loc Cert.InFwdRefIdeal.main_arg0) = E2 8192 1024 (aX m c) := a0.trans A.x
    have V1 : m' ((c.tc : Thread Cert.InFwdRefIdeal.nD Cert.InFwdRefIdeal.τ).loc Cert.InFwdRefIdeal.main_arg1) = E1 1024 (ag m c) := a1.trans A.g
    have V2 : m' ((c.tc : Thread Cert.InFwdRefIdeal.nD Cert.InFwdRefIdeal.τ).loc Cert.InFwdRefIdeal.main_arg2) = E2 1024 1536 (aW m c) := a2.trans A.w
    refine ⟨h0.trans ((Cert.InFwdRefIdeal.Read.val_main_v14_eq (F := Ideal) _ _ _).trans ?_), k⟩
    rw [V0, V1, V2]; exact ref_o _ _ _

end Cert.In.Fwd
end
-- ==== Proof.InBwdRef.lean ====
module

public import proofs.«01_k».proof.Proof.MlpRefA
public import proofs.«01_k».proof.Proof.Gen.InBwdRefIdeal.Read

@[expose] public section

set_option maxRecDepth 16384

noncomputable section

/-! The reference's gradient of the norm and the input projection, stage by stage, in extended reals. -/

namespace Cert.In.Bwd

open Cert.Mlp Cert.InBwdRefIdeal Cert.InBwdRefIdeal.Gen Cert.InBwdRefIdeal.Read Idealize.ShloMosaic Finset

/-- The five column gradients laid side by side. -/
def dzOf (a q k v e : ℕ → ℕ → EReal) (n j : ℕ) : EReal :=
  if j < 512 then a n j else if j < 1024 then q n (j - 512) else if j < 1152 then k n (j - 1024) else if j < 1280 then v n (j - 1152) else e n (j - 1280)

section Spec
variable (G X Z W D : ℕ → ℕ → EReal) (g : ℕ → EReal) (n : ℕ)
/-- The gradient of the normed input, the gain's part of it, the gradient of the input, and the weight's. -/
def nDn (i : ℕ) : EReal := ∑ k ∈ range 1536, Z n k * W i k
def nDx (i : ℕ) : EReal := D n i * g i
def nDh (i : ℕ) : EReal := G n i + mRs X n * (nDx D g n i - mXh X n i * ((∑ l ∈ range 1024, nDx D g n l * mXh X n l) * C))
def nDw (d j l : ℕ) : EReal := ∑ n ∈ range 8192, mHn X g n j * Z n (192 * d + l)
def nDg (i : ℕ) : EReal := ∑ n ∈ range 8192, D n i * mXh X n i
end Spec

theorem catRef (a q k v e : ℕ → ℕ → EReal) (h) : concatenate (α := Ideal .f32) S8192x1536 1
    [⟨S8192x512, E2 8192 512 a⟩, ⟨S8192x512, E2 8192 512 q⟩, ⟨S8192x128, E2 8192 128 k⟩, ⟨S8192x128, E2 8192 128 v⟩, ⟨S8192x256, E2 8192 256 e⟩] h
    = E2 8192 1536 (dzOf a q k v e) := by
  funext j; idx_vars j; pointwise [E2_apply]
  unfold dzOf
  split_ifs <;> first | rfl | omega | (congr 1; omega)

variable (G X : ℕ → ℕ → EReal) (g : ℕ → EReal) (W : ℕ → ℕ → EReal) (Z : ℕ → ℕ → EReal)
variable (x4 x5 : FVec Ideal S8192x512 .f32) (x6 x7 : FVec Ideal S8192x128 .f32) (x8 : FVec Ideal S8192x256 .f32)

theorem r8 : val_main_v8 (F := Ideal) (E2 8192 1024 X) = E2 8192 1 fun r _ => mRs X r := by
  rw [← v24]; rfl
theorem r11 : val_main_v11 (F := Ideal) (E2 8192 1024 X) = E2 8192 1 fun r _ => ((-(1 / 2) : ℝ) : EReal) * Ideal.div (mRs X r) (mVar X r) := by
  rw [← v27]; rfl
theorem r13 : val_main_v13 (F := Ideal) (E2 8192 1024 X) = E2 8192 1024 (mXh X) := by
  rw [← v29]; rfl
theorem r14 : val_main_v14 (F := Ideal) (E1 1024 g) = E2 1 1024 fun _ l => g l := by
  rw [← v30]; rfl
theorem r53 : val_main_v53 (F := Ideal) (E2 8192 1024 X) (E1 1024 g) = E2 8192 1024 (mHn X g) := by
  rw [← v32]; rfl

variable (hz : val_main_v0 (F := Ideal) x4 x5 x6 x7 x8 = E2 8192 1536 Z)
include hz

theorem r19 : val_main_v19 (F := Ideal) (E2 1024 1536 W) x4 x5 x6 x7 x8 = E2 8192 1024 (nDn Z W) := by
  funext i
  rw [val_main_v19_apply, hz]
  exact sum_fin 1536 fun k => Z (i 0).val k * W (i 1).val k
theorem r21 : val_main_v21 (F := Ideal) (E2 8192 1024 X) (E2 1024 1536 W) x4 x5 x6 x7 x8 = E1 1024 (nDg X (nDn Z W)) := by
  funext i
  rw [val_main_v21_apply, show val_main_cst_3 (F := Ideal) _ = (0 : EReal) from w_zero]
  unfold val_main_v20
  rw [r19 W Z _ _ _ _ _ hz, r13, mulf2, zero_add]
  refine (sum_fin 8192 fun n => mXh X n (i 0).val * nDn Z W n (i 0).val).trans ?_
  simp only [mul_comm (mXh X _ _)]; rfl
theorem r61 : val_main_v61 (F := Ideal) (E2 8192 1024 X) (E2 1024 1536 W) x4 x5 x6 x7 x8 = E2 1 1024 fun _ i => nDg X (nDn Z W) i := by
  have e : val_main_v25 (F := Ideal) (E2 8192 1024 X) (E2 1024 1536 W) x4 x5 x6 x7 x8 = E1 1024 (nDg X (nDn Z W)) := by
    funext i
    rw [val_main_v25_apply, show val_main_cst_4 (F := Ideal) _ = (0 : EReal) from w_zero]
    unfold val_main_v22
    rw [r21 X W Z _ _ _ _ _ hz, hToRow, zero_add]
    exact (Fin.sum_univ_one _).trans rfl
  unfold val_main_v61; rw [e, hToRow]

theorem r24 : val_main_v24 (F := Ideal) (E1 1024 g) (E2 1024 1536 W) x4 x5 x6 x7 x8 = E2 8192 1024 (nDx (nDn Z W) g) := by
  unfold val_main_v24 val_main_v23; rw [r19 W Z _ _ _ _ _ hz, r14, hRow, mulf2]; rfl
theorem r27 : val_main_v27 (F := Ideal) (E2 8192 1024 X) (E1 1024 g) (E2 1024 1536 W) x4 x5 x6 x7 x8 = E1 8192 fun n => ∑ l ∈ range 1024, X n l * nDx (nDn Z W) g n l := by
  funext i
  rw [val_main_v27_apply, show val_main_cst_5 (F := Ideal) _ = (0 : EReal) from w_zero]
  unfold val_main_v26
  rw [r24 g W Z _ _ _ _ _ hz, mulf2, zero_add]
  exact sum_fin 1024 fun l => X (i 0).val l * nDx (nDn Z W) g (i 0).val l
/-- The variance's part of the norm's gradient. -/
def nC (n : ℕ) : EReal := ((∑ l ∈ range 1024, X n l * nDx (nDn Z W) g n l) * (((-(1 / 2) : ℝ) : EReal) * Ideal.div (mRs X n) (mVar X n))) * C
theorem r35 : val_main_v35 (F := Ideal) (E2 8192 1024 X) (E1 1024 g) (E2 1024 1536 W) x4 x5 x6 x7 x8 = E2 8192 1024 fun n _ => nC X g W Z n := by
  have e : val_main_v33 (F := Ideal) (E2 8192 1024 X) (E1 1024 g) (E2 1024 1536 W) x4 x5 x6 x7 x8 = E2 8192 1 fun n _ => nC X g W Z n := by
    unfold val_main_v33 val_main_v31 val_main_v28 val_main_v32 val_main_cst_6
    rw [r27 X g W Z _ _ _ _ _ hz, r11, hToCol, mulf2, hcst1 _ _ _ w_1024, hDiv]
    simp only [div_1024]; rfl
  have e2 : val_main_v34 (F := Ideal) (E2 8192 1024 X) (E1 1024 g) (E2 1024 1536 W) x4 x5 x6 x7 x8 = E1 8192 fun n => nC X g W Z n := by
    funext i
    rw [val_main_v34_apply, show val_main_cst_7 (F := Ideal) _ = (0 : EReal) from w_zero, e, zero_add]
    exact (Fin.sum_univ_one _).trans rfl
  unfold val_main_v35; rw [e2, hColB]
/-- The derivative in the input, with the gradient that passes by the norm. -/
theorem r57 : val_main_v57 (F := Ideal) (E2 8192 1024 G) (E2 8192 1024 X) (E1 1024 g) (E2 1024 1536 W) x4 x5 x6 x7 x8 = E2 8192 1024 (nDh G X (nDn Z W) g) := by
  unfold val_main_v57 val_main_v39 val_main_v38 val_main_v37 val_main_v36 val_main_v30 val_main_v29
  rw [r35 X g W Z _ _ _ _ _ hz, r24 g W Z _ _ _ _ _ hz, r8, hCol, mulf2, mulf2, mulf2, addf2, addf2, addf2]
  refine E2_congr fun n _ i _ => ?_
  obtain ⟨e, hv⟩ : (∑ l ∈ range 1024, nDx (nDn Z W) g n l * mXh X n l)
      = (∑ l ∈ range 1024, X n l * nDx (nDn Z W) g n l) * mRs X n ∧ (mVar X n = ⊤ ∨ ∃ p : ℝ, 0 < p ∧ mVar X n = (p : EReal)) := by
    refine ⟨?_, mVar_cases X n⟩
    unfold mXh mRs
    rcases mVar_cases X n with h | ⟨p, hp, h⟩
    · rw [h, Ideal.rsqrt_top]; simp
    · rw [h, Ideal.rsqrt_coe, if_neg (not_lt.mpr hp.le), if_neg hp.ne', ← sum_mul_real _ _ _ (inv_nonneg.mpr (Real.sqrt_nonneg p))]
      exact sum_congr rfl fun l _ => by rw [mul_comm (X n l) (nDx _ _ _ _), mul_assoc]
  unfold nDh
  rw [e, ← add_assoc, ← add_assoc]
  exact norm_grad _ _ _ _ _ hv
/-- The derivative in the weight, in blocks of 192 columns. -/
theorem r60 : val_main_v60 (F := Ideal) (E2 8192 1024 X) (E1 1024 g) x4 x5 x6 x7 x8 = E3 8 1024 192 (nDw X Z g) := by
  funext i; idx_vars i
  refine (val_main_v59_apply (F := Ideal) _ _ _ _ _ _ _ _).trans ?_
  rw [val_main_v58_apply, val_main_v56_apply, val_main_v55_apply, r53, hz]
  have h0 := i0.isLt
  have h1 := i1.isLt
  have h2 := i2.isLt
  refine (sum_fin 8192 fun n => Z n (((i1.val * 8 + i0.val) * 192 + i2.val) % 1536) * mHn X g n (((i1.val * 8 + i0.val) * 192 + i2.val) / 1536)).trans ?_
  rw [show ((i1.val * 8 + i0.val) * 192 + i2.val) % 1536 = 192 * i0.val + i2.val by omega,
    show ((i1.val * 8 + i0.val) * 192 + i2.val) / 1536 = i1.val by omega, E3_apply]
  exact sum_congr rfl fun n _ => mul_comm _ _

end Cert.In.Bwd
end
-- ==== Proof.InBwdPay.lean ====
module

public import proofs.«01_k».proof.Proof.InBwdRef
public import proofs.«01_k».proof.Proof.Mlp
public import proofs.«01_k».proof.Proof.Gen.InBwdIdeal.Value

@[expose] public section

set_option maxRecDepth 16384

noncomputable section

/-! What one block of 512 tokens contributes to the input projection's gradients, in extended reals. -/

namespace Cert.In.Bwd

open Cert.Mlp Cert.InBwdIdeal Cert.InBwdIdeal.Gen Idealize.ShloMosaic Finset

theorem catBlk (a q k v e : ℕ → ℕ → EReal) (h) : concatenate (α := Ideal .f32) S512x1536 1
    [⟨S512x512, E2 512 512 a⟩, ⟨S512x512, E2 512 512 q⟩, ⟨S512x128, E2 512 128 k⟩, ⟨S512x128, E2 512 128 v⟩, ⟨S512x256, E2 512 256 e⟩] h
    = E2 512 1536 (dzOf a q k v e) := by
  funext j; idx_vars j; pointwise [E2_apply]
  unfold dzOf
  split_ifs <;> first | rfl | omega | (congr 1; omega)

section Ops
variable (F G : ℕ → ℕ → EReal)
theorem mmLane (p) : matmul (F := Ideal) (φ₁ := .bf16) (φ₂ := .bf16) dot_S512x1536_S1024x1536_S512x1024_1_1_0_0_n_n p (E2 512 1536 F) (E2 1024 1536 G)
    (constant S512x1024 .f32 0x00000000#32) = E2 512 1024 (nDn F G) := by
  funext j; idx_vars j; pointwise [E2_apply]
  exact sum_fin 1536 (fun k => F j0 k * G j1 k)
theorem mmRow (p) : matmul (F := Ideal) (φ₁ := .bf16) (φ₂ := .bf16) dot_S512x1024_S512x1536_S1024x1536_0_0_1_1_n_n p (E2 512 1024 F) (E2 512 1536 G)
    (constant S1024x1536 .f32 0x00000000#32) = E2 1024 1536 fun k l => ∑ r ∈ range 512, F r k * G r l := by
  funext j; idx_vars j; pointwise [E2_apply]
  exact sum_fin 512 (fun r => F r j0 * G r j1)
theorem sameAcc (h) : shapeCast (α := Ideal .f32) S1024x1536 (E2 1024 1536 F) h = E2 1024 1536 F := by
  funext j; idx_vars j; pointwise [E2_apply]
theorem toBox (h) : shapeCast (α := Ideal .bf16) S1x1024x192 (E2 1024 192 F) h = E3 1 1024 192 fun _ j l => F j l := by
  funext j; idx_vars j; pointwise [E2_apply, E3_apply]
theorem ldf {n m a b o p : ℕ} (X : ℕ → ℕ → EReal) (h : ∀ i, (![o, p] : Fin 2 → ℕ) i + (![a, b] : Fin 2 → ℕ) i ≤ (![n, m] : Fin 2 → ℕ) i) :
    View.ld (Val := Elt Ideal) (e' := .f32) (S := ⟨2, ![n, m]⟩) (E2 n m X) (Rect.unit (s := ⟨2, ![n, m]⟩) ![o, p] ![a, b] h) = E2 a b fun r l => X (o + r) (p + l) := by
  funext j
  show X (o + 1 * (j 0).val) (p + 1 * (j 1).val) = _
  rw [one_mul, one_mul]; rfl
theorem sub3 {n a b o : ℕ} (X F : ℕ → ℕ → ℕ → EReal) (h : ∀ i, (![o, 0, 0] : Fin 3 → ℕ) i + (![1, a, b] : Fin 3 → ℕ) i ≤ (![n, a, b] : Fin 3 → ℕ) i)
    (v : (⟨3, ![1, a, b]⟩ : Shape).Idx → EReal) (hv : v = E3 1 a b F) (hF : ∀ j < a, ∀ l < b, F 0 j l = X o j l) (x : (⟨3, ![1, a, b]⟩ : Shape).Idx) :
    v x = E3 n a b X ((Rect.unit (s := ⟨3, ![n, a, b]⟩) ![o, 0, 0] ![1, a, b] h).emb x) := by
  have h0 : (x 0).val = 0 := Nat.lt_one_iff.mp (x 0).isLt
  rw [hv]
  show F (x 0).val (x 1).val (x 2).val = X (o + 1 * (x 0).val) (0 + 1 * (x 1).val) (0 + 1 * (x 2).val)
  rw [h0, mul_zero, add_zero, zero_add, one_mul, zero_add, one_mul]
  exact hF _ (x 1).isLt _ (x 2).isLt
end Ops

section Pay
variable (G X W : ℕ → ℕ → EReal) (g : ℕ → EReal) (a q k v e : ℕ → ℕ → EReal)

theorem pay13_eq : k0_pay13 (F := Ideal) = E2 1 1024 fun _ _ => 0 := by unfold k0_pay13; simp only [w_zero, splat2]
theorem pay14_eq : k0_pay14 (F := Ideal) = E2 1024 1536 fun _ _ => 0 := by unfold k0_pay14; simp only [w_zero, splat2, sameAcc]
theorem pay15_eq : k0_pay15 (F := Ideal) (E2 512 1024 X) = E2 512 1 fun r _ => mRs X r := by
  rw [← pay11_eq]; rfl
theorem pay16_eq (g : ℕ → ℕ → EReal) : k0_pay16 (F := Ideal) (E2 1 1024 g) = E2 1 1024 g := by unfold k0_pay16; rw [sameRow]
theorem pay17_eq : k0_pay17 (F := Ideal) (E2 512 512 a) (E2 512 512 q) (E2 512 128 k) (E2 512 128 v) (E2 512 256 e) = E2 512 1536 (dzOf a q k v e) := by
  unfold k0_pay17; exact catBlk a q k v e _
theorem pay18_eq : k0_pay18 (F := Ideal) (E2 512 512 a) (E2 512 512 q) (E2 512 128 k) (E2 512 128 v) (E2 512 256 e) (E2 1024 1536 W)
    = E2 512 1024 (nDn (dzOf a q k v e) W) := by
  unfold k0_pay18; simp only [pay17_eq, truncf2, mmLane]
theorem pay19_eq : k0_pay19 (F := Ideal) (E2 512 1024 X) = E2 512 1024 (mXh X) := by
  unfold k0_pay19; simp only [pay15_eq, bcCol, mulf2]; rfl
theorem pay20_eq : k0_pay20 (F := Ideal) (E2 1 1024 fun _ l => g l) (E2 512 512 a) (E2 512 512 q) (E2 512 128 k) (E2 512 128 v) (E2 512 256 e) (E2 1024 1536 W)
    = E2 512 1024 (nDx (nDn (dzOf a q k v e) W) g) := by
  unfold k0_pay20; simp only [pay16_eq, pay18_eq, bcRow, mulf2]; rfl
theorem pay21_eq : k0_pay21 (F := Ideal) (E2 512 1024 X) (E2 1 1024 fun _ l => g l) (E2 512 512 a) (E2 512 512 q) (E2 512 128 k) (E2 512 128 v) (E2 512 256 e) (E2 1024 1536 W)
    = E2 512 1024 fun r i => mXh X r i * ((∑ l ∈ range 1024, nDx (nDn (dzOf a q k v e) W) g r l * mXh X r l) * C) := by
  have h : ∀ (x : FVec Ideal S512x1024 .f32) (g : FVec Ideal S1x1024 .f32) (a q : FVec Ideal S512x512 .f32) (k v : FVec Ideal S512x128 .f32) (e : FVec Ideal S512x256 .f32)
      (w : FVec Ideal S1024x1536 .bf16), k0_pay21 (F := Ideal) x g a q k v e w
    = mulf (k0_pay19 x) (broadcastTo S512x1024 (divf (shapeCast S512x1 (redL (mulf (k0_pay20 g a q k v e w) (k0_pay19 x))) shapeCasts_S512_S512x1)
        (broadcast S512x1 (Scalar.ofBits .f32 0x44800000#32))) broadcasts_S512x1_S512x1024) := fun _ _ _ _ _ _ _ _ => rfl
  rw [h]
  simp only [pay19_eq, pay20_eq, mulf2, redL_eq, toCol, w_1024, splat2, div1024, bcCol]
/-- The gradient of the input over a block. -/
theorem dh_eq : k0_pay1 (F := Ideal) (k0_pay15 (E2 512 1024 X))
      (k0_pay20 (E2 1 1024 fun _ l => g l) (E2 512 512 a) (E2 512 512 q) (E2 512 128 k) (E2 512 128 v) (E2 512 256 e) (E2 1024 1536 W))
      (k0_pay21 (E2 512 1024 X) (E2 1 1024 fun _ l => g l) (E2 512 512 a) (E2 512 512 q) (E2 512 128 k) (E2 512 128 v) (E2 512 256 e) (E2 1024 1536 W)) (E2 512 1024 G)
    = E2 512 1024 (nDh G X (nDn (dzOf a q k v e) W) g) := by
  unfold k0_pay1; simp only [pay15_eq, pay20_eq, pay21_eq, subf2, bcCol, mulf2, addf2]; rfl
/-- The gain's gradient after a block. -/
theorem dg_eq (d : ℕ → ℕ → EReal) : k0_pay2 (F := Ideal)
      (k0_pay18 (E2 512 512 a) (E2 512 512 q) (E2 512 128 k) (E2 512 128 v) (E2 512 256 e) (E2 1024 1536 W)) (k0_pay19 (E2 512 1024 X)) (E2 1 1024 d)
    = E2 1 1024 fun z i => d z i + ∑ r ∈ range 512, nDn (dzOf a q k v e) W r i * mXh X r i := by
  have h : ∀ (x y : FVec Ideal S512x1024 .f32) (d : FVec Ideal S1x1024 .f32), k0_pay2 (F := Ideal) x y d
      = addf (shapeCast S1x1024 d shapeCasts_S1x1024_S1x1024) (shapeCast S1x1024 (redR (mulf x y)) shapeCasts_S1024_S1x1024) := fun _ _ _ => rfl
  rw [h]
  simp only [pay18_eq, pay19_eq, mulf2, redR_eq, toRow, sameRow, addf2]
/-- The weight's gradient after a block. -/
theorem acc_eq (S : ℕ → ℕ → EReal) : k0_pay3 (F := Ideal) (E2 512 1024 X) (k0_pay15 (E2 512 1024 X)) (k0_pay16 (E2 1 1024 fun _ l => g l))
      (k0_pay17 (E2 512 512 a) (E2 512 512 q) (E2 512 128 k) (E2 512 128 v) (E2 512 256 e)) (E2 1024 1536 S)
    = E2 1024 1536 fun j l => S j l + ∑ r ∈ range 512, mHn X g r j * dzOf a q k v e r l := by
  unfold k0_pay3; simp only [pay15_eq, pay16_eq, pay17_eq, bcCol, bcRow, mulf2, truncf2, mmRow, addf2, sameAcc]; rfl
theorem pay7_eq (S : ℕ → ℕ → EReal) : k0_pay7 (F := Ideal) (E2 1024 192 S) = E3 1 1024 192 fun _ j l => S j l := by
  unfold k0_pay7; simp only [truncf2, toBox]
end Pay

end Cert.In.Bwd
end
-- ==== Proof.InBwdPoint.lean ====
module

public import proofs.«01_k».proof.Proof.InBwdPay
public import proofs.«01_k».proof.Proof.Gen.InBwdIdeal.Points

@[expose] public section

set_option maxRecDepth 16384

noncomputable section

/-! What each point of the input projection's backward kernel leaves, as the block's terms. -/

namespace Cert.In.Bwd

open Cert.Mlp Cert.InBwdIdeal Cert.InBwdIdeal.Gen Cert.InBwdIdeal.Value Idealize.ShloMosaic Idealize.ShloMosaic.TcCoe Idealize.SL.Sem Finset

/-- The accumulated weight gradient's columns, 192 at a time. -/
abbrev cols (S : FVec Ideal S1024x1536 .f32) (o : ℕ) (h : ∀ i, (![0, o] : Fin 2 → ℕ) i + (![1024, 192] : Fin 2 → ℕ) i ≤ (![1024, 1536] : Fin 2 → ℕ) i) :
    FVec Ideal S1024x192 .f32 := View.ld (Val := Elt Ideal) (e' := .f32) S (Rect.unit ![0, o] ![1024, 192] h)
/-- The eight stores of the last point. -/
def Ldw (S : FVec Ideal S1024x1536 .f32) : List (View.Piece (Elt Ideal) S8x1024x192 .bf16) :=
  [⟨Rect.unit ![7, 0, 0] ![1, 1024, 192] inb_S8x1024x192_S1x1024x192_7_0_0, k0_pay6 (F := Ideal) (cols S 1344 inb_S1024x1536_S1024x192_0_1344)⟩,
   ⟨Rect.unit ![6, 0, 0] ![1, 1024, 192] inb_S8x1024x192_S1x1024x192_6_0_0, k0_pay5 (F := Ideal) (cols S 1152 inb_S1024x1536_S1024x192_0_1152)⟩,
   ⟨Rect.unit ![5, 0, 0] ![1, 1024, 192] inb_S8x1024x192_S1x1024x192_5_0_0, k0_pay4 (F := Ideal) (k0_pay12 (cols S 960 inb_S1024x1536_S1024x192_0_960))⟩,
   ⟨Rect.unit ![4, 0, 0] ![1, 1024, 192] inb_S8x1024x192_S1x1024x192_4_0_0, k0_pay11 (F := Ideal) (cols S 768 inb_S1024x1536_S1024x192_0_768)⟩,
   ⟨Rect.unit ![3, 0, 0] ![1, 1024, 192] inb_S8x1024x192_S1x1024x192_3_0_0, k0_pay10 (F := Ideal) (cols S 576 inb_S1024x1536_S1024x192_0_576)⟩,
   ⟨Rect.unit ![2, 0, 0] ![1, 1024, 192] inb_S8x1024x192_S1x1024x192_2_0_0, k0_pay9 (F := Ideal) (cols S 384 inb_S1024x1536_S1024x192_0_384)⟩,
   ⟨Rect.unit ![1, 0, 0] ![1, 1024, 192] inb_S8x1024x192_S1x1024x192_1_0_0, k0_pay8 (F := Ideal) (cols S 192 inb_S1024x1536_S1024x192_0_192)⟩,
   ⟨Rect.unit ![0, 0, 0] ![1, 1024, 192] inb_S8x1024x192_S1x1024x192_0_0_0, k0_pay7 (F := Ideal) (cols S 0 inb_S1024x1536_S1024x192_0_0)⟩]

section Point
variable (m : (ℓ : Loc nD τ sig) → Buf (Elt Ideal) ℓ) (c : Dev nD) (t : Fin cfg0.N)
/-- The three terms of a point: the input's gradient, the gain's from `d`, the weight's from `S`. -/
def tDh : FVec Ideal S512x1024 .f32 := k0_pay1 (k0_pay15 (iblk m c 1 t))
  (k0_pay20 (iblk m c 2 t) (iblk m c 4 t) (iblk m c 5 t) (iblk m c 6 t) (iblk m c 7 t) (iblk m c 8 t) (iblk m c 3 t))
  (k0_pay21 (iblk m c 1 t) (iblk m c 2 t) (iblk m c 4 t) (iblk m c 5 t) (iblk m c 6 t) (iblk m c 7 t) (iblk m c 8 t) (iblk m c 3 t)) (iblk m c 0 t)
def tDg (d : FVec Ideal S1x1024 .f32) : FVec Ideal S1x1024 .f32 := k0_pay2
  (k0_pay18 (iblk m c 4 t) (iblk m c 5 t) (iblk m c 6 t) (iblk m c 7 t) (iblk m c 8 t) (iblk m c 3 t)) (k0_pay19 (iblk m c 1 t)) d
def tAcc (S : FVec Ideal S1024x1536 .f32) : FVec Ideal S1024x1536 .f32 := k0_pay3 (iblk m c 1 t) (k0_pay15 (iblk m c 1 t)) (k0_pay16 (iblk m c 2 t))
  (k0_pay17 (iblk m c 4 t) (iblk m c 5 t) (iblk m c 6 t) (iblk m c 7 t) (iblk m c 8 t)) S

theorem acc_A (h0 : t.val % 16 = 0) : (outsAt0 m c t.val t.isLt).2.2.2 = tAcc m c t k0_pay14 := by
  rw [outsAt0_A m c t h0 (by omega)]
  frame_open
  simp (disch := decide) only [↓ View.readCov_fill]
  frame_out
  rfl
theorem dg_A (h0 : t.val % 16 = 0) : (outsAt0 m c t.val t.isLt).2.2.1 = tDg m c t k0_pay13 := by
  rw [outsAt0_A m c t h0 (by omega)]
  frame_open
  simp (disch := decide) only [↓ View.readCov_fill]
  frame_out
  rfl
theorem dh_A (h0 : t.val % 16 = 0) : (outsAt0 m c t.val t.isLt).1 = tDh m c t := by
  rw [outsAt0_A m c t h0 (by omega)]
  frame_open
  frame_out
  rfl
theorem acc_B (h0 : ¬ t.val % 16 = 0) (h) : (outsAt0 m c t.val t.isLt).2.2.2 = tAcc m c t (outsAt0 m c (t.val - 1) h).2.2.2 := by
  by_cases h1 : t.val % 16 = 15
  · rw [outsAt0_C m c t h0 h1]
    frame_out
    simp only [read_unread_whole]
    rfl
  · rw [outsAt0_B m c t h0 h1]
    frame_out
    simp only [read_unread_whole]
    rfl
theorem dg_B (h0 : ¬ t.val % 16 = 0) (h) : (outsAt0 m c t.val t.isLt).2.2.1 = tDg m c t (outsAt0 m c (t.val - 1) h).2.2.1 := by
  by_cases h1 : t.val % 16 = 15
  · rw [outsAt0_C m c t h0 h1]
    frame_out
    rfl
  · rw [outsAt0_B m c t h0 h1]
    frame_out
    rfl
theorem dh_B (h0 : ¬ t.val % 16 = 0) : (outsAt0 m c t.val t.isLt).1 = tDh m c t := by
  by_cases h1 : t.val % 16 = 15
  · rw [outsAt0_C m c t h0 h1]
    frame_out
    rfl
  · rw [outsAt0_B m c t h0 h1]
    frame_out
    rfl
theorem dw_C (h1 : t.val % 16 = 15) (h) : (outsAt0 m c t.val t.isLt).2.1 = View.canon (Ldw (tAcc m c t (outsAt0 m c (t.val - 1) h).2.2.2)) := by
  rw [outsAt0_C m c t (by omega) h1]
  frame_open
  simp only [readCov_ld]
  frame_out
  simp only [canon_all, read_unread_whole]
  rfl
end Point

end Cert.In.Bwd
end
-- ==== Proof.InBwdOut.lean ====
module

public import proofs.«01_k».proof.Proof.InBwdPoint
public import proofs.«01_k».proof.Proof.Gen.InBwdRefIdeal.Run

@[expose] public section

set_option maxRecDepth 16384

noncomputable section

/-! The input projection's backward kernel equals the derivative: of the input, of the weight in blocks of 192 columns, of the gain. -/

namespace Cert.In.Bwd

open Cert.Mlp Cert.InBwdIdeal Cert.InBwdIdeal.Gen Cert.InBwdIdeal.Value Idealize.ShloMosaic Idealize.ShloMosaic.TcCoe Idealize.SL.Sem Finset

section Pieces
variable (S : ℕ → ℕ → EReal)
/-- The eight column blocks of the accumulated weight gradient, one under the other. -/
def boxOf (d j l : ℕ) : EReal := S j (192 * d + l)
theorem cols_eq (o : ℕ) (h) : cols (E2 1024 1536 S) o h = E2 1024 192 fun j l => S j (o + l) := by
  unfold cols
  rw [ldf]
  exact E2_congr fun j _ l _ => by rw [zero_add]
theorem cov8 (U : FVec Ideal S1024x1536 .f32) (y : S8x1024x192.Idx) : ∃ p ∈ Ldw U, y ∈ p.1.set := by
  have y0 : (y 0).val < 8 := (y 0).isLt
  have y1 : (y 1).val < 1024 := (y 1).isLt
  have y2 : (y 2).val < 192 := (y 2).isLt
  have key : ∀ (o : ℕ) (h), (y 0).val = o → y ∈ (Rect.unit (s := S8x1024x192) ![o, 0, 0] ![1, 1024, 192] h).set := by
    intro o h ho
    refine (Rect.mem_set_unit (inb := h)).mpr fun i => ?_
    match i with
    | ⟨0, _⟩ => show o ≤ (y 0).val ∧ (y 0).val < o + 1; omega
    | ⟨1, _⟩ => show 0 ≤ (y 1).val ∧ (y 1).val < 0 + 1024; omega
    | ⟨2, _⟩ => show 0 ≤ (y 2).val ∧ (y 2).val < 0 + 192; omega
  have hd : ∀ d : Fin 8, ∀ i, (![d.val, 0, 0] : Fin 3 → ℕ) i + (![1, 1024, 192] : Fin 3 → ℕ) i ≤ (![8, 1024, 192] : Fin 3 → ℕ) i := by decide
  unfold Ldw
  rcases (by omega : (y 0).val = 0 ∨ (y 0).val = 1 ∨ (y 0).val = 2 ∨ (y 0).val = 3 ∨ (y 0).val = 4 ∨ (y 0).val = 5 ∨ (y 0).val = 6 ∨ (y 0).val = 7)
    with h | h | h | h | h | h | h | h
  · exact ⟨_, .tail _ (.tail _ (.tail _ (.tail _ (.tail _ (.tail _ (.tail _ (.head _))))))), key 0 (hd 0) h⟩
  · exact ⟨_, .tail _ (.tail _ (.tail _ (.tail _ (.tail _ (.tail _ (.head _)))))), key 1 (hd 1) h⟩
  · exact ⟨_, .tail _ (.tail _ (.tail _ (.tail _ (.tail _ (.head _))))), key 2 (hd 2) h⟩
  · exact ⟨_, .tail _ (.tail _ (.tail _ (.tail _ (.head _)))), key 3 (hd 3) h⟩
  · exact ⟨_, .tail _ (.tail _ (.tail _ (.head _))), key 4 (hd 4) h⟩
  · exact ⟨_, .tail _ (.tail _ (.head _)), key 5 (hd 5) h⟩
  · exact ⟨_, .tail _ (.head _), key 6 (hd 6) h⟩
  · exact ⟨_, .head _, key 7 (hd 7) h⟩
theorem dw_pieces : View.PiecesOf (e := .bf16) (E3 8 1024 192 (boxOf S)) (Ldw (E2 1024 1536 S)) := by
  unfold Ldw
  refine ⟨?_, ?_, ?_, ?_, ?_, ?_, ?_, ?_, trivial⟩
  · exact sub3 _ _ (by decide) _ ((congrArg (k0_pay7 (F := Ideal)) (cols_eq S 1344 _)).trans (pay7_eq _)) fun j _ l _ => rfl
  · exact sub3 _ _ (by decide) _ ((congrArg (k0_pay7 (F := Ideal)) (cols_eq S 1152 _)).trans (pay7_eq _)) fun j _ l _ => rfl
  · exact sub3 _ _ (by decide) _ ((congrArg (k0_pay7 (F := Ideal)) (cols_eq S 960 _)).trans (pay7_eq _)) fun j _ l _ => rfl
  · exact sub3 _ _ (by decide) _ ((congrArg (k0_pay7 (F := Ideal)) (cols_eq S 768 _)).trans (pay7_eq _)) fun j _ l _ => rfl
  · exact sub3 _ _ (by decide) _ ((congrArg (k0_pay7 (F := Ideal)) (cols_eq S 576 _)).trans (pay7_eq _)) fun j _ l _ => rfl
  · exact sub3 _ _ (by decide) _ ((congrArg (k0_pay7 (F := Ideal)) (cols_eq S 384 _)).trans (pay7_eq _)) fun j _ l _ => rfl
  · exact sub3 _ _ (by decide) _ ((congrArg (k0_pay7 (F := Ideal)) (cols_eq S 192 _)).trans (pay7_eq _)) fun j _ l _ => rfl
  · exact sub3 _ _ (by decide) _ ((congrArg (k0_pay7 (F := Ideal)) (cols_eq S 0 _)).trans (pay7_eq _)) fun j _ l _ => rfl
theorem dw_canon : View.canon (Ldw (E2 1024 1536 S)) = E3 8 1024 192 (boxOf S) := by
  funext y
  exact View.canon_apply_of_pieces _ _ (dw_pieces S).mem y (cov8 _ y)
end Pieces

variable (m : (ℓ : Loc nD τ sig) → Buf (Elt Ideal) ℓ) (c : Dev nD)
variable (G X : ℕ → ℕ → EReal) (g : ℕ → EReal) (W a q k v e : ℕ → ℕ → EReal)

/-- The nine arguments written by functions of natural coordinates. -/
structure Args : Prop where
  g0 : m (c, main_arg0) = E2 8192 1024 G
  x : m (c, main_arg1) = E2 8192 1024 X
  g : m (c, main_arg2) = E1 1024 g
  w : m (c, main_arg3) = E2 1024 1536 W
  a : m (c, main_arg4) = E2 8192 512 a
  q : m (c, main_arg5) = E2 8192 512 q
  k : m (c, main_arg6) = E2 8192 128 k
  v : m (c, main_arg7) = E2 8192 128 v
  e : m (c, main_arg8) = E2 8192 256 e

theorem idx_row : ∀ t : Fin cfg0.N, win0_0.index t = ![t.val, 0] ∧ win0_1.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)
theorem idx_one : ∀ t : Fin cfg0.N, win0_2.index t = ![0, 0] ∧ win0_3.index t = ![0, 0] :=
  (by decide +kernel : ∀ t : Fin grid0.N, _)
theorem emb9 (t : Fin cfg0.N) (j0 : Fin 512) (j1 : Fin 1024) : (((((cfg0.win 9).blk t).view.emb (ix2 j0 j1)) 0 : Fin _) : ℕ) = 512 * t.val + j0.val
    ∧ (((((cfg0.win 9).blk t).view.emb (ix2 j0 j1)) 1 : Fin _) : ℕ) = j1.val := by
  constructor <;> blk_simp [idx_row t] <;> omega

variable (A : Args m c G X g W a q k v e)
include A

/-- The gain as the row the host makes of it. -/
theorem host_g : V m c main_v0 = E2 1 1024 fun _ l => g l := by
  have h : V m c main_v0 = shapeCast (α := Ideal .f32) S1x1024 (m (c, main_arg2)) shapeCasts_S1024_S1x1024 := by
    entry_read
    rfl
  rw [h, A.g]
  funext j; idx_vars j; pointwise [E2_apply, E1_apply]
theorem blk0 (t : Fin cfg0.N) : @Eq (FVec Ideal S512x1024 .f32) (iblk m c 0 t) (E2 512 1024 fun r l => G (512 * t.val + r) l) := by
  funext j; idx_vars j
  have h : iblk m c 0 t (ix2 j0 j1) = V m c main_arg0 (((cfg0.win 0).blk t).view.emb (ix2 j0 j1)) := by blk_simp [iblk]
  refine h.trans ?_
  rw [V_main_arg0, show m ((c : Thread nD τ).loc main_arg0) = E2 8192 1024 G from A.g0]
  refine congrArg₂ G ?_ ?_ <;> blk_simp [idx_row t] <;> omega
theorem blk1 (t : Fin cfg0.N) : @Eq (FVec Ideal S512x1024 .f32) (iblk m c 1 t) (E2 512 1024 fun r l => X (512 * t.val + r) l) := by
  funext j; idx_vars j
  have h : iblk m c 1 t (ix2 j0 j1) = V m c main_arg1 (((cfg0.win 1).blk t).view.emb (ix2 j0 j1)) := by blk_simp [iblk]
  refine h.trans ?_
  rw [V_main_arg1, show m ((c : Thread nD τ).loc main_arg1) = E2 8192 1024 X from A.x]
  refine congrArg₂ X ?_ ?_ <;> blk_simp [idx_row t] <;> omega
theorem blk4 (t : Fin cfg0.N) : @Eq (FVec Ideal S512x512 .f32) (iblk m c 4 t) (E2 512 512 fun r l => a (512 * t.val + r) l) := by
  funext j; idx_vars j
  have h : iblk m c 4 t (ix2 j0 j1) = V m c main_arg4 (((cfg0.win 4).blk t).view.emb (ix2 j0 j1)) := by blk_simp [iblk]
  refine h.trans ?_
  rw [V_main_arg4, show m ((c : Thread nD τ).loc main_arg4) = E2 8192 512 a from A.a]
  refine congrArg₂ a ?_ ?_ <;> blk_simp [idx_row t] <;> omega
theorem blk5 (t : Fin cfg0.N) : @Eq (FVec Ideal S512x512 .f32) (iblk m c 5 t) (E2 512 512 fun r l => q (512 * t.val + r) l) := by
  funext j; idx_vars j
  have h : iblk m c 5 t (ix2 j0 j1) = V m c main_arg5 (((cfg0.win 5).blk t).view.emb (ix2 j0 j1)) := by blk_simp [iblk]
  refine h.trans ?_
  rw [V_main_arg5, show m ((c : Thread nD τ).loc main_arg5) = E2 8192 512 q from A.q]
  refine congrArg₂ q ?_ ?_ <;> blk_simp [idx_row t] <;> omega
theorem blk6 (t : Fin cfg0.N) : @Eq (FVec Ideal S512x128 .f32) (iblk m c 6 t) (E2 512 128 fun r l => k (512 * t.val + r) l) := by
  funext j; idx_vars j
  have h : iblk m c 6 t (ix2 j0 j1) = V m c main_arg6 (((cfg0.win 6).blk t).view.emb (ix2 j0 j1)) := by blk_simp [iblk]
  refine h.trans ?_
  rw [V_main_arg6, show m ((c : Thread nD τ).loc main_arg6) = E2 8192 128 k from A.k]
  refine congrArg₂ k ?_ ?_ <;> blk_simp [idx_row t] <;> omega
theorem blk7 (t : Fin cfg0.N) : @Eq (FVec Ideal S512x128 .f32) (iblk m c 7 t) (E2 512 128 fun r l => v (512 * t.val + r) l) := by
  funext j; idx_vars j
  have h : iblk m c 7 t (ix2 j0 j1) = V m c main_arg7 (((cfg0.win 7).blk t).view.emb (ix2 j0 j1)) := by blk_simp [iblk]
  refine h.trans ?_
  rw [V_main_arg7, show m ((c : Thread nD τ).loc main_arg7) = E2 8192 128 v from A.v]
  refine congrArg₂ v ?_ ?_ <;> blk_simp [idx_row t] <;> omega
theorem blk8 (t : Fin cfg0.N) : @Eq (FVec Ideal S512x256 .f32) (iblk m c 8 t) (E2 512 256 fun r l => e (512 * t.val + r) l) := by
  funext j; idx_vars j
  have h : iblk m c 8 t (ix2 j0 j1) = V m c main_arg8 (((cfg0.win 8).blk t).view.emb (ix2 j0 j1)) := by blk_simp [iblk]
  refine h.trans ?_
  rw [V_main_arg8, show m ((c : Thread nD τ).loc main_arg8) = E2 8192 256 e from A.e]
  refine congrArg₂ e ?_ ?_ <;> blk_simp [idx_row t] <;> omega
theorem blk2 (t : Fin cfg0.N) : @Eq (FVec Ideal S1x1024 .f32) (iblk m c 2 t) (E2 1 1024 fun _ l => g l) := by
  funext j; idx_vars j
  have h : iblk m c 2 t (ix2 j0 j1) = V m c main_v0 (((cfg0.win 2).blk t).view.emb (ix2 j0 j1)) := by blk_simp [iblk]
  refine h.trans ?_
  rw [host_g m c G X g W a q k v e A]
  refine congrArg g ?_; blk_simp [idx_one t]
theorem blk3 (t : Fin cfg0.N) : @Eq (FVec Ideal S1024x1536 .bf16) (iblk m c 3 t) (E2 1024 1536 W) := by
  funext j; idx_vars j
  have h : iblk m c 3 t (ix2 j0 j1) = V m c main_arg3 (((cfg0.win 3).blk t).view.emb (ix2 j0 j1)) := by blk_simp [iblk]
  refine h.trans ?_
  rw [V_main_arg3, show m ((c : Thread nD τ).loc main_arg3) = E2 1024 1536 W from A.w]
  refine congrArg₂ W ?_ ?_ <;> blk_simp [idx_one t]

theorem tDh_eq (t : Fin cfg0.N) : tDh m c t = E2 512 1024 fun r l => nDh G X (nDn (dzOf a q k v e) W) g (512 * t.val + r) l := by
  unfold tDh
  rw [blk0 m c G X g W a q k v e A, blk1 m c G X g W a q k v e A, blk2 m c G X g W a q k v e A,
    blk3 m c G X g W a q k v e A, blk4 m c G X g W a q k v e A, blk5 m c G X g W a q k v e A,
    blk6 m c G X g W a q k v e A, blk7 m c G X g W a q k v e A, blk8 m c G X g W a q k v e A, dh_eq]
  rfl
theorem tDg_eq (t : Fin cfg0.N) (d : ℕ → ℕ → EReal) : tDg m c t (E2 1 1024 d) = E2 1 1024 fun z i => d z i + ∑ r ∈ range 512,
    nDn (dzOf a q k v e) W (512 * t.val + r) i * mXh X (512 * t.val + r) i := by
  unfold tDg
  rw [blk1 m c G X g W a q k v e A, blk3 m c G X g W a q k v e A, blk4 m c G X g W a q k v e A,
    blk5 m c G X g W a q k v e A, blk6 m c G X g W a q k v e A,
    blk7 m c G X g W a q k v e A, blk8 m c G X g W a q k v e A, dg_eq]
  rfl
theorem tAcc_eq (t : Fin cfg0.N) (S : ℕ → ℕ → EReal) : tAcc m c t (E2 1024 1536 S) = E2 1024 1536 fun j l => S j l + ∑ r ∈ range 512,
    mHn X g (512 * t.val + r) j * dzOf a q k v e (512 * t.val + r) l := by
  unfold tAcc
  rw [blk1 m c G X g W a q k v e A, blk2 m c G X g W a q k v e A, blk4 m c G X g W a q k v e A,
    blk5 m c G X g W a q k v e A, blk6 m c G X g W a q k v e A,
    blk7 m c G X g W a q k v e A, blk8 m c G X g W a q k v e A, acc_eq]
  rfl

/-- The gain's gradient and the scratch after each point: the sums over the token blocks seen so far. -/
theorem sum_dg : ∀ n (hn : n < cfg0.N), (outsAt0 m c n hn).2.2.1 = E2 1 1024 fun _ i => ∑ u ∈ range (n + 1), ∑ r ∈ range 512,
      nDn (dzOf a q k v e) W (512 * u + r) i * mXh X (512 * u + r) i
  | 0, hn => by
    rw [show (outsAt0 m c 0 hn).2.2.1 = _ from dg_A m c ⟨0, hn⟩ rfl, pay13_eq, tDg_eq m c G X g W a q k v e A]
    simp only [zero_add, sum_range_one]
  | n + 1, hn => by
    have hN : n + 1 < 16 := hn
    have hl : n < cfg0.N := Nat.lt_of_succ_lt hn
    rw [show (outsAt0 m c (n + 1) hn).2.2.1 = _ from dg_B m c ⟨n + 1, hn⟩ (by show ¬ (n + 1) % 16 = 0; omega) hl,
      show (outsAt0 m c ((⟨n + 1, hn⟩ : Fin cfg0.N).val - 1) _).2.2.1 = _ from sum_dg n hl, tDg_eq m c G X g W a q k v e A]
    simp only [sum_range_succ _ (n + 1)]
theorem sum_acc : ∀ n (hn : n < cfg0.N), (outsAt0 m c n hn).2.2.2 = E2 1024 1536 fun j l => ∑ u ∈ range (n + 1), ∑ r ∈ range 512,
      mHn X g (512 * u + r) j * dzOf a q k v e (512 * u + r) l
  | 0, hn => by
    rw [show (outsAt0 m c 0 hn).2.2.2 = _ from acc_A m c ⟨0, hn⟩ rfl, pay14_eq, tAcc_eq m c G X g W a q k v e A]
    simp only [zero_add, sum_range_one]
  | n + 1, hn => by
    have hN : n + 1 < 16 := hn
    have hl : n < cfg0.N := Nat.lt_of_succ_lt hn
    rw [show (outsAt0 m c (n + 1) hn).2.2.2 = _ from acc_B m c ⟨n + 1, hn⟩ (by show ¬ (n + 1) % 16 = 0; omega) hl,
      show (outsAt0 m c ((⟨n + 1, hn⟩ : Fin cfg0.N).val - 1) _).2.2.2 = _ from sum_acc n hl, tAcc_eq m c G X g W a q k v e A]
    simp only [sum_range_succ _ (n + 1)]

/-- The three arrays the kernel leaves. -/
theorem arr_dh : (dats m 0 c).arrAt 9 cfg0.N = E2 8192 1024 (nDh G X (nDn (dzOf a q k v e) W) g) := by
  refine (dats m 0 c).arrAt_eq_of_covers 9 _ (by decide +kernel) fun t hf y => ?_
  idx_vars y
  obtain ⟨h0, h1⟩ := emb9 t y0 y1
  have h : (outsAt0 m c t.val t.isLt).1 = tDh m c t := by
    by_cases h : t.val % 16 = 0
    · exact dh_A m c t h
    · exact dh_B m c t h
  blk_simp
  rw [after0_9, h, tDh_eq m c G X g W a q k v e A]
  exact congrArg₂ (nDh G X (nDn (dzOf a q k v e) W) g) h0.symm h1.symm
theorem arr_dw : (dats m 0 c).arrAt 10 cfg0.N = E3 8 1024 192 (nDw X (dzOf a q k v e) g) := by
  refine (dats m 0 c).arrAt_eq_of_after_last 10 t0_15 (by decide +kernel) _ fun j => ?_
  blk_simp
  have hl : t0_15.val - 1 < cfg0.N := by decide
  rw [after0_10, dw_C m c t0_15 rfl hl, ← acc_B m c t0_15 (by decide) hl, sum_acc m c G X g W a q k v e A, dw_canon]
  exact sum_blocks 16 512 fun n => mHn X g n (j 1).val * dzOf a q k v e n (192 * (j 0).val + (j 2).val)
theorem arr_dg : (dats m 0 c).arrAt 11 cfg0.N = E2 1 1024 fun _ i => nDg X (nDn (dzOf a q k v e) W) i := by
  refine (dats m 0 c).arrAt_eq_of_after_last 11 t0_15 (by decide +kernel) _ fun j => ?_
  blk_simp
  rw [after0_11, sum_dg m c G X g W a q k v e A]
  exact sum_blocks 16 512 fun n => nDn (dzOf a q k v e) W n (j 1).val * mXh X n (j 1).val
omit A

section Arguments
/-- The functions of the nine arguments. -/
def aG : ℕ → ℕ → EReal := un2 8192 1024 (m (c, main_arg0))
def aX : ℕ → ℕ → EReal := un2 8192 1024 (m (c, main_arg1))
def aA : ℕ → ℕ → EReal := un2 8192 512 (m (c, main_arg4))
def aQ : ℕ → ℕ → EReal := un2 8192 512 (m (c, main_arg5))
def aK : ℕ → ℕ → EReal := un2 8192 128 (m (c, main_arg6))
def aV : ℕ → ℕ → EReal := un2 8192 128 (m (c, main_arg7))
def aE : ℕ → ℕ → EReal := un2 8192 256 (m (c, main_arg8))
def ag : ℕ → EReal := un1 1024 (m (c, main_arg2))
def aW : ℕ → ℕ → EReal := un2 1024 1536 (m (c, main_arg3))
theorem args : Args m c (aG m c) (aX m c) (ag m c) (aW m c) (aA m c) (aQ m c) (aK m c) (aV m c) (aE m c) where
  g0 := un2_eq 8192 1024 _
  x := un2_eq 8192 1024 _
  g := un1_eq 1024 _
  w := un2_eq 1024 1536 _
  a := un2_eq 8192 512 _
  q := un2_eq 8192 512 _
  k := un2_eq 8192 128 _
  v := un2_eq 8192 128 _
  e := un2_eq 8192 256 _
/-- The five mixers' column gradients side by side. -/
def aZ : ℕ → ℕ → EReal := dzOf (aA m c) (aQ m c) (aK m c) (aV m c) (aE m c)
end Arguments

theorem preserves : Cert.preserves_InBwd_InBwdIdeal := by
  unfold Cert.preserves_InBwd_InBwdIdeal; trivial

theorem algebraic : Cert.algebraic_InBwdIdeal_InBwdRefIdeal := by
  intro m g m' g' _ hag
  refine ⟨fun c => E2 8192 1024 (nDh (aG m c) (aX m c) (nDn (aZ m c) (aW m c)) (ag m c)), fun c => E3 8 1024 192 (nDw (aX m c) (aZ m c) (ag m c)),
    fun c => E2 1 1024 fun _ i => nDg (aX m c) (nDn (aZ m c) (aW m c)) i, ?_, ?_⟩
  · refine (θ_run _ _ _).mono (fun r h c => ?_) (Cert.InBwdIdeal.Value.run_blocks m g)
    obtain ⟨h0, h1, h2, k⟩ := h c
    exact ⟨h0.trans (arr_dh m c _ _ _ _ _ _ _ _ _ (args m c)), h1.trans (arr_dw m c _ _ _ _ _ _ _ _ _ (args m c)),
      h2.trans (arr_dg m c _ _ _ _ _ _ _ _ _ (args m c)), k⟩
  · refine (θ_run _ _ _).mono (fun r h c => ?_) (Cert.InBwdRefIdeal.Value.run m' g')
    obtain ⟨h0, h1, h2, k⟩ := h c
    have A := args m c
    obtain ⟨a0, a1, a2, a3, a4, a5, a6, a7, a8⟩ := hag c
    have V0 : m' ((c.tc : Thread Cert.InBwdRefIdeal.nD Cert.InBwdRefIdeal.τ).loc Cert.InBwdRefIdeal.main_arg0) = E2 8192 1024 (aG m c) := a0.trans A.g0
    have V1 : m' ((c.tc : Thread Cert.InBwdRefIdeal.nD Cert.InBwdRefIdeal.τ).loc Cert.InBwdRefIdeal.main_arg1) = E2 8192 1024 (aX m c) := a1.trans A.x
    have V2 : m' ((c.tc : Thread Cert.InBwdRefIdeal.nD Cert.InBwdRefIdeal.τ).loc Cert.InBwdRefIdeal.main_arg2) = E1 1024 (ag m c) := a2.trans A.g
    have V3 : m' ((c.tc : Thread Cert.InBwdRefIdeal.nD Cert.InBwdRefIdeal.τ).loc Cert.InBwdRefIdeal.main_arg3) = E2 1024 1536 (aW m c) := a3.trans A.w
    have V4 : m' ((c.tc : Thread Cert.InBwdRefIdeal.nD Cert.InBwdRefIdeal.τ).loc Cert.InBwdRefIdeal.main_arg4) = E2 8192 512 (aA m c) := a4.trans A.a
    have V5 : m' ((c.tc : Thread Cert.InBwdRefIdeal.nD Cert.InBwdRefIdeal.τ).loc Cert.InBwdRefIdeal.main_arg5) = E2 8192 512 (aQ m c) := a5.trans A.q
    have V6 : m' ((c.tc : Thread Cert.InBwdRefIdeal.nD Cert.InBwdRefIdeal.τ).loc Cert.InBwdRefIdeal.main_arg6) = E2 8192 128 (aK m c) := a6.trans A.k
    have V7 : m' ((c.tc : Thread Cert.InBwdRefIdeal.nD Cert.InBwdRefIdeal.τ).loc Cert.InBwdRefIdeal.main_arg7) = E2 8192 128 (aV m c) := a7.trans A.v
    have V8 : m' ((c.tc : Thread Cert.InBwdRefIdeal.nD Cert.InBwdRefIdeal.τ).loc Cert.InBwdRefIdeal.main_arg8) = E2 8192 256 (aE m c) := a8.trans A.e
    have hz : Cert.InBwdRefIdeal.Read.val_main_v0 (F := Ideal) (E2 8192 512 (aA m c)) (E2 8192 512 (aQ m c)) (E2 8192 128 (aK m c)) (E2 8192 128 (aV m c)) (E2 8192 256 (aE m c))
        = E2 8192 1536 (aZ m c) := catRef _ _ _ _ _ _
    refine ⟨h0.trans ((Cert.InBwdRefIdeal.Read.val_main_v57_eq (F := Ideal) _ _).trans ?_), h1.trans ((Cert.InBwdRefIdeal.Read.val_main_v60_eq (F := Ideal) _ _ _ _ _ _ _).trans ?_),
      h2.trans ((Cert.InBwdRefIdeal.Read.val_main_v61_eq (F := Ideal) _ _ _ _ _ _ _).trans ?_), k⟩
    · rw [V0, V1, V2, V3, V4, V5, V6, V7, V8]; exact r57 _ _ _ _ _ _ _ _ _ _ hz
    · rw [V1, V2, V4, V5, V6, V7, V8]; exact r60 _ _ _ _ _ _ _ _ hz
    · rw [V1, V3, V4, V5, V6, V7, V8]; exact r61 _ _ _ _ _ _ _ _ hz

end Cert.In.Bwd
end
-- ==== Proof.MergeBwdRef.lean ====
module

public import proofs.«01_k».proof.Proof.MlpRefA
public import proofs.«01_k».proof.Proof.Gen.MergeBwdRefIdeal.Read

@[expose] public section

set_option maxRecDepth 16384

noncomputable section

/-! The reference's gradient of the merge (three norms of different widths side by side, and a product), stage by stage. -/

namespace Cert.Mg

open Cert.Mlp Cert.MergeBwdRefIdeal Cert.MergeBwdRefIdeal.Gen Cert.MergeBwdRefIdeal.Read Idealize.ShloMosaic Finset

/-- One part in `w`. -/
def K (w : ℕ) : EReal := ((1 / (w : ℝ) : ℝ) : EReal)
theorem w_256 : (Scalar.ofBits .f32 0x43800000#32 : Ideal .f32) = (((256 : ℕ) : ℝ) : EReal) := by
  show Ideal.ofBits .f32 _ = _; simp [Ideal.ofBits, Ideal.ieee, -EReal.coe_mul]; norm_num
theorem w_512 : (Scalar.ofBits .f32 0x44000000#32 : Ideal .f32) = (((512 : ℕ) : ℝ) : EReal) := by
  show Ideal.ofBits .f32 _ = _; simp [Ideal.ofBits, Ideal.ieee, -EReal.coe_mul]; norm_num
theorem w_ep : (Scalar.ofBits .f32 0x358637BD#32 : Ideal .f32) = EP := Cert.RealForm.w_eps
theorem divK (w : ℕ) (hw : 0 < w) (x : EReal) : Ideal.div x ((w : ℝ) : EReal) = x * K w := Ideal.div_coe (by positivity) x

section Spec
variable (w : ℕ) (X D : ℕ → ℕ → EReal) (g : ℕ → EReal) (n : ℕ)
/-- A function from place `o` on, of one coordinate and of the second of two. -/
def s1 (o l : ℕ) : EReal := g (o + l)
def s2 (o : ℕ) (n l : ℕ) : EReal := D n (o + l)
/-- The norm of width `w`, and its gradients. -/
def gVar : EReal := (∑ j ∈ range w, X n j * X n j) * K w + EP
def gRs : EReal := Ideal.rsqrt (gVar w X n)
def gXh (i : ℕ) : EReal := X n i * gRs w X n
def gHn (i : ℕ) : EReal := gXh w X n i * g i
def gDx (i : ℕ) : EReal := D n i * g i
def gIn (i : ℕ) : EReal := gRs w X n * (gDx D g n i - gXh w X n i * ((∑ l ∈ range w, gDx D g n l * gXh w X n l) * K w))
def gDg (i : ℕ) : EReal := ∑ n ∈ range 8192, D n i * gXh w X n i
end Spec
/-- Three rows side by side. -/
def cat1 (a b c : ℕ → EReal) (j : ℕ) : EReal := if j < 256 then a j else if j < 768 then b (j - 256) else c (j - 768)
def cat2 (a b c : ℕ → ℕ → EReal) (n : ℕ) : ℕ → EReal := cat1 (a n) (b n) (c n)
section Spec
variable (G W A B Z : ℕ → ℕ → EReal) (g : ℕ → EReal) (n : ℕ)
/-- The gradient of the joined norms; the joined norms; the gradients of the weight and of the gain. -/
def gDn (i : ℕ) : EReal := ∑ k ∈ range 1024, G n k * W i k
def gYn : ℕ → EReal := cat2 (gHn 256 A (s1 g 0)) (gHn 512 B (s1 g 256)) (gHn 256 Z (s1 g 768)) n
def gDw (j l : ℕ) : EReal := ∑ n ∈ range 8192, gYn A B Z g n j * G n l
def gGain : ℕ → EReal := cat1 (gDg 256 A (s2 (gDn G W) 0)) (gDg 512 B (s2 (gDn G W) 256)) (gDg 256 Z (s2 (gDn G W) 768))
end Spec

theorem gVar_cases (w : ℕ) (hw : 0 < w) (X : ℕ → ℕ → EReal) (n : ℕ) : gVar w X n = ⊤ ∨ ∃ p : ℝ, 0 < p ∧ gVar w X n = (p : EReal) := by
  have hs : 0 ≤ ∑ j ∈ range w, X n j * X n j := sum_nonneg fun j _ => sq_nonneg _
  have hk : (0 : ℝ) < 1 / (w : ℝ) := by positivity
  unfold gVar K EP
  generalize (∑ j ∈ range w, X n j * X n j) = s at *
  induction s with
  | bot => exact absurd hs (by simp)
  | top =>
    left
    rw [EReal.top_mul_coe_of_pos hk, EReal.top_add_coe]
  | coe s =>
    right
    have h : 0 ≤ s := EReal.coe_nonneg.mp hs
    have := Cert.RealForm.EPS_pos
    exact ⟨s * (1 / (w : ℝ)) + Cert.RealForm.EPS, by positivity, by rw [← EReal.coe_mul, ← EReal.coe_add]⟩
/-- The norm's gradient: as the derivative sums it, and as one factor times a difference. -/
theorem norm_gradK (k : ℝ) (d x S v : EReal) (hv : v = ⊤ ∨ ∃ p : ℝ, 0 < p ∧ v = (p : EReal)) :
    (d * Ideal.rsqrt v + x * ((S * (((-(1 / 2) : ℝ) : EReal) * Ideal.div (Ideal.rsqrt v) v)) * (k : EReal))) + ((S * (((-(1 / 2) : ℝ) : EReal) * Ideal.div (Ideal.rsqrt v) v)) * (k : EReal)) * x
      = Ideal.rsqrt v * (d - x * Ideal.rsqrt v * ((S * Ideal.rsqrt v) * (k : EReal))) := by
  rcases hv with rfl | ⟨p, hp, rfl⟩
  · have h0 : Ideal.div (0 : EReal) ⊤ = 0 := by unfold Ideal.div; simp
    rw [Ideal.rsqrt_top, h0]; simp
  · rw [Ideal.rsqrt_coe, if_neg (not_lt.mpr hp.le), if_neg hp.ne', Ideal.div_coe hp.ne']
    have hr : 0 ≤ (√p)⁻¹ := inv_nonneg.mpr (Real.sqrt_nonneg p)
    have hs : (√p)⁻¹ * (√p)⁻¹ = 1 / p := by rw [← mul_inv, Real.mul_self_sqrt hp.le, one_div]
    generalize (√p)⁻¹ = r at *
    rw [← hs, sub_eq_add_neg, mul_real_add r hr, add_assoc, mul_comm d]
    congr 1
    have e1 : x * ((S * (((-(1 / 2) : ℝ) : EReal) * ((r : EReal) * ((r * r : ℝ) : EReal)))) * (k : EReal)) = (x * S) * ((-(1 / 2) * (r * (r * r)) * k : ℝ) : EReal) := by
      push_cast; ac_rfl
    rw [mul_comm _ x, e1, twice]
    have e2 : (r : EReal) * -(x * r * ((S * r) * (k : EReal))) = (x * S) * ((-(r * (r * r) * k) : ℝ) : EReal) := by
      rw [mul_neg, EReal.coe_neg, mul_neg]; push_cast; congr 1; ac_rfl
    rw [e2]; congr 2; ring
theorem gIn_eq (w : ℕ) (hw : 0 < w) (X D : ℕ → ℕ → EReal) (g : ℕ → EReal) (n i : ℕ) :
    gDx D g n i * gRs w X n + X n i * (((∑ l ∈ range w, X n l * gDx D g n l) * (((-(1 / 2) : ℝ) : EReal) * Ideal.div (gRs w X n) (gVar w X n))) * K w)
      + ((∑ l ∈ range w, X n l * gDx D g n l) * (((-(1 / 2) : ℝ) : EReal) * Ideal.div (gRs w X n) (gVar w X n))) * K w * X n i = gIn w X D g n i := by
  have e : (∑ l ∈ range w, gDx D g n l * gXh w X n l) = (∑ l ∈ range w, X n l * gDx D g n l) * gRs w X n := by
    unfold gXh gRs
    rcases gVar_cases w hw X n with h | ⟨p, hp, h⟩
    · rw [h, Ideal.rsqrt_top]; simp
    · rw [h, Ideal.rsqrt_coe, if_neg (not_lt.mpr hp.le), if_neg hp.ne', ← sum_mul_real _ _ _ (inv_nonneg.mpr (Real.sqrt_nonneg p))]
      exact sum_congr rfl fun l _ => by rw [mul_comm (X n l) (gDx _ _ _ _), mul_assoc]
  unfold gIn
  rw [e]
  exact norm_gradK _ _ _ _ _ (gVar_cases w hw X n)

/-! ### The host's operations -/
section HostOps
variable (F : ℕ → ℕ → EReal) (f : ℕ → EReal)
theorem sl1 {a m o : ℕ} (h) : extractStridedSlice (α := EReal) (s := ⟨1, ![a]⟩) ⟨1, ![m]⟩ ![o] (E1 a f) h = E1 m (s1 f o) := rfl
theorem sl2 {n a m o : ℕ} (h) : extractStridedSlice (α := EReal) (s := ⟨2, ![n, a]⟩) ⟨2, ![n, m]⟩ ![0, o] (E2 n a F) h = E2 n m (s2 F o) := by
  funext j
  show F (0 + (j 0).val) (o + (j 1).val) = F (j 0).val (o + (j 1).val)
  rw [zero_add]
theorem pad1 {m o p : ℕ} (h hu) : pad (α := EReal) (s := ⟨1, ![m]⟩) S1024 ![o] ![p] ![0] (E1 m f) (constant (F := Ideal) S_ .f32 0x00000000#32) h hu
    = E1 1024 fun l => if o ≤ l ∧ l < o + m then f (l - o) else 0 := by
  funext j
  unfold pad
  by_cases hc : o ≤ (j 0).val ∧ (j 0).val < o + m
  · rw [dif_pos]
    · show f (((j 0).val - o) / (0 + 1)) = if _ then _ else _
      rw [if_pos hc, zero_add, Nat.div_one]
    · intro a
      match a with
      | ⟨0, _⟩ =>
        show o ≤ (j 0).val ∧ ((j 0).val - o) % (0 + 1) = 0 ∧ ((j 0).val - o) / (0 + 1) < m
        rw [zero_add, Nat.div_one]
        exact ⟨hc.1, Nat.mod_one _, by omega⟩
  · rw [dif_neg]
    · show (Scalar.ofBits .f32 0x00000000#32 : Ideal .f32) = if _ then _ else _
      rw [if_neg hc, w_zero]
    · intro hin
      obtain ⟨h1, _, h3⟩ : o ≤ (j 0).val ∧ ((j 0).val - o) % (0 + 1) = 0 ∧ ((j 0).val - o) / (0 + 1) < m := hin 0
      rw [zero_add, Nat.div_one] at h3
      exact hc ⟨h1, by omega⟩
theorem pads3 (a b c : ℕ → EReal) {l : ℕ} (hl : l < 1024) : (if 768 ≤ l ∧ l < 768 + 256 then c (l - 768) else 0) + (if 256 ≤ l ∧ l < 256 + 512 then b (l - 256) else 0)
    + (if 0 ≤ l ∧ l < 0 + 256 then a (l - 0) else 0) = cat1 a b c l := by
  unfold cat1
  rcases (by omega : l < 256 ∨ 256 ≤ l ∧ l < 768 ∨ 768 ≤ l) with h | h | h
  · rw [if_neg (by omega), if_neg (by omega), if_pos (by omega), if_pos h, zero_add, zero_add, Nat.sub_zero]
  · rw [if_neg (by omega), if_pos (by omega), if_neg (by omega), if_neg (by omega), if_pos (by omega), zero_add, add_zero]
  · rw [if_pos (by omega), if_neg (by omega), if_neg (by omega), if_neg (by omega), if_neg (by omega), add_zero, add_zero]
theorem hRow1_256 (h) : broadcastInDim (α := Ideal .f32) S1x256 ![1] h (E1 256 f) = E2 1 256 fun _ l => f l := by
  funext j; idx_vars j; pointwise [E2_apply, E1_apply]
theorem hRow_256 (h) : broadcastInDim (α := Ideal .f32) S8192x256 ![0, 1] h (E2 1 256 F) = E2 8192 256 fun _ l => F 0 l := by
  funext j; idx_vars j; pointwise [E2_apply]
theorem hCol_256 (h) : broadcastInDim (α := Ideal .f32) S8192x256 ![0, 1] h (E2 8192 1 F) = E2 8192 256 fun r _ => F r 0 := by
  funext j; idx_vars j; pointwise [E2_apply]
theorem hColB_256 (h) : broadcastInDim (α := Ideal .f32) S8192x256 ![0] h (E1 8192 f) = E2 8192 256 fun r _ => f r := by
  funext j; idx_vars j; pointwise [E2_apply, E1_apply]
theorem hToRow_256 (h) : shapeCast (α := Ideal .f32) S1x256 (E1 256 f) h = E2 1 256 fun _ l => f l := by
  funext j; idx_vars j; pointwise [E2_apply, E1_apply]
theorem hRow1_512 (h) : broadcastInDim (α := Ideal .f32) S1x512 ![1] h (E1 512 f) = E2 1 512 fun _ l => f l := by
  funext j; idx_vars j; pointwise [E2_apply, E1_apply]
theorem hRow_512 (h) : broadcastInDim (α := Ideal .f32) S8192x512 ![0, 1] h (E2 1 512 F) = E2 8192 512 fun _ l => F 0 l := by
  funext j; idx_vars j; pointwise [E2_apply]
theorem hCol_512 (h) : broadcastInDim (α := Ideal .f32) S8192x512 ![0, 1] h (E2 8192 1 F) = E2 8192 512 fun r _ => F r 0 := by
  funext j; idx_vars j; pointwise [E2_apply]
theorem hColB_512 (h) : broadcastInDim (α := Ideal .f32) S8192x512 ![0] h (E1 8192 f) = E2 8192 512 fun r _ => f r := by
  funext j; idx_vars j; pointwise [E2_apply, E1_apply]
theorem hToRow_512 (h) : shapeCast (α := Ideal .f32) S1x512 (E1 512 f) h = E2 1 512 fun _ l => f l := by
  funext j; idx_vars j; pointwise [E2_apply, E1_apply]
end HostOps

theorem catRef (a b c : ℕ → ℕ → EReal) (h) : concatenate (α := Ideal .f32) S8192x1024 1
    [⟨S8192x256, E2 8192 256 a⟩, ⟨S8192x512, E2 8192 512 b⟩, ⟨S8192x256, E2 8192 256 c⟩] h = E2 8192 1024 (cat2 a b c) := by
  funext j; idx_vars j; pointwise [E2_apply]
  unfold cat2 cat1
  split_ifs <;> first | rfl | omega | (congr 1; omega)

variable (G W A B Z X : ℕ → ℕ → EReal) (g : ℕ → EReal)

theorem r54 : val_main_v54 (F := Ideal) (E2 8192 1024 G) (E2 1024 1024 W) = E2 8192 1024 (gDn G W) := by
  funext i
  rw [val_main_v54_apply]
  exact sum_fin 1024 fun k => G (i 0).val k * W (i 1).val k

/-! ### The norm of width 256 at column 0 -/
theorem rA_s : val_main_v2 (F := Ideal) (E2 8192 256 X) = E1 8192 fun r => ∑ j ∈ range 256, X r j * X r j := by
  funext i
  rw [val_main_v2_apply, show val_main_cst (F := Ideal) _ = (0 : EReal) from w_zero]
  unfold val_main_v1
  rw [mulf2, zero_add]
  exact sum_fin 256 fun j => X (i 0).val j * X (i 0).val j
theorem rA_var : val_main_v7 (F := Ideal) (E2 8192 256 X) = E2 8192 1 fun r _ => gVar 256 X r := by
  unfold val_main_v7 val_main_v5 val_main_v3 val_main_v4 val_main_v6 val_main_cst_0 val_main_cst_1
  rw [rA_s, hcst1 _ _ _ w_256, hcst1 _ _ _ w_ep, hCol1, hDiv, addf2]
  simp only [divK 256 (by decide)]; rfl
theorem rA_rs : val_main_v8 (F := Ideal) (E2 8192 256 X) = E2 8192 1 fun r _ => gRs 256 X r := by
  unfold val_main_v8; rw [rA_var, hRsqrt]; rfl
theorem rA_half : val_main_v11 (F := Ideal) (E2 8192 256 X) = E2 8192 1 fun r _ => ((-(1 / 2) : ℝ) : EReal) * Ideal.div (gRs 256 X r) (gVar 256 X r) := by
  unfold val_main_v11 val_main_v9 val_main_v10 val_main_cst_2
  rw [rA_rs, rA_var, hDiv, hcst1 _ _ _ w_mhalf, mulf2]
theorem rA_xh : val_main_v13 (F := Ideal) (E2 8192 256 X) = E2 8192 256 (gXh 256 X) := by
  unfold val_main_v13 val_main_v12; rw [rA_rs, hCol_256, mulf2]; rfl
theorem rA_g : val_main_v14 (F := Ideal) (E1 1024 g) = E2 1 256 fun _ l => s1 g 0 l := by
  unfold val_main_v14 val_main_v0; rw [sl1, hRow1_256]
theorem rA_hn : val_main_v16 (F := Ideal) (E2 8192 256 X) (E1 1024 g) = E2 8192 256 (gHn 256 X (s1 g 0)) := by
  unfold val_main_v16 val_main_v15; rw [rA_xh, rA_g, hRow_256, mulf2]; rfl
theorem rA_d : val_main_v55 (F := Ideal) (E2 8192 1024 G) (E2 1024 1024 W) = E2 8192 256 (s2 (gDn G W) 0) := by
  unfold val_main_v55; rw [r54, sl2]
theorem rA_dg : val_main_v106 (F := Ideal) (E2 8192 1024 G) (E2 8192 256 X) (E2 1024 1024 W) = E1 256 (gDg 256 X (s2 (gDn G W) 0)) := by
  have e : val_main_v102 (F := Ideal) (E2 8192 1024 G) (E2 8192 256 X) (E2 1024 1024 W) = E1 256 (gDg 256 X (s2 (gDn G W) 0)) := by
    funext i
    rw [val_main_v102_apply, show val_main_cst_23 (F := Ideal) _ = (0 : EReal) from w_zero]
    unfold val_main_v101
    rw [rA_xh, rA_d, mulf2, zero_add]
    refine (sum_fin 8192 fun n => gXh 256 X n (i 0).val * s2 (gDn G W) 0 n (i 0).val).trans ?_
    simp only [mul_comm (gXh _ _ _ _)]; rfl
  funext i
  rw [val_main_v106_apply, show val_main_cst_24 (F := Ideal) _ = (0 : EReal) from w_zero]
  unfold val_main_v103
  rw [e, hToRow_256, zero_add]
  exact (Fin.sum_univ_one _).trans rfl
theorem rA_dx : val_main_v105 (F := Ideal) (E2 8192 1024 G) (E1 1024 g) (E2 1024 1024 W) = E2 8192 256 (gDx (s2 (gDn G W) 0) (s1 g 0)) := by
  unfold val_main_v105 val_main_v104; rw [rA_d, rA_g, hRow_256, mulf2]; rfl
theorem rA_sum : val_main_v108 (F := Ideal) (E2 8192 1024 G) (E2 8192 256 X) (E1 1024 g) (E2 1024 1024 W)
    = E1 8192 fun n => ∑ l ∈ range 256, X n l * gDx (s2 (gDn G W) 0) (s1 g 0) n l := by
  funext i
  rw [val_main_v108_apply, show val_main_cst_25 (F := Ideal) _ = (0 : EReal) from w_zero]
  unfold val_main_v107
  rw [rA_dx, mulf2, zero_add]
  exact sum_fin 256 fun l => X (i 0).val l * gDx (s2 (gDn G W) 0) (s1 g 0) (i 0).val l
theorem rA_in : val_main_v120 (F := Ideal) (E2 8192 1024 G) (E2 8192 256 X) (E1 1024 g) (E2 1024 1024 W) = E2 8192 256 (gIn 256 X (s2 (gDn G W) 0) (s1 g 0)) := by
  have e : val_main_v114 (F := Ideal) (E2 8192 1024 G) (E2 8192 256 X) (E1 1024 g) (E2 1024 1024 W) = E2 8192 1 fun n _ =>
      ((∑ l ∈ range 256, X n l * gDx (s2 (gDn G W) 0) (s1 g 0) n l) * (((-(1 / 2) : ℝ) : EReal) * Ideal.div (gRs 256 X n) (gVar 256 X n))) * K 256 := by
    unfold val_main_v114 val_main_v112 val_main_v109 val_main_v113 val_main_cst_26
    rw [rA_sum, rA_half, hToCol, mulf2, hcst1 _ _ _ w_256, hDiv]
    simp only [divK 256 (by decide)]
  have e2 : val_main_v115 (F := Ideal) (E2 8192 1024 G) (E2 8192 256 X) (E1 1024 g) (E2 1024 1024 W) = E1 8192 fun n =>
      ((∑ l ∈ range 256, X n l * gDx (s2 (gDn G W) 0) (s1 g 0) n l) * (((-(1 / 2) : ℝ) : EReal) * Ideal.div (gRs 256 X n) (gVar 256 X n))) * K 256 := by
    funext i
    rw [val_main_v115_apply, show val_main_cst_27 (F := Ideal) _ = (0 : EReal) from w_zero, e, zero_add]
    exact (Fin.sum_univ_one _).trans rfl
  unfold val_main_v120 val_main_v118 val_main_v119 val_main_v117 val_main_v111 val_main_v110 val_main_v116
  rw [e2, rA_dx, rA_rs, hCol_256, hColB_256, mulf2, mulf2, mulf2, addf2, addf2]
  exact E2_congr fun n _ i _ => gIn_eq 256 (by decide) X _ _ n i

/-! ### The norm of width 512 at column 256 -/
theorem rB_s : val_main_v19 (F := Ideal) (E2 8192 512 X) = E1 8192 fun r => ∑ j ∈ range 512, X r j * X r j := by
  funext i
  rw [val_main_v19_apply, show val_main_cst_3 (F := Ideal) _ = (0 : EReal) from w_zero]
  unfold val_main_v18
  rw [mulf2, zero_add]
  exact sum_fin 512 fun j => X (i 0).val j * X (i 0).val j
theorem rB_var : val_main_v24 (F := Ideal) (E2 8192 512 X) = E2 8192 1 fun r _ => gVar 512 X r := by
  unfold val_main_v24 val_main_v22 val_main_v20 val_main_v21 val_main_v23 val_main_cst_4 val_main_cst_5
  rw [rB_s, hcst1 _ _ _ w_512, hcst1 _ _ _ w_ep, hCol1, hDiv, addf2]
  simp only [divK 512 (by decide)]; rfl
theorem rB_rs : val_main_v25 (F := Ideal) (E2 8192 512 X) = E2 8192 1 fun r _ => gRs 512 X r := by
  unfold val_main_v25; rw [rB_var, hRsqrt]; rfl
theorem rB_half : val_main_v28 (F := Ideal) (E2 8192 512 X) = E2 8192 1 fun r _ => ((-(1 / 2) : ℝ) : EReal) * Ideal.div (gRs 512 X r) (gVar 512 X r) := by
  unfold val_main_v28 val_main_v26 val_main_v27 val_main_cst_6
  rw [rB_rs, rB_var, hDiv, hcst1 _ _ _ w_mhalf, mulf2]
theorem rB_xh : val_main_v30 (F := Ideal) (E2 8192 512 X) = E2 8192 512 (gXh 512 X) := by
  unfold val_main_v30 val_main_v29; rw [rB_rs, hCol_512, mulf2]; rfl
theorem rB_g : val_main_v31 (F := Ideal) (E1 1024 g) = E2 1 512 fun _ l => s1 g 256 l := by
  unfold val_main_v31 val_main_v17; rw [sl1, hRow1_512]
theorem rB_hn : val_main_v33 (F := Ideal) (E2 8192 512 X) (E1 1024 g) = E2 8192 512 (gHn 512 X (s1 g 256)) := by
  unfold val_main_v33 val_main_v32; rw [rB_xh, rB_g, hRow_512, mulf2]; rfl
theorem rB_d : val_main_v56 (F := Ideal) (E2 8192 1024 G) (E2 1024 1024 W) = E2 8192 512 (s2 (gDn G W) 256) := by
  unfold val_main_v56; rw [r54, sl2]
theorem rB_dg : val_main_v84 (F := Ideal) (E2 8192 1024 G) (E2 8192 512 X) (E2 1024 1024 W) = E1 512 (gDg 512 X (s2 (gDn G W) 256)) := by
  have e : val_main_v80 (F := Ideal) (E2 8192 1024 G) (E2 8192 512 X) (E2 1024 1024 W) = E1 512 (gDg 512 X (s2 (gDn G W) 256)) := by
    funext i
    rw [val_main_v80_apply, show val_main_cst_17 (F := Ideal) _ = (0 : EReal) from w_zero]
    unfold val_main_v79
    rw [rB_xh, rB_d, mulf2, zero_add]
    refine (sum_fin 8192 fun n => gXh 512 X n (i 0).val * s2 (gDn G W) 256 n (i 0).val).trans ?_
    simp only [mul_comm (gXh _ _ _ _)]; rfl
  funext i
  rw [val_main_v84_apply, show val_main_cst_18 (F := Ideal) _ = (0 : EReal) from w_zero]
  unfold val_main_v81
  rw [e, hToRow_512, zero_add]
  exact (Fin.sum_univ_one _).trans rfl
theorem rB_dx : val_main_v83 (F := Ideal) (E2 8192 1024 G) (E1 1024 g) (E2 1024 1024 W) = E2 8192 512 (gDx (s2 (gDn G W) 256) (s1 g 256)) := by
  unfold val_main_v83 val_main_v82; rw [rB_d, rB_g, hRow_512, mulf2]; rfl
theorem rB_sum : val_main_v86 (F := Ideal) (E2 8192 1024 G) (E2 8192 512 X) (E1 1024 g) (E2 1024 1024 W)
    = E1 8192 fun n => ∑ l ∈ range 512, X n l * gDx (s2 (gDn G W) 256) (s1 g 256) n l := by
  funext i
  rw [val_main_v86_apply, show val_main_cst_19 (F := Ideal) _ = (0 : EReal) from w_zero]
  unfold val_main_v85
  rw [rB_dx, mulf2, zero_add]
  exact sum_fin 512 fun l => X (i 0).val l * gDx (s2 (gDn G W) 256) (s1 g 256) (i 0).val l
theorem rB_in : val_main_v98 (F := Ideal) (E2 8192 1024 G) (E2 8192 512 X) (E1 1024 g) (E2 1024 1024 W) = E2 8192 512 (gIn 512 X (s2 (gDn G W) 256) (s1 g 256)) := by
  have e : val_main_v92 (F := Ideal) (E2 8192 1024 G) (E2 8192 512 X) (E1 1024 g) (E2 1024 1024 W) = E2 8192 1 fun n _ =>
      ((∑ l ∈ range 512, X n l * gDx (s2 (gDn G W) 256) (s1 g 256) n l) * (((-(1 / 2) : ℝ) : EReal) * Ideal.div (gRs 512 X n) (gVar 512 X n))) * K 512 := by
    unfold val_main_v92 val_main_v90 val_main_v87 val_main_v91 val_main_cst_20
    rw [rB_sum, rB_half, hToCol, mulf2, hcst1 _ _ _ w_512, hDiv]
    simp only [divK 512 (by decide)]
  have e2 : val_main_v93 (F := Ideal) (E2 8192 1024 G) (E2 8192 512 X) (E1 1024 g) (E2 1024 1024 W) = E1 8192 fun n =>
      ((∑ l ∈ range 512, X n l * gDx (s2 (gDn G W) 256) (s1 g 256) n l) * (((-(1 / 2) : ℝ) : EReal) * Ideal.div (gRs 512 X n) (gVar 512 X n))) * K 512 := by
    funext i
    rw [val_main_v93_apply, show val_main_cst_21 (F := Ideal) _ = (0 : EReal) from w_zero, e, zero_add]
    exact (Fin.sum_univ_one _).trans rfl
  unfold val_main_v98 val_main_v96 val_main_v97 val_main_v95 val_main_v89 val_main_v88 val_main_v94
  rw [e2, rB_dx, rB_rs, hCol_512, hColB_512, mulf2, mulf2, mulf2, addf2, addf2]
  exact E2_congr fun n _ i _ => gIn_eq 512 (by decide) X _ _ n i

/-! ### The norm of width 256 at column 768 -/
theorem rC_s : val_main_v36 (F := Ideal) (E2 8192 256 X) = E1 8192 fun r => ∑ j ∈ range 256, X r j * X r j := by
  funext i
  rw [val_main_v36_apply, show val_main_cst_7 (F := Ideal) _ = (0 : EReal) from w_zero]
  unfold val_main_v35
  rw [mulf2, zero_add]
  exact sum_fin 256 fun j => X (i 0).val j * X (i 0).val j
theorem rC_var : val_main_v41 (F := Ideal) (E2 8192 256 X) = E2 8192 1 fun r _ => gVar 256 X r := by
  unfold val_main_v41 val_main_v39 val_main_v37 val_main_v38 val_main_v40 val_main_cst_8 val_main_cst_9
  rw [rC_s, hcst1 _ _ _ w_256, hcst1 _ _ _ w_ep, hCol1, hDiv, addf2]
  simp only [divK 256 (by decide)]; rfl
theorem rC_rs : val_main_v42 (F := Ideal) (E2 8192 256 X) = E2 8192 1 fun r _ => gRs 256 X r := by
  unfold val_main_v42; rw [rC_var, hRsqrt]; rfl
theorem rC_half : val_main_v45 (F := Ideal) (E2 8192 256 X) = E2 8192 1 fun r _ => ((-(1 / 2) : ℝ) : EReal) * Ideal.div (gRs 256 X r) (gVar 256 X r) := by
  unfold val_main_v45 val_main_v43 val_main_v44 val_main_cst_10
  rw [rC_rs, rC_var, hDiv, hcst1 _ _ _ w_mhalf, mulf2]
theorem rC_xh : val_main_v47 (F := Ideal) (E2 8192 256 X) = E2 8192 256 (gXh 256 X) := by
  unfold val_main_v47 val_main_v46; rw [rC_rs, hCol_256, mulf2]; rfl
theorem rC_g : val_main_v48 (F := Ideal) (E1 1024 g) = E2 1 256 fun _ l => s1 g 768 l := by
  unfold val_main_v48 val_main_v34; rw [sl1, hRow1_256]
theorem rC_hn : val_main_v50 (F := Ideal) (E2 8192 256 X) (E1 1024 g) = E2 8192 256 (gHn 256 X (s1 g 768)) := by
  unfold val_main_v50 val_main_v49; rw [rC_xh, rC_g, hRow_256, mulf2]; rfl
theorem rC_d : val_main_v57 (F := Ideal) (E2 8192 1024 G) (E2 1024 1024 W) = E2 8192 256 (s2 (gDn G W) 768) := by
  unfold val_main_v57; rw [r54, sl2]
theorem rC_dg : val_main_v63 (F := Ideal) (E2 8192 1024 G) (E2 8192 256 X) (E2 1024 1024 W) = E1 256 (gDg 256 X (s2 (gDn G W) 768)) := by
  have e : val_main_v59 (F := Ideal) (E2 8192 1024 G) (E2 8192 256 X) (E2 1024 1024 W) = E1 256 (gDg 256 X (s2 (gDn G W) 768)) := by
    funext i
    rw [val_main_v59_apply, show val_main_cst_11 (F := Ideal) _ = (0 : EReal) from w_zero]
    unfold val_main_v58
    rw [rC_xh, rC_d, mulf2, zero_add]
    refine (sum_fin 8192 fun n => gXh 256 X n (i 0).val * s2 (gDn G W) 768 n (i 0).val).trans ?_
    simp only [mul_comm (gXh _ _ _ _)]; rfl
  funext i
  rw [val_main_v63_apply, show val_main_cst_12 (F := Ideal) _ = (0 : EReal) from w_zero]
  unfold val_main_v60
  rw [e, hToRow_256, zero_add]
  exact (Fin.sum_univ_one _).trans rfl
theorem rC_dx : val_main_v62 (F := Ideal) (E2 8192 1024 G) (E1 1024 g) (E2 1024 1024 W) = E2 8192 256 (gDx (s2 (gDn G W) 768) (s1 g 768)) := by
  unfold val_main_v62 val_main_v61; rw [rC_d, rC_g, hRow_256, mulf2]; rfl
theorem rC_sum : val_main_v65 (F := Ideal) (E2 8192 1024 G) (E2 8192 256 X) (E1 1024 g) (E2 1024 1024 W)
    = E1 8192 fun n => ∑ l ∈ range 256, X n l * gDx (s2 (gDn G W) 768) (s1 g 768) n l := by
  funext i
  rw [val_main_v65_apply, show val_main_cst_13 (F := Ideal) _ = (0 : EReal) from w_zero]
  unfold val_main_v64
  rw [rC_dx, mulf2, zero_add]
  exact sum_fin 256 fun l => X (i 0).val l * gDx (s2 (gDn G W) 768) (s1 g 768) (i 0).val l
theorem rC_in : val_main_v77 (F := Ideal) (E2 8192 1024 G) (E2 8192 256 X) (E1 1024 g) (E2 1024 1024 W) = E2 8192 256 (gIn 256 X (s2 (gDn G W) 768) (s1 g 768)) := by
  have e : val_main_v71 (F := Ideal) (E2 8192 1024 G) (E2 8192 256 X) (E1 1024 g) (E2 1024 1024 W) = E2 8192 1 fun n _ =>
      ((∑ l ∈ range 256, X n l * gDx (s2 (gDn G W) 768) (s1 g 768) n l) * (((-(1 / 2) : ℝ) : EReal) * Ideal.div (gRs 256 X n) (gVar 256 X n))) * K 256 := by
    unfold val_main_v71 val_main_v69 val_main_v66 val_main_v70 val_main_cst_14
    rw [rC_sum, rC_half, hToCol, mulf2, hcst1 _ _ _ w_256, hDiv]
    simp only [divK 256 (by decide)]
  have e2 : val_main_v72 (F := Ideal) (E2 8192 1024 G) (E2 8192 256 X) (E1 1024 g) (E2 1024 1024 W) = E1 8192 fun n =>
      ((∑ l ∈ range 256, X n l * gDx (s2 (gDn G W) 768) (s1 g 768) n l) * (((-(1 / 2) : ℝ) : EReal) * Ideal.div (gRs 256 X n) (gVar 256 X n))) * K 256 := by
    funext i
    rw [val_main_v72_apply, show val_main_cst_15 (F := Ideal) _ = (0 : EReal) from w_zero, e, zero_add]
    exact (Fin.sum_univ_one _).trans rfl
  unfold val_main_v77 val_main_v75 val_main_v76 val_main_v74 val_main_v68 val_main_v67 val_main_v73
  rw [e2, rC_dx, rC_rs, hCol_256, hColB_256, mulf2, mulf2, mulf2, addf2, addf2]
  exact E2_congr fun n _ i _ => gIn_eq 256 (by decide) X _ _ n i

/-! ### The joined norms and the last two results -/
theorem r51 : val_main_v51 (F := Ideal) (E2 8192 256 A) (E2 8192 512 B) (E2 8192 256 Z) (E1 1024 g) = E2 8192 1024 (gYn A B Z g) := by
  unfold val_main_v51; rw [rA_hn, rB_hn, rC_hn]; exact catRef _ _ _ _
theorem r170 : val_main_v170 (F := Ideal) (E2 8192 1024 G) (E2 8192 256 A) (E2 8192 512 B) (E2 8192 256 Z) (E1 1024 g) = E2 1024 1024 (gDw G A B Z g) := by
  have e : val_main_v166 (F := Ideal) (E2 8192 256 A) (E2 8192 512 B) (E2 8192 256 Z) (E1 1024 g) = E2 8192 1024 (gYn A B Z g) := by
    rw [← r51]; rfl
  funext i
  refine (val_main_v169_apply (F := Ideal) _ _ _ _ _ i).trans ?_
  rw [val_main_v168_apply, e]
  refine (sum_fin 8192 fun n => G n (i 1).val * gYn A B Z g n (i 0).val).trans ?_
  exact sum_congr rfl fun n _ => mul_comm _ _
theorem r171 : val_main_v171 (F := Ideal) (E2 8192 1024 G) (E2 8192 256 A) (E2 8192 512 B) (E2 8192 256 Z) (E2 1024 1024 W) = E2 1 1024 fun _ i => gGain G W A B Z i := by
  have e : val_main_v122 (F := Ideal) (E2 8192 1024 G) (E2 8192 256 A) (E2 8192 512 B) (E2 8192 256 Z) (E2 1024 1024 W) = E1 1024 (gGain G W A B Z) := by
    unfold val_main_v122 val_main_v100 val_main_v78 val_main_v99 val_main_v121 val_main_cst_16 val_main_cst_22 val_main_cst_28
    rw [rA_dg, rB_dg, rC_dg, pad1, pad1, pad1]
    funext i
    exact pads3 _ _ _ (i 0).isLt
  unfold val_main_v171; rw [e, hToRow]

end Cert.Mg
end
-- ==== Proof.MergeBwdPay.lean ====
module

public import proofs.«01_k».proof.Proof.MergeBwdRef
public import proofs.«01_k».proof.Proof.InBwdPay
public import proofs.«01_k».proof.Proof.Gen.MergeBwdIdeal.Value

@[expose] public section

set_option maxRecDepth 16384

noncomputable section

/-! What one block of 512 tokens contributes to the merge's gradients, in extended reals. -/

namespace Cert.Mg

open Cert.Mlp Cert.MergeBwdIdeal Cert.MergeBwdIdeal.Gen Idealize.ShloMosaic Finset

section Ops
variable (F H a b c : ℕ → ℕ → EReal)
theorem mmLane (p) : matmul (F := Ideal) (φ₁ := .bf16) (φ₂ := .bf16) dot_S512x1024_S1024x1024_S512x1024_1_1_0_0_n_n p (E2 512 1024 F) (E2 1024 1024 H)
    (constant S512x1024 .f32 0x00000000#32) = E2 512 1024 (gDn F H) := by
  funext j; idx_vars j; pointwise [E2_apply]
  exact sum_fin 1024 (fun k => F j0 k * H j1 k)
theorem mmRow (p) : matmul (F := Ideal) (φ₁ := .bf16) (φ₂ := .bf16) dot_S512x1024_S512x1024_S1024x1024_0_0_1_1_n_n p (E2 512 1024 F) (E2 512 1024 H)
    (constant S1024x1024 .f32 0x00000000#32) = E2 1024 1024 fun k l => ∑ r ∈ range 512, F r k * H r l := by
  funext j; idx_vars j; pointwise [E2_apply]
  exact sum_fin 512 (fun r => F r j0 * H r j1)
theorem sameAcc (h) : shapeCast (α := Ideal .f32) S1024x1024 (E2 1024 1024 F) h = E2 1024 1024 F := by
  funext j; idx_vars j; pointwise [E2_apply]
theorem catBlk (h) : concatenate (α := Ideal .f32) S512x1024 1 [⟨S512x256, E2 512 256 a⟩, ⟨S512x512, E2 512 512 b⟩, ⟨S512x256, E2 512 256 c⟩] h = E2 512 1024 (cat2 a b c) := by
  funext j; idx_vars j; pointwise [E2_apply]
  unfold cat2 cat1
  split_ifs <;> first | rfl | omega | (congr 1; omega)
theorem catRow (h) : concatenate (α := Ideal .f32) S1x1024 1 [⟨S1x256, E2 1 256 a⟩, ⟨S1x512, E2 1 512 b⟩, ⟨S1x256, E2 1 256 c⟩] h = E2 1 1024 (cat2 a b c) := by
  funext j; idx_vars j; pointwise [E2_apply]
  unfold cat2 cat1
  split_ifs <;> first | rfl | omega | (congr 1; omega)
end Ops

/-! ### The norm of width 256 -/
section W256
variable (X D F : ℕ → ℕ → EReal) (g f : ℕ → EReal)
def sm256 (x : FVec Ideal S512x256 .f32) : FVec Ideal S512 .f32 := multiReduction .add [1] S512 x 0x00000000#32 reduces_S512x256_S512 (.inl rfl) rfl
theorem sm256_eq : sm256 (E2 512 256 F) = E1 512 fun r => ∑ l ∈ range 256, F r l := by
  unfold sm256; funext j; idx_vars j; pointwise [E2_apply, E1_apply]; exact sum_fin _ _
def sr256 (x : FVec Ideal S512x256 .f32) : FVec Ideal S256 .f32 := multiReduction .add [0] S256 x 0x00000000#32 reduces_S512x256_S256 (.inl rfl) rfl
theorem sr256_eq : sr256 (E2 512 256 F) = E1 256 fun l => ∑ r ∈ range 512, F r l := by
  unfold sr256; funext j; idx_vars j; pointwise [E2_apply, E1_apply]; exact sum_fin _ (fun r => F r _)
theorem bcRow256 (h) : broadcastTo (α := Ideal .f32) S512x256 (E2 1 256 F) h = E2 512 256 fun _ l => F 0 l := by
  funext j; idx_vars j; pointwise [E2_apply]
theorem bcCol256 (h) : broadcastTo (α := Ideal .f32) S512x256 (E2 512 1 F) h = E2 512 256 fun r _ => F r 0 := by
  funext j; idx_vars j; pointwise [E2_apply]
theorem toRow256 (h) : shapeCast (α := Ideal .f32) S1x256 (E1 256 f) h = E2 1 256 fun _ l => f l := by
  funext j; idx_vars j; pointwise [E2_apply, E1_apply]
theorem same256 (h) : shapeCast (α := Ideal .f32) S1x256 (E2 1 256 F) h = E2 1 256 F := by
  funext j; idx_vars j; pointwise [E2_apply]
theorem div256 {n k : ℕ} : divf (F := Ideal) (φ := .f32) (E2 n k F) (E2 n k fun _ _ => (((256 : ℕ) : ℝ) : EReal)) = E2 n k fun r l => F r l * K 256 := by
  funext j; exact divK 256 (by decide) _
/-- The kernel's terms over a block: the mean, the reciprocal root, the normed block, its product with the gain, the input's gradient, the gain's. -/
def tMean256 (x : FVec Ideal S512x256 .f32) : FVec Ideal S512x1 .f32 :=
  divf (shapeCast S512x1 (sm256 x) shapeCasts_S512_S512x1) (broadcast S512x1 (Scalar.ofBits .f32 0x43800000#32))
def tRs256 (x : FVec Ideal S512x256 .f32) : FVec Ideal S512x1 .f32 := rsqrt (addf (tMean256 (mulf x x)) (broadcast S512x1 (Scalar.ofBits .f32 0x358637BD#32)))
def tXh256 (x : FVec Ideal S512x256 .f32) : FVec Ideal S512x256 .f32 := mulf x (broadcastTo S512x256 (tRs256 x) broadcasts_S512x1_S512x256)
def tHn256 (x : FVec Ideal S512x256 .f32) (g : FVec Ideal S1x256 .f32) : FVec Ideal S512x256 .f32 :=
  mulf (tXh256 x) (broadcastTo S512x256 (shapeCast S1x256 g shapeCasts_S1x256_S1x256) broadcasts_S1x256_S512x256)
def tIn256 (d x : FVec Ideal S512x256 .f32) (g : FVec Ideal S1x256 .f32) : FVec Ideal S512x256 .f32 :=
  mulf (broadcastTo S512x256 (tRs256 x) broadcasts_S512x1_S512x256)
    (subf (mulf d (broadcastTo S512x256 (shapeCast S1x256 g shapeCasts_S1x256_S1x256) broadcasts_S1x256_S512x256))
      (mulf (tXh256 x) (broadcastTo S512x256 (tMean256 (mulf (mulf d (broadcastTo S512x256 (shapeCast S1x256 g shapeCasts_S1x256_S1x256) broadcasts_S1x256_S512x256)) (tXh256 x)))
        broadcasts_S512x1_S512x256)))
def tGn256 (d x : FVec Ideal S512x256 .f32) : FVec Ideal S1x256 .f32 := shapeCast S1x256 (sr256 (mulf d (tXh256 x))) shapeCasts_S256_S1x256
theorem tMean256_eq : tMean256 (E2 512 256 F) = E2 512 1 fun r _ => (∑ l ∈ range 256, F r l) * K 256 := by
  unfold tMean256; simp only [sm256_eq, toCol, w_256, splat2, div256]
theorem tRs256_eq : tRs256 (E2 512 256 X) = E2 512 1 fun r _ => gRs 256 X r := by
  unfold tRs256; simp only [mulf2, tMean256_eq, w_ep, splat2, addf2, rsqrt2]; rfl
theorem tXh256_eq : tXh256 (E2 512 256 X) = E2 512 256 (gXh 256 X) := by
  unfold tXh256; simp only [tRs256_eq, bcCol256, mulf2]; rfl
theorem tHn256_eq : tHn256 (E2 512 256 X) (E2 1 256 fun _ l => g l) = E2 512 256 (gHn 256 X g) := by
  unfold tHn256; simp only [tXh256_eq, same256, bcRow256, mulf2]; rfl
theorem tIn256_eq : tIn256 (E2 512 256 D) (E2 512 256 X) (E2 1 256 fun _ l => g l) = E2 512 256 (gIn 256 X D g) := by
  unfold tIn256; simp only [tRs256_eq, tXh256_eq, same256, bcRow256, bcCol256, mulf2, tMean256_eq, subf2]; rfl
theorem tGn256_eq : tGn256 (E2 512 256 D) (E2 512 256 X) = E2 1 256 fun _ i => ∑ r ∈ range 512, D r i * gXh 256 X r i := by
  unfold tGn256; simp only [tXh256_eq, mulf2, sr256_eq, toRow256]
end W256

/-! ### The norm of width 512 -/
section W512
variable (X D F : ℕ → ℕ → EReal) (g f : ℕ → EReal)
def sm512 (x : FVec Ideal S512x512 .f32) : FVec Ideal S512 .f32 := multiReduction .add [1] S512 x 0x00000000#32 reduces_S512x512_S512 (.inl rfl) rfl
theorem sm512_eq : sm512 (E2 512 512 F) = E1 512 fun r => ∑ l ∈ range 512, F r l := by
  unfold sm512; funext j; idx_vars j; pointwise [E2_apply, E1_apply]; exact sum_fin _ _
def sr512 (x : FVec Ideal S512x512 .f32) : FVec Ideal S512 .f32 := multiReduction .add [0] S512 x 0x00000000#32 reduces_S512x512_S512_2 (.inl rfl) rfl
theorem sr512_eq : sr512 (E2 512 512 F) = E1 512 fun l => ∑ r ∈ range 512, F r l := by
  unfold sr512; funext j; idx_vars j; pointwise [E2_apply, E1_apply]; exact sum_fin _ (fun r => F r _)
theorem bcRow512 (h) : broadcastTo (α := Ideal .f32) S512x512 (E2 1 512 F) h = E2 512 512 fun _ l => F 0 l := by
  funext j; idx_vars j; pointwise [E2_apply]
theorem bcCol512 (h) : broadcastTo (α := Ideal .f32) S512x512 (E2 512 1 F) h = E2 512 512 fun r _ => F r 0 := by
  funext j; idx_vars j; pointwise [E2_apply]
theorem toRow512 (h) : shapeCast (α := Ideal .f32) S1x512 (E1 512 f) h = E2 1 512 fun _ l => f l := by
  funext j; idx_vars j; pointwise [E2_apply, E1_apply]
theorem same512 (h) : shapeCast (α := Ideal .f32) S1x512 (E2 1 512 F) h = E2 1 512 F := by
  funext j; idx_vars j; pointwise [E2_apply]
theorem div512 {n k : ℕ} : divf (F := Ideal) (φ := .f32) (E2 n k F) (E2 n k fun _ _ => (((512 : ℕ) : ℝ) : EReal)) = E2 n k fun r l => F r l * K 512 := by
  funext j; exact divK 512 (by decide) _
/-- The kernel's terms over a block: the mean, the reciprocal root, the normed block, its product with the gain, the input's gradient, the gain's. -/
def tMean512 (x : FVec Ideal S512x512 .f32) : FVec Ideal S512x1 .f32 :=
  divf (shapeCast S512x1 (sm512 x) shapeCasts_S512_S512x1) (broadcast S512x1 (Scalar.ofBits .f32 0x44000000#32))
def tRs512 (x : FVec Ideal S512x512 .f32) : FVec Ideal S512x1 .f32 := rsqrt (addf (tMean512 (mulf x x)) (broadcast S512x1 (Scalar.ofBits .f32 0x358637BD#32)))
def tXh512 (x : FVec Ideal S512x512 .f32) : FVec Ideal S512x512 .f32 := mulf x (broadcastTo S512x512 (tRs512 x) broadcasts_S512x1_S512x512)
def tHn512 (x : FVec Ideal S512x512 .f32) (g : FVec Ideal S1x512 .f32) : FVec Ideal S512x512 .f32 :=
  mulf (tXh512 x) (broadcastTo S512x512 (shapeCast S1x512 g shapeCasts_S1x512_S1x512) broadcasts_S1x512_S512x512)
def tIn512 (d x : FVec Ideal S512x512 .f32) (g : FVec Ideal S1x512 .f32) : FVec Ideal S512x512 .f32 :=
  mulf (broadcastTo S512x512 (tRs512 x) broadcasts_S512x1_S512x512)
    (subf (mulf d (broadcastTo S512x512 (shapeCast S1x512 g shapeCasts_S1x512_S1x512) broadcasts_S1x512_S512x512))
      (mulf (tXh512 x) (broadcastTo S512x512 (tMean512 (mulf (mulf d (broadcastTo S512x512 (shapeCast S1x512 g shapeCasts_S1x512_S1x512) broadcasts_S1x512_S512x512)) (tXh512 x)))
        broadcasts_S512x1_S512x512)))
def tGn512 (d x : FVec Ideal S512x512 .f32) : FVec Ideal S1x512 .f32 := shapeCast S1x512 (sr512 (mulf d (tXh512 x))) shapeCasts_S512_S1x512
theorem tMean512_eq : tMean512 (E2 512 512 F) = E2 512 1 fun r _ => (∑ l ∈ range 512, F r l) * K 512 := by
  unfold tMean512; simp only [sm512_eq, toCol, w_512, splat2, div512]
theorem tRs512_eq : tRs512 (E2 512 512 X) = E2 512 1 fun r _ => gRs 512 X r := by
  unfold tRs512; simp only [mulf2, tMean512_eq, w_ep, splat2, addf2, rsqrt2]; rfl
theorem tXh512_eq : tXh512 (E2 512 512 X) = E2 512 512 (gXh 512 X) := by
  unfold tXh512; simp only [tRs512_eq, bcCol512, mulf2]; rfl
theorem tHn512_eq : tHn512 (E2 512 512 X) (E2 1 512 fun _ l => g l) = E2 512 512 (gHn 512 X g) := by
  unfold tHn512; simp only [tXh512_eq, same512, bcRow512, mulf2]; rfl
theorem tIn512_eq : tIn512 (E2 512 512 D) (E2 512 512 X) (E2 1 512 fun _ l => g l) = E2 512 512 (gIn 512 X D g) := by
  unfold tIn512; simp only [tRs512_eq, tXh512_eq, same512, bcRow512, bcCol512, mulf2, tMean512_eq, subf2]; rfl
theorem tGn512_eq : tGn512 (E2 512 512 D) (E2 512 512 X) = E2 1 512 fun _ i => ∑ r ∈ range 512, D r i * gXh 512 X r i := by
  unfold tGn512; simp only [tXh512_eq, mulf2, sr512_eq, toRow512]
end W512

section Pay
variable (G W A B Z : ℕ → ℕ → EReal) (g : ℕ → EReal)
theorem pay3_eq : k0_pay3 (F := Ideal) = E2 1 1024 fun _ _ => 0 := by unfold k0_pay3; simp only [w_zero, splat2]
theorem pay4_eq : k0_pay4 (F := Ideal) = E2 1024 1024 fun _ _ => 0 := by unfold k0_pay4; simp only [w_zero, splat2, sameAcc]
theorem pay5_eq : k0_pay5 (F := Ideal) (E2 512 1024 G) (E2 1024 1024 W) = E2 512 1024 (gDn G W) := by
  unfold k0_pay5; simp only [truncf2, mmLane]
theorem pay8_eq : k0_pay8 (F := Ideal) (E2 512 1024 G) (E2 1024 1024 W) = E2 512 256 (s2 (gDn G W) 0) := by
  unfold k0_pay8; rw [pay5_eq, sl2]
theorem pay16_eq : k0_pay16 (F := Ideal) (k0_pay5 (E2 512 1024 G) (E2 1024 1024 W)) = E2 512 512 (s2 (gDn G W) 256) := by
  unfold k0_pay16; rw [pay5_eq, sl2]
theorem pay24_eq : k0_pay24 (F := Ideal) (k0_pay5 (E2 512 1024 G) (E2 1024 1024 W)) = E2 512 256 (s2 (gDn G W) 768) := by
  unfold k0_pay24; rw [pay5_eq, sl2]
variable (x0 : FVec Ideal S512x1024 .f32) (x1 x3 : FVec Ideal S512x256 .f32) (x2 : FVec Ideal S512x512 .f32) (x5 : FVec Ideal S1024x1024 .bf16)
  (ga gz : FVec Ideal S1x256 .f32) (gb : FVec Ideal S1x512 .f32) (d : FVec Ideal S1x1024 .f32) (S : FVec Ideal S1024x1024 .f32)
/-- The five terms of a block. -/
def uA : FVec Ideal S512x256 .f32 := k0_pay10 x0 x5 x1 ga
def uB : FVec Ideal S512x512 .f32 := k0_pay18 (k0_pay5 x0 x5) x2 gb
def uZ : FVec Ideal S512x256 .f32 := k0_pay26 (k0_pay5 x0 x5) x3 (k0_pay21 x3) gz
def uG : FVec Ideal S1x1024 .f32 := k0_pay27 (k0_pay5 x0 x5) (k0_pay11 x0 x5 x1) (k0_pay19 (k0_pay5 x0 x5) x2) x3 (k0_pay21 x3) d
def uS : FVec Ideal S1024x1024 .f32 := k0_pay28 x0 (k0_pay13 x1 (k0_pay7 ga) (k0_pay12 x1)) (k0_pay20 x2 gb) x3 (k0_pay21 x3) gz S
theorem uA_eq : uA (E2 512 1024 G) (E2 512 256 A) (E2 1024 1024 W) (E2 1 256 fun _ l => s1 g 0 l) = E2 512 256 (gIn 256 A (s2 (gDn G W) 0) (s1 g 0)) := by
  have h : ∀ x0 x1 x5 ga, uA x0 x1 x5 ga = tIn256 (k0_pay8 x0 x5) x1 ga := fun _ _ _ _ => rfl
  rw [h, pay8_eq, tIn256_eq]
theorem uB_eq : uB (E2 512 1024 G) (E2 512 512 B) (E2 1024 1024 W) (E2 1 512 fun _ l => s1 g 256 l) = E2 512 512 (gIn 512 B (s2 (gDn G W) 256) (s1 g 256)) := by
  have h : ∀ x0 x2 x5 gb, uB x0 x2 x5 gb = tIn512 (k0_pay16 (k0_pay5 x0 x5)) x2 gb := fun _ _ _ _ => rfl
  rw [h, pay16_eq, tIn512_eq]
theorem uZ_eq : uZ (E2 512 1024 G) (E2 512 256 Z) (E2 1024 1024 W) (E2 1 256 fun _ l => s1 g 768 l) = E2 512 256 (gIn 256 Z (s2 (gDn G W) 768) (s1 g 768)) := by
  have h : ∀ x0 x3 x5 gz, uZ x0 x3 x5 gz = tIn256 (k0_pay24 (k0_pay5 x0 x5)) x3 gz := fun _ _ _ _ => rfl
  rw [h, pay24_eq, tIn256_eq]
/-- The gain's gradient over `N` tokens from `o` on. -/
def gPart (o N : ℕ) : ℕ → EReal := cat1 (fun i => ∑ r ∈ range N, s2 (gDn G W) 0 (o + r) i * gXh 256 A (o + r) i)
  (fun i => ∑ r ∈ range N, s2 (gDn G W) 256 (o + r) i * gXh 512 B (o + r) i) (fun i => ∑ r ∈ range N, s2 (gDn G W) 768 (o + r) i * gXh 256 Z (o + r) i)
theorem uG_eq (D : ℕ → ℕ → EReal) : uG (E2 512 1024 G) (E2 512 256 A) (E2 512 256 Z) (E2 512 512 B) (E2 1024 1024 W) (E2 1 1024 D)
    = E2 1 1024 fun z i => D z i + gPart G W A B Z 0 512 i := by
  have h : ∀ x0 x1 x3 x2 x5 d, uG x0 x1 x3 x2 x5 d = addf (shapeCast S1x1024 d shapeCasts_S1x1024_S1x1024) (concatenate S1x1024 1 [⟨S1x256, tGn256 (k0_pay8 x0 x5) x1⟩,
      ⟨S1x512, tGn512 (k0_pay16 (k0_pay5 x0 x5)) x2⟩, ⟨S1x256, tGn256 (k0_pay24 (k0_pay5 x0 x5)) x3⟩] concatenates_S1x256_S1x512_S1x256_S1x1024_d1) := fun _ _ _ _ _ _ => rfl
  rw [h, pay8_eq, pay16_eq, pay24_eq, tGn256_eq, tGn512_eq, tGn256_eq, catRow, sameRow, addf2]
  unfold gPart
  simp only [zero_add]; rfl
theorem uS_eq (S : ℕ → ℕ → EReal) : uS (E2 512 1024 G) (E2 512 256 A) (E2 512 256 Z) (E2 512 512 B) (E2 1 256 fun _ l => s1 g 0 l) (E2 1 256 fun _ l => s1 g 768 l)
      (E2 1 512 fun _ l => s1 g 256 l) (E2 1024 1024 S) = E2 1024 1024 fun j l => S j l + ∑ r ∈ range 512, gYn A B Z g r j * G r l := by
  have h : ∀ x0 x1 x3 x2 ga gz gb S, uS x0 x1 x3 x2 ga gz gb S = addf S (matmul dot_S512x1024_S512x1024_S1024x1024_0_0_1_1_n_n none
      (truncf .bf16 (concatenate S512x1024 1 [⟨S512x256, tHn256 x1 ga⟩, ⟨S512x512, tHn512 x2 gb⟩, ⟨S512x256, tHn256 x3 gz⟩] concatenates_S512x256_S512x512_S512x256_S512x1024_d1)
        bitsLt_bf16_f32) (truncf .bf16 x0 bitsLt_bf16_f32) (constant S1024x1024 .f32 0x00000000#32)) := fun _ _ _ _ _ _ _ _ => rfl
  rw [h, tHn256_eq, tHn512_eq, tHn256_eq, catBlk, truncf2, truncf2, mmRow, addf2]
  rfl
end Pay

end Cert.Mg
end
-- ==== Proof.MergeFwdOut.lean ====
module

public import proofs.«01_k».proof.Proof.MergeBwdPay
public import proofs.«01_k».proof.Proof.Gen.MergeFwdIdeal.Value
public import proofs.«01_k».proof.Proof.Gen.MergeFwdRefIdeal.Run
public import proofs.«01_k».proof.Proof.Gen.MergeFwdRefIdeal.Read

@[expose] public section

set_option maxRecDepth 16384

noncomputable section

/-! The merge's forward kernel, a block of 512 tokens at a time, adds the product of the joined norms with the weight to its first argument. -/

namespace Cert.Mg.Fwd

open Cert.Mlp Cert.MergeFwdIdeal Cert.MergeFwdIdeal.Gen Cert.MergeFwdIdeal.Value Idealize.ShloMosaic Idealize.ShloMosaic.TcCoe Idealize.SL.Sem Finset

section Pay
variable (F P G W A B Z : ℕ → ℕ → EReal) (g : ℕ → EReal)
theorem mmOut (p) : matmul (F := Ideal) (φ₁ := .bf16) (φ₂ := .bf16) dot_S512x1024_S1024x1024_S512x1024_1_0_0_1_n_n p (E2 512 1024 F) (E2 1024 1024 P)
    (constant S512x1024 .f32 0x00000000#32) = E2 512 1024 fun r k => ∑ j ∈ range 1024, F r j * P j k := by
  funext j; idx_vars j; pointwise [E2_apply]
  exact sum_fin 1024 (fun k => F j0 k * P k j1)
/-- The sum with the product. -/
def gOut (n k : ℕ) : EReal := G n k + ∑ j ∈ range 1024, gYn A B Z g n j * W j k
theorem pay1_eq : k0_pay1 (F := Ideal) (k0_pay2 (E2 512 256 A) (E2 512 512 B) (E2 512 256 Z) (E2 1 1024 fun _ l => g l)) (E2 512 1024 G) (E2 1024 1024 W)
    = E2 512 1024 (gOut G W A B Z g) := by
  have h : ∀ x1 x2 x3 y, k0_pay2 (F := Ideal) x1 x2 x3 y = mulf (concatenate S512x1024 1 [⟨S512x256, tXh256 x1⟩, ⟨S512x512, tXh512 x2⟩, ⟨S512x256, tXh256 x3⟩]
      concatenates_S512x256_S512x512_S512x256_S512x1024_d1) (broadcastTo S512x1024 (shapeCast S1x1024 y shapeCasts_S1x1024_S1x1024) broadcasts_S1x1024_S512x1024) := fun _ _ _ _ => rfl
  have e : ∀ n l, cat2 (gXh 256 A) (gXh 512 B) (gXh 256 Z) n l * g l = gYn A B Z g n l := by
    intro n l
    unfold gYn cat2 cat1 gHn s1
    split_ifs with h1 h2
    · rw [zero_add]
    · rw [show 256 + (l - 256) = l by omega]
    · rw [show 768 + (l - 768) = l by omega]
  unfold k0_pay1
  rw [h, tXh256_eq, tXh512_eq, tXh256_eq, catBlk, sameRow, bcRow, mulf2, truncf2]
  simp only [e]
  rw [mmOut, addf2]; rfl
end Pay

variable (m : (ℓ : Loc nD τ sig) → Buf (Elt Ideal) ℓ) (c : Dev nD)
variable (G W A B Z : ℕ → ℕ → EReal) (g : ℕ → EReal)

/-- The six arguments written by functions of natural coordinates. -/
structure Args : Prop where
  g0 : m (c, main_arg0) = E2 8192 1024 G
  a : m (c, main_arg1) = E2 8192 256 A
  b : m (c, main_arg2) = E2 8192 512 B
  z : m (c, main_arg3) = E2 8192 256 Z
  g : m (c, main_arg4) = E1 1024 g
  w : m (c, main_arg5) = E2 1024 1024 W

theorem idx_row : ∀ t : Fin cfg0.N, win0_0.index t = ![t.val, 0] ∧ win0_1.index t = ![t.val, 0] ∧ win0_2.index t = ![t.val, 0] ∧ win0_3.index t = ![t.val, 0] ∧ win0_6.index t = ![t.val, 0] ∧ win0_4.index t = ![0, 0] ∧ win0_5.index t = ![0, 0] :=
  (by decide +kernel : ∀ t : Fin grid0.N, _)
theorem emb6 (t : Fin cfg0.N) (j0 : Fin 512) (j1 : Fin 1024) : (((((cfg0.win 6).blk t).view.emb (ix2 j0 j1)) 0 : Fin _) : ℕ) = 512 * t.val + j0.val
    ∧ (((((cfg0.win 6).blk t).view.emb (ix2 j0 j1)) 1 : Fin _) : ℕ) = j1.val := by
  constructor <;> blk_simp [idx_row t] <;> omega

variable (H : Args m c G W A B Z g)
include H

/-- The gain as the row the host makes of it. -/
theorem host_g : V m c main_v0 = E2 1 1024 fun _ l => g l := by
  have h : V m c main_v0 = shapeCast (α := Ideal .f32) S1x1024 (m (c, main_arg4)) shapeCasts_S1024_S1x1024 := by
    entry_read
    rfl
  rw [h, H.g]
  funext j; idx_vars j; pointwise [E2_apply, E1_apply]
theorem blk0 (t : Fin cfg0.N) : @Eq (FVec Ideal S512x1024 .f32) (iblk m c 0 t) (E2 512 1024 fun r l => G (512 * t.val + r) l) := by
  funext j; idx_vars j
  have h : iblk m c 0 t (ix2 j0 j1) = V m c main_arg0 (((cfg0.win 0).blk t).view.emb (ix2 j0 j1)) := by blk_simp [iblk]
  refine h.trans ?_
  rw [V_main_arg0, show m ((c : Thread nD τ).loc main_arg0) = E2 8192 1024 G from H.g0]
  refine congrArg₂ G ?_ ?_ <;> blk_simp [idx_row t] <;> omega
theorem blk1 (t : Fin cfg0.N) : @Eq (FVec Ideal S512x256 .f32) (iblk m c 1 t) (E2 512 256 fun r l => A (512 * t.val + r) l) := by
  funext j; idx_vars j
  have h : iblk m c 1 t (ix2 j0 j1) = V m c main_arg1 (((cfg0.win 1).blk t).view.emb (ix2 j0 j1)) := by blk_simp [iblk]
  refine h.trans ?_
  rw [V_main_arg1, show m ((c : Thread nD τ).loc main_arg1) = E2 8192 256 A from H.a]
  refine congrArg₂ A ?_ ?_ <;> blk_simp [idx_row t] <;> omega
theorem blk2 (t : Fin cfg0.N) : @Eq (FVec Ideal S512x512 .f32) (iblk m c 2 t) (E2 512 512 fun r l => B (512 * t.val + r) l) := by
  funext j; idx_vars j
  have h : iblk m c 2 t (ix2 j0 j1) = V m c main_arg2 (((cfg0.win 2).blk t).view.emb (ix2 j0 j1)) := by blk_simp [iblk]
  refine h.trans ?_
  rw [V_main_arg2, show m ((c : Thread nD τ).loc main_arg2) = E2 8192 512 B from H.b]
  refine congrArg₂ B ?_ ?_ <;> blk_simp [idx_row t] <;> omega
theorem blk3 (t : Fin cfg0.N) : @Eq (FVec Ideal S512x256 .f32) (iblk m c 3 t) (E2 512 256 fun r l => Z (512 * t.val + r) l) := by
  funext j; idx_vars j
  have h : iblk m c 3 t (ix2 j0 j1) = V m c main_arg3 (((cfg0.win 3).blk t).view.emb (ix2 j0 j1)) := by blk_simp [iblk]
  refine h.trans ?_
  rw [V_main_arg3, show m ((c : Thread nD τ).loc main_arg3) = E2 8192 256 Z from H.z]
  refine congrArg₂ Z ?_ ?_ <;> blk_simp [idx_row t] <;> omega
theorem blk4 (t : Fin cfg0.N) : @Eq (FVec Ideal S1x1024 .f32) (iblk m c 4 t) (E2 1 1024 fun _ l => g l) := by
  funext j; idx_vars j
  have h : iblk m c 4 t (ix2 j0 j1) = V m c main_v0 (((cfg0.win 4).blk t).view.emb (ix2 j0 j1)) := by blk_simp [iblk]
  refine h.trans ?_
  rw [host_g m c G W A B Z g H]
  refine congrArg g ?_; blk_simp [idx_row t]
theorem blk5 (t : Fin cfg0.N) : @Eq (FVec Ideal S1024x1024 .bf16) (iblk m c 5 t) (E2 1024 1024 W) := by
  funext j; idx_vars j
  have h : iblk m c 5 t (ix2 j0 j1) = V m c main_arg5 (((cfg0.win 5).blk t).view.emb (ix2 j0 j1)) := by blk_simp [iblk]
  refine h.trans ?_
  rw [V_main_arg5, show m ((c : Thread nD τ).loc main_arg5) = E2 1024 1024 W from H.w]
  refine congrArg₂ W ?_ ?_ <;> blk_simp [idx_row t]

/-- The array the kernel leaves. -/
theorem arr_o : (dats m 0 c).arrAt 6 cfg0.N = E2 8192 1024 (gOut G W A B Z g) := by
  refine (dats m 0 c).arrAt_eq_of_covers 6 _ (by decide +kernel) fun t hf y => ?_
  idx_vars y
  obtain ⟨h0, h1⟩ := emb6 t y0 y1
  blk_simp
  rw [after0_6, blk0 m c G W A B Z g H, blk1 m c G W A B Z g H, blk2 m c G W A B Z g H, blk3 m c G W A B Z g H, blk4 m c G W A B Z g H, blk5 m c G W A B Z g H]
  have e : ∀ x0 x1 x2 x3 x4 x5, out0_6 (F := Ideal) x0 x1 x2 x3 x4 x5 = k0_pay1 (k0_pay2 x1 x2 x3 x4) x0 x5 := by
    intro x0 x1 x2 x3 x4 x5
    have z : ∀ a, (![0, 0] : Fin 2 → ℕ) a = 0 := by decide
    unfold out0_6
    refine (View.canon_cons_unit_lit _ _ _ z).trans ?_
    refine congr (congrArg₂ k0_pay1 (congr (congr (congrArg₂ k0_pay2 (View.ld_unit_lit _ _ z) (View.ld_unit_lit _ _ z)) (View.ld_unit_lit _ _ z)) (View.ld_unit_lit _ _ z))
      (View.ld_unit_lit _ _ z)) (View.ld_unit_lit _ _ z)
  rw [e, pay1_eq]
  exact congrArg₂ (gOut G W A B Z g) h0.symm h1.symm
omit H

/-- The reference's result. -/
theorem ref_o : Cert.MergeFwdRefIdeal.Read.val_main_v45 (F := Ideal) (E2 8192 1024 G) (E2 8192 256 A) (E2 8192 512 B) (E2 8192 256 Z) (E1 1024 g) (E2 1024 1024 W)
    = E2 8192 1024 (gOut G W A B Z g) := by
  have h : Cert.MergeFwdRefIdeal.Read.val_main_v42 (F := Ideal) (E2 8192 256 A) (E2 8192 512 B) (E2 8192 256 Z) (E1 1024 g) = E2 8192 1024 (gYn A B Z g) := by
    rw [← r51]; rfl
  have e : Cert.MergeFwdRefIdeal.Read.val_main_v44 (F := Ideal) (E2 8192 256 A) (E2 8192 512 B) (E2 8192 256 Z) (E1 1024 g) (E2 1024 1024 W)
      = E2 8192 1024 fun n k => ∑ j ∈ range 1024, gYn A B Z g n j * W j k := by
    funext i
    refine (Cert.MergeFwdRefIdeal.Read.val_main_v44_apply _ _ _ _ _ i).trans ?_
    rw [h]
    exact sum_fin 1024 fun j => gYn A B Z g (i 0).val j * W j (i 1).val
  unfold Cert.MergeFwdRefIdeal.Read.val_main_v45
  rw [e, addf2]; rfl

section Arguments
/-- The functions of the six arguments. -/
def aG : ℕ → ℕ → EReal := un2 8192 1024 (m (c, main_arg0))
def aA : ℕ → ℕ → EReal := un2 8192 256 (m (c, main_arg1))
def aB : ℕ → ℕ → EReal := un2 8192 512 (m (c, main_arg2))
def aZ : ℕ → ℕ → EReal := un2 8192 256 (m (c, main_arg3))
def ag : ℕ → EReal := un1 1024 (m (c, main_arg4))
def aW : ℕ → ℕ → EReal := un2 1024 1024 (m (c, main_arg5))
theorem args : Args m c (aG m c) (aW m c) (aA m c) (aB m c) (aZ m c) (ag m c) where
  g0 := un2_eq 8192 1024 _
  a := un2_eq 8192 256 _
  b := un2_eq 8192 512 _
  z := un2_eq 8192 256 _
  g := un1_eq 1024 _
  w := un2_eq 1024 1024 _
end Arguments

theorem preserves : Cert.preserves_MergeFwd_MergeFwdIdeal := by
  unfold Cert.preserves_MergeFwd_MergeFwdIdeal; trivial

theorem algebraic : Cert.algebraic_MergeFwdIdeal_MergeFwdRefIdeal := by
  intro m g m' g' _ hag
  refine ⟨fun c => E2 8192 1024 (gOut (aG m c) (aW m c) (aA m c) (aB m c) (aZ m c) (ag m c)), ?_, ?_⟩
  · refine (θ_run _ _ _).mono (fun r h c => ?_) (Cert.MergeFwdIdeal.Value.run_blocks m g)
    obtain ⟨h0, k⟩ := h c
    exact ⟨h0.trans (arr_o m c _ _ _ _ _ _ (args m c)), k⟩
  · refine (θ_run _ _ _).mono (fun r h c => ?_) (Cert.MergeFwdRefIdeal.Value.run m' g')
    obtain ⟨h0, k⟩ := h c
    have H := args m c
    obtain ⟨a0, a1, a2, a3, a4, a5⟩ := hag c
    have V0 : m' ((c.tc : Thread Cert.MergeFwdRefIdeal.nD Cert.MergeFwdRefIdeal.τ).loc Cert.MergeFwdRefIdeal.main_arg0) = E2 8192 1024 (aG m c) := a0.trans H.g0
    have V1 : m' ((c.tc : Thread Cert.MergeFwdRefIdeal.nD Cert.MergeFwdRefIdeal.τ).loc Cert.MergeFwdRefIdeal.main_arg1) = E2 8192 256 (aA m c) := a1.trans H.a
    have V2 : m' ((c.tc : Thread Cert.MergeFwdRefIdeal.nD Cert.MergeFwdRefIdeal.τ).loc Cert.MergeFwdRefIdeal.main_arg2) = E2 8192 512 (aB m c) := a2.trans H.b
    have V3 : m' ((c.tc : Thread Cert.MergeFwdRefIdeal.nD Cert.MergeFwdRefIdeal.τ).loc Cert.MergeFwdRefIdeal.main_arg3) = E2 8192 256 (aZ m c) := a3.trans H.z
    have V4 : m' ((c.tc : Thread Cert.MergeFwdRefIdeal.nD Cert.MergeFwdRefIdeal.τ).loc Cert.MergeFwdRefIdeal.main_arg4) = E1 1024 (ag m c) := a4.trans H.g
    have V5 : m' ((c.tc : Thread Cert.MergeFwdRefIdeal.nD Cert.MergeFwdRefIdeal.τ).loc Cert.MergeFwdRefIdeal.main_arg5) = E2 1024 1024 (aW m c) := a5.trans H.w
    refine ⟨h0.trans ((Cert.MergeFwdRefIdeal.Read.val_main_v45_eq (F := Ideal) _ _ _ _ _ _).trans ?_), k⟩
    rw [V0, V1, V2, V3, V4, V5]; exact ref_o _ _ _ _ _ _

end Cert.Mg.Fwd
end
-- ==== Proof.MergeBwdPoint.lean ====
module

public import proofs.«01_k».proof.Proof.MergeBwdPay
public import proofs.«01_k».proof.Proof.Gen.MergeBwdIdeal.Points

@[expose] public section

set_option maxRecDepth 16384

noncomputable section

/-! What each point of the merge's backward kernel leaves, as the block's terms. -/

namespace Cert.Mg

open Cert.Mlp Cert.MergeBwdIdeal Cert.MergeBwdIdeal.Gen Cert.MergeBwdIdeal.Value Idealize.ShloMosaic Idealize.ShloMosaic.TcCoe Idealize.SL.Sem Finset

/-- The gain's columns, 256 or 512 at a time. -/
abbrev colN (w o : ℕ) (g : FVec Ideal S1x1024 .f32) (h : ∀ i, (![0, o] : Fin 2 → ℕ) i + (![1, w] : Fin 2 → ℕ) i ≤ (![1, 1024] : Fin 2 → ℕ) i) :
    FVec Ideal ⟨2, ![1, w]⟩ .f32 := View.ld (Val := Elt Ideal) (e' := .f32) g (Rect.unit ![0, o] ![1, w] h)
def gnA (g : FVec Ideal S1x1024 .f32) : FVec Ideal S1x256 .f32 := colN 256 0 g inb_S1x1024_S1x256_0_0
def gnB (g : FVec Ideal S1x1024 .f32) : FVec Ideal S1x512 .f32 := colN 512 256 g inb_S1x1024_S1x512_0_256
def gnZ (g : FVec Ideal S1x1024 .f32) : FVec Ideal S1x256 .f32 := colN 256 768 g inb_S1x1024_S1x256_0_768

variable (m : (ℓ : Loc nD τ sig) → Buf (Elt Ideal) ℓ) (c : Dev nD) (t : Fin cfg0.N)
/-- The five terms of a point. -/
def pA : FVec Ideal S512x256 .f32 := uA (iblk m c 0 t) (iblk m c 1 t) (iblk m c 5 t) (gnA (iblk m c 4 t))
def pB : FVec Ideal S512x512 .f32 := uB (iblk m c 0 t) (iblk m c 2 t) (iblk m c 5 t) (gnB (iblk m c 4 t))
def pZ : FVec Ideal S512x256 .f32 := uZ (iblk m c 0 t) (iblk m c 3 t) (iblk m c 5 t) (gnZ (iblk m c 4 t))
def pG (d : FVec Ideal S1x1024 .f32) : FVec Ideal S1x1024 .f32 := uG (iblk m c 0 t) (iblk m c 1 t) (iblk m c 3 t) (iblk m c 2 t) (iblk m c 5 t) d
def pS (S : FVec Ideal S1024x1024 .f32) : FVec Ideal S1024x1024 .f32 :=
  uS (iblk m c 0 t) (iblk m c 1 t) (iblk m c 3 t) (iblk m c 2 t) (gnA (iblk m c 4 t)) (gnZ (iblk m c 4 t)) (gnB (iblk m c 4 t)) S
theorem sameS (S : ℕ → ℕ → EReal) : k0_pay1 (F := Ideal) (E2 1024 1024 S) = E2 1024 1024 S := by unfold k0_pay1; rw [sameAcc]

theorem acc_A (h0 : t.val % 16 = 0) : (outsAt0 m c t.val t.isLt).2.2.2.2.2 = k0_pay1 (pS m c t k0_pay4) := by
  rw [outsAt0_A m c t h0 (by omega)]
  frame_open
  simp (disch := decide) only [↓ View.readCov_fill]
  frame_out
  rfl
theorem dg_A (h0 : t.val % 16 = 0) : (outsAt0 m c t.val t.isLt).2.2.2.2.1 = pG m c t k0_pay3 := by
  rw [outsAt0_A m c t h0 (by omega)]
  frame_open
  simp (disch := decide) only [↓ View.readCov_fill]
  frame_out
  rfl
theorem acc_B (h0 : ¬ t.val % 16 = 0) (h) : (outsAt0 m c t.val t.isLt).2.2.2.2.2 = k0_pay1 (pS m c t (outsAt0 m c (t.val - 1) h).2.2.2.2.2) := by
  by_cases h1 : t.val % 16 = 15
  · rw [outsAt0_C m c t h0 h1]
    frame_out
    simp only [read_unread_whole]
    rfl
  · rw [outsAt0_B m c t h0 h1]
    frame_out
    simp only [read_unread_whole]
    rfl
theorem dg_B (h0 : ¬ t.val % 16 = 0) (h) : (outsAt0 m c t.val t.isLt).2.2.2.2.1 = pG m c t (outsAt0 m c (t.val - 1) h).2.2.2.2.1 := by
  by_cases h1 : t.val % 16 = 15
  · rw [outsAt0_C m c t h0 h1]
    frame_out
    rfl
  · rw [outsAt0_B m c t h0 h1]
    frame_out
    rfl
theorem dw_C (h1 : t.val % 16 = 15) (h) : (outsAt0 m c t.val t.isLt).2.2.2.1 = k0_pay2 (k0_pay1 (pS m c t (outsAt0 m c (t.val - 1) h).2.2.2.2.2)) := by
  rw [outsAt0_C m c t (by omega) h1]
  frame_open
  simp only [readCov_ld]
  frame_out
  simp only [canon_all, read_unread_whole]
  rfl
theorem da_all : (outsAt0 m c t.val t.isLt).1 = pA m c t := by
  by_cases h0 : t.val % 16 = 0
  · rw [outsAt0_A m c t h0 (by omega)]
    frame_open
    frame_out
    rfl
  by_cases h1 : t.val % 16 = 15
  · rw [outsAt0_C m c t h0 h1]
    frame_out
    rfl
  · rw [outsAt0_B m c t h0 h1]
    frame_out
    rfl
theorem db_all : (outsAt0 m c t.val t.isLt).2.1 = pB m c t := by
  by_cases h0 : t.val % 16 = 0
  · rw [outsAt0_A m c t h0 (by omega)]
    frame_open
    frame_out
    rfl
  by_cases h1 : t.val % 16 = 15
  · rw [outsAt0_C m c t h0 h1]
    frame_out
    rfl
  · rw [outsAt0_B m c t h0 h1]
    frame_out
    rfl
theorem dz_all : (outsAt0 m c t.val t.isLt).2.2.1 = pZ m c t := by
  by_cases h0 : t.val % 16 = 0
  · rw [outsAt0_A m c t h0 (by omega)]
    frame_open
    frame_out
    rfl
  by_cases h1 : t.val % 16 = 15
  · rw [outsAt0_C m c t h0 h1]
    frame_out
    rfl
  · rw [outsAt0_B m c t h0 h1]
    frame_out
    rfl

end Cert.Mg
end
-- ==== Proof.MergeBwdOut.lean ====
module

public import proofs.«01_k».proof.Proof.MergeBwdPoint
public import proofs.«01_k».proof.Proof.Gen.MergeBwdRefIdeal.Run

@[expose] public section

set_option maxRecDepth 16384

noncomputable section

/-! The merge's backward kernel equals the derivative: of the three inputs, of the weight, of the gain. -/

namespace Cert.Mg

open Cert.Mlp Cert.MergeBwdIdeal Cert.MergeBwdIdeal.Gen Cert.MergeBwdIdeal.Value Idealize.ShloMosaic Idealize.ShloMosaic.TcCoe Idealize.SL.Sem Finset

theorem sum_cat1 (n : ℕ) (a b z : ℕ → ℕ → EReal) (i : ℕ) :
    ∑ u ∈ range n, cat1 (a u) (b u) (z u) i = cat1 (fun j => ∑ u ∈ range n, a u j) (fun j => ∑ u ∈ range n, b u j) (fun j => ∑ u ∈ range n, z u j) i := by
  unfold cat1; split_ifs <;> rfl

variable (m : (ℓ : Loc nD τ sig) → Buf (Elt Ideal) ℓ) (c : Dev nD)
variable (G W A B Z : ℕ → ℕ → EReal) (g : ℕ → EReal)

theorem gPart_sum (i : ℕ) : ∑ u ∈ range 16, gPart G W A B Z (512 * u) 512 i = gGain G W A B Z i := by
  unfold gPart
  rw [sum_cat1]
  unfold gGain gDg
  congr 1 <;> funext j
  · exact sum_blocks 16 512 fun n => s2 (gDn G W) 0 n j * gXh 256 A n j
  · exact sum_blocks 16 512 fun n => s2 (gDn G W) 256 n j * gXh 512 B n j
  · exact sum_blocks 16 512 fun n => s2 (gDn G W) 768 n j * gXh 256 Z n j
theorem gnA_eq : gnA (E2 1 1024 fun _ l => g l) = E2 1 256 fun _ l => s1 g 0 l := by unfold gnA colN; rw [Cert.In.Bwd.ldf]; rfl
theorem gnB_eq : gnB (E2 1 1024 fun _ l => g l) = E2 1 512 fun _ l => s1 g 256 l := by unfold gnB colN; rw [Cert.In.Bwd.ldf]; rfl
theorem gnZ_eq : gnZ (E2 1 1024 fun _ l => g l) = E2 1 256 fun _ l => s1 g 768 l := by unfold gnZ colN; rw [Cert.In.Bwd.ldf]; rfl

/-- The six arguments written by functions of natural coordinates. -/
structure Args : Prop where
  g0 : m (c, main_arg0) = E2 8192 1024 G
  a : m (c, main_arg1) = E2 8192 256 A
  b : m (c, main_arg2) = E2 8192 512 B
  z : m (c, main_arg3) = E2 8192 256 Z
  g : m (c, main_arg4) = E1 1024 g
  w : m (c, main_arg5) = E2 1024 1024 W

theorem idx_row : ∀ t : Fin cfg0.N, win0_0.index t = ![t.val, 0] ∧ win0_1.index t = ![t.val, 0] ∧ win0_2.index t = ![t.val, 0] ∧ win0_3.index t = ![t.val, 0] ∧ win0_6.index t = ![t.val, 0] ∧ win0_7.index t = ![t.val, 0] ∧ win0_8.index t = ![t.val, 0] ∧ win0_4.index t = ![0, 0] ∧ win0_5.index t = ![0, 0] :=
  (by decide +kernel : ∀ t : Fin grid0.N, _)
theorem emb6 (t : Fin cfg0.N) (j0 : Fin 512) (j1 : Fin 256) : (((((cfg0.win 6).blk t).view.emb (ix2 j0 j1)) 0 : Fin _) : ℕ) = 512 * t.val + j0.val
    ∧ (((((cfg0.win 6).blk t).view.emb (ix2 j0 j1)) 1 : Fin _) : ℕ) = j1.val := by
  constructor <;> blk_simp [idx_row t] <;> omega
theorem emb7 (t : Fin cfg0.N) (j0 : Fin 512) (j1 : Fin 512) : (((((cfg0.win 7).blk t).view.emb (ix2 j0 j1)) 0 : Fin _) : ℕ) = 512 * t.val + j0.val
    ∧ (((((cfg0.win 7).blk t).view.emb (ix2 j0 j1)) 1 : Fin _) : ℕ) = j1.val := by
  constructor <;> blk_simp [idx_row t] <;> omega
theorem emb8 (t : Fin cfg0.N) (j0 : Fin 512) (j1 : Fin 256) : (((((cfg0.win 8).blk t).view.emb (ix2 j0 j1)) 0 : Fin _) : ℕ) = 512 * t.val + j0.val
    ∧ (((((cfg0.win 8).blk t).view.emb (ix2 j0 j1)) 1 : Fin _) : ℕ) = j1.val := by
  constructor <;> blk_simp [idx_row t] <;> omega

variable (H : Args m c G W A B Z g)
include H

/-- The gain as the row the host makes of it. -/
theorem host_g : V m c main_v0 = E2 1 1024 fun _ l => g l := by
  have h : V m c main_v0 = shapeCast (α := Ideal .f32) S1x1024 (m (c, main_arg4)) shapeCasts_S1024_S1x1024 := by
    entry_read
    rfl
  rw [h, H.g]
  funext j; idx_vars j; pointwise [E2_apply, E1_apply]
theorem blk0 (t : Fin cfg0.N) : @Eq (FVec Ideal S512x1024 .f32) (iblk m c 0 t) (E2 512 1024 fun r l => G (512 * t.val + r) l) := by
  funext j; idx_vars j
  have h : iblk m c 0 t (ix2 j0 j1) = V m c main_arg0 (((cfg0.win 0).blk t).view.emb (ix2 j0 j1)) := by blk_simp [iblk]
  refine h.trans ?_
  rw [V_main_arg0, show m ((c : Thread nD τ).loc main_arg0) = E2 8192 1024 G from H.g0]
  refine congrArg₂ G ?_ ?_ <;> blk_simp [idx_row t] <;> omega
theorem blk1 (t : Fin cfg0.N) : @Eq (FVec Ideal S512x256 .f32) (iblk m c 1 t) (E2 512 256 fun r l => A (512 * t.val + r) l) := by
  funext j; idx_vars j
  have h : iblk m c 1 t (ix2 j0 j1) = V m c main_arg1 (((cfg0.win 1).blk t).view.emb (ix2 j0 j1)) := by blk_simp [iblk]
  refine h.trans ?_
  rw [V_main_arg1, show m ((c : Thread nD τ).loc main_arg1) = E2 8192 256 A from H.a]
  refine congrArg₂ A ?_ ?_ <;> blk_simp [idx_row t] <;> omega
theorem blk2 (t : Fin cfg0.N) : @Eq (FVec Ideal S512x512 .f32) (iblk m c 2 t) (E2 512 512 fun r l => B (512 * t.val + r) l) := by
  funext j; idx_vars j
  have h : iblk m c 2 t (ix2 j0 j1) = V m c main_arg2 (((cfg0.win 2).blk t).view.emb (ix2 j0 j1)) := by blk_simp [iblk]
  refine h.trans ?_
  rw [V_main_arg2, show m ((c : Thread nD τ).loc main_arg2) = E2 8192 512 B from H.b]
  refine congrArg₂ B ?_ ?_ <;> blk_simp [idx_row t] <;> omega
theorem blk3 (t : Fin cfg0.N) : @Eq (FVec Ideal S512x256 .f32) (iblk m c 3 t) (E2 512 256 fun r l => Z (512 * t.val + r) l) := by
  funext j; idx_vars j
  have h : iblk m c 3 t (ix2 j0 j1) = V m c main_arg3 (((cfg0.win 3).blk t).view.emb (ix2 j0 j1)) := by blk_simp [iblk]
  refine h.trans ?_
  rw [V_main_arg3, show m ((c : Thread nD τ).loc main_arg3) = E2 8192 256 Z from H.z]
  refine congrArg₂ Z ?_ ?_ <;> blk_simp [idx_row t] <;> omega
theorem blk4 (t : Fin cfg0.N) : @Eq (FVec Ideal S1x1024 .f32) (iblk m c 4 t) (E2 1 1024 fun _ l => g l) := by
  funext j; idx_vars j
  have h : iblk m c 4 t (ix2 j0 j1) = V m c main_v0 (((cfg0.win 4).blk t).view.emb (ix2 j0 j1)) := by blk_simp [iblk]
  refine h.trans ?_
  rw [host_g m c G W A B Z g H]
  refine congrArg g ?_; blk_simp [idx_row t]
theorem blk5 (t : Fin cfg0.N) : @Eq (FVec Ideal S1024x1024 .bf16) (iblk m c 5 t) (E2 1024 1024 W) := by
  funext j; idx_vars j
  have h : iblk m c 5 t (ix2 j0 j1) = V m c main_arg5 (((cfg0.win 5).blk t).view.emb (ix2 j0 j1)) := by blk_simp [iblk]
  refine h.trans ?_
  rw [V_main_arg5, show m ((c : Thread nD τ).loc main_arg5) = E2 1024 1024 W from H.w]
  refine congrArg₂ W ?_ ?_ <;> blk_simp [idx_row t]

theorem pG_eq (t : Fin cfg0.N) (d : ℕ → ℕ → EReal) : pG m c t (E2 1 1024 d) = E2 1 1024 fun z i => d z i + gPart G W A B Z (512 * t.val) 512 i := by
  unfold pG
  rw [blk0 m c G W A B Z g H, blk1 m c G W A B Z g H, blk2 m c G W A B Z g H, blk3 m c G W A B Z g H, blk5 m c G W A B Z g H, uG_eq]
  unfold gPart
  simp only [zero_add]; rfl
theorem pS_eq (t : Fin cfg0.N) (S : ℕ → ℕ → EReal) : k0_pay1 (pS m c t (E2 1024 1024 S)) = E2 1024 1024 fun j l => S j l + ∑ r ∈ range 512,
    gYn A B Z g (512 * t.val + r) j * G (512 * t.val + r) l := by
  unfold pS
  rw [blk0 m c G W A B Z g H, blk1 m c G W A B Z g H, blk2 m c G W A B Z g H, blk3 m c G W A B Z g H, blk4 m c G W A B Z g H, gnA_eq, gnB_eq, gnZ_eq, uS_eq, sameS]
  rfl

/-- The gain's gradient and the scratch after each point: the sums over the token blocks seen so far. -/
theorem sum_dg : ∀ n (hn : n < cfg0.N), (outsAt0 m c n hn).2.2.2.2.1 = E2 1 1024 fun _ i => ∑ u ∈ range (n + 1), gPart G W A B Z (512 * u) 512 i
  | 0, hn => by
    rw [show (outsAt0 m c 0 hn).2.2.2.2.1 = _ from dg_A m c ⟨0, hn⟩ rfl, pay3_eq, pG_eq m c G W A B Z g H]
    simp only [zero_add, sum_range_one]
  | n + 1, hn => by
    have hN : n + 1 < 16 := hn
    have hl : n < cfg0.N := Nat.lt_of_succ_lt hn
    rw [show (outsAt0 m c (n + 1) hn).2.2.2.2.1 = _ from dg_B m c ⟨n + 1, hn⟩ (by show ¬ (n + 1) % 16 = 0; omega) hl,
      show (outsAt0 m c ((⟨n + 1, hn⟩ : Fin cfg0.N).val - 1) _).2.2.2.2.1 = _ from sum_dg n hl, pG_eq m c G W A B Z g H]
    simp only [sum_range_succ _ (n + 1)]
theorem sum_acc : ∀ n (hn : n < cfg0.N), (outsAt0 m c n hn).2.2.2.2.2 = E2 1024 1024 fun j l => ∑ u ∈ range (n + 1), ∑ r ∈ range 512,
      gYn A B Z g (512 * u + r) j * G (512 * u + r) l
  | 0, hn => by
    rw [show (outsAt0 m c 0 hn).2.2.2.2.2 = _ from acc_A m c ⟨0, hn⟩ rfl, pay4_eq, pS_eq m c G W A B Z g H]
    simp only [zero_add, sum_range_one]
  | n + 1, hn => by
    have hN : n + 1 < 16 := hn
    have hl : n < cfg0.N := Nat.lt_of_succ_lt hn
    rw [show (outsAt0 m c (n + 1) hn).2.2.2.2.2 = _ from acc_B m c ⟨n + 1, hn⟩ (by show ¬ (n + 1) % 16 = 0; omega) hl,
      show (outsAt0 m c ((⟨n + 1, hn⟩ : Fin cfg0.N).val - 1) _).2.2.2.2.2 = _ from sum_acc n hl, pS_eq m c G W A B Z g H]
    simp only [sum_range_succ _ (n + 1)]

/-- The five arrays the kernel leaves. -/
theorem arr_a : (dats m 0 c).arrAt 6 cfg0.N = E2 8192 256 (gIn 256 A (s2 (gDn G W) 0) (s1 g 0)) := by
  refine (dats m 0 c).arrAt_eq_of_covers 6 _ (by decide +kernel) fun t hf y => ?_
  idx_vars y
  obtain ⟨h0, h1⟩ := emb6 t y0 y1
  have e : pA m c t = E2 512 256 fun r l => gIn 256 A (s2 (gDn G W) 0) (s1 g 0) (512 * t.val + r) l := by
    unfold pA
    rw [blk0 m c G W A B Z g H, blk1 m c G W A B Z g H, blk4 m c G W A B Z g H, blk5 m c G W A B Z g H, gnA_eq, uA_eq]
    rfl
  blk_simp
  rw [after0_6, da_all, e]
  exact congrArg₂ (gIn 256 A (s2 (gDn G W) 0) (s1 g 0)) h0.symm h1.symm
theorem arr_b : (dats m 0 c).arrAt 7 cfg0.N = E2 8192 512 (gIn 512 B (s2 (gDn G W) 256) (s1 g 256)) := by
  refine (dats m 0 c).arrAt_eq_of_covers 7 _ (by decide +kernel) fun t hf y => ?_
  idx_vars y
  obtain ⟨h0, h1⟩ := emb7 t y0 y1
  have e : pB m c t = E2 512 512 fun r l => gIn 512 B (s2 (gDn G W) 256) (s1 g 256) (512 * t.val + r) l := by
    unfold pB
    rw [blk0 m c G W A B Z g H, blk2 m c G W A B Z g H, blk4 m c G W A B Z g H, blk5 m c G W A B Z g H, gnB_eq, uB_eq]
    rfl
  blk_simp
  rw [after0_7, db_all, e]
  exact congrArg₂ (gIn 512 B (s2 (gDn G W) 256) (s1 g 256)) h0.symm h1.symm
theorem arr_z : (dats m 0 c).arrAt 8 cfg0.N = E2 8192 256 (gIn 256 Z (s2 (gDn G W) 768) (s1 g 768)) := by
  refine (dats m 0 c).arrAt_eq_of_covers 8 _ (by decide +kernel) fun t hf y => ?_
  idx_vars y
  obtain ⟨h0, h1⟩ := emb8 t y0 y1
  have e : pZ m c t = E2 512 256 fun r l => gIn 256 Z (s2 (gDn G W) 768) (s1 g 768) (512 * t.val + r) l := by
    unfold pZ
    rw [blk0 m c G W A B Z g H, blk3 m c G W A B Z g H, blk4 m c G W A B Z g H, blk5 m c G W A B Z g H, gnZ_eq, uZ_eq]
    rfl
  blk_simp
  rw [after0_8, dz_all, e]
  exact congrArg₂ (gIn 256 Z (s2 (gDn G W) 768) (s1 g 768)) h0.symm h1.symm
theorem arr_dw : (dats m 0 c).arrAt 9 cfg0.N = E2 1024 1024 (gDw G A B Z g) := by
  refine (dats m 0 c).arrAt_eq_of_after_last 9 t0_15 (by decide +kernel) _ fun j => ?_
  blk_simp
  have hl : t0_15.val - 1 < cfg0.N := by decide
  rw [after0_9, dw_C m c t0_15 rfl hl, ← acc_B m c t0_15 (by decide) hl, sum_acc m c G W A B Z g H]
  exact sum_blocks 16 512 fun n => gYn A B Z g n (j 0).val * G n (j 1).val
theorem arr_dg : (dats m 0 c).arrAt 10 cfg0.N = E2 1 1024 fun _ i => gGain G W A B Z i := by
  refine (dats m 0 c).arrAt_eq_of_after_last 10 t0_15 (by decide +kernel) _ fun j => ?_
  blk_simp
  rw [after0_10, sum_dg m c G W A B Z g H]
  exact gPart_sum G W A B Z (j 1).val
omit H

section Arguments
/-- The functions of the six arguments. -/
def aG : ℕ → ℕ → EReal := un2 8192 1024 (m (c, main_arg0))
def aA : ℕ → ℕ → EReal := un2 8192 256 (m (c, main_arg1))
def aB : ℕ → ℕ → EReal := un2 8192 512 (m (c, main_arg2))
def aZ : ℕ → ℕ → EReal := un2 8192 256 (m (c, main_arg3))
def ag : ℕ → EReal := un1 1024 (m (c, main_arg4))
def aW : ℕ → ℕ → EReal := un2 1024 1024 (m (c, main_arg5))
theorem args : Args m c (aG m c) (aW m c) (aA m c) (aB m c) (aZ m c) (ag m c) where
  g0 := un2_eq 8192 1024 _
  a := un2_eq 8192 256 _
  b := un2_eq 8192 512 _
  z := un2_eq 8192 256 _
  g := un1_eq 1024 _
  w := un2_eq 1024 1024 _
end Arguments

theorem preserves : Cert.preserves_MergeBwd_MergeBwdIdeal := by
  unfold Cert.preserves_MergeBwd_MergeBwdIdeal; trivial

theorem algebraic : Cert.algebraic_MergeBwdIdeal_MergeBwdRefIdeal := by
  intro m g m' g' _ hag
  refine ⟨fun c => E2 8192 256 (gIn 256 (aA m c) (s2 (gDn (aG m c) (aW m c)) 0) (s1 (ag m c) 0)), fun c => E2 8192 512 (gIn 512 (aB m c) (s2 (gDn (aG m c) (aW m c)) 256) (s1 (ag m c) 256)),
    fun c => E2 8192 256 (gIn 256 (aZ m c) (s2 (gDn (aG m c) (aW m c)) 768) (s1 (ag m c) 768)), fun c => E2 1024 1024 (gDw (aG m c) (aA m c) (aB m c) (aZ m c) (ag m c)),
    fun c => E2 1 1024 fun _ i => gGain (aG m c) (aW m c) (aA m c) (aB m c) (aZ m c) i, ?_, ?_⟩
  · refine (θ_run _ _ _).mono (fun r h c => ?_) (Cert.MergeBwdIdeal.Value.run_blocks m g)
    obtain ⟨h0, h1, h2, h3, h4, k⟩ := h c
    have H := args m c
    exact ⟨h0.trans (arr_a m c _ _ _ _ _ _ H), h1.trans (arr_b m c _ _ _ _ _ _ H), h2.trans (arr_z m c _ _ _ _ _ _ H),
      h3.trans (arr_dw m c _ _ _ _ _ _ H), h4.trans (arr_dg m c _ _ _ _ _ _ H), k⟩
  · refine (θ_run _ _ _).mono (fun r h c => ?_) (Cert.MergeBwdRefIdeal.Value.run m' g')
    obtain ⟨h0, h1, h2, h3, h4, k⟩ := h c
    have H := args m c
    obtain ⟨a0, a1, a2, a3, a4, a5⟩ := hag c
    have V0 : StableHlo.launchContents m' c (Proc.devRef .tc Cert.MergeBwdRefIdeal.main_arg0) = E2 8192 1024 (aG m c) := a0.trans H.g0
    have V1 : StableHlo.launchContents m' c (Proc.devRef .tc Cert.MergeBwdRefIdeal.main_arg1) = E2 8192 256 (aA m c) := a1.trans H.a
    have V2 : StableHlo.launchContents m' c (Proc.devRef .tc Cert.MergeBwdRefIdeal.main_arg2) = E2 8192 512 (aB m c) := a2.trans H.b
    have V3 : StableHlo.launchContents m' c (Proc.devRef .tc Cert.MergeBwdRefIdeal.main_arg3) = E2 8192 256 (aZ m c) := a3.trans H.z
    have V4 : StableHlo.launchContents m' c (Proc.devRef .tc Cert.MergeBwdRefIdeal.main_arg4) = E1 1024 (ag m c) := a4.trans H.g
    have V5 : StableHlo.launchContents m' c (Proc.devRef .tc Cert.MergeBwdRefIdeal.main_arg5) = E2 1024 1024 (aW m c) := a5.trans H.w
    refine ⟨h0.trans ((Cert.MergeBwdRefIdeal.Read.val_main_v120_eq (F := Ideal) (StableHlo.launchContents m' c)).trans ?_), h1.trans ((Cert.MergeBwdRefIdeal.Read.val_main_v98_eq (F := Ideal) (StableHlo.launchContents m' c)).trans ?_),
      h2.trans ((Cert.MergeBwdRefIdeal.Read.val_main_v77_eq (F := Ideal) (StableHlo.launchContents m' c)).trans ?_), h3.trans ((Cert.MergeBwdRefIdeal.Read.val_main_v170_eq (F := Ideal) (StableHlo.launchContents m' c)).trans ?_),
      h4.trans ((Cert.MergeBwdRefIdeal.Read.val_main_v171_eq (F := Ideal) (StableHlo.launchContents m' c)).trans ?_), k⟩
    · rw [V0, V1, V4, V5]; exact rA_in _ _ _ _
    · rw [V0, V2, V4, V5]; exact rB_in _ _ _ _
    · rw [V0, V3, V4, V5]; exact rC_in _ _ _ _
    · rw [V0, V1, V2, V3, V4]; exact r170 _ _ _ _ _
    · rw [V0, V1, V2, V3, V5]; exact r171 _ _ _ _ _

end Cert.Mg
end
-- ==== Proof.lean ====
/- The proof of the certificate's claim: the backward kernels of the gated token mixing and of the MLP, the MLP's forward kernel,
    and the input projection's forward and backward kernels. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdRefIdeal
public import proofs.«01_k».proof.Proof.Gen.MlpBwdRefIdeal.Run
public import proofs.«01_k».proof.Proof.Gen.MlpBwdRefIdeal.Read
public import proofs.«01_k».proof.Proof.Gen.MlpDwA
public import proofs.«01_k».proof.Proof.Gen.MlpDwA.Frame
public import proofs.«01_k».proof.Proof.Gen.MlpDwAIdeal
public import proofs.«01_k».proof.Proof.Gen.MlpDwAIdeal.Skeleton
public import proofs.«01_k».proof.Proof.Gen.MlpDwAIdeal.Launch
public import proofs.«01_k».proof.Proof.Gen.MlpDwAIdeal.Points
public import proofs.«01_k».proof.Proof.Gen.MlpDwAIdeal.Frame
public import proofs.«01_k».proof.Proof.Gen.MlpDwAIdeal.Value
public import proofs.«01_k».proof.Proof.Gen.MlpDwARefIdeal
public import proofs.«01_k».proof.Proof.Gen.MlpDwARefIdeal.Run
public import proofs.«01_k».proof.Proof.Gen.MlpDwARefIdeal.Read
public import proofs.«01_k».proof.Proof.Gen.MlpDwB
public import proofs.«01_k».proof.Proof.Gen.MlpDwB.Frame
public import proofs.«01_k».proof.Proof.Gen.MlpDwBIdeal
public import proofs.«01_k».proof.Proof.Gen.MlpDwBIdeal.Skeleton
public import proofs.«01_k».proof.Proof.Gen.MlpDwBIdeal.Launch
public import proofs.«01_k».proof.Proof.Gen.MlpDwBIdeal.Points
public import proofs.«01_k».proof.Proof.Gen.MlpDwBIdeal.Frame
public import proofs.«01_k».proof.Proof.Gen.MlpDwBIdeal.Value
public import proofs.«01_k».proof.Proof.Gen.MlpDwBRefIdeal
public import proofs.«01_k».proof.Proof.Gen.MlpDwBRefIdeal.Run
public import proofs.«01_k».proof.Proof.Gen.MlpDwBRefIdeal.Read
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdRefIdeal
public import proofs.«01_k».proof.Proof.Gen.MlpFwdRefIdeal.Run
public import proofs.«01_k».proof.Proof.Gen.MlpFwdRefIdeal.Read
public import proofs.«01_k».proof.Proof.Gen.InFwd
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.InBwd
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.MlpValue
public import Idealize.ShloMosaic.Adequacy
public import Idealize.ShloMosaic.Init
public import proofs.«01_k».proof.Proof.Gmlp
public import proofs.«01_k».proof.Proof.Mlp
public import proofs.«01_k».proof.Proof.MlpSame
public import proofs.«01_k».proof.Proof.MlpTnA
public import proofs.«01_k».proof.Proof.MlpTnB
public import proofs.«01_k».proof.Proof.MlpFwdValue
public import proofs.«01_k».proof.Proof.MlpFwdOut
public import proofs.«01_k».proof.Proof.MlpFwdSame
public import proofs.«01_k».proof.Proof.InFwdOut
public import proofs.«01_k».proof.Proof.InBwdOut
public import proofs.«01_k».proof.Proof.MergeFwdOut
public import proofs.«01_k».proof.Proof.MergeBwdOut

@[expose] public section

set_option maxRecDepth 16384

noncomputable section

namespace Cert.Proof

open Idealize.ShloMosaic Idealize.ShloMosaic.TcCoe Idealize.SL.Sem

/-- The gradient of the reference terminates, leaves its arguments as they were, and declares no semaphore. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) ∧ r.2.sem = fun _ => 0 :=
  (θ_run (Cert.ReferenceIdeal.defs (F := Ideal)) _ _).mono
    (fun r h => ⟨fun c => (h c).2.2.2.2.2, sem_eq_zero_of_no_sems (by decide) r.2⟩)
    (Cert.ReferenceIdeal.Value.run (F := Ideal) m g)

/-- The same for the gradient of the MLP's reference. -/
theorem mlpRefFrame (m : (ℓ : Loc Cert.MlpBwdRefIdeal.nD Cert.MlpBwdRefIdeal.τ Cert.MlpBwdRefIdeal.sig) → Buf (Elt Ideal) ℓ)
    (g : Dev Cert.MlpBwdRefIdeal.nD → PrngReg) :
    θ_run (Cert.MlpBwdRefIdeal.defs (F := Ideal)) (onTc (τ := Cert.MlpBwdRefIdeal.τ) (Cert.MlpBwdRefIdeal.main (F := Ideal))) ⟨m, fun _ => 0, g⟩
      fun r => (∀ c : Dev Cert.MlpBwdRefIdeal.nD, r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)) ∧ r.2.sem = fun _ => 0 :=
  (θ_run (Cert.MlpBwdRefIdeal.defs (F := Ideal)) _ _).mono
    (fun r h => ⟨fun c => (h c).2.2.2.2, sem_eq_zero_of_no_sems (by decide) r.2⟩)
    (Cert.MlpBwdRefIdeal.Value.run (F := Ideal) m g)

/-- The same for the reference of the first weight's gradient. -/
theorem dwARefFrame : Cert.quiescent_MlpDwARefIdeal := fun m g _ =>
  (θ_run (Cert.MlpDwARefIdeal.defs (F := Ideal)) _ _).mono
    (fun r h => ⟨fun c => (h c).2, sem_eq_zero_of_no_sems (by decide) r.2⟩)
    (Cert.MlpDwARefIdeal.Value.run (F := Ideal) m g)

/-- The same for the reference of the second weight's gradient. -/
theorem dwBRefFrame : Cert.quiescent_MlpDwBRefIdeal := fun m g _ =>
  (θ_run (Cert.MlpDwBRefIdeal.defs (F := Ideal)) _ _).mono
    (fun r h => ⟨fun c => (h c).2, sem_eq_zero_of_no_sems (by decide) r.2⟩)
    (Cert.MlpDwBRefIdeal.Value.run (F := Ideal) m g)

/-- The same for the reference of the MLP's forward kernel. -/
theorem fwdRefFrame : Cert.quiescent_MlpFwdRefIdeal := fun m g _ =>
  (θ_run (Cert.MlpFwdRefIdeal.defs (F := Ideal)) _ _).mono
    (fun r h => ⟨fun c => (h c).2.2, sem_eq_zero_of_no_sems (by decide) r.2⟩)
    (Cert.MlpFwdRefIdeal.Value.run (F := Ideal) m g)

/-- The same for the reference of the input projection. -/
theorem inFwdRefFrame : Cert.quiescent_InFwdRefIdeal := fun m g _ =>
  (θ_run (Cert.InFwdRefIdeal.defs (F := Ideal)) _ _).mono
    (fun r h => ⟨fun c => (h c).2, sem_eq_zero_of_no_sems (by decide) r.2⟩)
    (Cert.InFwdRefIdeal.Value.run (F := Ideal) m g)

/-- The same for the reference of the input projection's gradients. -/
theorem inBwdRefFrame : Cert.quiescent_InBwdRefIdeal := fun m g _ =>
  (θ_run (Cert.InBwdRefIdeal.defs (F := Ideal)) _ _).mono
    (fun r h => ⟨fun c => (h c).2.2.2, sem_eq_zero_of_no_sems (by decide) r.2⟩)
    (Cert.InBwdRefIdeal.Value.run (F := Ideal) m g)

/-- The same for the reference of the merge. -/
theorem mergeFwdRefFrame : Cert.quiescent_MergeFwdRefIdeal := fun m g _ =>
  (θ_run (Cert.MergeFwdRefIdeal.defs (F := Ideal)) _ _).mono
    (fun r h => ⟨fun c => (h c).2, sem_eq_zero_of_no_sems (by decide) r.2⟩)
    (Cert.MergeFwdRefIdeal.Value.run (F := Ideal) m g)

/-- The same for the reference of the merge's gradients. -/
theorem mergeBwdRefFrame : Cert.quiescent_MergeBwdRefIdeal := fun m g _ =>
  (θ_run (Cert.MergeBwdRefIdeal.defs (F := Ideal)) _ _).mono
    (fun r h => ⟨fun c => (h c).2.2.2.2.2, sem_eq_zero_of_no_sems (by decide) r.2⟩)
    (Cert.MergeBwdRefIdeal.Value.run (F := Ideal) m g)

/-- The five claims of the backward kernel of the gated token mixing, the five of the MLP's backward kernel, the five of each of its
    weights' gradients, the five of the MLP's forward kernel, and the five of each of the two kernels of the input projection and of the
    merge. -/
theorem claim : Cert.Claim :=
  ⟨Cert.Kernel.Gen.facts, Cert.KernelIdeal.Gen.facts, Cert.ReferenceIdeal.Gen.facts, Cert.MlpBwd.Gen.facts, Cert.MlpBwdIdeal.Gen.facts,
    Cert.MlpBwdRefIdeal.Gen.facts, Cert.MlpDwA.Gen.facts, Cert.MlpDwAIdeal.Gen.facts, Cert.MlpDwARefIdeal.Gen.facts, Cert.MlpDwB.Gen.facts,
    Cert.MlpDwBIdeal.Gen.facts, Cert.MlpDwBRefIdeal.Gen.facts,
    Cert.MlpFwd.Gen.facts, Cert.MlpFwdIdeal.Gen.facts, Cert.MlpFwdRefIdeal.Gen.facts,
    Cert.InFwd.Gen.facts, Cert.InFwdIdeal.Gen.facts, Cert.InFwdRefIdeal.Gen.facts,
    Cert.InBwd.Gen.facts, Cert.InBwdIdeal.Gen.facts, Cert.InBwdRefIdeal.Gen.facts,
    Cert.MergeFwd.Gen.facts, Cert.MergeFwdIdeal.Gen.facts, Cert.MergeFwdRefIdeal.Gen.facts,
    Cert.MergeBwd.Gen.facts, Cert.MergeBwdIdeal.Gen.facts, Cert.MergeBwdRefIdeal.Gen.facts, Cert.RealForm.preFacts,
    fun m g _ => Cert.Kernel.Gen.frame m g, fun m g _ => Cert.KernelIdeal.Gen.frame m g, fun m g _ => Cert.KernelIdeal.Gen.frame m g,
    fun m g _ => refFrame m g, fun m g _ => refFrame m g,
    Cert.Mlp.frame_kernel, fun m g _ => Cert.MlpBwdIdeal.Gen.frame m g, fun m g _ => mlpRefFrame m g,
    fun m g _ => Cert.MlpDwA.Gen.frame m g, fun m g _ => Cert.MlpDwAIdeal.Gen.frame m g, dwARefFrame,
    fun m g _ => Cert.MlpDwB.Gen.frame m g, fun m g _ => Cert.MlpDwBIdeal.Gen.frame m g, dwBRefFrame,
    Cert.Mlp.Fwd.frame_kernel, fun m g _ => Cert.MlpFwdIdeal.Gen.frame m g, fwdRefFrame,
    fun m g _ => Cert.InFwd.Gen.frame m g, fun m g _ => Cert.InFwdIdeal.Gen.frame m g, inFwdRefFrame,
    fun m g _ => Cert.InBwd.Gen.frame m g, fun m g _ => Cert.InBwdIdeal.Gen.frame m g, inBwdRefFrame,
    fun m g _ => Cert.MergeFwd.Gen.frame m g, fun m g _ => Cert.MergeFwdIdeal.Gen.frame m g, mergeFwdRefFrame,
    fun m g _ => Cert.MergeBwd.Gen.frame m g, fun m g _ => Cert.MergeBwdIdeal.Gen.frame m g, mergeBwdRefFrame,
    Cert.RealForm.preserves, Cert.RealForm.algebraic, Cert.Mlp.preserves, Cert.Mlp.algebraic, Cert.Mlp.DwA.preserves, Cert.Mlp.DwA.algebraic,
    Cert.Mlp.DwB.preserves, Cert.Mlp.DwB.algebraic, Cert.Mlp.Fwd.preserves, Cert.Mlp.Fwd.algebraic,
    Cert.In.Fwd.preserves, Cert.In.Fwd.algebraic, Cert.In.Bwd.preserves, Cert.In.Bwd.algebraic,
    Cert.Mg.Fwd.preserves, Cert.Mg.Fwd.algebraic, Cert.Mg.preserves, Cert.Mg.algebraic⟩

end Cert.Proof

end
